-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_v23) = v3 c
          ∧ r.2.mem ((c.tc : Thread Cert.ReferenceIdeal.nD Cert.ReferenceIdeal.τ).loc Cert.ReferenceIdeal.main_v24) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_v71) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_v4_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_v41) = v2 c
          ∧ r.2.mem ((c.tc : Thread Cert.Reference3Ideal.nD Cert.Reference3Ideal.τ).loc Cert.Reference3Ideal.main_v42) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v53) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S32x256x2x4x128 : Shape := ⟨5, ![32, 256, 2, 4, 128]⟩
abbrev S32x256x2x128 : Shape := ⟨4, ![32, 256, 2, 128]⟩
abbrev S8 : Shape := ⟨1, ![8]⟩
abbrev S1024x1024 : Shape := ⟨2, ![1024, 1024]⟩
abbrev S1024x2048 : Shape := ⟨2, ![1024, 2048]⟩
abbrev S2048x2048 : Shape := ⟨2, ![2048, 2048]⟩
abbrev S_ : Shape := ⟨0, ![]⟩

class Facts : Prop where
  bcast_S_S32x256x2x4x128 : S_.BroadcastsInDim S32x256x2x4x128 (![] : Fin 0 → Fin S32x256x2x4x128.rank)
  bcast_S_S32x256x2x128 : S_.BroadcastsInDim S32x256x2x128 (![] : Fin 0 → Fin S32x256x2x128.rank)
  bcast_S_S8 : S_.BroadcastsInDim S8 (![] : Fin 0 → Fin S8.rank)

variable [Facts]

def fn {F : FTy → Type} [FloatOps F] (main_arg0 : FVec F S32x256x2x4x128 .f32) (main_arg1 : FVec F S32x256x2x128 .f32) (main_arg2 : FVec F S32x256x2x128 .f32) (main_arg3 : FVec F S8 .f32) (main_arg4 : FVec F S1024x1024 .f32) (main_arg5 : FVec F S1024x2048 .f32) (main_arg6 : FVec F S1024x2048 .f32) (main_arg7 : FVec F S2048x2048 .f32) : IVec S32x256x2x4x128 1 × IVec S32x256x2x128 1 × IVec S8 1 :=
  let main_v0 : FVec F S32x256x2x4x128 .f32 := Host.absf main_arg0
  let main_cst : FVec F S_ .f32 := constant S_ .f32 0x7F800000#32
  let main_v1 : FVec F S32x256x2x4x128 .f32 := broadcastInDim S32x256x2x4x128 ![] bcast_S_S32x256x2x4x128 main_cst
  let main_v2 : IVec S32x256x2x4x128 1 := cmpf .olt main_v0 main_v1
  let main_v3 : FVec F S32x256x2x128 .f32 := Host.absf main_arg1
  let main_cst_0 : FVec F S_ .f32 := constant S_ .f32 0x7F800000#32
  let main_v4 : FVec F S32x256x2x128 .f32 := broadcastInDim S32x256x2x128 ![] bcast_S_S32x256x2x128 main_cst_0
  let main_v5 : IVec S32x256x2x128 1 := cmpf .olt main_v3 main_v4
  let main_v6 : FVec F S8 .f32 := Host.absf main_arg3
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Kernel.lean ====
abbrev S32x256x2x4x128 : Shape := ⟨5, ![32, 256, 2, 4, 128]⟩
abbrev S32x256x2x128 : Shape := ⟨4, ![32, 256, 2, 128]⟩
abbrev S8 : Shape := ⟨1, ![8]⟩
abbrev S1024x1024 : Shape := ⟨2, ![1024, 1024]⟩
abbrev S1024x2048 : Shape := ⟨2, ![1024, 2048]⟩
abbrev S2048x2048 : Shape := ⟨2, ![2048, 2048]⟩
abbrev S_ : Shape := ⟨0, ![]⟩
abbrev S8192x4096 : Shape := ⟨2, ![8192, 4096]⟩
abbrev S8192x1024 : Shape := ⟨2, ![8192, 1024]⟩
abbrev S8192x256 : Shape := ⟨2, ![8192, 256]⟩
abbrev S8192x6656 : Shape := ⟨2, ![8192, 6656]⟩
abbrev S2048x1024 : Shape := ⟨2, ![2048, 1024]⟩
abbrev S2048x512 : Shape := ⟨2, ![2048, 512]⟩
abbrev S256x1024 : Shape := ⟨2, ![256, 1024]⟩
abbrev S256x2048 : Shape := ⟨2, ![256, 2048]⟩
abbrev S512x2048 : Shape := ⟨2, ![512, 2048]⟩
abbrev S256x128 : Shape := ⟨2, ![256, 128]⟩
abbrev S256x256 : Shape := ⟨2, ![256, 256]⟩
abbrev S1 : Shape := ⟨1, ![1]⟩
abbrev S256 : Shape := ⟨1, ![256]⟩
abbrev S256x1 : Shape := ⟨2, ![256, 1]⟩

abbrev nBuf : Space → Nat
  | .hbm => 24
  | .vmem => 22
  | .smem => 1
  | _ => 0

abbrev bufTy : (tb : Table) → Fin (tcTables nBuf tb) → BufTy
  | .hbm, ⟨0, _⟩ => ⟨S32x256x2x4x128, .f32⟩
  | .hbm, ⟨1, _⟩ => ⟨S32x256x2x128, .f32⟩
  | .hbm, ⟨2, _⟩ => ⟨S32x256x2x128, .f32⟩
  | .hbm, ⟨3, _⟩ => ⟨S8, .f32⟩
  | .hbm, ⟨4, _⟩ => ⟨S1024x1024, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S_, .bf16⟩
  | .hbm, ⟨9, _⟩ => ⟨S8192x4096, .bf16⟩
  | .hbm, ⟨10, _⟩ => ⟨S8192x1024, .f32⟩
  | .hbm, ⟨11, _⟩ => ⟨S8192x1024, .bf16⟩
  | .hbm, ⟨12, _⟩ => ⟨S_, .bf16⟩
  | .hbm, ⟨13, _⟩ => ⟨S8192x1024, .bf16⟩
  | .hbm, ⟨14, _⟩ => ⟨S8192x256, .f32⟩
  | .hbm, ⟨15, _⟩ => ⟨S8192x256, .bf16⟩
  | .hbm, ⟨16, _⟩ => ⟨S8192x256, .f32⟩
  | .hbm, ⟨17, _⟩ => ⟨S8192x256, .bf16⟩
  | .hbm, ⟨18, _⟩ => ⟨S8192x6656, .bf16⟩
  | .hbm, ⟨19, _⟩ => ⟨S8192x1024, .bf16⟩
  | .hbm, ⟨20, _⟩ => ⟨S1024x1024, .bf16⟩
  | .hbm, ⟨21, _⟩ => ⟨S1024x2048, .bf16⟩
  | .hbm, ⟨22, _⟩ => ⟨S1024x2048, .bf16⟩
  | .hbm, ⟨23, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S256x1024, .f32⟩
  | .local _ .vmem, ⟨5, _⟩ => ⟨S256x1024, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S512x2048, .f32⟩
  | .local _ .vmem, ⟨11, _⟩ => ⟨S512x2048, .f32⟩
  | .local _ .vmem, ⟨12, _⟩ => ⟨S2048x1024, .bf16⟩
  | .local _ .vmem, ⟨13, _⟩ => ⟨S2048x1024, .bf16⟩
  | .local _ .vmem, ⟨14, _⟩ => ⟨S256x1024, .bf16⟩
  | .local _ .vmem, ⟨15, _⟩ => ⟨S256x1024, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S512x2048, .bf16⟩
  | .local _ .vmem, ⟨21, _⟩ => ⟨S512x2048, .bf16⟩
  | .local _ .smem, ⟨0, _⟩ => ⟨S8, .f32⟩
  | _, _ => ⟨S32x256x2x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S32x256x2x4x128 : Shape := ⟨5, ![32, 256, 2, 4, 128]⟩
abbrev S32x256x2x128 : Shape := ⟨4, ![32, 256, 2, 128]⟩
abbrev S8 : Shape := ⟨1, ![8]⟩
abbrev S1024x1024 : Shape := ⟨2, ![1024, 1024]⟩
abbrev S1024x2048 : Shape := ⟨2, ![1024, 2048]⟩
abbrev S2048x2048 : Shape := ⟨2, ![2048, 2048]⟩
abbrev S32x2x256x256x4 : Shape := ⟨5, ![32, 2, 256, 256, 4]⟩
abbrev S32x2x4x256x256 : Shape := ⟨5, ![32, 2, 4, 256, 256]⟩
abbrev S2x4x1x1 : Shape := ⟨4, ![2, 4, 1, 1]⟩
abbrev S32x2x4x256x1 : Shape := ⟨5, ![32, 2, 4, 256, 1]⟩
abbrev S32x2x4x256x257 : Shape := ⟨5, ![32, 2, 4, 256, 257]⟩
abbrev S_ : Shape := ⟨0, ![]⟩
abbrev S32x2x4x256 : Shape := ⟨4, ![32, 2, 4, 256]⟩
abbrev S32x2x128x4x256 : Shape := ⟨5, ![32, 2, 128, 4, 256]⟩
abbrev S8192x1024 : Shape := ⟨2, ![8192, 1024]⟩

abbrev nBuf : Space → Nat
  | .hbm => 36
  | .vmem => 0
  | .smem => 0
  | _ => 0

abbrev bufTy : (tb : Table) → Fin (tcTables nBuf tb) → BufTy
  | .hbm, ⟨0, _⟩ => ⟨S32x256x2x4x128, .f32⟩
  | .hbm, ⟨1, _⟩ => ⟨S32x256x2x128, .f32⟩
  | .hbm, ⟨2, _⟩ => ⟨S32x256x2x128, .f32⟩
  | .hbm, ⟨3, _⟩ => ⟨S8, .f32⟩
  | .hbm, ⟨4, _⟩ => ⟨S1024x1024, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S32x2x256x256x4, .f32⟩
  | .hbm, ⟨9, _⟩ => ⟨S32x2x4x256x256, .f32⟩
  | .hbm, ⟨10, _⟩ => ⟨S2x4x1x1, .f32⟩
  | .hbm, ⟨11, _⟩ => ⟨S32x2x4x256x1, .f32⟩
  | .hbm, ⟨12, _⟩ => ⟨S32x2x4x256x257, .f32⟩
  | .hbm, ⟨13, _⟩ => ⟨S_, .f32⟩
  | .hbm, ⟨14, _⟩ => ⟨S32x2x4x256, .f32⟩
  | .hbm, ⟨15, _⟩ => ⟨S_, .f32⟩
  | .hbm, ⟨16, _⟩ => ⟨S32x2x4x256, .f32⟩
  | .hbm, ⟨17, _⟩ => ⟨S32x2x4x256, .f32⟩
  | .hbm, ⟨18, _⟩ => ⟨S32x2x4x256x1, .f32⟩
  | .hbm, ⟨19, _⟩ => ⟨S32x2x4x256x257, .f32⟩
  | .hbm, ⟨20, _⟩ => ⟨S32x2x4x256x257, .f32⟩
  | .hbm, ⟨21, _⟩ => ⟨S32x2x4x256x257, .f32⟩
  | .hbm, ⟨22, _⟩ => ⟨S_, .f32⟩
  | .hbm, ⟨23, _⟩ => ⟨S32x2x4x256, .f32⟩
  | .hbm, ⟨24, _⟩ => ⟨S32x2x4x256x1, .f32⟩
  | .hbm, ⟨25, _⟩ => ⟨S32x2x4x256x257, .f32⟩
  | .hbm, ⟨26, _⟩ => ⟨S32x2x4x256x257, .f32⟩
  | .hbm, ⟨27, _⟩ => ⟨S32x2x4x256x256, .f32⟩
  | .hbm, ⟨28, _⟩ => ⟨S32x2x128x4x256, .f32⟩
  | .hbm, ⟨29, _⟩ => ⟨S32x256x2x4x128, .f32⟩
  | .hbm, ⟨30, _⟩ => ⟨S8192x1024, .f32⟩
  | .hbm, ⟨31, _⟩ => ⟨S8192x1024, .bf16⟩
  | .hbm, ⟨32, _⟩ => ⟨S1024x1024, .bf16⟩
  | .hbm, ⟨33, _⟩ => ⟨S1024x2048, .bf16⟩
  | .hbm, ⟨34, _⟩ => ⟨S1024x2048, .bf16⟩
  | .hbm, ⟨35, _⟩ => ⟨S2048x2048, .bf16⟩
  | _, _ => ⟨S32x256x2x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel2.lean ====
abbrev S8192x2048 : Shape := ⟨2, ![8192, 2048]⟩
abbrev S8192x1024 : Shape := ⟨2, ![8192, 1024]⟩
abbrev S12288 : Shape := ⟨1, ![12288]⟩
abbrev S2048 : Shape := ⟨1, ![2048]⟩
abbrev S1024x1024 : Shape := ⟨2, ![1024, 1024]⟩
abbrev S1024x2048 : Shape := ⟨2, ![1024, 2048]⟩
abbrev S2048x2048 : Shape := ⟨2, ![2048, 2048]⟩
abbrev S_ : Shape := ⟨0, ![]⟩
abbrev S8192x2560 : Shape := ⟨2, ![8192, 2560]⟩
abbrev S8192x6656 : Shape := ⟨2, ![8192, 6656]⟩
abbrev S1x6x2048 : Shape := ⟨3, ![1, 6, 2048]⟩
abbrev S1x2048 : Shape := ⟨2, ![1, 2048]⟩
abbrev S256x2048 : Shape := ⟨2, ![256, 2048]⟩
abbrev S256x1024 : Shape := ⟨2, ![256, 1024]⟩
abbrev S1x1x2048 : Shape := ⟨3, ![1, 1, 2048]⟩
abbrev S256 : Shape := ⟨1, ![256]⟩
abbrev S256x1 : Shape := ⟨2, ![256, 1]⟩

abbrev nBuf : Space → Nat
  | .hbm => 24
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .bf16⟩
  | .hbm, ⟨3, _⟩ => ⟨S8192x2048, .f32⟩
  | .hbm, ⟨4, _⟩ => ⟨S8192x2048, .f32⟩
  | .hbm, ⟨5, _⟩ => ⟨S12288, .f32⟩
  | .hbm, ⟨6, _⟩ => ⟨S2048, .f32⟩
  | .hbm, ⟨7, _⟩ => ⟨S1024x1024, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S8192x2048, .bf16⟩
  | .hbm, ⟨12, _⟩ => ⟨S8192x2048, .bf16⟩
  | .hbm, ⟨13, _⟩ => ⟨S_, .bf16⟩
  | .hbm, ⟨14, _⟩ => ⟨S8192x2560, .bf16⟩
  | .hbm, ⟨15, _⟩ => ⟨S8192x6656, .bf16⟩
  | .hbm, ⟨16, _⟩ => ⟨S1x6x2048, .f32⟩
  | .hbm, ⟨17, _⟩ => ⟨S1024x1024, .bf16⟩
  | .hbm, ⟨18, _⟩ => ⟨S1024x2048, .bf16⟩
  | .hbm, ⟨19, _⟩ => ⟨S1024x2048, .bf16⟩
  | .hbm, ⟨20, _⟩ => ⟨S2048x2048, .bf16⟩
  | .hbm, ⟨21, _⟩ => ⟨S1x2048, .f32⟩
  | .hbm, ⟨22, _⟩ => ⟨S8192x2048, .f32⟩
  | .hbm, ⟨23, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S1x6x2048, .f32⟩
  | .local _ .vmem, ⟨11, _⟩ => ⟨S1x2048, .f32⟩
  | .local _ .vmem, ⟨12, _⟩ => ⟨S1024x1024, .bf16⟩
  | .local _ .vmem, ⟨13, _⟩ => ⟨S1024x2048, .bf16⟩
  | .local _ .vmem, ⟨14, _⟩ => ⟨S1024x2048, .bf16⟩
  | .local _ .vmem, ⟨15, _⟩ => ⟨S2048x2048, .bf16⟩
  | .local _ .vmem, ⟨16, _⟩ => ⟨S256x2048, .f32⟩
  | .local _ .vmem, ⟨17, _⟩ => ⟨S256x2048, .f32⟩
  | .local _ .vmem, ⟨18, _⟩ => ⟨S256x2048, .bf16⟩
  | .local _ .vmem, ⟨19, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x6x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S8192x2048 : Shape := ⟨2, ![8192, 2048]⟩
abbrev S8192x1024 : Shape := ⟨2, ![8192, 1024]⟩
abbrev S12288 : Shape := ⟨1, ![12288]⟩
abbrev S2048 : Shape := ⟨1, ![2048]⟩
abbrev S1024x1024 : Shape := ⟨2, ![1024, 1024]⟩
abbrev S1024x2048 : Shape := ⟨2, ![1024, 2048]⟩
abbrev S2048x2048 : Shape := ⟨2, ![2048, 2048]⟩
abbrev S_ : Shape := ⟨0, ![]⟩
abbrev S1x2048 : Shape := ⟨2, ![1, 2048]⟩
abbrev S8192 : Shape := ⟨1, ![8192]⟩
abbrev S8192x1 : Shape := ⟨2, ![8192, 1]⟩

abbrev nBuf : Space → Nat
  | .hbm => 97
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .bf16⟩
  | .hbm, ⟨3, _⟩ => ⟨S8192x2048, .f32⟩
  | .hbm, ⟨4, _⟩ => ⟨S8192x2048, .f32⟩
  | .hbm, ⟨5, _⟩ => ⟨S12288, .f32⟩
  | .hbm, ⟨6, _⟩ => ⟨S2048, .f32⟩
  | .hbm, ⟨7, _⟩ => ⟨S1024x1024, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S2048, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S_, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S8192x2048, .f32⟩
  | .hbm, ⟨61, _⟩ => ⟨S8192x2048, .f32⟩
  | .hbm, ⟨62, _⟩ => ⟨S8192x1024, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S1x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S8192x1, .f32⟩
  | .hbm, ⟨82, _⟩ => ⟨S8192x2048, .f32⟩
  | .hbm, ⟨83, _⟩ => ⟨S8192x2048, .f32⟩
  | .hbm, ⟨84, _⟩ => ⟨S1x2048, .f32⟩
  | .hbm, ⟨85, _⟩ => ⟨S8192x2048, .f32⟩
  | .hbm, ⟨86, _⟩ => ⟨S8192x2048, .f32⟩
  | .hbm, ⟨87, _⟩ => ⟨S_, .f32⟩
  | .hbm, ⟨88, _⟩ => ⟨S2048, .f32⟩
  | .hbm, ⟨89, _⟩ => ⟨S2048, .f32⟩
  | .hbm, ⟨90, _⟩ => ⟨S1x2048, .f32⟩
  | .hbm, ⟨91, _⟩ => ⟨S8192x2048, .f32⟩
  | .hbm, ⟨92, _⟩ => ⟨S8192x2048, .f32⟩
  | .hbm, ⟨93, _⟩ => ⟨S1x2048, .f32⟩
  | .hbm, ⟨94, _⟩ => ⟨S8192x2048, .f32⟩
  | .hbm, ⟨95, _⟩ => ⟨S8192x2048, .f32⟩
  | .hbm, ⟨96, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]
-- ==== Kernel3.lean ====
abbrev S32x256x2048 : Shape := ⟨3, ![32, 256, 2048]⟩
abbrev S12288 : Shape := ⟨1, ![12288]⟩
abbrev S2048 : Shape := ⟨1, ![2048]⟩
abbrev S2048x6656 : Shape := ⟨2, ![2048, 6656]⟩
abbrev S8192x2048 : Shape := ⟨2, ![8192, 2048]⟩
abbrev S1x6x2048 : Shape := ⟨3, ![1, 6, 2048]⟩
abbrev S1x2048 : Shape := ⟨2, ![1, 2048]⟩
abbrev S8192x6656 : Shape := ⟨2, ![8192, 6656]⟩
abbrev S8192x1536 : Shape := ⟨2, ![8192, 1536]⟩
abbrev S16384x128 : Shape := ⟨2, ![16384, 128]⟩
abbrev S1024x2048 : Shape := ⟨2, ![1024, 2048]⟩
abbrev S2048x512 : Shape := ⟨2, ![2048, 512]⟩
abbrev S1024x512 : Shape := ⟨2, ![1024, 512]⟩
abbrev S2048x128 : Shape := ⟨2, ![2048, 128]⟩
abbrev S1x1x2048 : Shape := ⟨3, ![1, 1, 2048]⟩
abbrev S16x2048 : Shape := ⟨2, ![16, 2048]⟩
abbrev S16 : Shape := ⟨1, ![16]⟩
abbrev S16x1 : Shape := ⟨2, ![16, 1]⟩
abbrev S1024x128 : Shape := ⟨2, ![1024, 128]⟩

abbrev nBuf : Space → Nat
  | .hbm => 12
  | .vmem => 15
  | .smem => 0
  | _ => 0

abbrev bufTy : (tb : Table) → Fin (tcTables nBuf tb) → BufTy
  | .hbm, ⟨0, _⟩ => ⟨S32x256x2048, .f32⟩
  | .hbm, ⟨1, _⟩ => ⟨S12288, .f32⟩
  | .hbm, ⟨2, _⟩ => ⟨S2048, .f32⟩
  | .hbm, ⟨3, _⟩ => ⟨S2048x6656, .f32⟩
  | .hbm, ⟨4, _⟩ => ⟨S8192x2048, .f32⟩
  | .hbm, ⟨5, _⟩ => ⟨S1x6x2048, .f32⟩
  | .hbm, ⟨6, _⟩ => ⟨S2048x6656, .bf16⟩
  | .hbm, ⟨7, _⟩ => ⟨S1x2048, .f32⟩
  | .hbm, ⟨8, _⟩ => ⟨S8192x6656, .bf16⟩
  | .hbm, ⟨9, _⟩ => ⟨S8192x1536, .f32⟩
  | .hbm, ⟨10, _⟩ => ⟨S16384x128, .f32⟩
  | .hbm, ⟨11, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S1024x2048, .bf16⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 13], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_26 : BitVec 32 := 0#32
  let c64_i32 : BitVec 32 := 64#32
  let v33 : BitVec 32 := Scalar.addi c0_i32_26 c64_i32
  let c1_i32 : BitVec 32 := 1#32
  ⟨c0_i32_26, v33, c1_i32⟩
def k0_mult1 (k0_t1 : Fin k0_t1_loop.trips) : BitVec 32 :=
  let c0_i32_26 : BitVec 32 := 0#32
  let c1_i32 : BitVec 32 := 1#32
  let arg11 : BitVec 32 := Scf.iv c0_i32_26 c1_i32 k0_t1
  let c16_i32 : BitVec 32 := 16#32
  let v34 : BitVec 32 := Scalar.muli arg11 c16_i32
  v34
def k0_off1 (k0_t1 : Fin k0_t1_loop.trips) : Fin 2 → Nat :=
  let c0_i32_26 : BitVec 32 := 0#32
  let c1_i32 : BitVec 32 := 1#32
  let arg11 : BitVec 32 := Scf.iv c0_i32_26 c1_i32 k0_t1
  let c16_i32 : BitVec 32 := 16#32
  let v34 : BitVec 32 := Scalar.muli arg11 c16_i32
  let v35 : BitVec 32 := v34
  let v36 : Index := Scalar.indexCast v35
  let c0_28 : Index := 0#32
  ![v36.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c5_i32 : BitVec 32 := 5#32
  let v1 : BitVec 32 := Scalar.addi arg1 c5_i32
  let c10_i32 : BitVec 32 := 10#32
  let v2 : BitVec 1 := Scalar.cmpi .slt arg1 c10_i32
  let c8_i32_0 : BitVec 32 := 8#32
  let v3 : BitVec 32 := Scalar.subi arg1 c8_i32_0
  let c2_i32 : BitVec 32 := 2#32
  let v4 : BitVec 32 := Scalar.addi v3 c2_i32
  let c12_i32 : BitVec 32 := 12#32
  let v5 : BitVec 1 := Scalar.cmpi .slt arg1 c12_i32
  let c10_i32_1 : BitVec 32 := 10#32
  let v6 : BitVec 32 := Scalar.subi arg1 c10_i32_1
  let c4_i32 : BitVec 32 := 4#32
  let v7 : BitVec 32 := Scalar.select v5 v6 c4_i32
  let v8 : BitVec 32 := Scalar.select v2 v4 v7
  let v9 : BitVec 32 := Scalar.select v0 v1 v8
  let c0_i32 : BitVec 32 := 0#32
  let c0_i32_2 : BitVec 32 := 0#32
  ![c0_i32.toNat, v9.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi arg1 c10_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S32x256x2048 : Shape := ⟨3, ![32, 256, 2048]⟩
abbrev S12288 : Shape := ⟨1, ![12288]⟩
abbrev S2048 : Shape := ⟨1, ![2048]⟩
abbrev S2048x6656 : Shape := ⟨2, ![2048, 6656]⟩
abbrev S_ : Shape := ⟨0, ![]⟩
abbrev S32x256 : Shape := ⟨2, ![32, 256]⟩
abbrev S32x256x1 : Shape := ⟨3, ![32, 256, 1]⟩
abbrev S1x1x2048 : Shape := ⟨3, ![1, 1, 2048]⟩
abbrev S32x256x6656 : Shape := ⟨3, ![32, 256, 6656]⟩
abbrev S32x256x1024 : Shape := ⟨3, ![32, 256, 1024]⟩
abbrev S32x256x256 : Shape := ⟨3, ![32, 256, 256]⟩
abbrev S32x256x1536 : Shape := ⟨3, ![32, 256, 1536]⟩
abbrev S8192x6656 : Shape := ⟨2, ![8192, 6656]⟩
abbrev S8192x1536 : Shape := ⟨2, ![8192, 1536]⟩
abbrev S16384x128 : Shape := ⟨2, ![16384, 128]⟩

abbrev nBuf : Space → Nat
  | .hbm => 52
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S12288, .f32⟩
  | .hbm, ⟨2, _⟩ => ⟨S2048, .f32⟩
  | .hbm, ⟨3, _⟩ => ⟨S2048x6656, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S32x256x2048, .f32⟩
  | .hbm, ⟨11, _⟩ => ⟨S_, .f32⟩
  | .hbm, ⟨12, _⟩ => ⟨S32x256, .f32⟩
  | .hbm, ⟨13, _⟩ => ⟨S32x256x1, .f32⟩
  | .hbm, ⟨14, _⟩ => ⟨S_, .f32⟩
  | .hbm, ⟨15, _⟩ => ⟨S32x256x1, .f32⟩
  | .hbm, ⟨16, _⟩ => ⟨S32x256x1, .f32⟩
  | .hbm, ⟨17, _⟩ => ⟨S_, .f32⟩
  | .hbm, ⟨18, _⟩ => ⟨S32x256x1, .f32⟩
  | .hbm, ⟨19, _⟩ => ⟨S32x256x1, .f32⟩
  | .hbm, ⟨20, _⟩ => ⟨S32x256x1, .f32⟩
  | .hbm, ⟨21, _⟩ => ⟨S32x256x2048, .f32⟩
  | .hbm, ⟨22, _⟩ => ⟨S32x256x2048, .f32⟩
  | .hbm, ⟨23, _⟩ => ⟨S1x1x2048, .f32⟩
  | .hbm, ⟨24, _⟩ => ⟨S32x256x2048, .f32⟩
  | .hbm, ⟨25, _⟩ => ⟨S32x256x2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S1x1x2048, .f32⟩
  | .hbm, ⟨30, _⟩ => ⟨S32x256x2048, .f32⟩
  | .hbm, ⟨31, _⟩ => ⟨S32x256x2048, .f32⟩
  | .hbm, ⟨32, _⟩ => ⟨S1x1x2048, .f32⟩
  | .hbm, ⟨33, _⟩ => ⟨S32x256x2048, .f32⟩
  | .hbm, ⟨34, _⟩ => ⟨S32x256x2048, .f32⟩
  | .hbm, ⟨35, _⟩ => ⟨S32x256x6656, .f32⟩
  | .hbm, ⟨36, _⟩ => ⟨S32x256x1024, .f32⟩
  | .hbm, ⟨37, _⟩ => ⟨S32x256x1024, .f32⟩
  | .hbm, ⟨38, _⟩ => ⟨S32x256x256, .f32⟩
  | .hbm, ⟨39, _⟩ => ⟨S32x256x256, .f32⟩
  | .hbm, ⟨40, _⟩ => ⟨S32x256x2048, .f32⟩
  | .hbm, ⟨41, _⟩ => ⟨S32x256x2048, .f32⟩
  | .hbm, ⟨42, _⟩ => ⟨S_, .f32⟩
  | .hbm, ⟨43, _⟩ => ⟨S32x256x1024, .f32⟩
  | .hbm, ⟨44, _⟩ => ⟨S32x256x1024, .f32⟩
  | .hbm, ⟨45, _⟩ => ⟨S32x256x6656, .f32⟩
  | .hbm, ⟨46, _⟩ => ⟨S32x256x6656, .bf16⟩
  | .hbm, ⟨47, _⟩ => ⟨S32x256x1536, .f32⟩
  | .hbm, ⟨48, _⟩ => ⟨S8192x6656, .bf16⟩
  | .hbm, ⟨49, _⟩ => ⟨S8192x1536, .f32⟩
  | .hbm, ⟨50, _⟩ => ⟨S16384x128, .f32⟩
  | .hbm, ⟨51, _⟩ => ⟨S16384x128, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]
-- ==== Kernel4.lean ====
abbrev S32x256x2048 : Shape := ⟨3, ![32, 256, 2048]⟩
abbrev S12288 : Shape := ⟨1, ![12288]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048 : Shape := ⟨1, ![2048]⟩
abbrev S8192x2048 : Shape := ⟨2, ![8192, 2048]⟩
abbrev S1x6x2048 : Shape := ⟨3, ![1, 6, 2048]⟩
abbrev S1x11264 : Shape := ⟨2, ![1, 11264]⟩
abbrev S1x2048 : Shape := ⟨2, ![1, 2048]⟩
abbrev S1024x2048 : Shape := ⟨2, ![1024, 2048]⟩
abbrev S2048x512 : Shape := ⟨2, ![2048, 512]⟩
abbrev S5632x256 : Shape := ⟨2, ![5632, 256]⟩
abbrev S1024x256 : Shape := ⟨2, ![1024, 256]⟩
abbrev S1024x6144 : Shape := ⟨2, ![1024, 6144]⟩
abbrev S2x1024x256 : Shape := ⟨3, ![2, 1024, 256]⟩
abbrev S1024x1 : Shape := ⟨2, ![1024, 1]⟩
abbrev S2048x256 : Shape := ⟨2, ![2048, 256]⟩
abbrev S1x1024x256 : Shape := ⟨3, ![1, 1024, 256]⟩
abbrev S3x256 : Shape := ⟨2, ![3, 256]⟩
abbrev S1x256 : Shape := ⟨2, ![1, 256]⟩
abbrev S1024x5632 : Shape := ⟨2, ![1024, 5632]⟩
abbrev S1x1x256 : Shape := ⟨3, ![1, 1, 256]⟩
abbrev S1024 : Shape := ⟨1, ![1024]⟩

abbrev nBuf : Space → Nat
  | .hbm => 17
  | .vmem => 17
  | .smem => 0
  | _ => 0

abbrev bufTy : (tb : Table) → Fin (tcTables nBuf tb) → BufTy
  | .hbm, ⟨0, _⟩ => ⟨S32x256x2048, .f32⟩
  | .hbm, ⟨1, _⟩ => ⟨S32x256x2048, .f32⟩
  | .hbm, ⟨2, _⟩ => ⟨S12288, .f32⟩
  | .hbm, ⟨3, _⟩ => ⟨S2048x11264, .f32⟩
  | .hbm, ⟨4, _⟩ => ⟨S3x11264, .f32⟩
  | .hbm, ⟨5, _⟩ => ⟨S11264, .f32⟩
  | .hbm, ⟨6, _⟩ => ⟨S5632x2048, .f32⟩
  | .hbm, ⟨7, _⟩ => ⟨S2048, .f32⟩
  | .hbm, ⟨8, _⟩ => ⟨S8192x2048, .f32⟩
  | .hbm, ⟨9, _⟩ => ⟨S8192x2048, .f32⟩
  | .hbm, ⟨10, _⟩ => ⟨S8192x2048, .bf16⟩
  | .hbm, ⟨11, _⟩ => ⟨S1x6x2048, .f32⟩
  | .hbm, ⟨12, _⟩ => ⟨S2048x11264, .bf16⟩
  | .hbm, ⟨13, _⟩ => ⟨S5632x2048, .bf16⟩
  | .hbm, ⟨14, _⟩ => ⟨S1x11264, .f32⟩
  | .hbm, ⟨15, _⟩ => ⟨S1x2048, .f32⟩
  | .hbm, ⟨16, _⟩ => ⟨S8192x2048, .f32⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S3x11264, .f32⟩
  | .local _ .vmem, ⟨6, _⟩ => ⟨S1x11264, .f32⟩
  | .local _ .vmem, ⟨7, _⟩ => ⟨S5632x256, .bf16⟩
  | .local _ .vmem, ⟨8, _⟩ => ⟨S5632x256, .bf16⟩
  | .local _ .vmem, ⟨9, _⟩ => ⟨S1024x256, .f32⟩
  | .local _ .vmem, ⟨10, _⟩ => ⟨S1024x256, .f32⟩
  | .local _ .vmem, ⟨11, _⟩ => ⟨S1x6x2048, .f32⟩
  | .local _ .vmem, ⟨12, _⟩ => ⟨S1x2048, .f32⟩
  | .local _ .vmem, ⟨13, _⟩ => ⟨S1024x2048, .f32⟩
  | .local _ .vmem, ⟨14, _⟩ => ⟨S1024x2048, .f32⟩
  | .local _ .vmem, ⟨15, _⟩ => ⟨S1024x6144, .bf16⟩
  | .local _ .vmem, ⟨16, _⟩ => ⟨S2x1024x256, .f32⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 19], ![false, false]⟩

def k0_cond2 (i : grid0.Coords) : BitVec 1 :=
  let arg1 : BitVec 32 := BitVec.ofNat 32 (i 1).val
  let c11_i32 : BitVec 32 := 11#32
  let v10 : BitVec 1 := Scalar.cmpi .slt arg1 c11_i32
  let v11 : BitVec 32 := Scalar.extui v10
  let c0_i32_3 : BitVec 32 := 0#32
  let v12 : BitVec 1 := Scalar.cmpi .ne v11 c0_i32_3
  v12

def k0_mult1 (i : grid0.Coords) : BitVec 32 :=
  let arg1 : BitVec 32 := BitVec.ofNat 32 (i 1).val
  let c1_i32 : BitVec 32 := 1#32
  let v30 : BitVec 32 := Scalar.subi arg1 c1_i32
  let c512_i32 : BitVec 32 := 512#32
  let v31 : BitVec 32 := Scalar.muli v30 c512_i32
  let c256_i32 : BitVec 32 := 256#32
  let v32 : BitVec 32 := Scalar.addi v31 c256_i32
  let c0_i32_20 : BitVec 32 := 0#32
  let v37 : BitVec 32 := Scalar.maxsi v32 c0_i32_20
  v37
def k0_off1 (i : grid0.Coords) : Fin 2 → Nat :=
  let c0_21 : Index := 0#32
  let arg1 : BitVec 32 := BitVec.ofNat 32 (i 1).val
  let c1_i32 : BitVec 32 := 1#32
  let v30 : BitVec 32 := Scalar.subi arg1 c1_i32
  let c512_i32 : BitVec 32 := 512#32
  let v31 : BitVec 32 := Scalar.muli v30 c512_i32
  let c256_i32 : BitVec 32 := 256#32
  let v32 : BitVec 32 := Scalar.addi v31 c256_i32
  let c0_i32_20 : BitVec 32 := 0#32
  let v37 : BitVec 32 := Scalar.maxsi v32 c0_i32_20
  let v38 : BitVec 32 := v37
  let v39 : Index := Scalar.indexCast v38
  ![0, v39.toNat]
def k0_off2 (i : grid0.Coords) : Fin 2 → Nat :=
  let c0_25 : Index := 0#32
  let arg1 : BitVec 32 := BitVec.ofNat 32 (i 1).val
  let c1_i32 : BitVec 32 := 1#32
  let v30 : BitVec 32 := Scalar.subi arg1 c1_i32
  let c512_i32 : BitVec 32 := 512#32
  let v31 : BitVec 32 := Scalar.muli v30 c512_i32
  let c256_i32 : BitVec 32 := 256#32
  let v32 : BitVec 32 := Scalar.addi v31 c256_i32
  let c0_i32_20 : BitVec 32 := 0#32
  let v37 : BitVec 32 := Scalar.maxsi v32 c0_i32_20
  let v38 : BitVec 32 := v37
  let v62 : Index := Scalar.indexCast v38
  ![0, v62.toNat]
def k0_mult2 (i : grid0.Coords) : BitVec 32 :=
  let c5632_i32 : BitVec 32 := 5632#32
  let arg1 : BitVec 32 := BitVec.ofNat 32 (i 1).val
  let c1_i32 : BitVec 32 := 1#32
  let v30 : BitVec 32 := Scalar.subi arg1 c1_i32
  let c512_i32 : BitVec 32 := 512#32
  let v31 : BitVec 32 := Scalar.muli v30 c512_i32
  let c256_i32 : BitVec 32 := 256#32
  let v32 : BitVec 32 := Scalar.addi v31 c256_i32
  let c0_i32_20 : BitVec 32 := 0#32
  let v37 : BitVec 32 := Scalar.maxsi v32 c0_i32_20
  let v67 : BitVec 32 := Scalar.addi c5632_i32 v37
  v67
def k0_off3 (i : grid0.Coords) : Fin 2 → Nat :=
  let c0_26 : Index := 0#32
  let c5632_i32 : BitVec 32 := 5632#32
  let arg1 : BitVec 32 := BitVec.ofNat 32 (i 1).val
  let c1_i32 : BitVec 32 := 1#32
  let v30 : BitVec 32 := Scalar.subi arg1 c1_i32
  let c512_i32 : BitVec 32 := 512#32
  let v31 : BitVec 32 := Scalar.muli v30 c512_i32
  let c256_i32 : BitVec 32 := 256#32
  let v32 : BitVec 32 := Scalar.addi v31 c256_i32
  let c0_i32_20 : BitVec 32 := 0#32
  let v37 : BitVec 32 := Scalar.maxsi v32 c0_i32_20
  let v67 : BitVec 32 := Scalar.addi c5632_i32 v37
  let v68 : BitVec 32 := v67
  let v69 : Index := Scalar.indexCast v68
  ![0, v69.toNat]
def k0_off4 (i : grid0.Coords) : Fin 2 → Nat :=
  let c0_31 : Index := 0#32
  let c5632_i32 : BitVec 32 := 5632#32
  let arg1 : BitVec 32 := BitVec.ofNat 32 (i 1).val
  let c1_i32 : BitVec 32 := 1#32
  let v30 : BitVec 32 := Scalar.subi arg1 c1_i32
  let c512_i32 : BitVec 32 := 512#32
  let v31 : BitVec 32 := Scalar.muli v30 c512_i32
  let c256_i32 : BitVec 32 := 256#32
  let v32 : BitVec 32 := Scalar.addi v31 c256_i32
  let c0_i32_20 : BitVec 32 := 0#32
  let v37 : BitVec 32 := Scalar.maxsi v32 c0_i32_20
  let v67 : BitVec 32 := Scalar.addi c5632_i32 v37
  let v68 : BitVec 32 := v67
  let v92 : Index := Scalar.indexCast v68
  ![0, v92.toNat]
def k0_mult3 (i : grid0.Coords) : BitVec 32 :=
  let c512_i32_35 : BitVec 32 := 512#32
  let arg1 : BitVec 32 := BitVec.ofNat 32 (i 1).val
  let c1_i32 : BitVec 32 := 1#32
  let v30 : BitVec 32 := Scalar.subi arg1 c1_i32
  let c512_i32 : BitVec 32 := 512#32
  let v31 : BitVec 32 := Scalar.muli v30 c512_i32
  let c256_i32 : BitVec 32 := 256#32
  let v32 : BitVec 32 := Scalar.addi v31 c256_i32
  let v107 : BitVec 32 := Scalar.addi c512_i32_35 v32
  v107
def k0_off5 (i : grid0.Coords) : Fin 2 → Nat :=
  let c0_36 : Index := 0#32
  let c512_i32_35 : BitVec 32 := 512#32
  let arg1 : BitVec 32 := BitVec.ofNat 32 (i 1).val
  let c1_i32 : BitVec 32 := 1#32
  let v30 : BitVec 32 := Scalar.subi arg1 c1_i32
  let c512_i32 : BitVec 32 := 512#32
  let v31 : BitVec 32 := Scalar.muli v30 c512_i32
  let c256_i32 : BitVec 32 := 256#32
  let v32 : BitVec 32 := Scalar.addi v31 c256_i32
  let v107 : BitVec 32 := Scalar.addi c512_i32_35 v32
  let v108 : BitVec 32 := v107
  let v109 : Index := Scalar.indexCast v108
  ![0, v109.toNat]
def k0_mult4 (i : grid0.Coords) : BitVec 32 :=
  let arg1 : BitVec 32 := BitVec.ofNat 32 (i 1).val
  let c512_i32_42 : BitVec 32 := 512#32
  let v119 : BitVec 32 := Scalar.muli arg1 c512_i32_42
  v119
def k0_off6 (i : grid0.Coords) : Fin 2 → Nat :=
  let c0_43 : Index := 0#32
  let arg1 : BitVec 32 := BitVec.ofNat 32 (i 1).val
  let c512_i32_42 : BitVec 32 := 512#32
  let v119 : BitVec 32 := Scalar.muli arg1 c512_i32_42
  let v120 : BitVec 32 := v119
  let v121 : Index := Scalar.indexCast v120
  ![0, v121.toNat]
def k0_off7 (i : grid0.Coords) : Fin 2 → Nat :=
  let c0_48 : Index := 0#32
  let arg1 : BitVec 32 := BitVec.ofNat 32 (i 1).val
  let c512_i32_42 : BitVec 32 := 512#32
  let v119 : BitVec 32 := Scalar.muli arg1 c512_i32_42
  let v120 : BitVec 32 := v119
  let v144 : Index := Scalar.indexCast v120
  ![0, v144.toNat]
def k0_mult5 (i : grid0.Coords) : BitVec 32 :=
  let c5632_i32_49 : BitVec 32 := 5632#32
  let arg1 : BitVec 32 := BitVec.ofNat 32 (i 1).val
  let c512_i32_42 : BitVec 32 := 512#32
  let v119 : BitVec 32 := Scalar.muli arg1 c512_i32_42
  let v149 : BitVec 32 := Scalar.addi c5632_i32_49 v119
  v149
def k0_off8 (i : grid0.Coords) : Fin 2 → Nat :=
  let c0_50 : Index := 0#32
  let c5632_i32_49 : BitVec 32 := 5632#32
  let arg1 : BitVec 32 := BitVec.ofNat 32 (i 1).val
  let c512_i32_42 : BitVec 32 := 512#32
  let v119 : BitVec 32 := Scalar.muli arg1 c512_i32_42
  let v149 : BitVec 32 := Scalar.addi c5632_i32_49 v119
  let v150 : BitVec 32 := v149
  let v151 : Index := Scalar.indexCast v150
  ![0, v151.toNat]
def k0_off9 (i : grid0.Coords) : Fin 2 → Nat :=
  let c0_55 : Index := 0#32
  let c5632_i32_49 : BitVec 32 := 5632#32
  let arg1 : BitVec 32 := BitVec.ofNat 32 (i 1).val
  let c512_i32_42 : BitVec 32 := 512#32
  let v119 : BitVec 32 := Scalar.muli arg1 c512_i32_42
  let v149 : BitVec 32 := Scalar.addi c5632_i32_49 v119
  let v150 : BitVec 32 := v149
  let v174 : Index := Scalar.indexCast v150
  ![0, v174.toNat]
def k0_mult6 (i : grid0.Coords) : BitVec 32 :=
  let c512_i32_60 : BitVec 32 := 512#32
  let arg1 : BitVec 32 := BitVec.ofNat 32 (i 1).val
  let c512_i32_59 : BitVec 32 := 512#32
  let v189 : BitVec 32 := Scalar.muli arg1 c512_i32_59
  let v190 : BitVec 32 := Scalar.addi c512_i32_60 v189
  v190
def k0_off10 (i : grid0.Coords) : Fin 2 → Nat :=
  let c0_61 : Index := 0#32
  let c512_i32_60 : BitVec 32 := 512#32
  let arg1 : BitVec 32 := BitVec.ofNat 32 (i 1).val
  let c512_i32_59 : BitVec 32 := 512#32
  let v189 : BitVec 32 := Scalar.muli arg1 c512_i32_59
  let v190 : BitVec 32 := Scalar.addi c512_i32_60 v189
  let v191 : BitVec 32 := v190
  let v192 : Index := Scalar.indexCast v191
  ![0, v192.toNat]
def k0_cond4 (i : grid0.Coords) : BitVec 1 :=
  let arg1 : BitVec 32 := BitVec.ofNat 32 (i 1).val
  let c11_i32_6 : BitVec 32 := 11#32
  let v16 : BitVec 1 := Scalar.cmpi .sge arg1 c11_i32_6
  let v17 : BitVec 32 := Scalar.extui v16
  let c0_i32_7 : BitVec 32 := 0#32
  let v18 : BitVec 1 := Scalar.cmpi .ne v17 c0_i32_7
  v18

def k0_mult7 (i : grid0.Coords) : BitVec 32 :=
  let arg1 : BitVec 32 := BitVec.ofNat 32 (i 1).val
  let c11_i32_9 : BitVec 32 := 11#32
  let v22 : BitVec 32 := Scalar.subi arg1 c11_i32_9
  let c256_i32 : BitVec 32 := 256#32
  let v23 : BitVec 32 := Scalar.muli v22 c256_i32
  v23
def k0_off11 (i : grid0.Coords) : Fin 3 → Nat :=
  let c0_14 : Index := 0#32
  let c5 : Index := 5#32
  let arg1 : BitVec 32 := BitVec.ofNat 32 (i 1).val
  let c11_i32_9 : BitVec 32 := 11#32
  let v22 : BitVec 32 := Scalar.subi arg1 c11_i32_9
  let c256_i32 : BitVec 32 := 256#32
  let v23 : BitVec 32 := Scalar.muli v22 c256_i32
  let v24 : BitVec 32 := v23
  let v31 : Index := Scalar.indexCast v24
  ![0, 5, v31.toNat]
def k0_off12 (i : grid0.Coords) : Fin 2 → Nat :=
  let c0_15 : Index := 0#32
  let arg1 : BitVec 32 := BitVec.ofNat 32 (i 1).val
  let c11_i32_9 : BitVec 32 := 11#32
  let v22 : BitVec 32 := Scalar.subi arg1 c11_i32_9
  let c256_i32 : BitVec 32 := 256#32
  let v23 : BitVec 32 := Scalar.muli v22 c256_i32
  let v24 : BitVec 32 := v23
  let v37 : Index := Scalar.indexCast v24
  ![0, v37.toNat]
def k0_cond5 (i : grid0.Coords) : BitVec 1 :=
  let arg1 : BitVec 32 := BitVec.ofNat 32 (i 1).val
  let c18_i32 : BitVec 32 := 18#32
  let v19 : BitVec 1 := Scalar.cmpi .eq arg1 c18_i32
  let v20 : BitVec 32 := Scalar.extui v19
  let c0_i32_8 : BitVec 32 := 0#32
  let v21 : BitVec 1 := Scalar.cmpi .ne v20 c0_i32_8
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c11_i32 : BitVec 32 := 11#32
  let v1 : BitVec 32 := Scalar.addi c11_i32 v0
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let v1 : BitVec 32 := Scalar.maxsi v0 c0_i32
  let c0_i32_0 : BitVec 32 := 0#32
  ![arg0.toNat, v1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S3x11264 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x11264 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S5632x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x6x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference4Ideal.lean ====
abbrev S32x256x2048 : Shape := ⟨3, ![32, 256, 2048]⟩
abbrev S12288 : Shape := ⟨1, ![12288]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048 : Shape := ⟨1, ![2048]⟩
abbrev S32x256x11264 : Shape := ⟨3, ![32, 256, 11264]⟩
abbrev S_ : Shape := ⟨0, ![]⟩
abbrev S32x258x11264 : Shape := ⟨3, ![32, 258, 11264]⟩
abbrev S1x11264 : Shape := ⟨2, ![1, 11264]⟩
abbrev S1x1x11264 : Shape := ⟨3, ![1, 1, 11264]⟩
abbrev S32x256x5632 : Shape := ⟨3, ![32, 256, 5632]⟩
abbrev S1x1x2048 : Shape := ⟨3, ![1, 1, 2048]⟩
abbrev S32x256 : Shape := ⟨2, ![32, 256]⟩
abbrev S32x256x1 : Shape := ⟨3, ![32, 256, 1]⟩
abbrev S8192x2048 : Shape := ⟨2, ![8192, 2048]⟩

abbrev nBuf : Space → Nat
  | .hbm => 75
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S32x256x2048, .f32⟩
  | .hbm, ⟨2, _⟩ => ⟨S12288, .f32⟩
  | .hbm, ⟨3, _⟩ => ⟨S2048x11264, .f32⟩
  | .hbm, ⟨4, _⟩ => ⟨S3x11264, .f32⟩
  | .hbm, ⟨5, _⟩ => ⟨S11264, .f32⟩
  | .hbm, ⟨6, _⟩ => ⟨S5632x2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S32x256x11264, .f32⟩
  | .hbm, ⟨15, _⟩ => ⟨S_, .i32⟩
  | .hbm, ⟨16, _⟩ => ⟨S_, .f32⟩
  | .hbm, ⟨17, _⟩ => ⟨S32x258x11264, .f32⟩
  | .hbm, ⟨18, _⟩ => ⟨S32x256x11264, .f32⟩
  | .hbm, ⟨19, _⟩ => ⟨S1x11264, .f32⟩
  | .hbm, ⟨20, _⟩ => ⟨S11264, .f32⟩
  | .hbm, ⟨21, _⟩ => ⟨S1x1x11264, .f32⟩
  | .hbm, ⟨22, _⟩ => ⟨S32x256x11264, .f32⟩
  | .hbm, ⟨23, _⟩ => ⟨S32x256x11264, .f32⟩
  | .hbm, ⟨24, _⟩ => ⟨S32x256x11264, .f32⟩
  | .hbm, ⟨25, _⟩ => ⟨S1x11264, .f32⟩
  | .hbm, ⟨26, _⟩ => ⟨S11264, .f32⟩
  | .hbm, ⟨27, _⟩ => ⟨S1x1x11264, .f32⟩
  | .hbm, ⟨28, _⟩ => ⟨S32x256x11264, .f32⟩
  | .hbm, ⟨29, _⟩ => ⟨S32x256x11264, .f32⟩
  | .hbm, ⟨30, _⟩ => ⟨S32x256x11264, .f32⟩
  | .hbm, ⟨31, _⟩ => ⟨S32x256x11264, .f32⟩
  | .hbm, ⟨32, _⟩ => ⟨S1x11264, .f32⟩
  | .hbm, ⟨33, _⟩ => ⟨S11264, .f32⟩
  | .hbm, ⟨34, _⟩ => ⟨S1x1x11264, .f32⟩
  | .hbm, ⟨35, _⟩ => ⟨S32x256x11264, .f32⟩
  | .hbm, ⟨36, _⟩ => ⟨S32x256x11264, .f32⟩
  | .hbm, ⟨37, _⟩ => ⟨S32x256x11264, .f32⟩
  | .hbm, ⟨38, _⟩ => ⟨S1x1x11264, .f32⟩
  | .hbm, ⟨39, _⟩ => ⟨S32x256x11264, .f32⟩
  | .hbm, ⟨40, _⟩ => ⟨S32x256x11264, .f32⟩
  | .hbm, ⟨41, _⟩ => ⟨S32x256x5632, .f32⟩
  | .hbm, ⟨42, _⟩ => ⟨S32x256x5632, .f32⟩
  | .hbm, ⟨43, _⟩ => ⟨S32x256x5632, .f32⟩
  | .hbm, ⟨44, _⟩ => ⟨S32x256x5632, .f32⟩
  | .hbm, ⟨45, _⟩ => ⟨S_, .f32⟩
  | .hbm, ⟨46, _⟩ => ⟨S32x256x5632, .f32⟩
  | .hbm, ⟨47, _⟩ => ⟨S32x256x5632, .f32⟩
  | .hbm, ⟨48, _⟩ => ⟨S_, .f32⟩
  | .hbm, ⟨49, _⟩ => ⟨S32x256x5632, .f32⟩
  | .hbm, ⟨50, _⟩ => ⟨S32x256x5632, .f32⟩
  | .hbm, ⟨51, _⟩ => ⟨S32x256x5632, .f32⟩
  | .hbm, ⟨52, _⟩ => ⟨S32x256x5632, .f32⟩
  | .hbm, ⟨53, _⟩ => ⟨S32x256x2048, .f32⟩
  | .hbm, ⟨54, _⟩ => ⟨S1x1x2048, .f32⟩
  | .hbm, ⟨55, _⟩ => ⟨S32x256x2048, .f32⟩
  | .hbm, ⟨56, _⟩ => ⟨S32x256x2048, .f32⟩
  | .hbm, ⟨57, _⟩ => ⟨S32x256x2048, .f32⟩
  | .hbm, ⟨58, _⟩ => ⟨S32x256x2048, .f32⟩
  | .hbm, ⟨59, _⟩ => ⟨S_, .f32⟩
  | .hbm, ⟨60, _⟩ => ⟨S32x256, .f32⟩
  | .hbm, ⟨61, _⟩ => ⟨S32x256x1, .f32⟩
  | .hbm, ⟨62, _⟩ => ⟨S_, .f32⟩
  | .hbm, ⟨63, _⟩ => ⟨S32x256x1, .f32⟩
  | .hbm, ⟨64, _⟩ => ⟨S32x256x1, .f32⟩
  | .hbm, ⟨65, _⟩ => ⟨S_, .f32⟩
  | .hbm, ⟨66, _⟩ => ⟨S32x256x1, .f32⟩
  | .hbm, ⟨67, _⟩ => ⟨S32x256x1, .f32⟩
  | .hbm, ⟨68, _⟩ => ⟨S32x256x1, .f32⟩
  | .hbm, ⟨69, _⟩ => ⟨S32x256x2048, .f32⟩
  | .hbm, ⟨70, _⟩ => ⟨S32x256x2048, .f32⟩
  | .hbm, ⟨71, _⟩ => ⟨S1x1x2048, .f32⟩
  | .hbm, ⟨72, _⟩ => ⟨S32x256x2048, .f32⟩
  | .hbm, ⟨73, _⟩ => ⟨S32x256x2048, .f32⟩
  | .hbm, ⟨74, _⟩ => ⟨S8192x2048, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst : Ref sig .tc := ⟨.hbm, 59, rfl⟩
abbrev main_v41 : Ref sig .tc := ⟨.hbm, 60, rfl⟩
abbrev main_v42 : Ref sig .tc := ⟨.hbm, 61, rfl⟩
abbrev main_cst_0 : Ref sig .tc := ⟨.hbm, 62, rfl⟩
abbrev main_v43 : Ref sig .tc := ⟨.hbm, 63, rfl⟩
abbrev main_v44 : Ref sig .tc := ⟨.hbm, 64, rfl⟩
abbrev main_cst_1 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Kernel5.lean ====
abbrev S2x1024x2048 : Shape := ⟨3, ![2, 1024, 2048]⟩
abbrev S2x12288 : Shape := ⟨2, ![2, 12288]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048 : Shape := ⟨1, ![2048]⟩
abbrev S2048x2048 : Shape := ⟨2, ![2048, 2048]⟩
abbrev S2x6x2048 : Shape := ⟨3, ![2, 6, 2048]⟩
abbrev S1x11264 : Shape := ⟨2, ![1, 11264]⟩
abbrev S1x2048 : Shape := ⟨2, ![1, 2048]⟩
abbrev S1024x2048 : Shape := ⟨2, ![1024, 2048]⟩
abbrev S2048x512 : Shape := ⟨2, ![2048, 512]⟩
abbrev S5632x256 : Shape := ⟨2, ![5632, 256]⟩
abbrev S1024x256 : Shape := ⟨2, ![1024, 256]⟩
abbrev S1x6x2048 : Shape := ⟨3, ![1, 6, 2048]⟩
abbrev S1024x6144 : Shape := ⟨2, ![1024, 6144]⟩
abbrev S2x1024x256 : Shape := ⟨3, ![2, 1024, 256]⟩
abbrev S1024x1 : Shape := ⟨2, ![1024, 1]⟩
abbrev S2048x256 : Shape := ⟨2, ![2048, 256]⟩
abbrev S1x1024x256 : Shape := ⟨3, ![1, 1024, 256]⟩
abbrev S3x256 : Shape := ⟨2, ![3, 256]⟩
abbrev S1x256 : Shape := ⟨2, ![1, 256]⟩
abbrev S1024x5632 : Shape := ⟨2, ![1024, 5632]⟩
abbrev S1x1x256 : Shape := ⟨3, ![1, 1, 256]⟩
abbrev S1024 : Shape := ⟨1, ![1024]⟩

abbrev nBuf : Space → Nat
  | .hbm => 17
  | .vmem => 18
  | .smem => 0
  | _ => 0

abbrev bufTy : (tb : Table) → Fin (tcTables nBuf tb) → BufTy
  | .hbm, ⟨0, _⟩ => ⟨S2x1024x2048, .f32⟩
  | .hbm, ⟨1, _⟩ => ⟨S2x1024x2048, .f32⟩
  | .hbm, ⟨2, _⟩ => ⟨S2x12288, .f32⟩
  | .hbm, ⟨3, _⟩ => ⟨S2048x11264, .f32⟩
  | .hbm, ⟨4, _⟩ => ⟨S3x11264, .f32⟩
  | .hbm, ⟨5, _⟩ => ⟨S11264, .f32⟩
  | .hbm, ⟨6, _⟩ => ⟨S5632x2048, .f32⟩
  | .hbm, ⟨7, _⟩ => ⟨S2048, .f32⟩
  | .hbm, ⟨8, _⟩ => ⟨S2048x2048, .f32⟩
  | .hbm, ⟨9, _⟩ => ⟨S2048x2048, .f32⟩
  | .hbm, ⟨10, _⟩ => ⟨S2048x2048, .bf16⟩
  | .hbm, ⟨11, _⟩ => ⟨S2x6x2048, .f32⟩
  | .hbm, ⟨12, _⟩ => ⟨S2048x11264, .bf16⟩
  | .hbm, ⟨13, _⟩ => ⟨S5632x2048, .bf16⟩
  | .hbm, ⟨14, _⟩ => ⟨S1x11264, .f32⟩
  | .hbm, ⟨15, _⟩ => ⟨S1x2048, .f32⟩
  | .hbm, ⟨16, _⟩ => ⟨S2048x2048, .f32⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S3x11264, .f32⟩
  | .local _ .vmem, ⟨6, _⟩ => ⟨S1x11264, .f32⟩
  | .local _ .vmem, ⟨7, _⟩ => ⟨S5632x256, .bf16⟩
  | .local _ .vmem, ⟨8, _⟩ => ⟨S5632x256, .bf16⟩
  | .local _ .vmem, ⟨9, _⟩ => ⟨S1024x256, .f32⟩
  | .local _ .vmem, ⟨10, _⟩ => ⟨S1024x256, .f32⟩
  | .local _ .vmem, ⟨11, _⟩ => ⟨S1x6x2048, .f32⟩
  | .local _ .vmem, ⟨12, _⟩ => ⟨S1x6x2048, .f32⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | .local _ .vmem, ⟨16, _⟩ => ⟨S1024x6144, .bf16⟩
  | .local _ .vmem, ⟨17, _⟩ => ⟨S2x1024x256, .f32⟩
  | _, _ => ⟨S2x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 19], ![false, false]⟩

def k0_cond2 (i : grid0.Coords) : BitVec 1 :=
  let arg1 : BitVec 32 := BitVec.ofNat 32 (i 1).val
  let c11_i32 : BitVec 32 := 11#32
  let v10 : BitVec 1 := Scalar.cmpi .slt arg1 c11_i32
  let v11 : BitVec 32 := Scalar.extui v10
  let c0_i32_3 : BitVec 32 := 0#32
  let v12 : BitVec 1 := Scalar.cmpi .ne v11 c0_i32_3
  v12

def k0_mult1 (i : grid0.Coords) : BitVec 32 :=
  let arg1 : BitVec 32 := BitVec.ofNat 32 (i 1).val
  let c1_i32 : BitVec 32 := 1#32
  let v30 : BitVec 32 := Scalar.subi arg1 c1_i32
  let c512_i32 : BitVec 32 := 512#32
  let v31 : BitVec 32 := Scalar.muli v30 c512_i32
  let c256_i32 : BitVec 32 := 256#32
  let v32 : BitVec 32 := Scalar.addi v31 c256_i32
  let c0_i32_20 : BitVec 32 := 0#32
  let v37 : BitVec 32 := Scalar.maxsi v32 c0_i32_20
  v37
def k0_off1 (i : grid0.Coords) : Fin 2 → Nat :=
  let c0_21 : Index := 0#32
  let arg1 : BitVec 32 := BitVec.ofNat 32 (i 1).val
  let c1_i32 : BitVec 32 := 1#32
  let v30 : BitVec 32 := Scalar.subi arg1 c1_i32
  let c512_i32 : BitVec 32 := 512#32
  let v31 : BitVec 32 := Scalar.muli v30 c512_i32
  let c256_i32 : BitVec 32 := 256#32
  let v32 : BitVec 32 := Scalar.addi v31 c256_i32
  let c0_i32_20 : BitVec 32 := 0#32
  let v37 : BitVec 32 := Scalar.maxsi v32 c0_i32_20
  let v38 : BitVec 32 := v37
  let v39 : Index := Scalar.indexCast v38
  ![0, v39.toNat]
def k0_off2 (i : grid0.Coords) : Fin 2 → Nat :=
  let c0_26 : Index := 0#32
  let arg1 : BitVec 32 := BitVec.ofNat 32 (i 1).val
  let c1_i32 : BitVec 32 := 1#32
  let v30 : BitVec 32 := Scalar.subi arg1 c1_i32
  let c512_i32 : BitVec 32 := 512#32
  let v31 : BitVec 32 := Scalar.muli v30 c512_i32
  let c256_i32 : BitVec 32 := 256#32
  let v32 : BitVec 32 := Scalar.addi v31 c256_i32
  let c0_i32_20 : BitVec 32 := 0#32
  let v37 : BitVec 32 := Scalar.maxsi v32 c0_i32_20
  let v38 : BitVec 32 := v37
  let v62 : Index := Scalar.indexCast v38
  ![0, v62.toNat]
def k0_mult2 (i : grid0.Coords) : BitVec 32 :=
  let c5632_i32 : BitVec 32 := 5632#32
  let arg1 : BitVec 32 := BitVec.ofNat 32 (i 1).val
  let c1_i32 : BitVec 32 := 1#32
  let v30 : BitVec 32 := Scalar.subi arg1 c1_i32
  let c512_i32 : BitVec 32 := 512#32
  let v31 : BitVec 32 := Scalar.muli v30 c512_i32
  let c256_i32 : BitVec 32 := 256#32
  let v32 : BitVec 32 := Scalar.addi v31 c256_i32
  let c0_i32_20 : BitVec 32 := 0#32
  let v37 : BitVec 32 := Scalar.maxsi v32 c0_i32_20
  let v67 : BitVec 32 := Scalar.addi c5632_i32 v37
  v67
def k0_off3 (i : grid0.Coords) : Fin 2 → Nat :=
  let c0_27 : Index := 0#32
  let c5632_i32 : BitVec 32 := 5632#32
  let arg1 : BitVec 32 := BitVec.ofNat 32 (i 1).val
  let c1_i32 : BitVec 32 := 1#32
  let v30 : BitVec 32 := Scalar.subi arg1 c1_i32
  let c512_i32 : BitVec 32 := 512#32
  let v31 : BitVec 32 := Scalar.muli v30 c512_i32
  let c256_i32 : BitVec 32 := 256#32
  let v32 : BitVec 32 := Scalar.addi v31 c256_i32
  let c0_i32_20 : BitVec 32 := 0#32
  let v37 : BitVec 32 := Scalar.maxsi v32 c0_i32_20
  let v67 : BitVec 32 := Scalar.addi c5632_i32 v37
  let v68 : BitVec 32 := v67
  let v69 : Index := Scalar.indexCast v68
  ![0, v69.toNat]
def k0_off4 (i : grid0.Coords) : Fin 2 → Nat :=
  let c0_32 : Index := 0#32
  let c5632_i32 : BitVec 32 := 5632#32
  let arg1 : BitVec 32 := BitVec.ofNat 32 (i 1).val
  let c1_i32 : BitVec 32 := 1#32
  let v30 : BitVec 32 := Scalar.subi arg1 c1_i32
  let c512_i32 : BitVec 32 := 512#32
  let v31 : BitVec 32 := Scalar.muli v30 c512_i32
  let c256_i32 : BitVec 32 := 256#32
  let v32 : BitVec 32 := Scalar.addi v31 c256_i32
  let c0_i32_20 : BitVec 32 := 0#32
  let v37 : BitVec 32 := Scalar.maxsi v32 c0_i32_20
  let v67 : BitVec 32 := Scalar.addi c5632_i32 v37
  let v68 : BitVec 32 := v67
  let v92 : Index := Scalar.indexCast v68
  ![0, v92.toNat]
def k0_mult3 (i : grid0.Coords) : BitVec 32 :=
  let c512_i32_36 : BitVec 32 := 512#32
  let arg1 : BitVec 32 := BitVec.ofNat 32 (i 1).val
  let c1_i32 : BitVec 32 := 1#32
  let v30 : BitVec 32 := Scalar.subi arg1 c1_i32
  let c512_i32 : BitVec 32 := 512#32
  let v31 : BitVec 32 := Scalar.muli v30 c512_i32
  let c256_i32 : BitVec 32 := 256#32
  let v32 : BitVec 32 := Scalar.addi v31 c256_i32
  let v107 : BitVec 32 := Scalar.addi c512_i32_36 v32
  v107
def k0_off5 (i : grid0.Coords) : Fin 2 → Nat :=
  let c0_37 : Index := 0#32
  let c512_i32_36 : BitVec 32 := 512#32
  let arg1 : BitVec 32 := BitVec.ofNat 32 (i 1).val
  let c1_i32 : BitVec 32 := 1#32
  let v30 : BitVec 32 := Scalar.subi arg1 c1_i32
  let c512_i32 : BitVec 32 := 512#32
  let v31 : BitVec 32 := Scalar.muli v30 c512_i32
  let c256_i32 : BitVec 32 := 256#32
  let v32 : BitVec 32 := Scalar.addi v31 c256_i32
  let v107 : BitVec 32 := Scalar.addi c512_i32_36 v32
  let v108 : BitVec 32 := v107
  let v109 : Index := Scalar.indexCast v108
  ![0, v109.toNat]
def k0_mult4 (i : grid0.Coords) : BitVec 32 :=
  let arg1 : BitVec 32 := BitVec.ofNat 32 (i 1).val
  let c512_i32_43 : BitVec 32 := 512#32
  let v119 : BitVec 32 := Scalar.muli arg1 c512_i32_43
  v119
def k0_off6 (i : grid0.Coords) : Fin 2 → Nat :=
  let c0_44 : Index := 0#32
  let arg1 : BitVec 32 := BitVec.ofNat 32 (i 1).val
  let c512_i32_43 : BitVec 32 := 512#32
  let v119 : BitVec 32 := Scalar.muli arg1 c512_i32_43
  let v120 : BitVec 32 := v119
  let v121 : Index := Scalar.indexCast v120
  ![0, v121.toNat]
def k0_off7 (i : grid0.Coords) : Fin 2 → Nat :=
  let c0_49 : Index := 0#32
  let arg1 : BitVec 32 := BitVec.ofNat 32 (i 1).val
  let c512_i32_43 : BitVec 32 := 512#32
  let v119 : BitVec 32 := Scalar.muli arg1 c512_i32_43
  let v120 : BitVec 32 := v119
  let v144 : Index := Scalar.indexCast v120
  ![0, v144.toNat]
def k0_mult5 (i : grid0.Coords) : BitVec 32 :=
  let c5632_i32_50 : BitVec 32 := 5632#32
  let arg1 : BitVec 32 := BitVec.ofNat 32 (i 1).val
  let c512_i32_43 : BitVec 32 := 512#32
  let v119 : BitVec 32 := Scalar.muli arg1 c512_i32_43
  let v149 : BitVec 32 := Scalar.addi c5632_i32_50 v119
  v149
def k0_off8 (i : grid0.Coords) : Fin 2 → Nat :=
  let c0_51 : Index := 0#32
  let c5632_i32_50 : BitVec 32 := 5632#32
  let arg1 : BitVec 32 := BitVec.ofNat 32 (i 1).val
  let c512_i32_43 : BitVec 32 := 512#32
  let v119 : BitVec 32 := Scalar.muli arg1 c512_i32_43
  let v149 : BitVec 32 := Scalar.addi c5632_i32_50 v119
  let v150 : BitVec 32 := v149
  let v151 : Index := Scalar.indexCast v150
  ![0, v151.toNat]
def k0_off9 (i : grid0.Coords) : Fin 2 → Nat :=
  let c0_56 : Index := 0#32
  let c5632_i32_50 : BitVec 32 := 5632#32
  let arg1 : BitVec 32 := BitVec.ofNat 32 (i 1).val
  let c512_i32_43 : BitVec 32 := 512#32
  let v119 : BitVec 32 := Scalar.muli arg1 c512_i32_43
  let v149 : BitVec 32 := Scalar.addi c5632_i32_50 v119
  let v150 : BitVec 32 := v149
  let v174 : Index := Scalar.indexCast v150
  ![0, v174.toNat]
def k0_mult6 (i : grid0.Coords) : BitVec 32 :=
  let c512_i32_61 : BitVec 32 := 512#32
  let arg1 : BitVec 32 := BitVec.ofNat 32 (i 1).val
  let c512_i32_60 : BitVec 32 := 512#32
  let v189 : BitVec 32 := Scalar.muli arg1 c512_i32_60
  let v190 : BitVec 32 := Scalar.addi c512_i32_61 v189
  v190
def k0_off10 (i : grid0.Coords) : Fin 2 → Nat :=
  let c0_62 : Index := 0#32
  let c512_i32_61 : BitVec 32 := 512#32
  let arg1 : BitVec 32 := BitVec.ofNat 32 (i 1).val
  let c512_i32_60 : BitVec 32 := 512#32
  let v189 : BitVec 32 := Scalar.muli arg1 c512_i32_60
  let v190 : BitVec 32 := Scalar.addi c512_i32_61 v189
  let v191 : BitVec 32 := v190
  let v192 : Index := Scalar.indexCast v191
  ![0, v192.toNat]
def k0_cond4 (i : grid0.Coords) : BitVec 1 :=
  let arg1 : BitVec 32 := BitVec.ofNat 32 (i 1).val
  let c11_i32_6 : BitVec 32 := 11#32
  let v16 : BitVec 1 := Scalar.cmpi .sge arg1 c11_i32_6
  let v17 : BitVec 32 := Scalar.extui v16
  let c0_i32_7 : BitVec 32 := 0#32
  let v18 : BitVec 1 := Scalar.cmpi .ne v17 c0_i32_7
  v18

def k0_mult7 (i : grid0.Coords) : BitVec 32 :=
  let arg1 : BitVec 32 := BitVec.ofNat 32 (i 1).val
  let c11_i32_9 : BitVec 32 := 11#32
  let v22 : BitVec 32 := Scalar.subi arg1 c11_i32_9
  let c256_i32 : BitVec 32 := 256#32
  let v23 : BitVec 32 := Scalar.muli v22 c256_i32
  v23
def k0_off11 (i : grid0.Coords) : Fin 3 → Nat :=
  let c0_14 : Index := 0#32
  let c5 : Index := 5#32
  let arg1 : BitVec 32 := BitVec.ofNat 32 (i 1).val
  let c11_i32_9 : BitVec 32 := 11#32
  let v22 : BitVec 32 := Scalar.subi arg1 c11_i32_9
  let c256_i32 : BitVec 32 := 256#32
  let v23 : BitVec 32 := Scalar.muli v22 c256_i32
  let v24 : BitVec 32 := v23
  let v31 : Index := Scalar.indexCast v24
  ![0, 5, v31.toNat]
def k0_off12 (i : grid0.Coords) : Fin 2 → Nat :=
  let c0_15 : Index := 0#32
  let arg1 : BitVec 32 := BitVec.ofNat 32 (i 1).val
  let c11_i32_9 : BitVec 32 := 11#32
  let v22 : BitVec 32 := Scalar.subi arg1 c11_i32_9
  let c256_i32 : BitVec 32 := 256#32
  let v23 : BitVec 32 := Scalar.muli v22 c256_i32
  let v24 : BitVec 32 := v23
  let v37 : Index := Scalar.indexCast v24
  ![0, v37.toNat]
def k0_cond5 (i : grid0.Coords) : BitVec 1 :=
  let arg1 : BitVec 32 := BitVec.ofNat 32 (i 1).val
  let c18_i32 : BitVec 32 := 18#32
  let v19 : BitVec 1 := Scalar.cmpi .eq arg1 c18_i32
  let v20 : BitVec 32 := Scalar.extui v19
  let c0_i32_8 : BitVec 32 := 0#32
  let v21 : BitVec 1 := Scalar.cmpi .ne v20 c0_i32_8
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c11_i32 : BitVec 32 := 11#32
  let v1 : BitVec 32 := Scalar.addi c11_i32 v0
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let v1 : BitVec 32 := Scalar.maxsi v0 c0_i32
  let c0_i32_0 : BitVec 32 := 0#32
  ![arg0.toNat, v1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S3x11264 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x11264 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S5632x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x6x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference5Ideal.lean ====
abbrev S2x1024x2048 : Shape := ⟨3, ![2, 1024, 2048]⟩
abbrev S2x12288 : Shape := ⟨2, ![2, 12288]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048 : Shape := ⟨1, ![2048]⟩
abbrev S2x1x12288 : Shape := ⟨3, ![2, 1, 12288]⟩
abbrev S2x1x2048 : Shape := ⟨3, ![2, 1, 2048]⟩
abbrev S2x1024x11264 : Shape := ⟨3, ![2, 1024, 11264]⟩
abbrev S_ : Shape := ⟨0, ![]⟩
abbrev S2x1026x11264 : Shape := ⟨3, ![2, 1026, 11264]⟩
abbrev S1x11264 : Shape := ⟨2, ![1, 11264]⟩
abbrev S1x1x11264 : Shape := ⟨3, ![1, 1, 11264]⟩
abbrev S2x1024x5632 : Shape := ⟨3, ![2, 1024, 5632]⟩
abbrev S2x1024 : Shape := ⟨2, ![2, 1024]⟩
abbrev S2x1024x1 : Shape := ⟨3, ![2, 1024, 1]⟩
abbrev S1x1x2048 : Shape := ⟨3, ![1, 1, 2048]⟩
abbrev S2048x2048 : Shape := ⟨2, ![2048, 2048]⟩

abbrev nBuf : Space → Nat
  | .hbm => 75
  | .vmem => 0
  | .smem => 0
  | _ => 0

abbrev bufTy : (tb : Table) → Fin (tcTables nBuf tb) → BufTy
  | .hbm, ⟨0, _⟩ => ⟨S2x1024x2048, .f32⟩
  | .hbm, ⟨1, _⟩ => ⟨S2x1024x2048, .f32⟩
  | .hbm, ⟨2, _⟩ => ⟨S2x12288, .f32⟩
  | .hbm, ⟨3, _⟩ => ⟨S2048x11264, .f32⟩
  | .hbm, ⟨4, _⟩ => ⟨S3x11264, .f32⟩
  | .hbm, ⟨5, _⟩ => ⟨S11264, .f32⟩
  | .hbm, ⟨6, _⟩ => ⟨S5632x2048, .f32⟩
  | .hbm, ⟨7, _⟩ => ⟨S2048, .f32⟩
  | .hbm, ⟨8, _⟩ => ⟨S2x1x12288, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S2x1x2048, .f32⟩
  | .hbm, ⟨15, _⟩ => ⟨S2x1024x11264, .f32⟩
  | .hbm, ⟨16, _⟩ => ⟨S_, .i32⟩
  | .hbm, ⟨17, _⟩ => ⟨S_, .f32⟩
  | .hbm, ⟨18, _⟩ => ⟨S2x1026x11264, .f32⟩
  | .hbm, ⟨19, _⟩ => ⟨S2x1024x11264, .f32⟩
  | .hbm, ⟨20, _⟩ => ⟨S1x11264, .f32⟩
  | .hbm, ⟨21, _⟩ => ⟨S11264, .f32⟩
  | .hbm, ⟨22, _⟩ => ⟨S1x1x11264, .f32⟩
  | .hbm, ⟨23, _⟩ => ⟨S2x1024x11264, .f32⟩
  | .hbm, ⟨24, _⟩ => ⟨S2x1024x11264, .f32⟩
  | .hbm, ⟨25, _⟩ => ⟨S2x1024x11264, .f32⟩
  | .hbm, ⟨26, _⟩ => ⟨S1x11264, .f32⟩
  | .hbm, ⟨27, _⟩ => ⟨S11264, .f32⟩
  | .hbm, ⟨28, _⟩ => ⟨S1x1x11264, .f32⟩
  | .hbm, ⟨29, _⟩ => ⟨S2x1024x11264, .f32⟩
  | .hbm, ⟨30, _⟩ => ⟨S2x1024x11264, .f32⟩
  | .hbm, ⟨31, _⟩ => ⟨S2x1024x11264, .f32⟩
  | .hbm, ⟨32, _⟩ => ⟨S2x1024x11264, .f32⟩
  | .hbm, ⟨33, _⟩ => ⟨S1x11264, .f32⟩
  | .hbm, ⟨34, _⟩ => ⟨S11264, .f32⟩
  | .hbm, ⟨35, _⟩ => ⟨S1x1x11264, .f32⟩
  | .hbm, ⟨36, _⟩ => ⟨S2x1024x11264, .f32⟩
  | .hbm, ⟨37, _⟩ => ⟨S2x1024x11264, .f32⟩
  | .hbm, ⟨38, _⟩ => ⟨S2x1024x11264, .f32⟩
  | .hbm, ⟨39, _⟩ => ⟨S1x1x11264, .f32⟩
  | .hbm, ⟨40, _⟩ => ⟨S2x1024x11264, .f32⟩
  | .hbm, ⟨41, _⟩ => ⟨S2x1024x11264, .f32⟩
  | .hbm, ⟨42, _⟩ => ⟨S2x1024x5632, .f32⟩
  | .hbm, ⟨43, _⟩ => ⟨S2x1024x5632, .f32⟩
  | .hbm, ⟨44, _⟩ => ⟨S2x1024x5632, .f32⟩
  | .hbm, ⟨45, _⟩ => ⟨S2x1024x5632, .f32⟩
  | .hbm, ⟨46, _⟩ => ⟨S_, .f32⟩
  | .hbm, ⟨47, _⟩ => ⟨S2x1024x5632, .f32⟩
  | .hbm, ⟨48, _⟩ => ⟨S2x1024x5632, .f32⟩
  | .hbm, ⟨49, _⟩ => ⟨S_, .f32⟩
  | .hbm, ⟨50, _⟩ => ⟨S2x1024x5632, .f32⟩
  | .hbm, ⟨51, _⟩ => ⟨S2x1024x5632, .f32⟩
  | .hbm, ⟨52, _⟩ => ⟨S2x1024x5632, .f32⟩
  | .hbm, ⟨53, _⟩ => ⟨S2x1024x5632, .f32⟩
  | .hbm, ⟨54, _⟩ => ⟨S2x1024x2048, .f32⟩
  | .hbm, ⟨55, _⟩ => ⟨S2x1024x2048, .f32⟩
  | .hbm, ⟨56, _⟩ => ⟨S2x1024x2048, .f32⟩
  | .hbm, ⟨57, _⟩ => ⟨S2x1024x2048, .f32⟩
  | .hbm, ⟨58, _⟩ => ⟨S2x1024x2048, .f32⟩
  | .hbm, ⟨59, _⟩ => ⟨S_, .f32⟩
  | .hbm, ⟨60, _⟩ => ⟨S2x1024, .f32⟩
  | .hbm, ⟨61, _⟩ => ⟨S2x1024x1, .f32⟩
  | .hbm, ⟨62, _⟩ => ⟨S_, .f32⟩
  | .hbm, ⟨63, _⟩ => ⟨S2x1024x1, .f32⟩
  | .hbm, ⟨64, _⟩ => ⟨S2x1024x1, .f32⟩
  | .hbm, ⟨65, _⟩ => ⟨S_, .f32⟩
  | .hbm, ⟨66, _⟩ => ⟨S2x1024x1, .f32⟩
  | .hbm, ⟨67, _⟩ => ⟨S2x1024x1, .f32⟩
  | .hbm, ⟨68, _⟩ => ⟨S2x1024x1, .f32⟩
  | .hbm, ⟨69, _⟩ => ⟨S2x1024x2048, .f32⟩
  | .hbm, ⟨70, _⟩ => ⟨S2x1024x2048, .f32⟩
  | .hbm, ⟨71, _⟩ => ⟨S1x1x2048, .f32⟩
  | .hbm, ⟨72, _⟩ => ⟨S2x1024x2048, .f32⟩
  | .hbm, ⟨73, _⟩ => ⟨S2x1024x2048, .f32⟩
  | .hbm, ⟨74, _⟩ => ⟨S2048x2048, .f32⟩
  | _, _ => ⟨S2x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst : Ref sig .tc := ⟨.hbm, 59, rfl⟩
abbrev main_v41 : Ref sig .tc := ⟨.hbm, 60, rfl⟩
abbrev main_v42 : Ref sig .tc := ⟨.hbm, 61, rfl⟩
abbrev main_cst_0 : Ref sig .tc := ⟨.hbm, 62, rfl⟩
abbrev main_v43 : Ref sig .tc := ⟨.hbm, 63, rfl⟩
abbrev main_v44 : Ref sig .tc := ⟨.hbm, 64, rfl⟩
abbrev main_cst_1 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Proof.Mixer.lean ====
/- The output mixer (`Kernel2Ideal`) against the plain formulas (`Reference2Ideal`), over the extended reals.

   One grid point of the kernel computes 256 rows of the two results from 256 rows of the activations and the whole
   weights. `x1_core` and `xm2_core` say that what a point stores, read at a row and a column, is the reference's
   term at the row's place in the array; `final11` and `final12` say the same of the two whole arrays. The two
   differences in spelling are the order of the three factors of the tanh-GELU and `0 - x` for `-x`. -/
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference2Ideal.Mixer

open Cert.Reference2Ideal Cert.Reference2Ideal.Gen

/-- The reference's first result as a function of its arguments: the residual stream after the mixer. -/
def X1 (a0 : FVec Ideal S8192x2048 .f32) (a1 : FVec Ideal S8192x1024 .f32) (a2 : FVec Ideal S8192x1024 .bf16)
    (a3 a4 : FVec Ideal S8192x2048 .f32) (a5 : FVec Ideal S12288 .f32) (a7 : FVec Ideal S1024x1024 .f32)
    (a8 a9 : FVec Ideal S1024x2048 .f32) (a10 : FVec Ideal S2048x2048 .f32) : FVec Ideal S8192x2048 .f32 :=
  addf a0 (mulf (broadcastInDim S8192x2048 ![0, 1] bcast_S1x2048_S8192x2048_0_1 (broadcastInDim S1x2048 ![1] bcast_S2048_S1x2048_1 (extractStridedSlice S2048 ![4096] a5 slices_S12288_S2048_4096))) (Host.dotGeneral dot_S8192x2048_S2048x2048_S8192x2048_1_0_0_1_n_n none (addf (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf a3)))) (Host.dotGeneral dot_S8192x1024_S1024x2048_S8192x2048_1_0_0_1_n_n none (mulf (mulf a1 (mulf (broadcastInDim S8192x1024 ![] bcast_S_S8192x1024 (constant S_ .f32 0x3F000000#32)) (addf (broadcastInDim S8192x1024 ![] bcast_S_S8192x1024 (constant S_ .f32 0x3F800000#32)) (Host.tanh (mulf (broadcastInDim S8192x1024 ![] bcast_S_S8192x1024 (constant S_ .f32 0x3F4C422A#32)) (addf a1 (mulf (broadcastInDim S8192x1024 ![] bcast_S_S8192x1024 (constant S_ .f32 0x3D372713#32)) (mulf (mulf a1 a1) a1)))))))) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (Host.dotGeneral dot_S8192x1024_S1024x1024_S8192x1024_1_0_0_1_n_n none (mulf a1 (mulf (broadcastInDim S8192x1024 ![] bcast_S_S8192x1024 (constant S_ .f32 0x3F000000#32)) (addf (broadcastInDim S8192x1024 ![] bcast_S_S8192x1024 (constant S_ .f32 0x3F800000#32)) (Host.tanh (mulf (broadcastInDim S8192x1024 ![] bcast_S_S8192x1024 (constant S_ .f32 0x3F4C422A#32)) (addf a1 (mulf (broadcastInDim S8192x1024 ![] bcast_S_S8192x1024 (constant S_ .f32 0x3D372713#32)) (mulf (mulf a1 a1) a1)))))))) a7)))))) a8)) (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf a4)))) (Host.dotGeneral dot_S8192x1024_S1024x2048_S8192x2048_1_0_0_1_n_n none (extf .f32 a2 bitsLt_bf16_f32) a9))) a10))

/-- The reference's second result as a function of the first: the normalised and modulated stream. -/
def XM2 (x1 : FVec Ideal S8192x2048 .f32) (a5 : FVec Ideal S12288 .f32) (a6 : FVec Ideal S2048 .f32) :
    FVec Ideal S8192x2048 .bf16 :=
  truncf .bf16 (addf (mulf (mulf (mulf x1 (broadcastInDim S8192x2048 ![0, 1] bcast_S8192x1_S8192x2048_0_1 (Host.rsqrt (addf (Host.divf (broadcastInDim S8192x1 ![0] bcast_S8192_S8192x1_0 (Host.reduceAdd (mulf x1 x1) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 a6))) (broadcastInDim S8192x2048 ![0, 1] bcast_S1x2048_S8192x2048_0_1 (broadcastInDim S1x2048 ![1] bcast_S2048_S1x2048_1 (addf (broadcastInDim S2048 ![] bcast_S_S2048 (constant S_ .f32 0x3F800000#32)) (extractStridedSlice S2048 ![8192] a5 slices_S12288_S2048_8192))))) (broadcastInDim S8192x2048 ![0, 1] bcast_S1x2048_S8192x2048_0_1 (broadcastInDim S1x2048 ![1] bcast_S2048_S1x2048_1 (extractStridedSlice S2048 ![6144] a5 slices_S12288_S2048_6144)))) bitsLt_bf16_f32

/-- The generated name of the second result is `XM2` of `X1`. -/
theorem res_eq (m : (ℓ : Loc nD τ sig) → Buf (Elt Ideal) ℓ) (c : Dev nD) :
    Value.res_main_v71 m c = XM2 (X1 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg7)) (m ((c.tc : Thread nD τ).loc main_arg8))
      (m ((c.tc : Thread nD τ).loc main_arg9)) (m ((c.tc : Thread nD τ).loc main_arg10)))
      (m ((c.tc : Thread nD τ).loc main_arg5)) (m ((c.tc : Thread nD τ).loc main_arg6)) := by
  unfold Value.res_main_v71 XM2 X1; rfl

end Cert.Reference2Ideal.Mixer

namespace Cert.Kernel2Ideal.Mixer

open Cert.Kernel2Ideal Cert.Kernel2Ideal.Gen

open Cert.Reference2Ideal.Mixer (X1 XM2)

variable (m : (ℓ : Loc nD τ sig) → Buf (Elt Ideal) ℓ)

/-- The block indices of every window at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 1] ∧ win0_5.index t = ![0, 0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] :=
  (by decide +kernel : ∀ t : Fin grid0.N, _)

/-- The three factors of the GELU in the kernel's order. -/
theorem gelu_order (x u : EReal) : x * (Ideal.ofBits .f32 0x3F000000#32 * u) = (Ideal.ofBits .f32 0x3F000000#32 * x) * u := by
  rw [← mul_assoc, mul_comm x]

/-- The packed gates the host lines prepare: the two gates side by side, then columns of zero. -/
def packed (c : Dev nD) : FVec Ideal S8192x6656 .bf16 :=
  concatenate S8192x6656 1 [⟨S8192x2048, (truncf .bf16 (m ((c.tc : Thread nD τ).loc main_arg3) : FVec Ideal S8192x2048 .f32) bitsLt_bf16_f32 : FVec Ideal S8192x2048 .bf16)⟩,
    ⟨S8192x2048, (truncf .bf16 (m ((c.tc : Thread nD τ).loc main_arg4) : FVec Ideal S8192x2048 .f32) bitsLt_bf16_f32 : FVec Ideal S8192x2048 .bf16)⟩,
    ⟨S8192x2560, (broadcastInDim S8192x2560 ![] bcast_S_S8192x2560 (constant S_ .bf16 0x0000#16) : FVec Ideal S8192x2560 .bf16)⟩] concatenates_S8192x2048_S8192x2048_S8192x2560_S8192x6656_d1

theorem packed_eq (c : Dev nD) : V m c main_v3 = packed m c := rfl

/-- The gate of the state-space branch: the first 2048 columns of the packed gates, a point's 256 rows. -/
theorem gate3 (c : Dev nD) (t : Fin cfg0.N) (r : Fin 256) (n : Fin 2048) (R : Fin 8192) (hR : (R : ℕ) = t.val * 256 + r) :
    (X0_3 m c t : FVec Ideal S256x2048 .bf16) (ix2 r n) = (m ((c.tc : Thread nD τ).loc main_arg3) : FVec Ideal S8192x2048 .f32) (ix2 R n) := by
  unfold X0_3 Pipeline.Window.fill
  rw [dif_pos (moved0_3 t _)]
  unfold iblk
  show V m c main_v3 (((cfg0.win 3).blk t).view.emb _) = _
  rw [packed_eq]
  refine Eq.trans (b := packed m c (ix2 R ⟨0 + n, by omega⟩)) ?_ ?_
  · blk_ext [idx t]
  · pointwise [packed]

/-- The gate of the attention branch: the next 2048 columns of the packed gates, a point's 256 rows. -/
theorem gate4 (c : Dev nD) (t : Fin cfg0.N) (r : Fin 256) (n : Fin 2048) (R : Fin 8192) (hR : (R : ℕ) = t.val * 256 + r) :
    (X0_4 m c t : FVec Ideal S256x2048 .bf16) (ix2 r n) = (m ((c.tc : Thread nD τ).loc main_arg4) : FVec Ideal S8192x2048 .f32) (ix2 R n) := by
  unfold X0_4 Pipeline.Window.fill
  rw [dif_pos (moved0_4 t _)]
  unfold iblk
  show V m c main_v3 (((cfg0.win 4).blk t).view.emb _) = _
  rw [packed_eq]
  refine Eq.trans (b := packed m c (ix2 R ⟨2048 + n, by omega⟩)) ?_ ?_
  · blk_ext [idx t]
  · pointwise [packed]

/-- The reference's first result of the kernel's own arguments. -/
abbrev x1 (c : Dev nD) : FVec Ideal S8192x2048 .f32 :=
  (X1 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg7)) (m ((c.tc : Thread nD τ).loc main_arg8))
      (m ((c.tc : Thread nD τ).loc main_arg9)) (m ((c.tc : Thread nD τ).loc main_arg10)))

/-- The stream after the mixer, one row and column of one grid point. -/
theorem x1_core (c : Dev nD) (t : Fin cfg0.N) (v : FVec Ideal S1x1x2048 .f32) (r : Fin 256) (n : Fin 2048) (R : Fin 8192) (hR : (R : ℕ) = t.val * 256 + r)
    (hv : ∀ n : Fin 2048, v (ix3 0 0 n) = iblk m c 5 t (ix3 0 2 n)) :
    k0_pay5 (F := Ideal) (k0_pay2 (iblk m c 1 t) (iblk m c 7 t) (iblk m c 8 t)) (k0_pay3 (iblk m c 2 t) (iblk m c 9 t))
      (k0_pay4 (X0_3 m c t)) (X0_4 m c t) (iblk m c 10 t) (iblk m c 0 t) v (ix2 r n)
    = x1 m c (ix2 R n) := by
  pointwise [k0_pay5, k0_pay2, k0_pay3, k0_pay4, x1, X1]
  simp only [gelu_order, zero_sub, gate3 m c t _ _ R hR, gate4 m c t _ _ R hR, hv]
  blk_point [iblk, V, idx t]

/-- The normalised stream, one row and column of one grid point. -/
theorem xm2_core (c : Dev nD) (t : Fin cfg0.N) (v v' v'' : FVec Ideal S1x1x2048 .f32) (r : Fin 256) (n : Fin 2048) (R : Fin 8192) (hR : (R : ℕ) = t.val * 256 + r)
    (hv : ∀ n : Fin 2048, v (ix3 0 0 n) = iblk m c 5 t (ix3 0 2 n))
    (hv' : ∀ n : Fin 2048, v' (ix3 0 0 n) = iblk m c 5 t (ix3 0 4 n))
    (hv'' : ∀ n : Fin 2048, v'' (ix3 0 0 n) = iblk m c 5 t (ix3 0 3 n)) :
    k0_pay1 (F := Ideal) (k0_pay5 (F := Ideal) (k0_pay2 (iblk m c 1 t) (iblk m c 7 t) (iblk m c 8 t)) (k0_pay3 (iblk m c 2 t) (iblk m c 9 t))
      (k0_pay4 (X0_3 m c t)) (X0_4 m c t) (iblk m c 10 t) (iblk m c 0 t) v)
      (k0_pay6 (iblk m c 6 t)) (k0_pay7 v') v'' (ix2 r n)
    = XM2 (x1 m c) (m ((c.tc : Thread nD τ).loc main_arg5)) (m ((c.tc : Thread nD τ).loc main_arg6)) (ix2 R n) := by
  pointwise [k0_pay1, k0_pay6, k0_pay7, XM2]
  simp only [x1_core m c t v _ _ R hR hv, hv', hv'']
  blk_point [iblk, V, idx t]

/-- The first result array of the kernel is the reference's first result. -/
theorem final11 (c : Dev nD) : (dats m 0 c).arrAt 11 (cfgs 0).N = x1 m c := by
  refine (dats m 0 c).arrAt_eq_of_covers 11 _ (by decide +kernel) fun t hf y => ?_
  blk_simp
  rw [after0_11]
  unfold outsAt0
  frame_out
  idx_vars y
  have ht : t.val < 32 := lt_of_lt_of_eq t.isLt N_0
  refine (x1_core m c t _ y0 y1 ⟨t.val * 256 + y0, by omega⟩ rfl fun n => ?_).trans ?_
  · pointwise
  · blk_ext [idx t]

/-- The second result array of the kernel is the reference's second result. -/
theorem final12 (c : Dev nD) : (dats m 0 c).arrAt 12 (cfgs 0).N
    = XM2 (x1 m c) (m ((c.tc : Thread nD τ).loc main_arg5)) (m ((c.tc : Thread nD τ).loc main_arg6)) := by
  refine (dats m 0 c).arrAt_eq_of_covers 12 _ (by decide +kernel) fun t hf y => ?_
  blk_simp
  rw [after0_12]
  unfold outsAt0
  frame_out
  idx_vars y
  have ht : t.val < 32 := lt_of_lt_of_eq t.isLt N_0
  refine (xm2_core m c t _ _ _ y0 y1 ⟨t.val * 256 + y0, by omega⟩ rfl (fun n => ?_) (fun n => ?_) (fun n => ?_)).trans ?_
  · pointwise
  · pointwise
  · pointwise
  · blk_ext [idx t]

end Cert.Kernel2Ideal.Mixer
-- ==== Proof.MixerClaim.lean ====
/-
  The claims about the mixer's last part that need both programs: the value claim, and the frame of the reference. -/
module
public import proofs.«01_k».proof.Defs
public import proofs.«01_k».proof.Proof.Mixer
public import proofs.«01_k».proof.Proof.Gen.Kernel2
public import proofs.«01_k».proof.Proof.Gen.Kernel2Ideal.Frame
public import proofs.«01_k».proof.Proof.Gen.Reference2Ideal
public import Idealize.ShloMosaic.Adequacy
public import Idealize.ShloMosaic.Init
@[expose] public section
noncomputable section
namespace Cert.Proof
open Idealize.ShloMosaic Idealize.SL.Sem
/-- The mixer's last part and its reference, at exact arithmetic: from equal arguments both runs end with equal results. -/
theorem mixer_eq : Cert.algebraic_Kernel2Ideal_Reference2Ideal := by
  pair_intro
  · run_from Cert.Kernel2Ideal.Gen.run_main m g
  · run_from Cert.Reference2Ideal.Value.run m' g'
    · rw [Cert.Kernel2Ideal.Mixer.final11]; rfl
    · rw [Cert.Kernel2Ideal.Mixer.final12, Cert.Reference2Ideal.Mixer.res_eq]
      obtain ⟨h0, h1, h2, h3, h4, h5, h6, h7, h8, h9, h10⟩ := hagree c
      rw [h0, h1, h2, h3, h4, h5, h6, h7, h8, h9, h10]
/-- The mixer's reference runs, keeps its arguments and has no semaphores. -/
theorem mixer_ref : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

end Cert.Proof

end
-- ==== Proof.AttnMath.lean ====
/-
  The attention's mathematics at exact arithmetic. `softmax_eq` says of one row of scores that weighting the values by
  the unnormalised exponentials and dividing once equals normalising every weight first, where the scores are finite.
  The other lemmas read the reference's composed term at an index. -/
module

public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Attention

/-- A nonnegative finite factor distributes over a finite sum of extended reals. -/
theorem sum_mul_real {n : ℕ} (f : Fin n → EReal) (r : ℝ) (hr : 0 ≤ r) : (∑ x, f x) * (r : EReal) = ∑ x, f x * (r : EReal) := by
  have h0 : (0 : EReal) ≤ (r : EReal) := by exact_mod_cast hr
  have key : ∀ s : Finset (Fin n), (∑ x ∈ s, f x) * (r : EReal) = ∑ x ∈ s, f x * (r : EReal) := by
    intro s
    induction s using Finset.induction_on with
    | empty => simp
    | insert a s ha ih =>
      rw [Finset.sum_insert ha, Finset.sum_insert ha, EReal.right_distrib_of_nonneg_of_ne_top h0 (EReal.coe_ne_top r), ih]
  exact key Finset.univ

/-- The coercion of a finite real sum. -/
theorem coe_sum {n : ℕ} (f : Fin n → ℝ) : ((∑ x, f x : ℝ) : EReal) = ∑ x, (f x : EReal) := by
  have key : ∀ s : Finset (Fin n), ((∑ x ∈ s, f x : ℝ) : EReal) = ∑ x ∈ s, (f x : EReal) := by
    intro s
    induction s using Finset.induction_on with
    | empty => simp
    | insert a s ha ih => rw [Finset.sum_insert ha, Finset.sum_insert ha, EReal.coe_add, ih]
  exact key Finset.univ

/-- Dividing the weighted sum by the total weight is weighting by the normalised weights, for a row of finite scores
    and a finite sink; the values may be any extended reals. The greatest score is taken over the row and then
    against the sink, or over the row with the sink as its last column. -/
theorem softmax_eq (B c : EReal) (hB : B = ⊥) (S v : Fin 256 → EReal) (T E : Fin 257 → EReal)
    (hT : ∀ (J : Fin 257) (j : Fin 256), (J : ℕ) = j → T J = S j) (hl : ∀ J : Fin 257, (J : ℕ) = 256 → T J = c)
    (hS : ∀ j, ∃ x : ℝ, S j = x) (hc : ∃ x : ℝ, c = x)
    (hE : ∀ J, E J = Ideal.exp (T J - max B (Finset.fold max B T Finset.univ))) :
    Ideal.div (∑ x, Ideal.exp (S x - max c (Finset.fold max B S Finset.univ)) * v x)
      (∑ x, Ideal.exp (S x - max c (Finset.fold max B S Finset.univ)) + Ideal.exp (c - max c (Finset.fold max B S Finset.univ)))
    = ∑ x : Fin 256, v x * Ideal.div (E ⟨x, by omega⟩) (∑ x, E x) := by
  subst hB
  obtain ⟨c', rfl⟩ := hc
  choose s hs using hS
  have hM : max (⊥ : EReal) (Finset.fold max ⊥ T Finset.univ) = max (c' : EReal) (Finset.fold max ⊥ S Finset.univ) := by
    apply le_antisymm
    · refine max_le bot_le ?_
      rw [Finset.fold_max_le]
      refine ⟨bot_le, fun J _ => ?_⟩
      by_cases h : (J : ℕ) < 256
      · rw [hT J ⟨J, h⟩ rfl]
        exact le_max_of_le_right ((Finset.le_fold_max _).2 (Or.inr ⟨_, Finset.mem_univ _, le_rfl⟩))
      · rw [hl J (by omega)]
        exact le_max_left _ _
    · refine max_le ?_ ?_
      · refine le_max_of_le_right ((Finset.le_fold_max _).2 (Or.inr ⟨⟨256, by omega⟩, Finset.mem_univ _, ?_⟩))
        rw [hl _ rfl]
      · rw [Finset.fold_max_le]
        refine ⟨bot_le, fun j _ => ?_⟩
        refine le_max_of_le_right ((Finset.le_fold_max _).2 (Or.inr ⟨⟨j, by omega⟩, Finset.mem_univ _, ?_⟩))
        rw [hT _ j rfl]
  rw [hM] at hE
  have hfin : ∃ μ : ℝ, max (c' : EReal) (Finset.fold max ⊥ S Finset.univ) = μ := by
    have hlt : max (c' : EReal) (Finset.fold max ⊥ S Finset.univ) < ⊤ := by
      refine max_lt (EReal.coe_lt_top _) ?_
      rw [Finset.fold_max_lt]
      exact ⟨bot_lt_top, fun j _ => by rw [hs j]; exact EReal.coe_lt_top _⟩
    have hgt : ⊥ < max (c' : EReal) (Finset.fold max ⊥ S Finset.univ) := lt_max_of_lt_left (EReal.bot_lt_coe _)
    exact ⟨_, (EReal.coe_toReal hlt.ne hgt.ne').symm⟩
  obtain ⟨μ, hμ⟩ := hfin
  rw [hμ] at hE ⊢
  have hk : ∀ j : Fin 256, E ⟨j, by omega⟩ = ((Real.exp (s j - μ) : ℝ) : EReal) := fun j => by
    rw [hE, hT _ j rfl, hs j, ← EReal.coe_sub, Ideal.exp_coe]
  have hk' : ∀ j : Fin 256, Ideal.exp (S j - μ) = ((Real.exp (s j - μ) : ℝ) : EReal) := fun j => by
    rw [hs j, ← EReal.coe_sub, Ideal.exp_coe]
  have hlast : E (Fin.last 256) = ((Real.exp (c' - μ) : ℝ) : EReal) := by
    rw [hE, hl _ rfl, ← EReal.coe_sub, Ideal.exp_coe]
  have hD : ∑ x, E x = (((∑ j, Real.exp (s j - μ)) + Real.exp (c' - μ) : ℝ) : EReal) := by
    rw [Fin.sum_univ_castSucc, hlast, EReal.coe_add, coe_sum]
    exact congrArg (· + _) (Finset.sum_congr rfl fun j _ => hk j)
  have hD' : ∑ x, Ideal.exp (S x - μ) + Ideal.exp ((c' : EReal) - μ) = (((∑ j, Real.exp (s j - μ)) + Real.exp (c' - μ) : ℝ) : EReal) := by
    rw [EReal.coe_add, coe_sum, ← EReal.coe_sub, Ideal.exp_coe]
    exact congrArg (· + _) (Finset.sum_congr rfl fun j _ => hk' j)
  have hpos : 0 < (∑ j, Real.exp (s j - μ)) + Real.exp (c' - μ) :=
    add_pos_of_nonneg_of_pos (Finset.sum_nonneg fun j _ => (Real.exp_pos _).le) (Real.exp_pos _)
  rw [hD, hD', Ideal.div_coe hpos.ne', sum_mul_real _ _ (one_div_nonneg.2 hpos.le)]
  refine Finset.sum_congr rfl fun j _ => ?_
  rw [Ideal.div_coe hpos.ne', hk, hk', mul_comm (((Real.exp (s j - μ) : ℝ) : EReal)) (v j), mul_assoc]

end Cert.Attention

namespace Cert.ReferenceIdeal.Attention

open Cert.ReferenceIdeal Cert.ReferenceIdeal.Gen

/-- The scores of every query against its sequence's keys, the sink logit as one more column. -/
def SC (a0 : FVec Ideal S32x256x2x4x128 .f32) (a1 : FVec Ideal S32x256x2x128 .f32) (a3 : FVec Ideal S8 .f32) :
    FVec Ideal S32x2x4x256x257 .f32 :=
  concatenate S32x2x4x256x257 4 [⟨S32x2x4x256x256, (transpose S32x2x4x256x256 [0, 1, 4, 3, 2] (Host.dotGeneral dot_S32x256x2x128_S32x256x2x4x128_S32x2x256x256x4_3_4_1_13_02_02 none a1 a0) transposes_S32x2x256x256x4_S32x2x4x256x256_0_1_4_3_2)⟩, ⟨S32x2x4x256x1, (broadcastInDim S32x2x4x256x1 ![1, 2, 3, 4] bcast_S2x4x1x1_S32x2x4x256x1_1_2_3_4 (shapeCast _ a3 shapeCasts_S8_S2x4x1x1))⟩] concatenates_S32x2x4x256x256_S32x2x4x256x1_S32x2x4x256x257_d4

/-- The greatest score of every row. -/
def MX (s : FVec Ideal S32x2x4x256x257 .f32) : FVec Ideal S32x2x4x256 .f32 :=
  maximumf (broadcastInDim S32x2x4x256 ![] bcast_S_S32x2x4x256 (constant S_ .f32 0xFF800000#32)) (Host.reduce FloatOps.maximumf s (constant S_ .f32 0xFF800000#32) reducesTo_S32x2x4x256x257_S32x2x4x256_d4 h_S_)

/-- The exponentials, shifted by the row's greatest score. -/
def EX (s : FVec Ideal S32x2x4x256x257 .f32) : FVec Ideal S32x2x4x256x257 .f32 :=
  Host.exp (subf s (broadcastInDim S32x2x4x256x257 ![0, 1, 2, 3, 4] bcast_S32x2x4x256x1_S32x2x4x256x257_0_1_2_3_4 (broadcastInDim S32x2x4x256x1 ![0, 1, 2, 3] bcast_S32x2x4x256_S32x2x4x256x1_0_1_2_3 (MX s))))

/-- The weighted sum of the values, from the exponentials. -/
def OUT (e : FVec Ideal S32x2x4x256x257 .f32) (a2 : FVec Ideal S32x256x2x128 .f32) : FVec Ideal S8192x1024 .bf16 :=
  truncf .bf16 (shapeCast _ (transpose S32x256x2x4x128 [0, 4, 1, 3, 2] (Host.dotGeneral dot_S32x256x2x128_S32x2x4x256x256_S32x2x128x4x256_1_4_3_23_02_01 none a2 (extractStridedSlice S32x2x4x256x256 ![0, 0, 0, 0, 0] (Host.divf e (broadcastInDim S32x2x4x256x257 ![0, 1, 2, 3, 4] bcast_S32x2x4x256x1_S32x2x4x256x257_0_1_2_3_4 (broadcastInDim S32x2x4x256x1 ![0, 1, 2, 3] bcast_S32x2x4x256_S32x2x4x256x1_0_1_2_3 (Host.reduceAdd e (constant S_ .f32 0x00000000#32) reducesTo_S32x2x4x256x257_S32x2x4x256_d4 h_S_)))) slices_S32x2x4x256x257_S32x2x4x256x256_0_0_0_0_0)) transposes_S32x2x128x4x256_S32x256x2x4x128_0_4_1_3_2) shapeCasts_S32x256x2x4x128_S8192x1024) bitsLt_bf16_f32

/-- A score: the product of a query with a key. -/
theorem sc_key (a0 : FVec Ideal S32x256x2x4x128 .f32) (a1 : FVec Ideal S32x256x2x128 .f32) (a3 : FVec Ideal S8 .f32)
    (b : Fin 32) (g : Fin 2) (n : Fin 4) (r j : Fin 256) (J : Fin 257) (hJ : (J : ℕ) = j) :
    SC a0 a1 a3 (ix5 b g n r J) = ∑ e : Fin 128, a0 (ix5 b r g n e) * a1 (ix4 b j g e) := by
  have hlt : (J : ℕ) < 256 := by omega
  pointwise [SC, hlt]
  refine Finset.sum_congr rfl fun e _ => ?_
  rw [mul_comm]
  have hj : (⟨(J : ℕ), hlt⟩ : Fin 256) = j := Fin.ext hJ
  rw [hj]

/-- The last column holds the head's sink logit. -/
theorem sc_sink (a0 : FVec Ideal S32x256x2x4x128 .f32) (a1 : FVec Ideal S32x256x2x128 .f32) (a3 : FVec Ideal S8 .f32)
    (b : Fin 32) (g : Fin 2) (n : Fin 4) (r : Fin 256) (J : Fin 257) (hJ : (J : ℕ) = 256) :
    SC a0 a1 a3 (ix5 b g n r J) = a3 (ix1 ⟨g.val * 4 + n.val, by omega⟩) := by
  have hlt : ¬ (J : ℕ) < 256 := by omega
  pointwise [SC, hlt]

/-- An exponential of the reference at an index. -/
theorem ex_at (s : FVec Ideal S32x2x4x256x257 .f32) (b : Fin 32) (g : Fin 2) (n : Fin 4) (r : Fin 256) (j : Fin 257) :
    EX s (ix5 b g n r j) = Ideal.exp (s (ix5 b g n r j) - MX s (ix4 b g n r)) := by
  pointwise [EX]

/-- A fold over coordinates does not see how their number is written. -/
theorem fold_cast {k n : ℕ} (h : k = n) (B : EReal) (f : Fin k → EReal) :
    Finset.fold max B f Finset.univ = Finset.fold max B (fun x : Fin n => f (Fin.cast h.symm x)) Finset.univ := by
  subst h; rfl

/-- The maximum against the constant −∞ at an index. -/
theorem max_at (z : FVec Ideal S32x2x4x256 .f32) (i : S32x2x4x256.Idx) :
    maximumf (broadcastInDim S32x2x4x256 ![] bcast_S_S32x2x4x256 (constant S_ .f32 0xFF800000#32)) z i
    = max (Ideal.ofBits .f32 0xFF800000#32) (z i) := rfl

/-- The row maximum at an index. -/
theorem reduce_at (s : FVec Ideal S32x2x4x256x257 .f32) (b : Fin 32) (g : Fin 2) (n : Fin 4) (r : Fin 256) (z : FVec Ideal S32x2x4x256 .f32)
    (hz : z = Host.reduce FloatOps.maximumf s (constant S_ .f32 0xFF800000#32) reducesTo_S32x2x4x256x257_S32x2x4x256_d4 h_S_) :
    z (ix4 b g n r) = Finset.fold max (Ideal.ofBits .f32 0xFF800000#32) (fun x : Fin 257 => s (ix5 b g n r x)) Finset.univ := by
  have hr : S32x2x4x256x257.Reduces [4] S32x2x4x256 := by decide
  rw [hz, Host.reduce_eq_fold_single (FloatOps.maximumf (F := Ideal) (φ := .f32)) s (constant S_ .f32 0xFF800000#32) reducesTo_S32x2x4x256x257_S32x2x4x256_d4 hr h_S_ (ix4 b g n r)]
  refine (fold_cast (n := 257) rfl _ _).trans ?_
  refine congrArg (fun f : Fin 257 → EReal => Finset.fold max (Ideal.ofBits .f32 0xFF800000#32) f Finset.univ) (funext fun x => ?_)
  refine congrArg s (funext fun a => ?_)
  fin_cases a <;> rfl

/-- The reference's greatest score at an index. -/
theorem mx_at (s : FVec Ideal S32x2x4x256x257 .f32) (b : Fin 32) (g : Fin 2) (n : Fin 4) (r : Fin 256) :
    MX s (ix4 b g n r) = max (Ideal.ofBits .f32 0xFF800000#32)
      (Finset.fold max (Ideal.ofBits .f32 0xFF800000#32) (fun x : Fin 257 => s (ix5 b g n r x)) Finset.univ) := by
  unfold MX
  rw [max_at, reduce_at s b g n r _ rfl]

/-- The reference's result at an index, from the exponentials. -/
theorem out_at (e : FVec Ideal S32x2x4x256x257 .f32) (a2 : FVec Ideal S32x256x2x128 .f32) (b : Fin 32) (g : Fin 2) (n : Fin 4) (r : Fin 256) (d : Fin 128) :
    OUT e a2 (ix2 ⟨b.val * 256 + r.val, by omega⟩ ⟨(g.val * 4 + n.val) * 128 + d.val, by omega⟩)
    = ∑ x : Fin 256, a2 (ix4 b x g d) * Ideal.div (e (ix5 b g n r ⟨x, by omega⟩)) (∑ x, e (ix5 b g n r x)) := by
  pointwise [OUT]

end Cert.ReferenceIdeal.Attention

end
-- ==== Proof.Attention.lean ====
/-
  The value of the context tokens' attention at exact arithmetic: the kernel's five result arrays are the reference's,
  where the queries, the keys and the sink logits are finite. A grid point takes eight sequences; of each it stores one
  tile per head, and `core` is the one lemma about a tile. -/
module

public import proofs.«01_k».proof.Proof.Gen.KernelIdeal.Value
public import proofs.«01_k».proof.Proof.AttnMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Attention

open Cert.KernelIdeal Cert.KernelIdeal.Gen
open Cert.ReferenceIdeal.Attention (SC MX EX OUT)

variable (m : (ℓ : Loc nD τ sig) → Buf (Elt Ideal) ℓ)

/-- The block indices of every window at a grid point. -/
theorem idx : ∀ t : Fin cfg0.N, win0_0.index t = ![0] ∧ win0_1.index t = ![t.val, 4] ∧ win0_2.index t = ![t.val, 12]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] :=
  (by decide +kernel : ∀ t : Fin grid0.N, _)

/-- The array the host lines prepare: zeros, queries, zeros, keys and values, column ranges of one array. -/
def packed (c : Dev nD) : FVec Ideal S8192x6656 .bf16 :=
  concatenate S8192x6656 1 [⟨S8192x4096, (broadcastInDim S8192x4096 ![] bcast_S_S8192x4096 (constant S_ .bf16 0x0000#16) : FVec Ideal S8192x4096 .bf16)⟩,
    ⟨S8192x1024, (truncf .bf16 (shapeCast S8192x1024 (m ((c.tc : Thread nD τ).loc main_arg0) : FVec Ideal S32x256x2x4x128 .f32) shapeCasts_S32x256x2x4x128_S8192x1024) bitsLt_bf16_f32 : FVec Ideal S8192x1024 .bf16)⟩,
    ⟨S8192x1024, (broadcastInDim S8192x1024 ![] bcast_S_S8192x1024 (constant S_ .bf16 0x0000#16) : FVec Ideal S8192x1024 .bf16)⟩,
    ⟨S8192x256, (truncf .bf16 (shapeCast S8192x256 (m ((c.tc : Thread nD τ).loc main_arg1) : FVec Ideal S32x256x2x128 .f32) shapeCasts_S32x256x2x128_S8192x256) bitsLt_bf16_f32 : FVec Ideal S8192x256 .bf16)⟩,
    ⟨S8192x256, (truncf .bf16 (shapeCast S8192x256 (m ((c.tc : Thread nD τ).loc main_arg2) : FVec Ideal S32x256x2x128 .f32) shapeCasts_S32x256x2x128_S8192x256) bitsLt_bf16_f32 : FVec Ideal S8192x256 .bf16)⟩] concatenates_S8192x4096_S8192x1024_S8192x1024_S8192x256_S8192x256_S8192x6656_d1

theorem packed_eq (c : Dev nD) : V m c main_v8 = packed m c := rfl

/-- Five column ranges side by side: the second. -/
theorem cat_q (A : FVec Ideal S8192x4096 .bf16) (B C : FVec Ideal S8192x1024 .bf16) (D E : FVec Ideal S8192x256 .bf16) (R : Fin 8192) (j : Fin 1024) :
    concatenate S8192x6656 1 [⟨S8192x4096, A⟩, ⟨S8192x1024, B⟩, ⟨S8192x1024, C⟩, ⟨S8192x256, D⟩, ⟨S8192x256, E⟩]
      concatenates_S8192x4096_S8192x1024_S8192x1024_S8192x256_S8192x256_S8192x6656_d1 (ix2 R ⟨4096 + j, by omega⟩) = B (ix2 R j) := by
  pointwise

/-- Five column ranges side by side: the fourth. -/
theorem cat_k (A : FVec Ideal S8192x4096 .bf16) (B C : FVec Ideal S8192x1024 .bf16) (D E : FVec Ideal S8192x256 .bf16) (R : Fin 8192) (j : Fin 256) :
    concatenate S8192x6656 1 [⟨S8192x4096, A⟩, ⟨S8192x1024, B⟩, ⟨S8192x1024, C⟩, ⟨S8192x256, D⟩, ⟨S8192x256, E⟩]
      concatenates_S8192x4096_S8192x1024_S8192x1024_S8192x256_S8192x256_S8192x6656_d1 (ix2 R ⟨6144 + j, by omega⟩) = D (ix2 R j) := by
  pointwise
  rw [dif_neg (by omega), dif_neg (by omega), dif_neg (by omega), dif_pos (by omega)]
  exact congrArg (fun x => D (ix2 R x)) (Fin.ext (by dsimp only; omega))

/-- Five column ranges side by side: the last. -/
theorem cat_v (A : FVec Ideal S8192x4096 .bf16) (B C : FVec Ideal S8192x1024 .bf16) (D E : FVec Ideal S8192x256 .bf16) (R : Fin 8192) (j : Fin 256) :
    concatenate S8192x6656 1 [⟨S8192x4096, A⟩, ⟨S8192x1024, B⟩, ⟨S8192x1024, C⟩, ⟨S8192x256, D⟩, ⟨S8192x256, E⟩]
      concatenates_S8192x4096_S8192x1024_S8192x1024_S8192x256_S8192x256_S8192x6656_d1 (ix2 R ⟨6400 + j, by omega⟩) = E (ix2 R j) := by
  pointwise
  rw [dif_neg (by omega), dif_neg (by omega), dif_neg (by omega), dif_neg (by omega)]
  exact congrArg (fun x => E (ix2 R x)) (Fin.ext (by dsimp only; omega))

/-- The queries as one matrix. -/
theorem flat_q (a : FVec Ideal S32x256x2x4x128 .f32) (b : Fin 32) (r : Fin 256) (g : Fin 2) (n : Fin 4) (e : Fin 128) :
    (truncf .bf16 (shapeCast S8192x1024 a shapeCasts_S32x256x2x4x128_S8192x1024) bitsLt_bf16_f32 : FVec Ideal S8192x1024 .bf16)
      (ix2 ⟨b.val * 256 + r.val, by omega⟩ ⟨(g.val * 4 + n.val) * 128 + e.val, by omega⟩) = a (ix5 b r g n e) := by
  pointwise

/-- The keys, or the values, as one matrix. -/
theorem flat_k (a : FVec Ideal S32x256x2x128 .f32) (b : Fin 32) (r : Fin 256) (g : Fin 2) (e : Fin 128) :
    (truncf .bf16 (shapeCast S8192x256 a shapeCasts_S32x256x2x128_S8192x256) bitsLt_bf16_f32 : FVec Ideal S8192x256 .bf16)
      (ix2 ⟨b.val * 256 + r.val, by omega⟩ ⟨g.val * 128 + e.val, by omega⟩) = a (ix4 b r g e) := by
  pointwise

/-- A query of the packed array. -/
theorem packed_q (c : Dev nD) (b : Fin 32) (r : Fin 256) (g : Fin 2) (n : Fin 4) (e : Fin 128) (R : Fin 8192) (C : Fin 6656)
    (hR : (R : ℕ) = b * 256 + r) (hC : (C : ℕ) = 4096 + ((g * 4 + n) * 128 + e)) :
    packed m c (ix2 R C) = (m ((c.tc : Thread nD τ).loc main_arg0) : FVec Ideal S32x256x2x4x128 .f32) (ix5 b r g n e) := by
  have hR' : R = ⟨b.val * 256 + r.val, by omega⟩ := Fin.ext hR
  have hC' : C = ⟨4096 + (⟨(g.val * 4 + n.val) * 128 + e.val, by omega⟩ : Fin 1024).val, by simp only; omega⟩ := Fin.ext hC
  rw [hR', hC']
  exact (cat_q _ _ _ _ _ _ _).trans (flat_q _ b r g n e)

/-- A key of the packed array. -/
theorem packed_k (c : Dev nD) (b : Fin 32) (r : Fin 256) (g : Fin 2) (e : Fin 128) (R : Fin 8192) (C : Fin 6656)
    (hR : (R : ℕ) = b * 256 + r) (hC : (C : ℕ) = 6144 + (g * 128 + e)) :
    packed m c (ix2 R C) = (m ((c.tc : Thread nD τ).loc main_arg1) : FVec Ideal S32x256x2x128 .f32) (ix4 b r g e) := by
  have hR' : R = ⟨b.val * 256 + r.val, by omega⟩ := Fin.ext hR
  have hC' : C = ⟨6144 + (⟨g.val * 128 + e.val, by omega⟩ : Fin 256).val, by simp only; omega⟩ := Fin.ext hC
  rw [hR', hC']
  exact (cat_k _ _ _ _ _ _ _).trans (flat_k _ b r g e)

/-- A value of the packed array. -/
theorem packed_v (c : Dev nD) (b : Fin 32) (r : Fin 256) (g : Fin 2) (e : Fin 128) (R : Fin 8192) (C : Fin 6656)
    (hR : (R : ℕ) = b * 256 + r) (hC : (C : ℕ) = 6400 + (g * 128 + e)) :
    packed m c (ix2 R C) = (m ((c.tc : Thread nD τ).loc main_arg2) : FVec Ideal S32x256x2x128 .f32) (ix4 b r g e) := by
  have hR' : R = ⟨b.val * 256 + r.val, by omega⟩ := Fin.ext hR
  have hC' : C = ⟨6400 + (⟨g.val * 128 + e.val, by omega⟩ : Fin 256).val, by simp only; omega⟩ := Fin.ext hC
  rw [hR', hC']
  exact (cat_v _ _ _ _ _ _ _).trans (flat_k _ b r g e)

/-- The query window's block at a grid point. -/
theorem x1_at (c : Dev nD) (t : Fin cfg0.N) (i : Fin 2048) (j : Fin 1024) (R : Fin 8192) (C : Fin 6656)
    (hR : (R : ℕ) = t.val * 2048 + i) (hC : (C : ℕ) = 4096 + j) :
    (X0_1 m c t : FVec Ideal S2048x1024 .bf16) (ix2 i j) = packed m c (ix2 R C) := by
  unfold X0_1 Pipeline.Window.fill
  rw [dif_pos (moved0_1 t _)]
  unfold iblk
  show V m c main_v8 (((cfg0.win 1).blk t).view.emb _) = _
  rw [packed_eq]
  blk_ext [idx t]

/-- The key and value window's block at a grid point. -/
theorem x2_at (c : Dev nD) (t : Fin cfg0.N) (i : Fin 2048) (j : Fin 512) (R : Fin 8192) (C : Fin 6656)
    (hR : (R : ℕ) = t.val * 2048 + i) (hC : (C : ℕ) = 6144 + j) :
    (iblk m c 2 t : FVec Ideal S2048x512 .bf16) (ix2 i j) = packed m c (ix2 R C) := by
  unfold iblk
  show V m c main_v8 (((cfg0.win 2).blk t).view.emb _) = _
  rw [packed_eq]
  blk_ext [idx t]

/-- The reference's first result of the kernel's own arguments. -/
abbrev att (c : Dev nD) : FVec Ideal S8192x1024 .bf16 :=
  OUT (EX (SC (m ((c.tc : Thread nD τ).loc main_arg0)) (m ((c.tc : Thread nD τ).loc main_arg1)) (m ((c.tc : Thread nD τ).loc main_arg3))))
    (m ((c.tc : Thread nD τ).loc main_arg2))

/-- The precondition in the form the proof uses: queries, keys and sinks are real numbers. -/
structure Fin' (c : Dev nD) : Prop where
  q : ∀ i, ∃ x : ℝ, (m ((c.tc : Thread nD τ).loc main_arg0) : FVec Ideal S32x256x2x4x128 .f32) i = (x : EReal)
  k : ∀ i, ∃ x : ℝ, (m ((c.tc : Thread nD τ).loc main_arg1) : FVec Ideal S32x256x2x128 .f32) i = (x : EReal)
  s : ∀ i, ∃ x : ℝ, (m ((c.tc : Thread nD τ).loc main_arg3) : FVec Ideal S8 .f32) i = (x : EReal)

/-- A sum of products of reals is real. -/
theorem dot_real {n : ℕ} (a b : Fin n → EReal) (ha : ∀ i, ∃ x : ℝ, a i = x) (hb : ∀ i, ∃ x : ℝ, b i = x) :
    ∃ x : ℝ, ∑ i, a i * b i = (x : EReal) := by
  choose a' ha using ha
  choose b' hb using hb
  refine ⟨∑ i, a' i * b' i, ?_⟩
  rw [Cert.Attention.coe_sum]
  exact Finset.sum_congr rfl fun i _ => by rw [ha, hb, EReal.coe_mul]

/-- One head's tile, from its queries, keys, values and sink logit. -/
theorem core (c : Dev nD) (hf : Fin' m c) (k v q : FVec Ideal S256x128 .bf16) (s : EReal) (b : Fin 32) (g : Fin 2) (n : Fin 4) (r : Fin 256) (d : Fin 128)
    (hq : ∀ e, q (ix2 r e) = (m ((c.tc : Thread nD τ).loc main_arg0) : FVec Ideal S32x256x2x4x128 .f32) (ix5 b r g n e))
    (hk : ∀ j e, k (ix2 j e) = (m ((c.tc : Thread nD τ).loc main_arg1) : FVec Ideal S32x256x2x128 .f32) (ix4 b j g e))
    (hv : ∀ j e, v (ix2 j e) = (m ((c.tc : Thread nD τ).loc main_arg2) : FVec Ideal S32x256x2x128 .f32) (ix4 b j g e))
    (hs : s = (m ((c.tc : Thread nD τ).loc main_arg3) : FVec Ideal S8 .f32) (ix1 ⟨g.val * 4 + n.val, by omega⟩))
    (i : S8192x1024.Idx) (h0 : (i 0 : ℕ) = b * 256 + r) (h1 : (i 1 : ℕ) = (g.val * 4 + n.val) * 128 + d.val) :
    k0_pay12 (F := Ideal) (k0_pay6 k) (k0_pay7 v) q s (ix2 r d) = att m c i := by
  have hi : i = ix2 ⟨b.val * 256 + r.val, by omega⟩ ⟨(g.val * 4 + n.val) * 128 + d.val, by omega⟩ := by
    funext a
    fin_cases a
    · exact Fin.ext h0
    · exact Fin.ext h1
  rw [hi]
  refine Eq.trans ?_ (Cert.ReferenceIdeal.Attention.out_at _ _ b g n r d).symm
  pointwise [k0_pay12, k0_pay6, k0_pay7]
  simp only [hq, hk, hv]
  refine Cert.Attention.softmax_eq _ s (by simp [Ideal.ofBits, Ideal.ieee]) _ _
    (fun J => SC (m ((c.tc : Thread nD τ).loc main_arg0)) (m ((c.tc : Thread nD τ).loc main_arg1)) (m ((c.tc : Thread nD τ).loc main_arg3)) (ix5 b g n r J))
    (fun J => EX (SC (m ((c.tc : Thread nD τ).loc main_arg0)) (m ((c.tc : Thread nD τ).loc main_arg1)) (m ((c.tc : Thread nD τ).loc main_arg3))) (ix5 b g n r J))
    (fun J j hJ => Cert.ReferenceIdeal.Attention.sc_key _ _ _ b g n r j J hJ)
    (fun J hJ => (Cert.ReferenceIdeal.Attention.sc_sink _ _ _ b g n r J hJ).trans hs.symm)
    (fun j => dot_real _ _ (fun e => hf.q _) (fun e => hf.k _)) (hs ▸ hf.s _) (fun J => ?_)
  rw [Cert.ReferenceIdeal.Attention.ex_at, Cert.ReferenceIdeal.Attention.mx_at]

/-- Where the point's tile of a head lands: one lemma for all stores. -/
theorem tile (c : Dev nD) (hf : Fin' m c) (t : Fin cfg0.N) (k v q : FVec Ideal S256x128 .bf16) (s : EReal) (b : Fin 8) (g : Fin 2) (n : Fin 4) (r : Fin 256) (d : Fin 128)
    (hq : ∀ e : Fin 128, q (ix2 r e) = (X0_1 m c t : FVec Ideal S2048x1024 .bf16) (ix2 ⟨b.val * 256 + r.val, by omega⟩ ⟨(g.val * 4 + n.val) * 128 + e.val, by omega⟩))
    (hk : ∀ (j : Fin 256) (e : Fin 128), k (ix2 j e) = (iblk m c 2 t : FVec Ideal S2048x512 .bf16) (ix2 ⟨b.val * 256 + j.val, by omega⟩ ⟨g.val * 128 + e.val, by omega⟩))
    (hv : ∀ (j : Fin 256) (e : Fin 128), v (ix2 j e) = (iblk m c 2 t : FVec Ideal S2048x512 .bf16) (ix2 ⟨b.val * 256 + j.val, by omega⟩ ⟨256 + g.val * 128 + e.val, by omega⟩))
    (hs : s = (m ((c.tc : Thread nD τ).loc main_arg3) : FVec Ideal S8 .f32) (ix1 ⟨g.val * 4 + n.val, by omega⟩))
    (i : S8192x1024.Idx) (h0 : (i 0 : ℕ) = t.val * 2048 + b * 256 + r) (h1 : (i 1 : ℕ) = (g.val * 4 + n.val) * 128 + d.val) :
    k0_pay12 (F := Ideal) (k0_pay6 k) (k0_pay7 v) q s (ix2 r d) = att m c i := by
  have ht : t.val < 4 := lt_of_lt_of_eq t.isLt N_0
  refine core m c hf k v q s ⟨t.val * 8 + b.val, by omega⟩ g n r d (fun e => ?_) (fun j e => ?_) (fun j e => ?_) hs i ?_ h1
  · rw [hq e, x1_at m c t _ _ ⟨t.val * 2048 + (b.val * 256 + r.val), by omega⟩ ⟨4096 + ((g.val * 4 + n.val) * 128 + e.val), by omega⟩ rfl rfl]
    exact packed_q m c ⟨t.val * 8 + b.val, by omega⟩ r g n e _ _ (by show t.val * 2048 + (b.val * 256 + r.val) = (t.val * 8 + b.val) * 256 + r.val; omega) (by show 4096 + ((g.val * 4 + n.val) * 128 + e.val) = _; omega)
  · rw [hk j e, x2_at m c t _ _ ⟨t.val * 2048 + (b.val * 256 + j.val), by omega⟩ ⟨6144 + (g.val * 128 + e.val), by omega⟩ rfl rfl]
    exact packed_k m c ⟨t.val * 8 + b.val, by omega⟩ j g e _ _ (by show t.val * 2048 + (b.val * 256 + j.val) = (t.val * 8 + b.val) * 256 + j.val; omega) (by show 6144 + (g.val * 128 + e.val) = _; omega)
  · rw [hv j e, x2_at m c t _ _ ⟨t.val * 2048 + (b.val * 256 + j.val), by omega⟩ ⟨6144 + (256 + g.val * 128 + e.val), by omega⟩ rfl rfl]
    exact packed_v m c ⟨t.val * 8 + b.val, by omega⟩ j g e _ _ (by show t.val * 2048 + (b.val * 256 + j.val) = (t.val * 8 + b.val) * 256 + j.val; omega) (by show 6144 + (256 + g.val * 128 + e.val) = _; omega)
  · rw [h0]; show _ = (t.val * 8 + b.val) * 256 + r.val; omega

/-- The second. -/
theorem final8 (c : Dev nD) : (dats m 0 c).arrAt 8 (cfgs 0).N = (truncf .bf16 (m ((c.tc : Thread nD τ).loc main_arg4) : FVec Ideal S1024x1024 .f32) bitsLt_bf16_f32 : FVec Ideal S1024x1024 .bf16) := by
  refine (dats m 0 c).arrAt_eq_of_covers 8 _ (by decide +kernel) fun t hf y => ?_
  blk_simp
  rw [after0_8]
  unfold outsAt0
  frame_out
  idx_vars y
  pointwise [k0_pay2]
  blk_point [iblk, V, idx t]

/-- The third. -/
theorem final9 (c : Dev nD) : (dats m 0 c).arrAt 9 (cfgs 0).N = (truncf .bf16 (m ((c.tc : Thread nD τ).loc main_arg5) : FVec Ideal S1024x2048 .f32) bitsLt_bf16_f32 : FVec Ideal S1024x2048 .bf16) := by
  refine (dats m 0 c).arrAt_eq_of_covers 9 _ (by decide +kernel) fun t hf y => ?_
  blk_simp
  rw [after0_9]
  unfold outsAt0
  frame_out
  idx_vars y
  pointwise [k0_pay3]
  blk_point [iblk, V, idx t]

/-- The fourth. -/
theorem final10 (c : Dev nD) : (dats m 0 c).arrAt 10 (cfgs 0).N = (truncf .bf16 (m ((c.tc : Thread nD τ).loc main_arg6) : FVec Ideal S1024x2048 .f32) bitsLt_bf16_f32 : FVec Ideal S1024x2048 .bf16) := by
  refine (dats m 0 c).arrAt_eq_of_covers 10 _ (by decide +kernel) fun t hf y => ?_
  blk_simp
  rw [after0_10]
  unfold outsAt0
  frame_out
  idx_vars y
  pointwise [k0_pay4]
  blk_point [iblk, V, idx t]

/-- The fifth. -/
theorem final11 (c : Dev nD) : (dats m 0 c).arrAt 11 (cfgs 0).N = (truncf .bf16 (m ((c.tc : Thread nD τ).loc main_arg7) : FVec Ideal S2048x2048 .f32) bitsLt_bf16_f32 : FVec Ideal S2048x2048 .bf16) := by
  refine (dats m 0 c).arrAt_eq_of_covers 11 _ (by decide +kernel) fun t hf y => ?_
  blk_simp
  rw [after0_11]
  unfold outsAt0
  frame_out
  idx_vars y
  pointwise [k0_pay5]
  blk_point [iblk, V, idx t]

end Cert.KernelIdeal.Attention
end
-- ==== Proof.AttnTiles.lean ====
/-
  The value of the context tokens' attention at exact arithmetic: the kernel's five result arrays are the reference's,
  where the queries, the keys and the sink logits are finite. A grid point takes eight sequences; of each it stores one
  tile per head, and `core` is the one lemma about a tile. -/
module

public import proofs.«01_k».proof.Proof.Gen.KernelIdeal.Value
public import proofs.«01_k».proof.Proof.Attention
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Attention

open Cert.KernelIdeal Cert.KernelIdeal.Gen
open Cert.ReferenceIdeal.Attention (SC MX EX OUT)

variable (m : (ℓ : Loc nD τ sig) → Buf (Elt Ideal) ℓ)

/-- One entry of a load of a tile: the array read at the tile's corner plus the entry's own place. -/
theorem ld_at {s0 s1 : ℕ} {e : EltTy} (A : (⟨2, ![s0, s1]⟩ : Shape).Idx → Elt Ideal e) (o p : ℕ) (inb : ∀ a, (![o, p] : Fin 2 → ℕ) a + (![256, 128] : Fin 2 → ℕ) a ≤ (⟨2, ![s0, s1]⟩ : Shape).size a)
    (r : Fin 256) (d : Fin 128) (h0 : o + r.val < s0) (h1 : p + d.val < s1) :
    View.ld A (Rect.unit (s := ⟨2, ![s0, s1]⟩) ![o, p] ![256, 128] inb) (ix2 r d) = A (ix2 ⟨o + r.val, h0⟩ ⟨p + d.val, h1⟩) := by
  refine congrArg A (funext fun a => Fin.ext ?_)
  fin_cases a
  · show o + 1 * r.val = o + r.val; omega
  · show p + 1 * d.val = p + d.val; omega

/-- The sink the body loads is the one of its head. -/
theorem ld_s (c : Dev nD) (t : Fin cfg0.N) (k : ℕ) (inb : ∀ a, (![k] : Fin 1 → ℕ) a + (![1] : Fin 1 → ℕ) a ≤ S8.size a) (i) (hk : k < 8) :
    View.ld (iblk m c 0 t : FVec Ideal S8 .f32) (Rect.unit (s := S8) ![k] ![1] inb) i = (m ((c.tc : Thread nD τ).loc main_arg3) : FVec Ideal S8 .f32) (ix1 ⟨k, hk⟩) := by
  obtain ⟨i0, rfl⟩ : ∃ i0 : Fin 1, i = ix1 i0 := ⟨i 0, funext fun a => by fin_cases a; rfl⟩
  blk_point [iblk, V, idx t]

/-- The place of an entry of the first result's block. -/
theorem emb7 (t : Fin cfg0.N) (y : ((cfg0.win 7).xblock (cfg0.grid.coords t)).Idx) :
    ((((View.whole main_v9_0).slice (win0_7.rect t)).emb y : S8192x1024.Idx) 0 : ℕ) = t.val * 2048 + (y 0 : ℕ)
    ∧ ((((View.whole main_v9_0).slice (win0_7.rect t)).emb y : S8192x1024.Idx) 1 : ℕ) = (y 1 : ℕ) := by
  have h := (idx t).2.2.2.2.2.2.2.1
  have h0 : win0_7.index t 0 = t.val := by rw [h]; rfl
  have h1 : win0_7.index t 1 = 0 := by rw [h]; rfl
  constructor
  · show win0_7.index t 0 * 2048 + 1 * (y 0 : ℕ) = _
    rw [h0]; omega
  · show win0_7.index t 1 * 1024 + 1 * (y 1 : ℕ) = _
    rw [h1]; omega

set_option maxHeartbeats 8000000 in
/-- The first result array of the kernel is the reference's. -/
theorem final7 (c : Dev nD) (hf : Fin' m c) : (dats m 0 c).arrAt 7 (cfgs 0).N = att m c := by
  refine (dats m 0 c).arrAt_eq_of_covers 7 _ (by decide +kernel) fun t hfl y => ?_
  blk_simp
  rw [after0_7]
  unfold outsAt0
  frame_out
  canon_tiles x h
  case piece0 =>
    idx_vars x
    open_payloads
    generalize hk : View.ld (iblk m c 2 t) (Rect.unit ![1792, 128] ![256, 128] inb_S2048x512_S256x128_1792_128) = k
    generalize hv : View.ld (iblk m c 2 t) (Rect.unit ![1792, 384] ![256, 128] inb_S2048x512_S256x128_1792_384) = v
    generalize hq : View.ld ((win0 1).fill (grid0.coords t) dflt0_1 (iblk m c 1 t)) (Rect.unit ![1792, 896] ![256, 128] inb_S2048x1024_S256x128_1792_896) = q
    generalize hs : View.ld (iblk m c 0 t) (Rect.unit ![7] ![1] inb_S8_S1_7) (Shape.Idx.first _) = s
    exact tile m c hf t k v q s 7 1 3 x0 x1 (fun e => hq ▸ ld_at _ 1792 896 _ x0 e _ _) (fun j e => hk ▸ ld_at _ 1792 128 _ j e _ _) (fun j e => hv ▸ ld_at _ 1792 384 _ j e _ _) (hs ▸ ld_s m c t 7 _ _ (by decide)) _
      (by have e := (emb7 t y).1; show _ = t.val * 2048 + 7 * 256 + x0.val; rw [h0] at e; exact e.trans (by omega)) (by have e := (emb7 t y).2; show _ = (1 * 4 + 3) * 128 + x1.val; rw [h1] at e; exact e.trans (by omega))
  case piece1 =>
    idx_vars x
    open_payloads
    generalize hk : View.ld (iblk m c 2 t) (Rect.unit ![1792, 128] ![256, 128] inb_S2048x512_S256x128_1792_128) = k
    generalize hv : View.ld (iblk m c 2 t) (Rect.unit ![1792, 384] ![256, 128] inb_S2048x512_S256x128_1792_384) = v
    generalize hq : View.ld ((win0 1).fill (grid0.coords t) dflt0_1 (iblk m c 1 t)) (Rect.unit ![1792, 768] ![256, 128] inb_S2048x1024_S256x128_1792_768) = q
    generalize hs : View.ld (iblk m c 0 t) (Rect.unit ![6] ![1] inb_S8_S1_6) (Shape.Idx.first _) = s
    exact tile m c hf t k v q s 7 1 2 x0 x1 (fun e => hq ▸ ld_at _ 1792 768 _ x0 e _ _) (fun j e => hk ▸ ld_at _ 1792 128 _ j e _ _) (fun j e => hv ▸ ld_at _ 1792 384 _ j e _ _) (hs ▸ ld_s m c t 6 _ _ (by decide)) _
      (by have e := (emb7 t y).1; show _ = t.val * 2048 + 7 * 256 + x0.val; rw [h0] at e; exact e.trans (by omega)) (by have e := (emb7 t y).2; show _ = (1 * 4 + 2) * 128 + x1.val; rw [h1] at e; exact e.trans (by omega))
  case piece2 =>
    idx_vars x
    open_payloads
    generalize hk : View.ld (iblk m c 2 t) (Rect.unit ![1792, 128] ![256, 128] inb_S2048x512_S256x128_1792_128) = k
    generalize hv : View.ld (iblk m c 2 t) (Rect.unit ![1792, 384] ![256, 128] inb_S2048x512_S256x128_1792_384) = v
    generalize hq : View.ld ((win0 1).fill (grid0.coords t) dflt0_1 (iblk m c 1 t)) (Rect.unit ![1792, 640] ![256, 128] inb_S2048x1024_S256x128_1792_640) = q
    generalize hs : View.ld (iblk m c 0 t) (Rect.unit ![5] ![1] inb_S8_S1_5) (Shape.Idx.first _) = s
    exact tile m c hf t k v q s 7 1 1 x0 x1 (fun e => hq ▸ ld_at _ 1792 640 _ x0 e _ _) (fun j e => hk ▸ ld_at _ 1792 128 _ j e _ _) (fun j e => hv ▸ ld_at _ 1792 384 _ j e _ _) (hs ▸ ld_s m c t 5 _ _ (by decide)) _
      (by have e := (emb7 t y).1; show _ = t.val * 2048 + 7 * 256 + x0.val; rw [h0] at e; exact e.trans (by omega)) (by have e := (emb7 t y).2; show _ = (1 * 4 + 1) * 128 + x1.val; rw [h1] at e; exact e.trans (by omega))
  case piece3 =>
    idx_vars x
    open_payloads
    generalize hk : View.ld (iblk m c 2 t) (Rect.unit ![1792, 128] ![256, 128] inb_S2048x512_S256x128_1792_128) = k
    generalize hv : View.ld (iblk m c 2 t) (Rect.unit ![1792, 384] ![256, 128] inb_S2048x512_S256x128_1792_384) = v
    generalize hq : View.ld ((win0 1).fill (grid0.coords t) dflt0_1 (iblk m c 1 t)) (Rect.unit ![1792, 512] ![256, 128] inb_S2048x1024_S256x128_1792_512) = q
    generalize hs : View.ld (iblk m c 0 t) (Rect.unit ![4] ![1] inb_S8_S1_4) (Shape.Idx.first _) = s
    exact tile m c hf t k v q s 7 1 0 x0 x1 (fun e => hq ▸ ld_at _ 1792 512 _ x0 e _ _) (fun j e => hk ▸ ld_at _ 1792 128 _ j e _ _) (fun j e => hv ▸ ld_at _ 1792 384 _ j e _ _) (hs ▸ ld_s m c t 4 _ _ (by decide)) _
      (by have e := (emb7 t y).1; show _ = t.val * 2048 + 7 * 256 + x0.val; rw [h0] at e; exact e.trans (by omega)) (by have e := (emb7 t y).2; show _ = (1 * 4 + 0) * 128 + x1.val; rw [h1] at e; exact e.trans (by omega))
  case piece4 =>
    idx_vars x
    open_payloads
    generalize hk : View.ld (iblk m c 2 t) (Rect.unit ![1792, 0] ![256, 128] inb_S2048x512_S256x128_1792_0) = k
    generalize hv : View.ld (iblk m c 2 t) (Rect.unit ![1792, 256] ![256, 128] inb_S2048x512_S256x128_1792_256) = v
    generalize hq : View.ld ((win0 1).fill (grid0.coords t) dflt0_1 (iblk m c 1 t)) (Rect.unit ![1792, 384] ![256, 128] inb_S2048x1024_S256x128_1792_384) = q
    generalize hs : View.ld (iblk m c 0 t) (Rect.unit ![3] ![1] inb_S8_S1_3) (Shape.Idx.first _) = s
    exact tile m c hf t k v q s 7 0 3 x0 x1 (fun e => hq ▸ ld_at _ 1792 384 _ x0 e _ _) (fun j e => hk ▸ ld_at _ 1792 0 _ j e _ _) (fun j e => hv ▸ ld_at _ 1792 256 _ j e _ _) (hs ▸ ld_s m c t 3 _ _ (by decide)) _
      (by have e := (emb7 t y).1; show _ = t.val * 2048 + 7 * 256 + x0.val; rw [h0] at e; exact e.trans (by omega)) (by have e := (emb7 t y).2; show _ = (0 * 4 + 3) * 128 + x1.val; rw [h1] at e; exact e.trans (by omega))
  case piece5 =>
    idx_vars x
    open_payloads
    generalize hk : View.ld (iblk m c 2 t) (Rect.unit ![1792, 0] ![256, 128] inb_S2048x512_S256x128_1792_0) = k
    generalize hv : View.ld (iblk m c 2 t) (Rect.unit ![1792, 256] ![256, 128] inb_S2048x512_S256x128_1792_256) = v
    generalize hq : View.ld ((win0 1).fill (grid0.coords t) dflt0_1 (iblk m c 1 t)) (Rect.unit ![1792, 256] ![256, 128] inb_S2048x1024_S256x128_1792_256) = q
    generalize hs : View.ld (iblk m c 0 t) (Rect.unit ![2] ![1] inb_S8_S1_2) (Shape.Idx.first _) = s
    exact tile m c hf t k v q s 7 0 2 x0 x1 (fun e => hq ▸ ld_at _ 1792 256 _ x0 e _ _) (fun j e => hk ▸ ld_at _ 1792 0 _ j e _ _) (fun j e => hv ▸ ld_at _ 1792 256 _ j e _ _) (hs ▸ ld_s m c t 2 _ _ (by decide)) _
      (by have e := (emb7 t y).1; show _ = t.val * 2048 + 7 * 256 + x0.val; rw [h0] at e; exact e.trans (by omega)) (by have e := (emb7 t y).2; show _ = (0 * 4 + 2) * 128 + x1.val; rw [h1] at e; exact e.trans (by omega))
  case piece6 =>
    idx_vars x
    open_payloads
    generalize hk : View.ld (iblk m c 2 t) (Rect.unit ![1792, 0] ![256, 128] inb_S2048x512_S256x128_1792_0) = k
    generalize hv : View.ld (iblk m c 2 t) (Rect.unit ![1792, 256] ![256, 128] inb_S2048x512_S256x128_1792_256) = v
    generalize hq : View.ld ((win0 1).fill (grid0.coords t) dflt0_1 (iblk m c 1 t)) (Rect.unit ![1792, 128] ![256, 128] inb_S2048x1024_S256x128_1792_128) = q
    generalize hs : View.ld (iblk m c 0 t) (Rect.unit ![1] ![1] inb_S8_S1_1) (Shape.Idx.first _) = s
    exact tile m c hf t k v q s 7 0 1 x0 x1 (fun e => hq ▸ ld_at _ 1792 128 _ x0 e _ _) (fun j e => hk ▸ ld_at _ 1792 0 _ j e _ _) (fun j e => hv ▸ ld_at _ 1792 256 _ j e _ _) (hs ▸ ld_s m c t 1 _ _ (by decide)) _
      (by have e := (emb7 t y).1; show _ = t.val * 2048 + 7 * 256 + x0.val; rw [h0] at e; exact e.trans (by omega)) (by have e := (emb7 t y).2; show _ = (0 * 4 + 1) * 128 + x1.val; rw [h1] at e; exact e.trans (by omega))
  case piece7 =>
    idx_vars x
    open_payloads
    generalize hk : View.ld (iblk m c 2 t) (Rect.unit ![1792, 0] ![256, 128] inb_S2048x512_S256x128_1792_0) = k
    generalize hv : View.ld (iblk m c 2 t) (Rect.unit ![1792, 256] ![256, 128] inb_S2048x512_S256x128_1792_256) = v
    generalize hq : View.ld ((win0 1).fill (grid0.coords t) dflt0_1 (iblk m c 1 t)) (Rect.unit ![1792, 0] ![256, 128] inb_S2048x1024_S256x128_1792_0) = q
    generalize hs : View.ld (iblk m c 0 t) (Rect.unit ![0] ![1] inb_S8_S1_0) (Shape.Idx.first _) = s
    exact tile m c hf t k v q s 7 0 0 x0 x1 (fun e => hq ▸ ld_at _ 1792 0 _ x0 e _ _) (fun j e => hk ▸ ld_at _ 1792 0 _ j e _ _) (fun j e => hv ▸ ld_at _ 1792 256 _ j e _ _) (hs ▸ ld_s m c t 0 _ _ (by decide)) _
      (by have e := (emb7 t y).1; show _ = t.val * 2048 + 7 * 256 + x0.val; rw [h0] at e; exact e.trans (by omega)) (by have e := (emb7 t y).2; show _ = (0 * 4 + 0) * 128 + x1.val; rw [h1] at e; exact e.trans (by omega))
  case piece8 =>
    idx_vars x
    open_payloads
    generalize hk : View.ld (iblk m c 2 t) (Rect.unit ![1536, 128] ![256, 128] inb_S2048x512_S256x128_1536_128) = k
    generalize hv : View.ld (iblk m c 2 t) (Rect.unit ![1536, 384] ![256, 128] inb_S2048x512_S256x128_1536_384) = v
    generalize hq : View.ld ((win0 1).fill (grid0.coords t) dflt0_1 (iblk m c 1 t)) (Rect.unit ![1536, 896] ![256, 128] inb_S2048x1024_S256x128_1536_896) = q
    generalize hs : View.ld (iblk m c 0 t) (Rect.unit ![7] ![1] inb_S8_S1_7) (Shape.Idx.first _) = s
    exact tile m c hf t k v q s 6 1 3 x0 x1 (fun e => hq ▸ ld_at _ 1536 896 _ x0 e _ _) (fun j e => hk ▸ ld_at _ 1536 128 _ j e _ _) (fun j e => hv ▸ ld_at _ 1536 384 _ j e _ _) (hs ▸ ld_s m c t 7 _ _ (by decide)) _
      (by have e := (emb7 t y).1; show _ = t.val * 2048 + 6 * 256 + x0.val; rw [h0] at e; exact e.trans (by omega)) (by have e := (emb7 t y).2; show _ = (1 * 4 + 3) * 128 + x1.val; rw [h1] at e; exact e.trans (by omega))
  case piece9 =>
    idx_vars x
    open_payloads
    generalize hk : View.ld (iblk m c 2 t) (Rect.unit ![1536, 128] ![256, 128] inb_S2048x512_S256x128_1536_128) = k
    generalize hv : View.ld (iblk m c 2 t) (Rect.unit ![1536, 384] ![256, 128] inb_S2048x512_S256x128_1536_384) = v
    generalize hq : View.ld ((win0 1).fill (grid0.coords t) dflt0_1 (iblk m c 1 t)) (Rect.unit ![1536, 768] ![256, 128] inb_S2048x1024_S256x128_1536_768) = q
    generalize hs : View.ld (iblk m c 0 t) (Rect.unit ![6] ![1] inb_S8_S1_6) (Shape.Idx.first _) = s
    exact tile m c hf t k v q s 6 1 2 x0 x1 (fun e => hq ▸ ld_at _ 1536 768 _ x0 e _ _) (fun j e => hk ▸ ld_at _ 1536 128 _ j e _ _) (fun j e => hv ▸ ld_at _ 1536 384 _ j e _ _) (hs ▸ ld_s m c t 6 _ _ (by decide)) _
      (by have e := (emb7 t y).1; show _ = t.val * 2048 + 6 * 256 + x0.val; rw [h0] at e; exact e.trans (by omega)) (by have e := (emb7 t y).2; show _ = (1 * 4 + 2) * 128 + x1.val; rw [h1] at e; exact e.trans (by omega))
  case piece10 =>
    idx_vars x
    open_payloads
    generalize hk : View.ld (iblk m c 2 t) (Rect.unit ![1536, 128] ![256, 128] inb_S2048x512_S256x128_1536_128) = k
    generalize hv : View.ld (iblk m c 2 t) (Rect.unit ![1536, 384] ![256, 128] inb_S2048x512_S256x128_1536_384) = v
    generalize hq : View.ld ((win0 1).fill (grid0.coords t) dflt0_1 (iblk m c 1 t)) (Rect.unit ![1536, 640] ![256, 128] inb_S2048x1024_S256x128_1536_640) = q
    generalize hs : View.ld (iblk m c 0 t) (Rect.unit ![5] ![1] inb_S8_S1_5) (Shape.Idx.first _) = s
    exact tile m c hf t k v q s 6 1 1 x0 x1 (fun e => hq ▸ ld_at _ 1536 640 _ x0 e _ _) (fun j e => hk ▸ ld_at _ 1536 128 _ j e _ _) (fun j e => hv ▸ ld_at _ 1536 384 _ j e _ _) (hs ▸ ld_s m c t 5 _ _ (by decide)) _
      (by have e := (emb7 t y).1; show _ = t.val * 2048 + 6 * 256 + x0.val; rw [h0] at e; exact e.trans (by omega)) (by have e := (emb7 t y).2; show _ = (1 * 4 + 1) * 128 + x1.val; rw [h1] at e; exact e.trans (by omega))
  case piece11 =>
    idx_vars x
    open_payloads
    generalize hk : View.ld (iblk m c 2 t) (Rect.unit ![1536, 128] ![256, 128] inb_S2048x512_S256x128_1536_128) = k
    generalize hv : View.ld (iblk m c 2 t) (Rect.unit ![1536, 384] ![256, 128] inb_S2048x512_S256x128_1536_384) = v
    generalize hq : View.ld ((win0 1).fill (grid0.coords t) dflt0_1 (iblk m c 1 t)) (Rect.unit ![1536, 512] ![256, 128] inb_S2048x1024_S256x128_1536_512) = q
    generalize hs : View.ld (iblk m c 0 t) (Rect.unit ![4] ![1] inb_S8_S1_4) (Shape.Idx.first _) = s
    exact tile m c hf t k v q s 6 1 0 x0 x1 (fun e => hq ▸ ld_at _ 1536 512 _ x0 e _ _) (fun j e => hk ▸ ld_at _ 1536 128 _ j e _ _) (fun j e => hv ▸ ld_at _ 1536 384 _ j e _ _) (hs ▸ ld_s m c t 4 _ _ (by decide)) _
      (by have e := (emb7 t y).1; show _ = t.val * 2048 + 6 * 256 + x0.val; rw [h0] at e; exact e.trans (by omega)) (by have e := (emb7 t y).2; show _ = (1 * 4 + 0) * 128 + x1.val; rw [h1] at e; exact e.trans (by omega))
  case piece12 =>
    idx_vars x
    open_payloads
    generalize hk : View.ld (iblk m c 2 t) (Rect.unit ![1536, 0] ![256, 128] inb_S2048x512_S256x128_1536_0) = k
    generalize hv : View.ld (iblk m c 2 t) (Rect.unit ![1536, 256] ![256, 128] inb_S2048x512_S256x128_1536_256) = v
    generalize hq : View.ld ((win0 1).fill (grid0.coords t) dflt0_1 (iblk m c 1 t)) (Rect.unit ![1536, 384] ![256, 128] inb_S2048x1024_S256x128_1536_384) = q
    generalize hs : View.ld (iblk m c 0 t) (Rect.unit ![3] ![1] inb_S8_S1_3) (Shape.Idx.first _) = s
    exact tile m c hf t k v q s 6 0 3 x0 x1 (fun e => hq ▸ ld_at _ 1536 384 _ x0 e _ _) (fun j e => hk ▸ ld_at _ 1536 0 _ j e _ _) (fun j e => hv ▸ ld_at _ 1536 256 _ j e _ _) (hs ▸ ld_s m c t 3 _ _ (by decide)) _
      (by have e := (emb7 t y).1; show _ = t.val * 2048 + 6 * 256 + x0.val; rw [h0] at e; exact e.trans (by omega)) (by have e := (emb7 t y).2; show _ = (0 * 4 + 3) * 128 + x1.val; rw [h1] at e; exact e.trans (by omega))
  case piece13 =>
    idx_vars x
    open_payloads
    generalize hk : View.ld (iblk m c 2 t) (Rect.unit ![1536, 0] ![256, 128] inb_S2048x512_S256x128_1536_0) = k
    generalize hv : View.ld (iblk m c 2 t) (Rect.unit ![1536, 256] ![256, 128] inb_S2048x512_S256x128_1536_256) = v
    generalize hq : View.ld ((win0 1).fill (grid0.coords t) dflt0_1 (iblk m c 1 t)) (Rect.unit ![1536, 256] ![256, 128] inb_S2048x1024_S256x128_1536_256) = q
    generalize hs : View.ld (iblk m c 0 t) (Rect.unit ![2] ![1] inb_S8_S1_2) (Shape.Idx.first _) = s
    exact tile m c hf t k v q s 6 0 2 x0 x1 (fun e => hq ▸ ld_at _ 1536 256 _ x0 e _ _) (fun j e => hk ▸ ld_at _ 1536 0 _ j e _ _) (fun j e => hv ▸ ld_at _ 1536 256 _ j e _ _) (hs ▸ ld_s m c t 2 _ _ (by decide)) _
      (by have e := (emb7 t y).1; show _ = t.val * 2048 + 6 * 256 + x0.val; rw [h0] at e; exact e.trans (by omega)) (by have e := (emb7 t y).2; show _ = (0 * 4 + 2) * 128 + x1.val; rw [h1] at e; exact e.trans (by omega))
  case piece14 =>
    idx_vars x
    open_payloads
    generalize hk : View.ld (iblk m c 2 t) (Rect.unit ![1536, 0] ![256, 128] inb_S2048x512_S256x128_1536_0) = k
    generalize hv : View.ld (iblk m c 2 t) (Rect.unit ![1536, 256] ![256, 128] inb_S2048x512_S256x128_1536_256) = v
    generalize hq : View.ld ((win0 1).fill (grid0.coords t) dflt0_1 (iblk m c 1 t)) (Rect.unit ![1536, 128] ![256, 128] inb_S2048x1024_S256x128_1536_128) = q
    generalize hs : View.ld (iblk m c 0 t) (Rect.unit ![1] ![1] inb_S8_S1_1) (Shape.Idx.first _) = s
    exact tile m c hf t k v q s 6 0 1 x0 x1 (fun e => hq ▸ ld_at _ 1536 128 _ x0 e _ _) (fun j e => hk ▸ ld_at _ 1536 0 _ j e _ _) (fun j e => hv ▸ ld_at _ 1536 256 _ j e _ _) (hs ▸ ld_s m c t 1 _ _ (by decide)) _
      (by have e := (emb7 t y).1; show _ = t.val * 2048 + 6 * 256 + x0.val; rw [h0] at e; exact e.trans (by omega)) (by have e := (emb7 t y).2; show _ = (0 * 4 + 1) * 128 + x1.val; rw [h1] at e; exact e.trans (by omega))
  case piece15 =>
    idx_vars x
    open_payloads
    generalize hk : View.ld (iblk m c 2 t) (Rect.unit ![1536, 0] ![256, 128] inb_S2048x512_S256x128_1536_0) = k
    generalize hv : View.ld (iblk m c 2 t) (Rect.unit ![1536, 256] ![256, 128] inb_S2048x512_S256x128_1536_256) = v
    generalize hq : View.ld ((win0 1).fill (grid0.coords t) dflt0_1 (iblk m c 1 t)) (Rect.unit ![1536, 0] ![256, 128] inb_S2048x1024_S256x128_1536_0) = q
    generalize hs : View.ld (iblk m c 0 t) (Rect.unit ![0] ![1] inb_S8_S1_0) (Shape.Idx.first _) = s
    exact tile m c hf t k v q s 6 0 0 x0 x1 (fun e => hq ▸ ld_at _ 1536 0 _ x0 e _ _) (fun j e => hk ▸ ld_at _ 1536 0 _ j e _ _) (fun j e => hv ▸ ld_at _ 1536 256 _ j e _ _) (hs ▸ ld_s m c t 0 _ _ (by decide)) _
      (by have e := (emb7 t y).1; show _ = t.val * 2048 + 6 * 256 + x0.val; rw [h0] at e; exact e.trans (by omega)) (by have e := (emb7 t y).2; show _ = (0 * 4 + 0) * 128 + x1.val; rw [h1] at e; exact e.trans (by omega))
  case piece16 =>
    idx_vars x
    open_payloads
    generalize hk : View.ld (iblk m c 2 t) (Rect.unit ![1280, 128] ![256, 128] inb_S2048x512_S256x128_1280_128) = k
    generalize hv : View.ld (iblk m c 2 t) (Rect.unit ![1280, 384] ![256, 128] inb_S2048x512_S256x128_1280_384) = v
    generalize hq : View.ld ((win0 1).fill (grid0.coords t) dflt0_1 (iblk m c 1 t)) (Rect.unit ![1280, 896] ![256, 128] inb_S2048x1024_S256x128_1280_896) = q
    generalize hs : View.ld (iblk m c 0 t) (Rect.unit ![7] ![1] inb_S8_S1_7) (Shape.Idx.first _) = s
    exact tile m c hf t k v q s 5 1 3 x0 x1 (fun e => hq ▸ ld_at _ 1280 896 _ x0 e _ _) (fun j e => hk ▸ ld_at _ 1280 128 _ j e _ _) (fun j e => hv ▸ ld_at _ 1280 384 _ j e _ _) (hs ▸ ld_s m c t 7 _ _ (by decide)) _
      (by have e := (emb7 t y).1; show _ = t.val * 2048 + 5 * 256 + x0.val; rw [h0] at e; exact e.trans (by omega)) (by have e := (emb7 t y).2; show _ = (1 * 4 + 3) * 128 + x1.val; rw [h1] at e; exact e.trans (by omega))
  case piece17 =>
    idx_vars x
    open_payloads
    generalize hk : View.ld (iblk m c 2 t) (Rect.unit ![1280, 128] ![256, 128] inb_S2048x512_S256x128_1280_128) = k
    generalize hv : View.ld (iblk m c 2 t) (Rect.unit ![1280, 384] ![256, 128] inb_S2048x512_S256x128_1280_384) = v
    generalize hq : View.ld ((win0 1).fill (grid0.coords t) dflt0_1 (iblk m c 1 t)) (Rect.unit ![1280, 768] ![256, 128] inb_S2048x1024_S256x128_1280_768) = q
    generalize hs : View.ld (iblk m c 0 t) (Rect.unit ![6] ![1] inb_S8_S1_6) (Shape.Idx.first _) = s
    exact tile m c hf t k v q s 5 1 2 x0 x1 (fun e => hq ▸ ld_at _ 1280 768 _ x0 e _ _) (fun j e => hk ▸ ld_at _ 1280 128 _ j e _ _) (fun j e => hv ▸ ld_at _ 1280 384 _ j e _ _) (hs ▸ ld_s m c t 6 _ _ (by decide)) _
      (by have e := (emb7 t y).1; show _ = t.val * 2048 + 5 * 256 + x0.val; rw [h0] at e; exact e.trans (by omega)) (by have e := (emb7 t y).2; show _ = (1 * 4 + 2) * 128 + x1.val; rw [h1] at e; exact e.trans (by omega))
  case piece18 =>
    idx_vars x
    open_payloads
    generalize hk : View.ld (iblk m c 2 t) (Rect.unit ![1280, 128] ![256, 128] inb_S2048x512_S256x128_1280_128) = k
    generalize hv : View.ld (iblk m c 2 t) (Rect.unit ![1280, 384] ![256, 128] inb_S2048x512_S256x128_1280_384) = v
    generalize hq : View.ld ((win0 1).fill (grid0.coords t) dflt0_1 (iblk m c 1 t)) (Rect.unit ![1280, 640] ![256, 128] inb_S2048x1024_S256x128_1280_640) = q
    generalize hs : View.ld (iblk m c 0 t) (Rect.unit ![5] ![1] inb_S8_S1_5) (Shape.Idx.first _) = s
    exact tile m c hf t k v q s 5 1 1 x0 x1 (fun e => hq ▸ ld_at _ 1280 640 _ x0 e _ _) (fun j e => hk ▸ ld_at _ 1280 128 _ j e _ _) (fun j e => hv ▸ ld_at _ 1280 384 _ j e _ _) (hs ▸ ld_s m c t 5 _ _ (by decide)) _
      (by have e := (emb7 t y).1; show _ = t.val * 2048 + 5 * 256 + x0.val; rw [h0] at e; exact e.trans (by omega)) (by have e := (emb7 t y).2; show _ = (1 * 4 + 1) * 128 + x1.val; rw [h1] at e; exact e.trans (by omega))
  case piece19 =>
    idx_vars x
    open_payloads
    generalize hk : View.ld (iblk m c 2 t) (Rect.unit ![1280, 128] ![256, 128] inb_S2048x512_S256x128_1280_128) = k
    generalize hv : View.ld (iblk m c 2 t) (Rect.unit ![1280, 384] ![256, 128] inb_S2048x512_S256x128_1280_384) = v
    generalize hq : View.ld ((win0 1).fill (grid0.coords t) dflt0_1 (iblk m c 1 t)) (Rect.unit ![1280, 512] ![256, 128] inb_S2048x1024_S256x128_1280_512) = q
    generalize hs : View.ld (iblk m c 0 t) (Rect.unit ![4] ![1] inb_S8_S1_4) (Shape.Idx.first _) = s
    exact tile m c hf t k v q s 5 1 0 x0 x1 (fun e => hq ▸ ld_at _ 1280 512 _ x0 e _ _) (fun j e => hk ▸ ld_at _ 1280 128 _ j e _ _) (fun j e => hv ▸ ld_at _ 1280 384 _ j e _ _) (hs ▸ ld_s m c t 4 _ _ (by decide)) _
      (by have e := (emb7 t y).1; show _ = t.val * 2048 + 5 * 256 + x0.val; rw [h0] at e; exact e.trans (by omega)) (by have e := (emb7 t y).2; show _ = (1 * 4 + 0) * 128 + x1.val; rw [h1] at e; exact e.trans (by omega))
  case piece20 =>
    idx_vars x
    open_payloads
    generalize hk : View.ld (iblk m c 2 t) (Rect.unit ![1280, 0] ![256, 128] inb_S2048x512_S256x128_1280_0) = k
    generalize hv : View.ld (iblk m c 2 t) (Rect.unit ![1280, 256] ![256, 128] inb_S2048x512_S256x128_1280_256) = v
    generalize hq : View.ld ((win0 1).fill (grid0.coords t) dflt0_1 (iblk m c 1 t)) (Rect.unit ![1280, 384] ![256, 128] inb_S2048x1024_S256x128_1280_384) = q
    generalize hs : View.ld (iblk m c 0 t) (Rect.unit ![3] ![1] inb_S8_S1_3) (Shape.Idx.first _) = s
    exact tile m c hf t k v q s 5 0 3 x0 x1 (fun e => hq ▸ ld_at _ 1280 384 _ x0 e _ _) (fun j e => hk ▸ ld_at _ 1280 0 _ j e _ _) (fun j e => hv ▸ ld_at _ 1280 256 _ j e _ _) (hs ▸ ld_s m c t 3 _ _ (by decide)) _
      (by have e := (emb7 t y).1; show _ = t.val * 2048 + 5 * 256 + x0.val; rw [h0] at e; exact e.trans (by omega)) (by have e := (emb7 t y).2; show _ = (0 * 4 + 3) * 128 + x1.val; rw [h1] at e; exact e.trans (by omega))
  case piece21 =>
    idx_vars x
    open_payloads
    generalize hk : View.ld (iblk m c 2 t) (Rect.unit ![1280, 0] ![256, 128] inb_S2048x512_S256x128_1280_0) = k
    generalize hv : View.ld (iblk m c 2 t) (Rect.unit ![1280, 256] ![256, 128] inb_S2048x512_S256x128_1280_256) = v
    generalize hq : View.ld ((win0 1).fill (grid0.coords t) dflt0_1 (iblk m c 1 t)) (Rect.unit ![1280, 256] ![256, 128] inb_S2048x1024_S256x128_1280_256) = q
    generalize hs : View.ld (iblk m c 0 t) (Rect.unit ![2] ![1] inb_S8_S1_2) (Shape.Idx.first _) = s
    exact tile m c hf t k v q s 5 0 2 x0 x1 (fun e => hq ▸ ld_at _ 1280 256 _ x0 e _ _) (fun j e => hk ▸ ld_at _ 1280 0 _ j e _ _) (fun j e => hv ▸ ld_at _ 1280 256 _ j e _ _) (hs ▸ ld_s m c t 2 _ _ (by decide)) _
      (by have e := (emb7 t y).1; show _ = t.val * 2048 + 5 * 256 + x0.val; rw [h0] at e; exact e.trans (by omega)) (by have e := (emb7 t y).2; show _ = (0 * 4 + 2) * 128 + x1.val; rw [h1] at e; exact e.trans (by omega))
  case piece22 =>
    idx_vars x
    open_payloads
    generalize hk : View.ld (iblk m c 2 t) (Rect.unit ![1280, 0] ![256, 128] inb_S2048x512_S256x128_1280_0) = k
    generalize hv : View.ld (iblk m c 2 t) (Rect.unit ![1280, 256] ![256, 128] inb_S2048x512_S256x128_1280_256) = v
    generalize hq : View.ld ((win0 1).fill (grid0.coords t) dflt0_1 (iblk m c 1 t)) (Rect.unit ![1280, 128] ![256, 128] inb_S2048x1024_S256x128_1280_128) = q
    generalize hs : View.ld (iblk m c 0 t) (Rect.unit ![1] ![1] inb_S8_S1_1) (Shape.Idx.first _) = s
    exact tile m c hf t k v q s 5 0 1 x0 x1 (fun e => hq ▸ ld_at _ 1280 128 _ x0 e _ _) (fun j e => hk ▸ ld_at _ 1280 0 _ j e _ _) (fun j e => hv ▸ ld_at _ 1280 256 _ j e _ _) (hs ▸ ld_s m c t 1 _ _ (by decide)) _
      (by have e := (emb7 t y).1; show _ = t.val * 2048 + 5 * 256 + x0.val; rw [h0] at e; exact e.trans (by omega)) (by have e := (emb7 t y).2; show _ = (0 * 4 + 1) * 128 + x1.val; rw [h1] at e; exact e.trans (by omega))
  case piece23 =>
    idx_vars x
    open_payloads
    generalize hk : View.ld (iblk m c 2 t) (Rect.unit ![1280, 0] ![256, 128] inb_S2048x512_S256x128_1280_0) = k
    generalize hv : View.ld (iblk m c 2 t) (Rect.unit ![1280, 256] ![256, 128] inb_S2048x512_S256x128_1280_256) = v
    generalize hq : View.ld ((win0 1).fill (grid0.coords t) dflt0_1 (iblk m c 1 t)) (Rect.unit ![1280, 0] ![256, 128] inb_S2048x1024_S256x128_1280_0) = q
    generalize hs : View.ld (iblk m c 0 t) (Rect.unit ![0] ![1] inb_S8_S1_0) (Shape.Idx.first _) = s
    exact tile m c hf t k v q s 5 0 0 x0 x1 (fun e => hq ▸ ld_at _ 1280 0 _ x0 e _ _) (fun j e => hk ▸ ld_at _ 1280 0 _ j e _ _) (fun j e => hv ▸ ld_at _ 1280 256 _ j e _ _) (hs ▸ ld_s m c t 0 _ _ (by decide)) _
      (by have e := (emb7 t y).1; show _ = t.val * 2048 + 5 * 256 + x0.val; rw [h0] at e; exact e.trans (by omega)) (by have e := (emb7 t y).2; show _ = (0 * 4 + 0) * 128 + x1.val; rw [h1] at e; exact e.trans (by omega))
  case piece24 =>
    idx_vars x
    open_payloads
    generalize hk : View.ld (iblk m c 2 t) (Rect.unit ![1024, 128] ![256, 128] inb_S2048x512_S256x128_1024_128) = k
    generalize hv : View.ld (iblk m c 2 t) (Rect.unit ![1024, 384] ![256, 128] inb_S2048x512_S256x128_1024_384) = v
    generalize hq : View.ld ((win0 1).fill (grid0.coords t) dflt0_1 (iblk m c 1 t)) (Rect.unit ![1024, 896] ![256, 128] inb_S2048x1024_S256x128_1024_896) = q
    generalize hs : View.ld (iblk m c 0 t) (Rect.unit ![7] ![1] inb_S8_S1_7) (Shape.Idx.first _) = s
    exact tile m c hf t k v q s 4 1 3 x0 x1 (fun e => hq ▸ ld_at _ 1024 896 _ x0 e _ _) (fun j e => hk ▸ ld_at _ 1024 128 _ j e _ _) (fun j e => hv ▸ ld_at _ 1024 384 _ j e _ _) (hs ▸ ld_s m c t 7 _ _ (by decide)) _
      (by have e := (emb7 t y).1; show _ = t.val * 2048 + 4 * 256 + x0.val; rw [h0] at e; exact e.trans (by omega)) (by have e := (emb7 t y).2; show _ = (1 * 4 + 3) * 128 + x1.val; rw [h1] at e; exact e.trans (by omega))
  case piece25 =>
    idx_vars x
    open_payloads
    generalize hk : View.ld (iblk m c 2 t) (Rect.unit ![1024, 128] ![256, 128] inb_S2048x512_S256x128_1024_128) = k
    generalize hv : View.ld (iblk m c 2 t) (Rect.unit ![1024, 384] ![256, 128] inb_S2048x512_S256x128_1024_384) = v
    generalize hq : View.ld ((win0 1).fill (grid0.coords t) dflt0_1 (iblk m c 1 t)) (Rect.unit ![1024, 768] ![256, 128] inb_S2048x1024_S256x128_1024_768) = q
    generalize hs : View.ld (iblk m c 0 t) (Rect.unit ![6] ![1] inb_S8_S1_6) (Shape.Idx.first _) = s
    exact tile m c hf t k v q s 4 1 2 x0 x1 (fun e => hq ▸ ld_at _ 1024 768 _ x0 e _ _) (fun j e => hk ▸ ld_at _ 1024 128 _ j e _ _) (fun j e => hv ▸ ld_at _ 1024 384 _ j e _ _) (hs ▸ ld_s m c t 6 _ _ (by decide)) _
      (by have e := (emb7 t y).1; show _ = t.val * 2048 + 4 * 256 + x0.val; rw [h0] at e; exact e.trans (by omega)) (by have e := (emb7 t y).2; show _ = (1 * 4 + 2) * 128 + x1.val; rw [h1] at e; exact e.trans (by omega))
  case piece26 =>
    idx_vars x
    open_payloads
    generalize hk : View.ld (iblk m c 2 t) (Rect.unit ![1024, 128] ![256, 128] inb_S2048x512_S256x128_1024_128) = k
    generalize hv : View.ld (iblk m c 2 t) (Rect.unit ![1024, 384] ![256, 128] inb_S2048x512_S256x128_1024_384) = v
    generalize hq : View.ld ((win0 1).fill (grid0.coords t) dflt0_1 (iblk m c 1 t)) (Rect.unit ![1024, 640] ![256, 128] inb_S2048x1024_S256x128_1024_640) = q
    generalize hs : View.ld (iblk m c 0 t) (Rect.unit ![5] ![1] inb_S8_S1_5) (Shape.Idx.first _) = s
    exact tile m c hf t k v q s 4 1 1 x0 x1 (fun e => hq ▸ ld_at _ 1024 640 _ x0 e _ _) (fun j e => hk ▸ ld_at _ 1024 128 _ j e _ _) (fun j e => hv ▸ ld_at _ 1024 384 _ j e _ _) (hs ▸ ld_s m c t 5 _ _ (by decide)) _
      (by have e := (emb7 t y).1; show _ = t.val * 2048 + 4 * 256 + x0.val; rw [h0] at e; exact e.trans (by omega)) (by have e := (emb7 t y).2; show _ = (1 * 4 + 1) * 128 + x1.val; rw [h1] at e; exact e.trans (by omega))
  case piece27 =>
    idx_vars x
    open_payloads
    generalize hk : View.ld (iblk m c 2 t) (Rect.unit ![1024, 128] ![256, 128] inb_S2048x512_S256x128_1024_128) = k
    generalize hv : View.ld (iblk m c 2 t) (Rect.unit ![1024, 384] ![256, 128] inb_S2048x512_S256x128_1024_384) = v
    generalize hq : View.ld ((win0 1).fill (grid0.coords t) dflt0_1 (iblk m c 1 t)) (Rect.unit ![1024, 512] ![256, 128] inb_S2048x1024_S256x128_1024_512) = q
    generalize hs : View.ld (iblk m c 0 t) (Rect.unit ![4] ![1] inb_S8_S1_4) (Shape.Idx.first _) = s
    exact tile m c hf t k v q s 4 1 0 x0 x1 (fun e => hq ▸ ld_at _ 1024 512 _ x0 e _ _) (fun j e => hk ▸ ld_at _ 1024 128 _ j e _ _) (fun j e => hv ▸ ld_at _ 1024 384 _ j e _ _) (hs ▸ ld_s m c t 4 _ _ (by decide)) _
      (by have e := (emb7 t y).1; show _ = t.val * 2048 + 4 * 256 + x0.val; rw [h0] at e; exact e.trans (by omega)) (by have e := (emb7 t y).2; show _ = (1 * 4 + 0) * 128 + x1.val; rw [h1] at e; exact e.trans (by omega))
  case piece28 =>
    idx_vars x
    open_payloads
    generalize hk : View.ld (iblk m c 2 t) (Rect.unit ![1024, 0] ![256, 128] inb_S2048x512_S256x128_1024_0) = k
    generalize hv : View.ld (iblk m c 2 t) (Rect.unit ![1024, 256] ![256, 128] inb_S2048x512_S256x128_1024_256) = v
    generalize hq : View.ld ((win0 1).fill (grid0.coords t) dflt0_1 (iblk m c 1 t)) (Rect.unit ![1024, 384] ![256, 128] inb_S2048x1024_S256x128_1024_384) = q
    generalize hs : View.ld (iblk m c 0 t) (Rect.unit ![3] ![1] inb_S8_S1_3) (Shape.Idx.first _) = s
    exact tile m c hf t k v q s 4 0 3 x0 x1 (fun e => hq ▸ ld_at _ 1024 384 _ x0 e _ _) (fun j e => hk ▸ ld_at _ 1024 0 _ j e _ _) (fun j e => hv ▸ ld_at _ 1024 256 _ j e _ _) (hs ▸ ld_s m c t 3 _ _ (by decide)) _
      (by have e := (emb7 t y).1; show _ = t.val * 2048 + 4 * 256 + x0.val; rw [h0] at e; exact e.trans (by omega)) (by have e := (emb7 t y).2; show _ = (0 * 4 + 3) * 128 + x1.val; rw [h1] at e; exact e.trans (by omega))
  case piece29 =>
    idx_vars x
    open_payloads
    generalize hk : View.ld (iblk m c 2 t) (Rect.unit ![1024, 0] ![256, 128] inb_S2048x512_S256x128_1024_0) = k
    generalize hv : View.ld (iblk m c 2 t) (Rect.unit ![1024, 256] ![256, 128] inb_S2048x512_S256x128_1024_256) = v
    generalize hq : View.ld ((win0 1).fill (grid0.coords t) dflt0_1 (iblk m c 1 t)) (Rect.unit ![1024, 256] ![256, 128] inb_S2048x1024_S256x128_1024_256) = q
    generalize hs : View.ld (iblk m c 0 t) (Rect.unit ![2] ![1] inb_S8_S1_2) (Shape.Idx.first _) = s
    exact tile m c hf t k v q s 4 0 2 x0 x1 (fun e => hq ▸ ld_at _ 1024 256 _ x0 e _ _) (fun j e => hk ▸ ld_at _ 1024 0 _ j e _ _) (fun j e => hv ▸ ld_at _ 1024 256 _ j e _ _) (hs ▸ ld_s m c t 2 _ _ (by decide)) _
      (by have e := (emb7 t y).1; show _ = t.val * 2048 + 4 * 256 + x0.val; rw [h0] at e; exact e.trans (by omega)) (by have e := (emb7 t y).2; show _ = (0 * 4 + 2) * 128 + x1.val; rw [h1] at e; exact e.trans (by omega))
  case piece30 =>
    idx_vars x
    open_payloads
    generalize hk : View.ld (iblk m c 2 t) (Rect.unit ![1024, 0] ![256, 128] inb_S2048x512_S256x128_1024_0) = k
    generalize hv : View.ld (iblk m c 2 t) (Rect.unit ![1024, 256] ![256, 128] inb_S2048x512_S256x128_1024_256) = v
    generalize hq : View.ld ((win0 1).fill (grid0.coords t) dflt0_1 (iblk m c 1 t)) (Rect.unit ![1024, 128] ![256, 128] inb_S2048x1024_S256x128_1024_128) = q
    generalize hs : View.ld (iblk m c 0 t) (Rect.unit ![1] ![1] inb_S8_S1_1) (Shape.Idx.first _) = s
    exact tile m c hf t k v q s 4 0 1 x0 x1 (fun e => hq ▸ ld_at _ 1024 128 _ x0 e _ _) (fun j e => hk ▸ ld_at _ 1024 0 _ j e _ _) (fun j e => hv ▸ ld_at _ 1024 256 _ j e _ _) (hs ▸ ld_s m c t 1 _ _ (by decide)) _
      (by have e := (emb7 t y).1; show _ = t.val * 2048 + 4 * 256 + x0.val; rw [h0] at e; exact e.trans (by omega)) (by have e := (emb7 t y).2; show _ = (0 * 4 + 1) * 128 + x1.val; rw [h1] at e; exact e.trans (by omega))
  case piece31 =>
    idx_vars x
    open_payloads
    generalize hk : View.ld (iblk m c 2 t) (Rect.unit ![1024, 0] ![256, 128] inb_S2048x512_S256x128_1024_0) = k
    generalize hv : View.ld (iblk m c 2 t) (Rect.unit ![1024, 256] ![256, 128] inb_S2048x512_S256x128_1024_256) = v
    generalize hq : View.ld ((win0 1).fill (grid0.coords t) dflt0_1 (iblk m c 1 t)) (Rect.unit ![1024, 0] ![256, 128] inb_S2048x1024_S256x128_1024_0) = q
    generalize hs : View.ld (iblk m c 0 t) (Rect.unit ![0] ![1] inb_S8_S1_0) (Shape.Idx.first _) = s
    exact tile m c hf t k v q s 4 0 0 x0 x1 (fun e => hq ▸ ld_at _ 1024 0 _ x0 e _ _) (fun j e => hk ▸ ld_at _ 1024 0 _ j e _ _) (fun j e => hv ▸ ld_at _ 1024 256 _ j e _ _) (hs ▸ ld_s m c t 0 _ _ (by decide)) _
      (by have e := (emb7 t y).1; show _ = t.val * 2048 + 4 * 256 + x0.val; rw [h0] at e; exact e.trans (by omega)) (by have e := (emb7 t y).2; show _ = (0 * 4 + 0) * 128 + x1.val; rw [h1] at e; exact e.trans (by omega))
  case piece32 =>
    idx_vars x
    open_payloads
    generalize hk : View.ld (iblk m c 2 t) (Rect.unit ![768, 128] ![256, 128] inb_S2048x512_S256x128_768_128) = k
    generalize hv : View.ld (iblk m c 2 t) (Rect.unit ![768, 384] ![256, 128] inb_S2048x512_S256x128_768_384) = v
    generalize hq : View.ld ((win0 1).fill (grid0.coords t) dflt0_1 (iblk m c 1 t)) (Rect.unit ![768, 896] ![256, 128] inb_S2048x1024_S256x128_768_896) = q
    generalize hs : View.ld (iblk m c 0 t) (Rect.unit ![7] ![1] inb_S8_S1_7) (Shape.Idx.first _) = s
    exact tile m c hf t k v q s 3 1 3 x0 x1 (fun e => hq ▸ ld_at _ 768 896 _ x0 e _ _) (fun j e => hk ▸ ld_at _ 768 128 _ j e _ _) (fun j e => hv ▸ ld_at _ 768 384 _ j e _ _) (hs ▸ ld_s m c t 7 _ _ (by decide)) _
      (by have e := (emb7 t y).1; show _ = t.val * 2048 + 3 * 256 + x0.val; rw [h0] at e; exact e.trans (by omega)) (by have e := (emb7 t y).2; show _ = (1 * 4 + 3) * 128 + x1.val; rw [h1] at e; exact e.trans (by omega))
  case piece33 =>
    idx_vars x
    open_payloads
    generalize hk : View.ld (iblk m c 2 t) (Rect.unit ![768, 128] ![256, 128] inb_S2048x512_S256x128_768_128) = k
    generalize hv : View.ld (iblk m c 2 t) (Rect.unit ![768, 384] ![256, 128] inb_S2048x512_S256x128_768_384) = v
    generalize hq : View.ld ((win0 1).fill (grid0.coords t) dflt0_1 (iblk m c 1 t)) (Rect.unit ![768, 768] ![256, 128] inb_S2048x1024_S256x128_768_768) = q
    generalize hs : View.ld (iblk m c 0 t) (Rect.unit ![6] ![1] inb_S8_S1_6) (Shape.Idx.first _) = s
    exact tile m c hf t k v q s 3 1 2 x0 x1 (fun e => hq ▸ ld_at _ 768 768 _ x0 e _ _) (fun j e => hk ▸ ld_at _ 768 128 _ j e _ _) (fun j e => hv ▸ ld_at _ 768 384 _ j e _ _) (hs ▸ ld_s m c t 6 _ _ (by decide)) _
      (by have e := (emb7 t y).1; show _ = t.val * 2048 + 3 * 256 + x0.val; rw [h0] at e; exact e.trans (by omega)) (by have e := (emb7 t y).2; show _ = (1 * 4 + 2) * 128 + x1.val; rw [h1] at e; exact e.trans (by omega))
  case piece34 =>
    idx_vars x
    open_payloads
    generalize hk : View.ld (iblk m c 2 t) (Rect.unit ![768, 128] ![256, 128] inb_S2048x512_S256x128_768_128) = k
    generalize hv : View.ld (iblk m c 2 t) (Rect.unit ![768, 384] ![256, 128] inb_S2048x512_S256x128_768_384) = v
    generalize hq : View.ld ((win0 1).fill (grid0.coords t) dflt0_1 (iblk m c 1 t)) (Rect.unit ![768, 640] ![256, 128] inb_S2048x1024_S256x128_768_640) = q
    generalize hs : View.ld (iblk m c 0 t) (Rect.unit ![5] ![1] inb_S8_S1_5) (Shape.Idx.first _) = s
    exact tile m c hf t k v q s 3 1 1 x0 x1 (fun e => hq ▸ ld_at _ 768 640 _ x0 e _ _) (fun j e => hk ▸ ld_at _ 768 128 _ j e _ _) (fun j e => hv ▸ ld_at _ 768 384 _ j e _ _) (hs ▸ ld_s m c t 5 _ _ (by decide)) _
      (by have e := (emb7 t y).1; show _ = t.val * 2048 + 3 * 256 + x0.val; rw [h0] at e; exact e.trans (by omega)) (by have e := (emb7 t y).2; show _ = (1 * 4 + 1) * 128 + x1.val; rw [h1] at e; exact e.trans (by omega))
  case piece35 =>
    idx_vars x
    open_payloads
    generalize hk : View.ld (iblk m c 2 t) (Rect.unit ![768, 128] ![256, 128] inb_S2048x512_S256x128_768_128) = k
    generalize hv : View.ld (iblk m c 2 t) (Rect.unit ![768, 384] ![256, 128] inb_S2048x512_S256x128_768_384) = v
    generalize hq : View.ld ((win0 1).fill (grid0.coords t) dflt0_1 (iblk m c 1 t)) (Rect.unit ![768, 512] ![256, 128] inb_S2048x1024_S256x128_768_512) = q
    generalize hs : View.ld (iblk m c 0 t) (Rect.unit ![4] ![1] inb_S8_S1_4) (Shape.Idx.first _) = s
    exact tile m c hf t k v q s 3 1 0 x0 x1 (fun e => hq ▸ ld_at _ 768 512 _ x0 e _ _) (fun j e => hk ▸ ld_at _ 768 128 _ j e _ _) (fun j e => hv ▸ ld_at _ 768 384 _ j e _ _) (hs ▸ ld_s m c t 4 _ _ (by decide)) _
      (by have e := (emb7 t y).1; show _ = t.val * 2048 + 3 * 256 + x0.val; rw [h0] at e; exact e.trans (by omega)) (by have e := (emb7 t y).2; show _ = (1 * 4 + 0) * 128 + x1.val; rw [h1] at e; exact e.trans (by omega))
  case piece36 =>
    idx_vars x
    open_payloads
    generalize hk : View.ld (iblk m c 2 t) (Rect.unit ![768, 0] ![256, 128] inb_S2048x512_S256x128_768_0) = k
    generalize hv : View.ld (iblk m c 2 t) (Rect.unit ![768, 256] ![256, 128] inb_S2048x512_S256x128_768_256) = v
    generalize hq : View.ld ((win0 1).fill (grid0.coords t) dflt0_1 (iblk m c 1 t)) (Rect.unit ![768, 384] ![256, 128] inb_S2048x1024_S256x128_768_384) = q
    generalize hs : View.ld (iblk m c 0 t) (Rect.unit ![3] ![1] inb_S8_S1_3) (Shape.Idx.first _) = s
    exact tile m c hf t k v q s 3 0 3 x0 x1 (fun e => hq ▸ ld_at _ 768 384 _ x0 e _ _) (fun j e => hk ▸ ld_at _ 768 0 _ j e _ _) (fun j e => hv ▸ ld_at _ 768 256 _ j e _ _) (hs ▸ ld_s m c t 3 _ _ (by decide)) _
      (by have e := (emb7 t y).1; show _ = t.val * 2048 + 3 * 256 + x0.val; rw [h0] at e; exact e.trans (by omega)) (by have e := (emb7 t y).2; show _ = (0 * 4 + 3) * 128 + x1.val; rw [h1] at e; exact e.trans (by omega))
  case piece37 =>
    idx_vars x
    open_payloads
    generalize hk : View.ld (iblk m c 2 t) (Rect.unit ![768, 0] ![256, 128] inb_S2048x512_S256x128_768_0) = k
    generalize hv : View.ld (iblk m c 2 t) (Rect.unit ![768, 256] ![256, 128] inb_S2048x512_S256x128_768_256) = v
    generalize hq : View.ld ((win0 1).fill (grid0.coords t) dflt0_1 (iblk m c 1 t)) (Rect.unit ![768, 256] ![256, 128] inb_S2048x1024_S256x128_768_256) = q
    generalize hs : View.ld (iblk m c 0 t) (Rect.unit ![2] ![1] inb_S8_S1_2) (Shape.Idx.first _) = s
    exact tile m c hf t k v q s 3 0 2 x0 x1 (fun e => hq ▸ ld_at _ 768 256 _ x0 e _ _) (fun j e => hk ▸ ld_at _ 768 0 _ j e _ _) (fun j e => hv ▸ ld_at _ 768 256 _ j e _ _) (hs ▸ ld_s m c t 2 _ _ (by decide)) _
      (by have e := (emb7 t y).1; show _ = t.val * 2048 + 3 * 256 + x0.val; rw [h0] at e; exact e.trans (by omega)) (by have e := (emb7 t y).2; show _ = (0 * 4 + 2) * 128 + x1.val; rw [h1] at e; exact e.trans (by omega))
  case piece38 =>
    idx_vars x
    open_payloads
    generalize hk : View.ld (iblk m c 2 t) (Rect.unit ![768, 0] ![256, 128] inb_S2048x512_S256x128_768_0) = k
    generalize hv : View.ld (iblk m c 2 t) (Rect.unit ![768, 256] ![256, 128] inb_S2048x512_S256x128_768_256) = v
    generalize hq : View.ld ((win0 1).fill (grid0.coords t) dflt0_1 (iblk m c 1 t)) (Rect.unit ![768, 128] ![256, 128] inb_S2048x1024_S256x128_768_128) = q
    generalize hs : View.ld (iblk m c 0 t) (Rect.unit ![1] ![1] inb_S8_S1_1) (Shape.Idx.first _) = s
    exact tile m c hf t k v q s 3 0 1 x0 x1 (fun e => hq ▸ ld_at _ 768 128 _ x0 e _ _) (fun j e => hk ▸ ld_at _ 768 0 _ j e _ _) (fun j e => hv ▸ ld_at _ 768 256 _ j e _ _) (hs ▸ ld_s m c t 1 _ _ (by decide)) _
      (by have e := (emb7 t y).1; show _ = t.val * 2048 + 3 * 256 + x0.val; rw [h0] at e; exact e.trans (by omega)) (by have e := (emb7 t y).2; show _ = (0 * 4 + 1) * 128 + x1.val; rw [h1] at e; exact e.trans (by omega))
  case piece39 =>
    idx_vars x
    open_payloads
    generalize hk : View.ld (iblk m c 2 t) (Rect.unit ![768, 0] ![256, 128] inb_S2048x512_S256x128_768_0) = k
    generalize hv : View.ld (iblk m c 2 t) (Rect.unit ![768, 256] ![256, 128] inb_S2048x512_S256x128_768_256) = v
    generalize hq : View.ld ((win0 1).fill (grid0.coords t) dflt0_1 (iblk m c 1 t)) (Rect.unit ![768, 0] ![256, 128] inb_S2048x1024_S256x128_768_0) = q
    generalize hs : View.ld (iblk m c 0 t) (Rect.unit ![0] ![1] inb_S8_S1_0) (Shape.Idx.first _) = s
    exact tile m c hf t k v q s 3 0 0 x0 x1 (fun e => hq ▸ ld_at _ 768 0 _ x0 e _ _) (fun j e => hk ▸ ld_at _ 768 0 _ j e _ _) (fun j e => hv ▸ ld_at _ 768 256 _ j e _ _) (hs ▸ ld_s m c t 0 _ _ (by decide)) _
      (by have e := (emb7 t y).1; show _ = t.val * 2048 + 3 * 256 + x0.val; rw [h0] at e; exact e.trans (by omega)) (by have e := (emb7 t y).2; show _ = (0 * 4 + 0) * 128 + x1.val; rw [h1] at e; exact e.trans (by omega))
  case piece40 =>
    idx_vars x
    open_payloads
    generalize hk : View.ld (iblk m c 2 t) (Rect.unit ![512, 128] ![256, 128] inb_S2048x512_S256x128_512_128) = k
    generalize hv : View.ld (iblk m c 2 t) (Rect.unit ![512, 384] ![256, 128] inb_S2048x512_S256x128_512_384) = v
    generalize hq : View.ld ((win0 1).fill (grid0.coords t) dflt0_1 (iblk m c 1 t)) (Rect.unit ![512, 896] ![256, 128] inb_S2048x1024_S256x128_512_896) = q
    generalize hs : View.ld (iblk m c 0 t) (Rect.unit ![7] ![1] inb_S8_S1_7) (Shape.Idx.first _) = s
    exact tile m c hf t k v q s 2 1 3 x0 x1 (fun e => hq ▸ ld_at _ 512 896 _ x0 e _ _) (fun j e => hk ▸ ld_at _ 512 128 _ j e _ _) (fun j e => hv ▸ ld_at _ 512 384 _ j e _ _) (hs ▸ ld_s m c t 7 _ _ (by decide)) _
      (by have e := (emb7 t y).1; show _ = t.val * 2048 + 2 * 256 + x0.val; rw [h0] at e; exact e.trans (by omega)) (by have e := (emb7 t y).2; show _ = (1 * 4 + 3) * 128 + x1.val; rw [h1] at e; exact e.trans (by omega))
  case piece41 =>
    idx_vars x
    open_payloads
    generalize hk : View.ld (iblk m c 2 t) (Rect.unit ![512, 128] ![256, 128] inb_S2048x512_S256x128_512_128) = k
    generalize hv : View.ld (iblk m c 2 t) (Rect.unit ![512, 384] ![256, 128] inb_S2048x512_S256x128_512_384) = v
    generalize hq : View.ld ((win0 1).fill (grid0.coords t) dflt0_1 (iblk m c 1 t)) (Rect.unit ![512, 768] ![256, 128] inb_S2048x1024_S256x128_512_768) = q
    generalize hs : View.ld (iblk m c 0 t) (Rect.unit ![6] ![1] inb_S8_S1_6) (Shape.Idx.first _) = s
    exact tile m c hf t k v q s 2 1 2 x0 x1 (fun e => hq ▸ ld_at _ 512 768 _ x0 e _ _) (fun j e => hk ▸ ld_at _ 512 128 _ j e _ _) (fun j e => hv ▸ ld_at _ 512 384 _ j e _ _) (hs ▸ ld_s m c t 6 _ _ (by decide)) _
      (by have e := (emb7 t y).1; show _ = t.val * 2048 + 2 * 256 + x0.val; rw [h0] at e; exact e.trans (by omega)) (by have e := (emb7 t y).2; show _ = (1 * 4 + 2) * 128 + x1.val; rw [h1] at e; exact e.trans (by omega))
  case piece42 =>
    idx_vars x
    open_payloads
    generalize hk : View.ld (iblk m c 2 t) (Rect.unit ![512, 128] ![256, 128] inb_S2048x512_S256x128_512_128) = k
    generalize hv : View.ld (iblk m c 2 t) (Rect.unit ![512, 384] ![256, 128] inb_S2048x512_S256x128_512_384) = v
    generalize hq : View.ld ((win0 1).fill (grid0.coords t) dflt0_1 (iblk m c 1 t)) (Rect.unit ![512, 640] ![256, 128] inb_S2048x1024_S256x128_512_640) = q
    generalize hs : View.ld (iblk m c 0 t) (Rect.unit ![5] ![1] inb_S8_S1_5) (Shape.Idx.first _) = s
    exact tile m c hf t k v q s 2 1 1 x0 x1 (fun e => hq ▸ ld_at _ 512 640 _ x0 e _ _) (fun j e => hk ▸ ld_at _ 512 128 _ j e _ _) (fun j e => hv ▸ ld_at _ 512 384 _ j e _ _) (hs ▸ ld_s m c t 5 _ _ (by decide)) _
      (by have e := (emb7 t y).1; show _ = t.val * 2048 + 2 * 256 + x0.val; rw [h0] at e; exact e.trans (by omega)) (by have e := (emb7 t y).2; show _ = (1 * 4 + 1) * 128 + x1.val; rw [h1] at e; exact e.trans (by omega))
  case piece43 =>
    idx_vars x
    open_payloads
    generalize hk : View.ld (iblk m c 2 t) (Rect.unit ![512, 128] ![256, 128] inb_S2048x512_S256x128_512_128) = k
    generalize hv : View.ld (iblk m c 2 t) (Rect.unit ![512, 384] ![256, 128] inb_S2048x512_S256x128_512_384) = v
    generalize hq : View.ld ((win0 1).fill (grid0.coords t) dflt0_1 (iblk m c 1 t)) (Rect.unit ![512, 512] ![256, 128] inb_S2048x1024_S256x128_512_512) = q
    generalize hs : View.ld (iblk m c 0 t) (Rect.unit ![4] ![1] inb_S8_S1_4) (Shape.Idx.first _) = s
    exact tile m c hf t k v q s 2 1 0 x0 x1 (fun e => hq ▸ ld_at _ 512 512 _ x0 e _ _) (fun j e => hk ▸ ld_at _ 512 128 _ j e _ _) (fun j e => hv ▸ ld_at _ 512 384 _ j e _ _) (hs ▸ ld_s m c t 4 _ _ (by decide)) _
      (by have e := (emb7 t y).1; show _ = t.val * 2048 + 2 * 256 + x0.val; rw [h0] at e; exact e.trans (by omega)) (by have e := (emb7 t y).2; show _ = (1 * 4 + 0) * 128 + x1.val; rw [h1] at e; exact e.trans (by omega))
  case piece44 =>
    idx_vars x
    open_payloads
    generalize hk : View.ld (iblk m c 2 t) (Rect.unit ![512, 0] ![256, 128] inb_S2048x512_S256x128_512_0) = k
    generalize hv : View.ld (iblk m c 2 t) (Rect.unit ![512, 256] ![256, 128] inb_S2048x512_S256x128_512_256) = v
    generalize hq : View.ld ((win0 1).fill (grid0.coords t) dflt0_1 (iblk m c 1 t)) (Rect.unit ![512, 384] ![256, 128] inb_S2048x1024_S256x128_512_384) = q
    generalize hs : View.ld (iblk m c 0 t) (Rect.unit ![3] ![1] inb_S8_S1_3) (Shape.Idx.first _) = s
    exact tile m c hf t k v q s 2 0 3 x0 x1 (fun e => hq ▸ ld_at _ 512 384 _ x0 e _ _) (fun j e => hk ▸ ld_at _ 512 0 _ j e _ _) (fun j e => hv ▸ ld_at _ 512 256 _ j e _ _) (hs ▸ ld_s m c t 3 _ _ (by decide)) _
      (by have e := (emb7 t y).1; show _ = t.val * 2048 + 2 * 256 + x0.val; rw [h0] at e; exact e.trans (by omega)) (by have e := (emb7 t y).2; show _ = (0 * 4 + 3) * 128 + x1.val; rw [h1] at e; exact e.trans (by omega))
  case piece45 =>
    idx_vars x
    open_payloads
    generalize hk : View.ld (iblk m c 2 t) (Rect.unit ![512, 0] ![256, 128] inb_S2048x512_S256x128_512_0) = k
    generalize hv : View.ld (iblk m c 2 t) (Rect.unit ![512, 256] ![256, 128] inb_S2048x512_S256x128_512_256) = v
    generalize hq : View.ld ((win0 1).fill (grid0.coords t) dflt0_1 (iblk m c 1 t)) (Rect.unit ![512, 256] ![256, 128] inb_S2048x1024_S256x128_512_256) = q
    generalize hs : View.ld (iblk m c 0 t) (Rect.unit ![2] ![1] inb_S8_S1_2) (Shape.Idx.first _) = s
    exact tile m c hf t k v q s 2 0 2 x0 x1 (fun e => hq ▸ ld_at _ 512 256 _ x0 e _ _) (fun j e => hk ▸ ld_at _ 512 0 _ j e _ _) (fun j e => hv ▸ ld_at _ 512 256 _ j e _ _) (hs ▸ ld_s m c t 2 _ _ (by decide)) _
      (by have e := (emb7 t y).1; show _ = t.val * 2048 + 2 * 256 + x0.val; rw [h0] at e; exact e.trans (by omega)) (by have e := (emb7 t y).2; show _ = (0 * 4 + 2) * 128 + x1.val; rw [h1] at e; exact e.trans (by omega))
  case piece46 =>
    idx_vars x
    open_payloads
    generalize hk : View.ld (iblk m c 2 t) (Rect.unit ![512, 0] ![256, 128] inb_S2048x512_S256x128_512_0) = k
    generalize hv : View.ld (iblk m c 2 t) (Rect.unit ![512, 256] ![256, 128] inb_S2048x512_S256x128_512_256) = v
    generalize hq : View.ld ((win0 1).fill (grid0.coords t) dflt0_1 (iblk m c 1 t)) (Rect.unit ![512, 128] ![256, 128] inb_S2048x1024_S256x128_512_128) = q
    generalize hs : View.ld (iblk m c 0 t) (Rect.unit ![1] ![1] inb_S8_S1_1) (Shape.Idx.first _) = s
    exact tile m c hf t k v q s 2 0 1 x0 x1 (fun e => hq ▸ ld_at _ 512 128 _ x0 e _ _) (fun j e => hk ▸ ld_at _ 512 0 _ j e _ _) (fun j e => hv ▸ ld_at _ 512 256 _ j e _ _) (hs ▸ ld_s m c t 1 _ _ (by decide)) _
      (by have e := (emb7 t y).1; show _ = t.val * 2048 + 2 * 256 + x0.val; rw [h0] at e; exact e.trans (by omega)) (by have e := (emb7 t y).2; show _ = (0 * 4 + 1) * 128 + x1.val; rw [h1] at e; exact e.trans (by omega))
  case piece47 =>
    idx_vars x
    open_payloads
    generalize hk : View.ld (iblk m c 2 t) (Rect.unit ![512, 0] ![256, 128] inb_S2048x512_S256x128_512_0) = k
    generalize hv : View.ld (iblk m c 2 t) (Rect.unit ![512, 256] ![256, 128] inb_S2048x512_S256x128_512_256) = v
    generalize hq : View.ld ((win0 1).fill (grid0.coords t) dflt0_1 (iblk m c 1 t)) (Rect.unit ![512, 0] ![256, 128] inb_S2048x1024_S256x128_512_0) = q
    generalize hs : View.ld (iblk m c 0 t) (Rect.unit ![0] ![1] inb_S8_S1_0) (Shape.Idx.first _) = s
    exact tile m c hf t k v q s 2 0 0 x0 x1 (fun e => hq ▸ ld_at _ 512 0 _ x0 e _ _) (fun j e => hk ▸ ld_at _ 512 0 _ j e _ _) (fun j e => hv ▸ ld_at _ 512 256 _ j e _ _) (hs ▸ ld_s m c t 0 _ _ (by decide)) _
      (by have e := (emb7 t y).1; show _ = t.val * 2048 + 2 * 256 + x0.val; rw [h0] at e; exact e.trans (by omega)) (by have e := (emb7 t y).2; show _ = (0 * 4 + 0) * 128 + x1.val; rw [h1] at e; exact e.trans (by omega))
  case piece48 =>
    idx_vars x
    open_payloads
    generalize hk : View.ld (iblk m c 2 t) (Rect.unit ![256, 128] ![256, 128] inb_S2048x512_S256x128_256_128) = k
    generalize hv : View.ld (iblk m c 2 t) (Rect.unit ![256, 384] ![256, 128] inb_S2048x512_S256x128_256_384) = v
    generalize hq : View.ld ((win0 1).fill (grid0.coords t) dflt0_1 (iblk m c 1 t)) (Rect.unit ![256, 896] ![256, 128] inb_S2048x1024_S256x128_256_896) = q
    generalize hs : View.ld (iblk m c 0 t) (Rect.unit ![7] ![1] inb_S8_S1_7) (Shape.Idx.first _) = s
    exact tile m c hf t k v q s 1 1 3 x0 x1 (fun e => hq ▸ ld_at _ 256 896 _ x0 e _ _) (fun j e => hk ▸ ld_at _ 256 128 _ j e _ _) (fun j e => hv ▸ ld_at _ 256 384 _ j e _ _) (hs ▸ ld_s m c t 7 _ _ (by decide)) _
      (by have e := (emb7 t y).1; show _ = t.val * 2048 + 1 * 256 + x0.val; rw [h0] at e; exact e.trans (by omega)) (by have e := (emb7 t y).2; show _ = (1 * 4 + 3) * 128 + x1.val; rw [h1] at e; exact e.trans (by omega))
  case piece49 =>
    idx_vars x
    open_payloads
    generalize hk : View.ld (iblk m c 2 t) (Rect.unit ![256, 128] ![256, 128] inb_S2048x512_S256x128_256_128) = k
    generalize hv : View.ld (iblk m c 2 t) (Rect.unit ![256, 384] ![256, 128] inb_S2048x512_S256x128_256_384) = v
    generalize hq : View.ld ((win0 1).fill (grid0.coords t) dflt0_1 (iblk m c 1 t)) (Rect.unit ![256, 768] ![256, 128] inb_S2048x1024_S256x128_256_768) = q
    generalize hs : View.ld (iblk m c 0 t) (Rect.unit ![6] ![1] inb_S8_S1_6) (Shape.Idx.first _) = s
    exact tile m c hf t k v q s 1 1 2 x0 x1 (fun e => hq ▸ ld_at _ 256 768 _ x0 e _ _) (fun j e => hk ▸ ld_at _ 256 128 _ j e _ _) (fun j e => hv ▸ ld_at _ 256 384 _ j e _ _) (hs ▸ ld_s m c t 6 _ _ (by decide)) _
      (by have e := (emb7 t y).1; show _ = t.val * 2048 + 1 * 256 + x0.val; rw [h0] at e; exact e.trans (by omega)) (by have e := (emb7 t y).2; show _ = (1 * 4 + 2) * 128 + x1.val; rw [h1] at e; exact e.trans (by omega))
  case piece50 =>
    idx_vars x
    open_payloads
    generalize hk : View.ld (iblk m c 2 t) (Rect.unit ![256, 128] ![256, 128] inb_S2048x512_S256x128_256_128) = k
    generalize hv : View.ld (iblk m c 2 t) (Rect.unit ![256, 384] ![256, 128] inb_S2048x512_S256x128_256_384) = v
    generalize hq : View.ld ((win0 1).fill (grid0.coords t) dflt0_1 (iblk m c 1 t)) (Rect.unit ![256, 640] ![256, 128] inb_S2048x1024_S256x128_256_640) = q
    generalize hs : View.ld (iblk m c 0 t) (Rect.unit ![5] ![1] inb_S8_S1_5) (Shape.Idx.first _) = s
    exact tile m c hf t k v q s 1 1 1 x0 x1 (fun e => hq ▸ ld_at _ 256 640 _ x0 e _ _) (fun j e => hk ▸ ld_at _ 256 128 _ j e _ _) (fun j e => hv ▸ ld_at _ 256 384 _ j e _ _) (hs ▸ ld_s m c t 5 _ _ (by decide)) _
      (by have e := (emb7 t y).1; show _ = t.val * 2048 + 1 * 256 + x0.val; rw [h0] at e; exact e.trans (by omega)) (by have e := (emb7 t y).2; show _ = (1 * 4 + 1) * 128 + x1.val; rw [h1] at e; exact e.trans (by omega))
  case piece51 =>
    idx_vars x
    open_payloads
    generalize hk : View.ld (iblk m c 2 t) (Rect.unit ![256, 128] ![256, 128] inb_S2048x512_S256x128_256_128) = k
    generalize hv : View.ld (iblk m c 2 t) (Rect.unit ![256, 384] ![256, 128] inb_S2048x512_S256x128_256_384) = v
    generalize hq : View.ld ((win0 1).fill (grid0.coords t) dflt0_1 (iblk m c 1 t)) (Rect.unit ![256, 512] ![256, 128] inb_S2048x1024_S256x128_256_512) = q
    generalize hs : View.ld (iblk m c 0 t) (Rect.unit ![4] ![1] inb_S8_S1_4) (Shape.Idx.first _) = s
    exact tile m c hf t k v q s 1 1 0 x0 x1 (fun e => hq ▸ ld_at _ 256 512 _ x0 e _ _) (fun j e => hk ▸ ld_at _ 256 128 _ j e _ _) (fun j e => hv ▸ ld_at _ 256 384 _ j e _ _) (hs ▸ ld_s m c t 4 _ _ (by decide)) _
      (by have e := (emb7 t y).1; show _ = t.val * 2048 + 1 * 256 + x0.val; rw [h0] at e; exact e.trans (by omega)) (by have e := (emb7 t y).2; show _ = (1 * 4 + 0) * 128 + x1.val; rw [h1] at e; exact e.trans (by omega))
  case piece52 =>
    idx_vars x
    open_payloads
    generalize hk : View.ld (iblk m c 2 t) (Rect.unit ![256, 0] ![256, 128] inb_S2048x512_S256x128_256_0) = k
    generalize hv : View.ld (iblk m c 2 t) (Rect.unit ![256, 256] ![256, 128] inb_S2048x512_S256x128_256_256) = v
    generalize hq : View.ld ((win0 1).fill (grid0.coords t) dflt0_1 (iblk m c 1 t)) (Rect.unit ![256, 384] ![256, 128] inb_S2048x1024_S256x128_256_384) = q
    generalize hs : View.ld (iblk m c 0 t) (Rect.unit ![3] ![1] inb_S8_S1_3) (Shape.Idx.first _) = s
    exact tile m c hf t k v q s 1 0 3 x0 x1 (fun e => hq ▸ ld_at _ 256 384 _ x0 e _ _) (fun j e => hk ▸ ld_at _ 256 0 _ j e _ _) (fun j e => hv ▸ ld_at _ 256 256 _ j e _ _) (hs ▸ ld_s m c t 3 _ _ (by decide)) _
      (by have e := (emb7 t y).1; show _ = t.val * 2048 + 1 * 256 + x0.val; rw [h0] at e; exact e.trans (by omega)) (by have e := (emb7 t y).2; show _ = (0 * 4 + 3) * 128 + x1.val; rw [h1] at e; exact e.trans (by omega))
  case piece53 =>
    idx_vars x
    open_payloads
    generalize hk : View.ld (iblk m c 2 t) (Rect.unit ![256, 0] ![256, 128] inb_S2048x512_S256x128_256_0) = k
    generalize hv : View.ld (iblk m c 2 t) (Rect.unit ![256, 256] ![256, 128] inb_S2048x512_S256x128_256_256) = v
    generalize hq : View.ld ((win0 1).fill (grid0.coords t) dflt0_1 (iblk m c 1 t)) (Rect.unit ![256, 256] ![256, 128] inb_S2048x1024_S256x128_256_256) = q
    generalize hs : View.ld (iblk m c 0 t) (Rect.unit ![2] ![1] inb_S8_S1_2) (Shape.Idx.first _) = s
    exact tile m c hf t k v q s 1 0 2 x0 x1 (fun e => hq ▸ ld_at _ 256 256 _ x0 e _ _) (fun j e => hk ▸ ld_at _ 256 0 _ j e _ _) (fun j e => hv ▸ ld_at _ 256 256 _ j e _ _) (hs ▸ ld_s m c t 2 _ _ (by decide)) _
      (by have e := (emb7 t y).1; show _ = t.val * 2048 + 1 * 256 + x0.val; rw [h0] at e; exact e.trans (by omega)) (by have e := (emb7 t y).2; show _ = (0 * 4 + 2) * 128 + x1.val; rw [h1] at e; exact e.trans (by omega))
  case piece54 =>
    idx_vars x
    open_payloads
    generalize hk : View.ld (iblk m c 2 t) (Rect.unit ![256, 0] ![256, 128] inb_S2048x512_S256x128_256_0) = k
    generalize hv : View.ld (iblk m c 2 t) (Rect.unit ![256, 256] ![256, 128] inb_S2048x512_S256x128_256_256) = v
    generalize hq : View.ld ((win0 1).fill (grid0.coords t) dflt0_1 (iblk m c 1 t)) (Rect.unit ![256, 128] ![256, 128] inb_S2048x1024_S256x128_256_128) = q
    generalize hs : View.ld (iblk m c 0 t) (Rect.unit ![1] ![1] inb_S8_S1_1) (Shape.Idx.first _) = s
    exact tile m c hf t k v q s 1 0 1 x0 x1 (fun e => hq ▸ ld_at _ 256 128 _ x0 e _ _) (fun j e => hk ▸ ld_at _ 256 0 _ j e _ _) (fun j e => hv ▸ ld_at _ 256 256 _ j e _ _) (hs ▸ ld_s m c t 1 _ _ (by decide)) _
      (by have e := (emb7 t y).1; show _ = t.val * 2048 + 1 * 256 + x0.val; rw [h0] at e; exact e.trans (by omega)) (by have e := (emb7 t y).2; show _ = (0 * 4 + 1) * 128 + x1.val; rw [h1] at e; exact e.trans (by omega))
  case piece55 =>
    idx_vars x
    open_payloads
    generalize hk : View.ld (iblk m c 2 t) (Rect.unit ![256, 0] ![256, 128] inb_S2048x512_S256x128_256_0) = k
    generalize hv : View.ld (iblk m c 2 t) (Rect.unit ![256, 256] ![256, 128] inb_S2048x512_S256x128_256_256) = v
    generalize hq : View.ld ((win0 1).fill (grid0.coords t) dflt0_1 (iblk m c 1 t)) (Rect.unit ![256, 0] ![256, 128] inb_S2048x1024_S256x128_256_0) = q
    generalize hs : View.ld (iblk m c 0 t) (Rect.unit ![0] ![1] inb_S8_S1_0) (Shape.Idx.first _) = s
    exact tile m c hf t k v q s 1 0 0 x0 x1 (fun e => hq ▸ ld_at _ 256 0 _ x0 e _ _) (fun j e => hk ▸ ld_at _ 256 0 _ j e _ _) (fun j e => hv ▸ ld_at _ 256 256 _ j e _ _) (hs ▸ ld_s m c t 0 _ _ (by decide)) _
      (by have e := (emb7 t y).1; show _ = t.val * 2048 + 1 * 256 + x0.val; rw [h0] at e; exact e.trans (by omega)) (by have e := (emb7 t y).2; show _ = (0 * 4 + 0) * 128 + x1.val; rw [h1] at e; exact e.trans (by omega))
  case piece56 =>
    idx_vars x
    open_payloads
    generalize hk : View.ld (iblk m c 2 t) (Rect.unit ![0, 128] ![256, 128] inb_S2048x512_S256x128_0_128) = k
    generalize hv : View.ld (iblk m c 2 t) (Rect.unit ![0, 384] ![256, 128] inb_S2048x512_S256x128_0_384) = v
    generalize hq : View.ld ((win0 1).fill (grid0.coords t) dflt0_1 (iblk m c 1 t)) (Rect.unit ![0, 896] ![256, 128] inb_S2048x1024_S256x128_0_896) = q
    generalize hs : View.ld (iblk m c 0 t) (Rect.unit ![7] ![1] inb_S8_S1_7) (Shape.Idx.first _) = s
    exact tile m c hf t k v q s 0 1 3 x0 x1 (fun e => hq ▸ ld_at _ 0 896 _ x0 e _ _) (fun j e => hk ▸ ld_at _ 0 128 _ j e _ _) (fun j e => hv ▸ ld_at _ 0 384 _ j e _ _) (hs ▸ ld_s m c t 7 _ _ (by decide)) _
      (by have e := (emb7 t y).1; show _ = t.val * 2048 + 0 * 256 + x0.val; rw [h0] at e; exact e.trans (by omega)) (by have e := (emb7 t y).2; show _ = (1 * 4 + 3) * 128 + x1.val; rw [h1] at e; exact e.trans (by omega))
  case piece57 =>
    idx_vars x
    open_payloads
    generalize hk : View.ld (iblk m c 2 t) (Rect.unit ![0, 128] ![256, 128] inb_S2048x512_S256x128_0_128) = k
    generalize hv : View.ld (iblk m c 2 t) (Rect.unit ![0, 384] ![256, 128] inb_S2048x512_S256x128_0_384) = v
    generalize hq : View.ld ((win0 1).fill (grid0.coords t) dflt0_1 (iblk m c 1 t)) (Rect.unit ![0, 768] ![256, 128] inb_S2048x1024_S256x128_0_768) = q
    generalize hs : View.ld (iblk m c 0 t) (Rect.unit ![6] ![1] inb_S8_S1_6) (Shape.Idx.first _) = s
    exact tile m c hf t k v q s 0 1 2 x0 x1 (fun e => hq ▸ ld_at _ 0 768 _ x0 e _ _) (fun j e => hk ▸ ld_at _ 0 128 _ j e _ _) (fun j e => hv ▸ ld_at _ 0 384 _ j e _ _) (hs ▸ ld_s m c t 6 _ _ (by decide)) _
      (by have e := (emb7 t y).1; show _ = t.val * 2048 + 0 * 256 + x0.val; rw [h0] at e; exact e.trans (by omega)) (by have e := (emb7 t y).2; show _ = (1 * 4 + 2) * 128 + x1.val; rw [h1] at e; exact e.trans (by omega))
  case piece58 =>
    idx_vars x
    open_payloads
    generalize hk : View.ld (iblk m c 2 t) (Rect.unit ![0, 128] ![256, 128] inb_S2048x512_S256x128_0_128) = k
    generalize hv : View.ld (iblk m c 2 t) (Rect.unit ![0, 384] ![256, 128] inb_S2048x512_S256x128_0_384) = v
    generalize hq : View.ld ((win0 1).fill (grid0.coords t) dflt0_1 (iblk m c 1 t)) (Rect.unit ![0, 640] ![256, 128] inb_S2048x1024_S256x128_0_640) = q
    generalize hs : View.ld (iblk m c 0 t) (Rect.unit ![5] ![1] inb_S8_S1_5) (Shape.Idx.first _) = s
    exact tile m c hf t k v q s 0 1 1 x0 x1 (fun e => hq ▸ ld_at _ 0 640 _ x0 e _ _) (fun j e => hk ▸ ld_at _ 0 128 _ j e _ _) (fun j e => hv ▸ ld_at _ 0 384 _ j e _ _) (hs ▸ ld_s m c t 5 _ _ (by decide)) _
      (by have e := (emb7 t y).1; show _ = t.val * 2048 + 0 * 256 + x0.val; rw [h0] at e; exact e.trans (by omega)) (by have e := (emb7 t y).2; show _ = (1 * 4 + 1) * 128 + x1.val; rw [h1] at e; exact e.trans (by omega))
  case piece59 =>
    idx_vars x
    open_payloads
    generalize hk : View.ld (iblk m c 2 t) (Rect.unit ![0, 128] ![256, 128] inb_S2048x512_S256x128_0_128) = k
    generalize hv : View.ld (iblk m c 2 t) (Rect.unit ![0, 384] ![256, 128] inb_S2048x512_S256x128_0_384) = v
    generalize hq : View.ld ((win0 1).fill (grid0.coords t) dflt0_1 (iblk m c 1 t)) (Rect.unit ![0, 512] ![256, 128] inb_S2048x1024_S256x128_0_512) = q
    generalize hs : View.ld (iblk m c 0 t) (Rect.unit ![4] ![1] inb_S8_S1_4) (Shape.Idx.first _) = s
    exact tile m c hf t k v q s 0 1 0 x0 x1 (fun e => hq ▸ ld_at _ 0 512 _ x0 e _ _) (fun j e => hk ▸ ld_at _ 0 128 _ j e _ _) (fun j e => hv ▸ ld_at _ 0 384 _ j e _ _) (hs ▸ ld_s m c t 4 _ _ (by decide)) _
      (by have e := (emb7 t y).1; show _ = t.val * 2048 + 0 * 256 + x0.val; rw [h0] at e; exact e.trans (by omega)) (by have e := (emb7 t y).2; show _ = (1 * 4 + 0) * 128 + x1.val; rw [h1] at e; exact e.trans (by omega))
  case piece60 =>
    idx_vars x
    open_payloads
    generalize hk : View.ld (iblk m c 2 t) (Rect.unit ![0, 0] ![256, 128] inb_S2048x512_S256x128_0_0) = k
    generalize hv : View.ld (iblk m c 2 t) (Rect.unit ![0, 256] ![256, 128] inb_S2048x512_S256x128_0_256) = v
    generalize hq : View.ld ((win0 1).fill (grid0.coords t) dflt0_1 (iblk m c 1 t)) (Rect.unit ![0, 384] ![256, 128] inb_S2048x1024_S256x128_0_384) = q
    generalize hs : View.ld (iblk m c 0 t) (Rect.unit ![3] ![1] inb_S8_S1_3) (Shape.Idx.first _) = s
    exact tile m c hf t k v q s 0 0 3 x0 x1 (fun e => hq ▸ ld_at _ 0 384 _ x0 e _ _) (fun j e => hk ▸ ld_at _ 0 0 _ j e _ _) (fun j e => hv ▸ ld_at _ 0 256 _ j e _ _) (hs ▸ ld_s m c t 3 _ _ (by decide)) _
      (by have e := (emb7 t y).1; show _ = t.val * 2048 + 0 * 256 + x0.val; rw [h0] at e; exact e.trans (by omega)) (by have e := (emb7 t y).2; show _ = (0 * 4 + 3) * 128 + x1.val; rw [h1] at e; exact e.trans (by omega))
  case piece61 =>
    idx_vars x
    open_payloads
    generalize hk : View.ld (iblk m c 2 t) (Rect.unit ![0, 0] ![256, 128] inb_S2048x512_S256x128_0_0) = k
    generalize hv : View.ld (iblk m c 2 t) (Rect.unit ![0, 256] ![256, 128] inb_S2048x512_S256x128_0_256) = v
    generalize hq : View.ld ((win0 1).fill (grid0.coords t) dflt0_1 (iblk m c 1 t)) (Rect.unit ![0, 256] ![256, 128] inb_S2048x1024_S256x128_0_256) = q
    generalize hs : View.ld (iblk m c 0 t) (Rect.unit ![2] ![1] inb_S8_S1_2) (Shape.Idx.first _) = s
    exact tile m c hf t k v q s 0 0 2 x0 x1 (fun e => hq ▸ ld_at _ 0 256 _ x0 e _ _) (fun j e => hk ▸ ld_at _ 0 0 _ j e _ _) (fun j e => hv ▸ ld_at _ 0 256 _ j e _ _) (hs ▸ ld_s m c t 2 _ _ (by decide)) _
      (by have e := (emb7 t y).1; show _ = t.val * 2048 + 0 * 256 + x0.val; rw [h0] at e; exact e.trans (by omega)) (by have e := (emb7 t y).2; show _ = (0 * 4 + 2) * 128 + x1.val; rw [h1] at e; exact e.trans (by omega))
  case piece62 =>
    idx_vars x
    open_payloads
    generalize hk : View.ld (iblk m c 2 t) (Rect.unit ![0, 0] ![256, 128] inb_S2048x512_S256x128_0_0) = k
    generalize hv : View.ld (iblk m c 2 t) (Rect.unit ![0, 256] ![256, 128] inb_S2048x512_S256x128_0_256) = v
    generalize hq : View.ld ((win0 1).fill (grid0.coords t) dflt0_1 (iblk m c 1 t)) (Rect.unit ![0, 128] ![256, 128] inb_S2048x1024_S256x128_0_128) = q
    generalize hs : View.ld (iblk m c 0 t) (Rect.unit ![1] ![1] inb_S8_S1_1) (Shape.Idx.first _) = s
    exact tile m c hf t k v q s 0 0 1 x0 x1 (fun e => hq ▸ ld_at _ 0 128 _ x0 e _ _) (fun j e => hk ▸ ld_at _ 0 0 _ j e _ _) (fun j e => hv ▸ ld_at _ 0 256 _ j e _ _) (hs ▸ ld_s m c t 1 _ _ (by decide)) _
      (by have e := (emb7 t y).1; show _ = t.val * 2048 + 0 * 256 + x0.val; rw [h0] at e; exact e.trans (by omega)) (by have e := (emb7 t y).2; show _ = (0 * 4 + 1) * 128 + x1.val; rw [h1] at e; exact e.trans (by omega))
  case piece63 =>
    idx_vars x
    open_payloads
    generalize hk : View.ld (iblk m c 2 t) (Rect.unit ![0, 0] ![256, 128] inb_S2048x512_S256x128_0_0) = k
    generalize hv : View.ld (iblk m c 2 t) (Rect.unit ![0, 256] ![256, 128] inb_S2048x512_S256x128_0_256) = v
    generalize hq : View.ld ((win0 1).fill (grid0.coords t) dflt0_1 (iblk m c 1 t)) (Rect.unit ![0, 0] ![256, 128] inb_S2048x1024_S256x128_0_0) = q
    generalize hs : View.ld (iblk m c 0 t) (Rect.unit ![0] ![1] inb_S8_S1_0) (Shape.Idx.first _) = s
    exact tile m c hf t k v q s 0 0 0 x0 x1 (fun e => hq ▸ ld_at _ 0 0 _ x0 e _ _) (fun j e => hk ▸ ld_at _ 0 0 _ j e _ _) (fun j e => hv ▸ ld_at _ 0 256 _ j e _ _) (hs ▸ ld_s m c t 0 _ _ (by decide)) _
      (by have e := (emb7 t y).1; show _ = t.val * 2048 + 0 * 256 + x0.val; rw [h0] at e; exact e.trans (by omega)) (by have e := (emb7 t y).2; show _ = (0 * 4 + 0) * 128 + x1.val; rw [h1] at e; exact e.trans (by omega))

end Cert.KernelIdeal.Attention
-- ==== Proof.Finite.lean ====
/-
  The precondition of the attention's value claim, decoded: each entry of the queries, the keys and the sink logits is a
  real number. -/
module

public import proofs.«01_k».proof.Defs
public import proofs.«01_k».proof.Proof.Attention

@[expose] public section

noncomputable section

open Idealize.ShloMosaic Idealize.ShloMosaic.TcCoe Idealize.SL.Sem

namespace Cert.Finite

/-- The precondition's function can be read at its shapes. -/
theorem facts : Cert.Pre_finite.Facts := ⟨by decide, by decide, by decide⟩

/-- A value whose absolute value is below the positive infinity is a real number. -/
theorem real_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    unfold Ideal.cmp at h
    simp [hn] at h
  rw [max_lt_iff] at hlt
  have h1 : x ≠ ⊤ := hlt.1.ne
  have h2 : x ≠ ⊥ := fun e => by rw [e] at hlt; exact absurd hlt.2 (by simp)
  exact ⟨x.toReal, (EReal.coe_toReal h1 h2).symm⟩

open Cert.KernelIdeal in
/-- The precondition gives the hypothesis the attention's proof uses. -/
theorem fin_of_pre (hP : Cert.Pre_finite.Facts) (m : (ℓ : Loc nD τ sig) → Buf (Elt Ideal) ℓ)
    (h : Cert.Pre_KernelIdeal_finite (hPre_finite := hP) m) (c : Dev nD) : Cert.KernelIdeal.Attention.Fin' m c := by
  obtain ⟨h0, h1, h2⟩ := h c
  exact ⟨fun i => real_of_lt _ (congrFun h0 i), fun i => real_of_lt _ (congrFun h1 i), fun i => real_of_lt _ (congrFun h2 i)⟩

end Cert.Finite

end
-- ==== Proof.AttnClaim.lean ====
/-
  The claims about the attention that need both programs. -/
module
public import proofs.«01_k».proof.Defs
public import proofs.«01_k».proof.Proof.AttnTiles
public import proofs.«01_k».proof.Proof.Finite
public import proofs.«01_k».proof.Proof.Gen.Kernel
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
@[expose] public section
noncomputable section
namespace Cert.Proof
open Idealize.ShloMosaic Idealize.SL.Sem

/-- The attention's reference runs, keeps its arguments and has no semaphores. -/
theorem attn_ref : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run m ρ)

/-- The reference's frame where the arguments are finite: a special case. -/
theorem attn_ref_finite (hP : Cert.Pre_finite.Facts) : Cert.quiescent_ReferenceIdeal_pre_finite (hPre_finite := hP) :=
  fun m ρ _ => attn_ref m ρ trivial

/-- The kernel's frame where the arguments are finite: a special case. -/
theorem attn_frame_finite (hP : Cert.Pre_finite.Facts) : Cert.quiescent_KernelIdeal_pre_finite (hPre_finite := hP) :=
  fun m ρ _ => Cert.KernelIdeal.Gen.frame m ρ

set_option maxHeartbeats 400000 in
/-- The attention and its reference, at exact arithmetic: from equal arguments whose queries, keys and sink logits are
    finite both runs end with equal results. -/
theorem attn_eq (hP : Cert.Pre_finite.Facts) : Cert.algebraic_KernelIdeal_ReferenceIdeal_pre_finite (hPre_finite := hP) := by
  pair_intro
  · run_from Cert.KernelIdeal.Gen.run_main m g
  · run_from Cert.ReferenceIdeal.Value.run m' g'
    · rw [Cert.KernelIdeal.Attention.final7 m c (Cert.Finite.fin_of_pre hP m hpre c)]
      obtain ⟨h0, h1, h2, h3, h4, h5, h6, h7⟩ := hagree c
      show Cert.ReferenceIdeal.Attention.OUT (Cert.ReferenceIdeal.Attention.EX (Cert.ReferenceIdeal.Attention.SC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m' ((c.tc : Thread Cert.ReferenceIdeal.nD Cert.ReferenceIdeal.τ).loc Cert.ReferenceIdeal.main_arg3)))) (m ((c.tc : Thread Cert.KernelIdeal.nD Cert.KernelIdeal.τ).loc Cert.KernelIdeal.main_arg2)) = Cert.KernelIdeal.Attention.att m c
      rw [h3]
    · rw [Cert.KernelIdeal.Attention.final8]
    · rw [Cert.KernelIdeal.Attention.final9]
    · rw [Cert.KernelIdeal.Attention.final10]
    · rw [Cert.KernelIdeal.Attention.final11]

end Cert.Proof

end
-- ==== Proof.FfnSpec.lean ====
/-
  The feed-forward kernel's body, run once per kind of grid point: the first column step of a row tile (`runA`), the other
  steps that form gated activations (`runB`), the step that stores the last activations and starts the second product
  (`runC`), the steps that go on with it (`runD`), and the last, which also normalises (`runE`). Each run finds what it
  stores, as lists of pieces (the last store first) for the activations, the carried products and the result's buffer.
-/
module

public import proofs.«01_k».proof.Proof.Gen.Kernel4Ideal.Frame
public import proofs.«01_k».proof.Proof.Gen.Kernel4Ideal.Skeleton
public import Idealize.ShloMosaic.Lib.Pipeline.Frame
public import Idealize.ShloMosaic.Lib.Tactic

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch buffer of the gated activations. -/
abbrev actM : Memref sig .tc .vmem S1024x6144 .bf16 := Memref.whole cc0_scratch0
/-- The scratch buffer of the products carried to the next column step. -/
abbrev rawM : Memref sig .tc .vmem S2x1024x256 .f32 := Memref.whole cc0_scratch1
theorem actW : actM.IsWhole := Memref.isWhole_whole _
theorem rawW : rawM.IsWhole := Memref.isWhole_whole _

/-- The first conditional's condition as printed. -/
abbrev C1 (i : grid0.Coords) : Prop := Scalar.cmpi .ne (Scalar.extui (Scalar.cmpi .eq (BitVec.ofNat 32 (i 1).val) 0#32) : BitVec 32) 0#32 = 1#1
/-- The third conditional's condition as printed. -/
abbrev C3 (i : grid0.Coords) : Prop := Scalar.cmpi .ne (Scalar.extui (Scalar.cmpi .eq (BitVec.ofNat 32 (i 1).val) 11#32) : BitVec 32) 0#32 = 1#1

/-- The body's triple with the stored pieces named: from every window's buffer and both scratch buffers at given contents
    to the same with the pieces written. -/
def Spec (c : Dev nD) (i : grid0.Coords) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32)
    (LA : List (View.Piece (Elt F) S1024x6144 .bf16)) (LW : List (View.Piece (Elt F) S2x1024x256 .f32)) (LO : List (View.Piece (Elt F) S1024x2048 .f32)) : Prop :=
  ∀ (E : Set ℕ) (K : PUnit → sProp 𝕄),
    iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare O ∗ owns (c : Thread nD τ) actM fullShare A ∗ owns (c : Thread nD τ) rawM fullShare W
        ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare (M9.view.read (Elt F) (M9.view.writes (Elt F) (H9.unread O) LO))
              ∗ owns (c : Thread nD τ) actM fullShare (actM.view.read (Elt F) (actM.view.writes (Elt F) (actW.unread A) LA))
              ∗ owns (c : Thread nD τ) rawM fullShare (rawM.view.read (Elt F) (rawM.view.writes (Elt F) (rawW.unread W) LW))) -∗ K ⟨⟩))
      ⊢ wp frame (wpE (defs₀ (F := F)) Variants.none c none) E (cc0_ffn i M0 H0 M1 H1 M2 H2 M3 H3 M4 H4 M5 H5 M6 H6 M7 H7 M8 H8 M9 H9 actM actW rawM rawW) K

end Cert.Kernel4Ideal.Ffn

end
-- ==== Proof.FfnRunA.lean ====
/-
  The feed-forward body's run at the first column step.
-/
module

public import proofs.«01_k».proof.Proof.FfnSpec

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The run at the first column step. -/
def runA (c : Dev nD) (i : grid0.Coords) (h1 : C1 i) (h2 : k0_cond2 i = 1#1) (h3 : ¬ C3 i) (h4 : ¬ k0_cond4 i = 1#1) (h5 : ¬ k0_cond5 i = 1#1) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32) :
    Σ' (LA : List (View.Piece (Elt F) S1024x6144 .bf16)) (LW : List (View.Piece (Elt F) S2x1024x256 .f32)), { LO : List (View.Piece (Elt F) S1024x2048 .f32) //
      Spec c i M0 H0 M1 H1 M2 H2 M3 H3 M4 H4 M5 H5 M6 H6 M7 H7 M8 H8 M9 H9 x0 x1 x2 x3 x4 x5 x6 x7 x8 O A W LA LW LO } := by
  refine ⟨?_, ?_, [], fun E K => ?run⟩
  case run =>
    simp only [cc0_ffn_eq_skeleton]; unfold cc0_ffn_skel
    simp only [k0_part1_eq_skeleton, k0_part2_eq_skeleton, k0_part3_eq_skeleton, k0_part4_eq_skeleton]
    unfold k0_part1_skel k0_part2_skel k0_part3_skel k0_part4_skel
    unfold owns
    iintro ⟨⟨%f0, %hf0, P0⟩, ⟨%f1, %hf1, P1⟩, ⟨%f2, %hf2, P2⟩, ⟨%f3, %hf3, P3⟩, ⟨%f4, %hf4, P4⟩, ⟨%f5, %hf5, P5⟩, ⟨%f6, %hf6, P6⟩, ⟨%f7, %hf7, P7⟩, ⟨%f8, %hf8, P8⟩, ⟨%f9, %hf9, P9⟩, ⟨%fA, %hfA, PA⟩, ⟨%fW, %hfW, PW⟩, Hk⟩
    obtain rfl := H0.eq_unread hf0; obtain rfl := H1.eq_unread hf1; obtain rfl := H2.eq_unread hf2; obtain rfl := H3.eq_unread hf3; obtain rfl := H4.eq_unread hf4; obtain rfl := H5.eq_unread hf5; obtain rfl := H6.eq_unread hf6; obtain rfl := H7.eq_unread hf7; obtain rfl := H8.eq_unread hf8; obtain rfl := H9.eq_unread hf9
    obtain rfl := actW.eq_unread hfA; obtain rfl := rawW.eq_unread hfW
    sl_exec
    sl_step
    iapply Hk
    isplitl [P0]
    · iexists _; isplitr; · ipureintro; exact H0.read_unread _
      iexact P0
    isplitl [P1]
    · iexists _; isplitr; · ipureintro; exact H1.read_unread _
      iexact P1
    isplitl [P2]
    · iexists _; isplitr; · ipureintro; exact H2.read_unread _
      iexact P2
    isplitl [P3]
    · iexists _; isplitr; · ipureintro; exact H3.read_unread _
      iexact P3
    isplitl [P4]
    · iexists _; isplitr; · ipureintro; exact H4.read_unread _
      iexact P4
    isplitl [P5]
    · iexists _; isplitr; · ipureintro; exact H5.read_unread _
      iexact P5
    isplitl [P6]
    · iexists _; isplitr; · ipureintro; exact H6.read_unread _
      iexact P6
    isplitl [P7]
    · iexists _; isplitr; · ipureintro; exact H7.read_unread _
      iexact P7
    isplitl [P8]
    · iexists _; isplitr; · ipureintro; exact H8.read_unread _
      iexact P8
    isplitl [P9]
    · iexists _; isplitr; swap
      · iexact P9
      ipureintro; rfl
    isplitl [PA]
    · iexists _; isplitr; swap
      · iexact PA
      ipureintro; rfl
    iexists _; isplitr; swap
    · iexact PW
    ipureintro; rfl

end Cert.Kernel4Ideal.Ffn

end
-- ==== Proof.FfnRunB.lean ====
/-
  The feed-forward body's run at a column step that forms activations, not the first.
-/
module

public import proofs.«01_k».proof.Proof.FfnSpec

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The run at a column step that forms activations, not the first. -/
def runB (c : Dev nD) (i : grid0.Coords) (h1 : ¬ C1 i) (h2 : k0_cond2 i = 1#1) (h3 : ¬ C3 i) (h4 : ¬ k0_cond4 i = 1#1) (h5 : ¬ k0_cond5 i = 1#1) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32) :
    Σ' (LA : List (View.Piece (Elt F) S1024x6144 .bf16)) (LW : List (View.Piece (Elt F) S2x1024x256 .f32)), { LO : List (View.Piece (Elt F) S1024x2048 .f32) //
      Spec c i M0 H0 M1 H1 M2 H2 M3 H3 M4 H4 M5 H5 M6 H6 M7 H7 M8 H8 M9 H9 x0 x1 x2 x3 x4 x5 x6 x7 x8 O A W LA LW LO } := by
  refine ⟨?_, ?_, [], fun E K => ?run⟩
  case run =>
    simp only [cc0_ffn_eq_skeleton]; unfold cc0_ffn_skel
    simp only [k0_part1_eq_skeleton, k0_part2_eq_skeleton, k0_part3_eq_skeleton, k0_part4_eq_skeleton]
    unfold k0_part1_skel k0_part2_skel k0_part3_skel k0_part4_skel
    unfold owns
    iintro ⟨⟨%f0, %hf0, P0⟩, ⟨%f1, %hf1, P1⟩, ⟨%f2, %hf2, P2⟩, ⟨%f3, %hf3, P3⟩, ⟨%f4, %hf4, P4⟩, ⟨%f5, %hf5, P5⟩, ⟨%f6, %hf6, P6⟩, ⟨%f7, %hf7, P7⟩, ⟨%f8, %hf8, P8⟩, ⟨%f9, %hf9, P9⟩, ⟨%fA, %hfA, PA⟩, ⟨%fW, %hfW, PW⟩, Hk⟩
    obtain rfl := H0.eq_unread hf0; obtain rfl := H1.eq_unread hf1; obtain rfl := H2.eq_unread hf2; obtain rfl := H3.eq_unread hf3; obtain rfl := H4.eq_unread hf4; obtain rfl := H5.eq_unread hf5; obtain rfl := H6.eq_unread hf6; obtain rfl := H7.eq_unread hf7; obtain rfl := H8.eq_unread hf8; obtain rfl := H9.eq_unread hf9
    obtain rfl := actW.eq_unread hfA; obtain rfl := rawW.eq_unread hfW
    sl_exec
    sl_step
    iapply Hk
    isplitl [P0]
    · iexists _; isplitr; · ipureintro; exact H0.read_unread _
      iexact P0
    isplitl [P1]
    · iexists _; isplitr; · ipureintro; exact H1.read_unread _
      iexact P1
    isplitl [P2]
    · iexists _; isplitr; · ipureintro; exact H2.read_unread _
      iexact P2
    isplitl [P3]
    · iexists _; isplitr; · ipureintro; exact H3.read_unread _
      iexact P3
    isplitl [P4]
    · iexists _; isplitr; · ipureintro; exact H4.read_unread _
      iexact P4
    isplitl [P5]
    · iexists _; isplitr; · ipureintro; exact H5.read_unread _
      iexact P5
    isplitl [P6]
    · iexists _; isplitr; · ipureintro; exact H6.read_unread _
      iexact P6
    isplitl [P7]
    · iexists _; isplitr; · ipureintro; exact H7.read_unread _
      iexact P7
    isplitl [P8]
    · iexists _; isplitr; · ipureintro; exact H8.read_unread _
      iexact P8
    isplitl [P9]
    · iexists _; isplitr; swap
      · iexact P9
      ipureintro; rfl
    isplitl [PA]
    · iexists _; isplitr; swap
      · iexact PA
      ipureintro; rfl
    iexists _; isplitr; swap
    · iexact PW
    ipureintro; rfl

end Cert.Kernel4Ideal.Ffn

end
-- ==== Proof.FfnRunC.lean ====
/-
  The feed-forward body's run at the step that stores the last activations.
-/
module

public import proofs.«01_k».proof.Proof.FfnSpec

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The run at the step that stores the last activations. -/
def runC (c : Dev nD) (i : grid0.Coords) (h1 : ¬ C1 i) (h2 : ¬ k0_cond2 i = 1#1) (h3 : C3 i) (h4 : k0_cond4 i = 1#1) (h5 : ¬ k0_cond5 i = 1#1) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32) :
    Σ' (LA : List (View.Piece (Elt F) S1024x6144 .bf16)) (LW : List (View.Piece (Elt F) S2x1024x256 .f32)), { LO : List (View.Piece (Elt F) S1024x2048 .f32) //
      Spec c i M0 H0 M1 H1 M2 H2 M3 H3 M4 H4 M5 H5 M6 H6 M7 H7 M8 H8 M9 H9 x0 x1 x2 x3 x4 x5 x6 x7 x8 O A W LA LW LO } := by
  refine ⟨?_, [], ?_, fun E K => ?run⟩
  case run =>
    simp only [cc0_ffn_eq_skeleton]; unfold cc0_ffn_skel
    simp only [k0_part5_eq_skeleton]
    unfold k0_part5_skel
    unfold owns
    iintro ⟨⟨%f0, %hf0, P0⟩, ⟨%f1, %hf1, P1⟩, ⟨%f2, %hf2, P2⟩, ⟨%f3, %hf3, P3⟩, ⟨%f4, %hf4, P4⟩, ⟨%f5, %hf5, P5⟩, ⟨%f6, %hf6, P6⟩, ⟨%f7, %hf7, P7⟩, ⟨%f8, %hf8, P8⟩, ⟨%f9, %hf9, P9⟩, ⟨%fA, %hfA, PA⟩, ⟨%fW, %hfW, PW⟩, Hk⟩
    obtain rfl := H0.eq_unread hf0; obtain rfl := H1.eq_unread hf1; obtain rfl := H2.eq_unread hf2; obtain rfl := H3.eq_unread hf3; obtain rfl := H4.eq_unread hf4; obtain rfl := H5.eq_unread hf5; obtain rfl := H6.eq_unread hf6; obtain rfl := H7.eq_unread hf7; obtain rfl := H8.eq_unread hf8; obtain rfl := H9.eq_unread hf9
    obtain rfl := actW.eq_unread hfA; obtain rfl := rawW.eq_unread hfW
    sl_exec
    sl_step
    iapply Hk
    isplitl [P0]
    · iexists _; isplitr; · ipureintro; exact H0.read_unread _
      iexact P0
    isplitl [P1]
    · iexists _; isplitr; · ipureintro; exact H1.read_unread _
      iexact P1
    isplitl [P2]
    · iexists _; isplitr; · ipureintro; exact H2.read_unread _
      iexact P2
    isplitl [P3]
    · iexists _; isplitr; · ipureintro; exact H3.read_unread _
      iexact P3
    isplitl [P4]
    · iexists _; isplitr; · ipureintro; exact H4.read_unread _
      iexact P4
    isplitl [P5]
    · iexists _; isplitr; · ipureintro; exact H5.read_unread _
      iexact P5
    isplitl [P6]
    · iexists _; isplitr; · ipureintro; exact H6.read_unread _
      iexact P6
    isplitl [P7]
    · iexists _; isplitr; · ipureintro; exact H7.read_unread _
      iexact P7
    isplitl [P8]
    · iexists _; isplitr; · ipureintro; exact H8.read_unread _
      iexact P8
    isplitl [P9]
    · iexists _; isplitr; swap
      · iexact P9
      ipureintro; rfl
    isplitl [PA]
    · iexists _; isplitr; swap
      · iexact PA
      ipureintro; rfl
    iexists _; isplitr; swap
    · iexact PW
    ipureintro; rfl

end Cert.Kernel4Ideal.Ffn

end
-- ==== Proof.FfnRunD.lean ====
/-
  The feed-forward body's run at a step of the second product.
-/
module

public import proofs.«01_k».proof.Proof.FfnSpec

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The run at a step of the second product. -/
def runD (c : Dev nD) (i : grid0.Coords) (h1 : ¬ C1 i) (h2 : ¬ k0_cond2 i = 1#1) (h3 : ¬ C3 i) (h4 : k0_cond4 i = 1#1) (h5 : ¬ k0_cond5 i = 1#1) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32) :
    Σ' (LA : List (View.Piece (Elt F) S1024x6144 .bf16)) (LW : List (View.Piece (Elt F) S2x1024x256 .f32)), { LO : List (View.Piece (Elt F) S1024x2048 .f32) //
      Spec c i M0 H0 M1 H1 M2 H2 M3 H3 M4 H4 M5 H5 M6 H6 M7 H7 M8 H8 M9 H9 x0 x1 x2 x3 x4 x5 x6 x7 x8 O A W LA LW LO } := by
  refine ⟨[], [], ?_, fun E K => ?run⟩
  case run =>
    simp only [cc0_ffn_eq_skeleton]; unfold cc0_ffn_skel
    unfold owns
    iintro ⟨⟨%f0, %hf0, P0⟩, ⟨%f1, %hf1, P1⟩, ⟨%f2, %hf2, P2⟩, ⟨%f3, %hf3, P3⟩, ⟨%f4, %hf4, P4⟩, ⟨%f5, %hf5, P5⟩, ⟨%f6, %hf6, P6⟩, ⟨%f7, %hf7, P7⟩, ⟨%f8, %hf8, P8⟩, ⟨%f9, %hf9, P9⟩, ⟨%fA, %hfA, PA⟩, ⟨%fW, %hfW, PW⟩, Hk⟩
    obtain rfl := H0.eq_unread hf0; obtain rfl := H1.eq_unread hf1; obtain rfl := H2.eq_unread hf2; obtain rfl := H3.eq_unread hf3; obtain rfl := H4.eq_unread hf4; obtain rfl := H5.eq_unread hf5; obtain rfl := H6.eq_unread hf6; obtain rfl := H7.eq_unread hf7; obtain rfl := H8.eq_unread hf8; obtain rfl := H9.eq_unread hf9
    obtain rfl := actW.eq_unread hfA; obtain rfl := rawW.eq_unread hfW
    sl_exec
    sl_step
    iapply Hk
    isplitl [P0]
    · iexists _; isplitr; · ipureintro; exact H0.read_unread _
      iexact P0
    isplitl [P1]
    · iexists _; isplitr; · ipureintro; exact H1.read_unread _
      iexact P1
    isplitl [P2]
    · iexists _; isplitr; · ipureintro; exact H2.read_unread _
      iexact P2
    isplitl [P3]
    · iexists _; isplitr; · ipureintro; exact H3.read_unread _
      iexact P3
    isplitl [P4]
    · iexists _; isplitr; · ipureintro; exact H4.read_unread _
      iexact P4
    isplitl [P5]
    · iexists _; isplitr; · ipureintro; exact H5.read_unread _
      iexact P5
    isplitl [P6]
    · iexists _; isplitr; · ipureintro; exact H6.read_unread _
      iexact P6
    isplitl [P7]
    · iexists _; isplitr; · ipureintro; exact H7.read_unread _
      iexact P7
    isplitl [P8]
    · iexists _; isplitr; · ipureintro; exact H8.read_unread _
      iexact P8
    isplitl [P9]
    · iexists _; isplitr; swap
      · iexact P9
      ipureintro; rfl
    isplitl [PA]
    · iexists _; isplitr; swap
      · iexact PA
      ipureintro; rfl
    iexists _; isplitr; swap
    · iexact PW
    ipureintro; rfl

end Cert.Kernel4Ideal.Ffn

end
-- ==== Proof.FfnRunE.lean ====
/-
  The feed-forward body's run at the last step.
-/
module

public import proofs.«01_k».proof.Proof.FfnSpec

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The run at the last step. -/
def runE (c : Dev nD) (i : grid0.Coords) (h1 : ¬ C1 i) (h2 : ¬ k0_cond2 i = 1#1) (h3 : ¬ C3 i) (h4 : k0_cond4 i = 1#1) (h5 : k0_cond5 i = 1#1) (h6 : k0_off12 i = ![0, 1792]) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32) :
    Σ' (LA : List (View.Piece (Elt F) S1024x6144 .bf16)) (LW : List (View.Piece (Elt F) S2x1024x256 .f32)), { LO : List (View.Piece (Elt F) S1024x2048 .f32) //
      Spec c i M0 H0 M1 H1 M2 H2 M3 H3 M4 H4 M5 H5 M6 H6 M7 H7 M8 H8 M9 H9 x0 x1 x2 x3 x4 x5 x6 x7 x8 O A W LA LW LO } := by
  refine ⟨[], [], ?_, fun E K => ?run⟩
  case run =>
    simp only [cc0_ffn_eq_skeleton]; unfold cc0_ffn_skel
    unfold owns
    iintro ⟨⟨%f0, %hf0, P0⟩, ⟨%f1, %hf1, P1⟩, ⟨%f2, %hf2, P2⟩, ⟨%f3, %hf3, P3⟩, ⟨%f4, %hf4, P4⟩, ⟨%f5, %hf5, P5⟩, ⟨%f6, %hf6, P6⟩, ⟨%f7, %hf7, P7⟩, ⟨%f8, %hf8, P8⟩, ⟨%f9, %hf9, P9⟩, ⟨%fA, %hfA, PA⟩, ⟨%fW, %hfW, PW⟩, Hk⟩
    obtain rfl := H0.eq_unread hf0; obtain rfl := H1.eq_unread hf1; obtain rfl := H2.eq_unread hf2; obtain rfl := H3.eq_unread hf3; obtain rfl := H4.eq_unread hf4; obtain rfl := H5.eq_unread hf5; obtain rfl := H6.eq_unread hf6; obtain rfl := H7.eq_unread hf7; obtain rfl := H8.eq_unread hf8; obtain rfl := H9.eq_unread hf9
    obtain rfl := actW.eq_unread hfA; obtain rfl := rawW.eq_unread hfW
    letI : ClosedOff (k0_off12 i) := ⟨![0, 1792], h6⟩
    sl_exec
    sl_step
    iapply Hk
    isplitl [P0]
    · iexists _; isplitr; · ipureintro; exact H0.read_unread _
      iexact P0
    isplitl [P1]
    · iexists _; isplitr; · ipureintro; exact H1.read_unread _
      iexact P1
    isplitl [P2]
    · iexists _; isplitr; · ipureintro; exact H2.read_unread _
      iexact P2
    isplitl [P3]
    · iexists _; isplitr; · ipureintro; exact H3.read_unread _
      iexact P3
    isplitl [P4]
    · iexists _; isplitr; · ipureintro; exact H4.read_unread _
      iexact P4
    isplitl [P5]
    · iexists _; isplitr; · ipureintro; exact H5.read_unread _
      iexact P5
    isplitl [P6]
    · iexists _; isplitr; · ipureintro; exact H6.read_unread _
      iexact P6
    isplitl [P7]
    · iexists _; isplitr; · ipureintro; exact H7.read_unread _
      iexact P7
    isplitl [P8]
    · iexists _; isplitr; · ipureintro; exact H8.read_unread _
      iexact P8
    isplitl [P9]
    · iexists _; isplitr; swap
      · iexact P9
      ipureintro; rfl
    isplitl [PA]
    · iexists _; isplitr; swap
      · iexact PA
      ipureintro; rfl
    iexists _; isplitr; swap
    · iexact PW
    ipureintro; rfl

end Cert.Kernel4Ideal.Ffn

end
-- ==== Proof.FfnBody.lean ====
/-
  The feed-forward kernel's frame and run. The windows' blocks are exact data; the result's window and the two scratch buffers
  are held to predicates (`R` of the result's buffer after a point, `Inv` of the scratch buffers before one), so that one
  launch serves both the frame, with predicates that hold of everything, and the value proof.
-/
module

public import proofs.«01_k».proof.Proof.FfnRunA
public import proofs.«01_k».proof.Proof.FfnRunB
public import proofs.«01_k».proof.Proof.FfnRunC
public import proofs.«01_k».proof.Proof.FfnRunD
public import proofs.«01_k».proof.Proof.FfnRunE
public import Idealize.ShloMosaic.Lib.Pipeline.DatRel

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions at a grid point -/

theorem crd1 : ∀ t : Fin cfg0.N, (grid0.coords t 1).val = t.val % 19 :=
  (by decide +kernel : ∀ t : Fin grid0.N, (grid0.coords t 1).val = t.val % 19)
theorem crd0 : ∀ t : Fin cfg0.N, (grid0.coords t 0).val = t.val / 19 :=
  (by decide +kernel : ∀ t : Fin grid0.N, (grid0.coords t 0).val = t.val / 19)

theorem c1_iff (i : grid0.Coords) : C1 i ↔ (i 1).val = 0 := by
  unfold C1; generalize hn : (i 1).val = n
  have h19 : n < 19 := hn ▸ (i 1).isLt
  clear hn
  revert n; decide +kernel
theorem c2_iff (i : grid0.Coords) : k0_cond2 i = 1#1 ↔ (i 1).val < 11 := by
  unfold k0_cond2; dsimp only; generalize hn : (i 1).val = n
  have h19 : n < 19 := hn ▸ (i 1).isLt
  clear hn
  revert n; decide +kernel
theorem c3_iff (i : grid0.Coords) : C3 i ↔ (i 1).val = 11 := by
  unfold C3; generalize hn : (i 1).val = n
  have h19 : n < 19 := hn ▸ (i 1).isLt
  clear hn
  revert n; decide +kernel
theorem c4_iff (i : grid0.Coords) : k0_cond4 i = 1#1 ↔ 11 ≤ (i 1).val := by
  unfold k0_cond4; dsimp only; generalize hn : (i 1).val = n
  have h19 : n < 19 := hn ▸ (i 1).isLt
  clear hn
  revert n; decide +kernel
theorem c5_iff (i : grid0.Coords) : k0_cond5 i = 1#1 ↔ (i 1).val = 18 := by
  unfold k0_cond5; dsimp only; generalize hn : (i 1).val = n
  have h19 : n < 19 := hn ▸ (i 1).isLt
  clear hn
  revert n; decide +kernel
theorem off1_eq (i : grid0.Coords) (h : 1 ≤ (i 1).val) : k0_off1 i = ![0, 512 * ((i 1).val - 1) + 256] := by
  unfold k0_off1; dsimp only; generalize hn : (i 1).val = n at h ⊢
  have h19 : n < 19 := hn ▸ (i 1).isLt
  clear hn
  revert h; revert h19; revert n; decide +kernel
theorem off2_eq (i : grid0.Coords) (h : 1 ≤ (i 1).val) : k0_off2 i = ![0, 512 * ((i 1).val - 1) + 256] := by
  unfold k0_off2; dsimp only; generalize hn : (i 1).val = n at h ⊢
  have h19 : n < 19 := hn ▸ (i 1).isLt
  clear hn
  revert h; revert h19; revert n; decide +kernel
theorem off3_eq (i : grid0.Coords) (h : 1 ≤ (i 1).val) : k0_off3 i = ![0, 5632 + (512 * ((i 1).val - 1) + 256)] := by
  unfold k0_off3; dsimp only; generalize hn : (i 1).val = n at h ⊢
  have h19 : n < 19 := hn ▸ (i 1).isLt
  clear hn
  revert h; revert h19; revert n; decide +kernel
theorem off4_eq (i : grid0.Coords) (h : 1 ≤ (i 1).val) : k0_off4 i = ![0, 5632 + (512 * ((i 1).val - 1) + 256)] := by
  unfold k0_off4; dsimp only; generalize hn : (i 1).val = n at h ⊢
  have h19 : n < 19 := hn ▸ (i 1).isLt
  clear hn
  revert h; revert h19; revert n; decide +kernel
theorem off5_eq (i : grid0.Coords) : k0_off5 i = ![0, 512 * (i 1).val + 256] := by
  unfold k0_off5; dsimp only; generalize hn : (i 1).val = n
  have h19 : n < 19 := hn ▸ (i 1).isLt
  clear hn
  revert h19; revert n; decide +kernel
theorem off6_eq (i : grid0.Coords) : k0_off6 i = ![0, 512 * (i 1).val] := by
  unfold k0_off6; dsimp only; generalize hn : (i 1).val = n
  have h19 : n < 19 := hn ▸ (i 1).isLt
  clear hn
  revert h19; revert n; decide +kernel
theorem off7_eq (i : grid0.Coords) : k0_off7 i = ![0, 512 * (i 1).val] := by
  unfold k0_off7; dsimp only; generalize hn : (i 1).val = n
  have h19 : n < 19 := hn ▸ (i 1).isLt
  clear hn
  revert h19; revert n; decide +kernel
theorem off8_eq (i : grid0.Coords) : k0_off8 i = ![0, 5632 + 512 * (i 1).val] := by
  unfold k0_off8; dsimp only; generalize hn : (i 1).val = n
  have h19 : n < 19 := hn ▸ (i 1).isLt
  clear hn
  revert h19; revert n; decide +kernel
theorem off9_eq (i : grid0.Coords) : k0_off9 i = ![0, 5632 + 512 * (i 1).val] := by
  unfold k0_off9; dsimp only; generalize hn : (i 1).val = n
  have h19 : n < 19 := hn ▸ (i 1).isLt
  clear hn
  revert h19; revert n; decide +kernel
theorem off10_eq (i : grid0.Coords) : k0_off10 i = ![0, 512 + 512 * (i 1).val] := by
  unfold k0_off10; dsimp only; generalize hn : (i 1).val = n
  have h19 : n < 19 := hn ▸ (i 1).isLt
  clear hn
  revert h19; revert n; decide +kernel
theorem off11_eq (i : grid0.Coords) (h : 11 ≤ (i 1).val) : k0_off11 i = ![0, 5, 256 * ((i 1).val - 11)] := by
  unfold k0_off11; dsimp only; generalize hn : (i 1).val = n at h ⊢
  have h19 : n < 19 := hn ▸ (i 1).isLt
  clear hn
  revert h; revert h19; revert n; decide +kernel
theorem off12_eq (i : grid0.Coords) (h : 11 ≤ (i 1).val) : k0_off12 i = ![0, 256 * ((i 1).val - 11)] := by
  unfold k0_off12; dsimp only; generalize hn : (i 1).val = n at h ⊢
  have h19 : n < 19 := hn ▸ (i 1).isLt
  clear hn
  revert h; revert h19; revert n; decide +kernel

/-! ## One point -/

/-- The body at point `t` leaves, from scratch contents `A`, `W` and result contents `O`, contents of which `Q` holds. -/
def Ok (c : Dev nD) (t : Fin cfg0.N) (O : Vec F S1024x2048 .f32) (A : Vec F S1024x6144 .bf16) (W : Vec F S2x1024x256 .f32)
    (Q : Vec F S1024x2048 .f32 → Vec F S1024x6144 .bf16 → Vec F S2x1024x256 .f32 → Prop) : Prop :=
  ∃ LA LW LO, Spec c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (iblk m c 0 t) (iblk m c 1 t) (iblk m c 2 t) (iblk m c 3 t) (iblk m c 4 t) (iblk m c 5 t) (iblk m c 6 t) (iblk m c 7 t) (iblk m c 8 t) O A W LA LW LO
    ∧ Q ((st0_9 t).view.read (Elt F) ((st0_9 t).view.writes (Elt F) ((hstage0_9 ((cfg0.slots t 9).cast nbuf0_9)).unread O) LO))
        (actM.view.read (Elt F) (actM.view.writes (Elt F) (actW.unread A) LA))
        (rawM.view.read (Elt F) (rawM.view.writes (Elt F) (rawW.unread W) LW))

/-- What the body needs of `Inv` and `R` at every point. -/
def Steps (Inv : Dev nD → ℕ → Vec F S1024x6144 .bf16 → Vec F S2x1024x256 .f32 → Prop) (R : Dev nD → ℕ → Vec F S1024x2048 .f32 → Prop) : Prop :=
  ∀ (c : Dev nD) (t : Fin cfg0.N) O A W, Inv c t.val A W → (t.val % 19 ≠ 0 → R c (t.val - 1) O) →
    Ok m c t O A W fun O' A' W' => R c t.val O' ∧ Inv c (t.val + 1) A' W'

variable (Inv : Dev nD → ℕ → Vec F S1024x6144 .bf16 → Vec F S2x1024x256 .f32 → Prop) (R : Dev nD → ℕ → Vec F S1024x2048 .f32 → Prop)

/-- The scratch buffers held to `Inv`, and the generator register. -/
def Phi (c : Dev nD) (n : ℕ) : sProp 𝕄 :=
  iprop(∃ A W, ⌜Inv c n A W⌝ ∗ owns (c : Thread nD τ) actM fullShare A ∗ owns (c : Thread nD τ) rawM fullShare W ∗ ∃ r, prngReg c r)

/-- The exact data: every input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Dat.unnamed (cfg := cfg0) 9 t
  Φ t := Phi Inv c t.val
  q w := Pipeline.shareOf spec0 w
  owed _ := 0

theorem A_eq (c : Dev nD) (w : Fin cfg0.W) : (dats m Inv 0 c).A w = V m c (Pipeline.arrRef spec0 w) := by
  dsimp only [dats]

theorem after0_0 (c : Dev nD) (t : Fin cfg0.N) : (dats m Inv 0 c).after 0 t = iblk m c 0 t := by dsimp only [dats]
theorem before0_0 (c : Dev nD) (t : Fin cfg0.N) (d) : (dats m Inv 0 c).before 0 t d = iblk m c 0 t :=
  before0_0_of m (dats m Inv 0 c) (A_eq m Inv c 0) (after0_0 m Inv c) t d
theorem after0_1 (c : Dev nD) (t : Fin cfg0.N) : (dats m Inv 0 c).after 1 t = iblk m c 1 t := by dsimp only [dats]
theorem before0_1 (c : Dev nD) (t : Fin cfg0.N) (d) : (dats m Inv 0 c).before 1 t d = iblk m c 1 t :=
  before0_1_of m (dats m Inv 0 c) (A_eq m Inv c 1) (after0_1 m Inv c) t d
theorem after0_2 (c : Dev nD) (t : Fin cfg0.N) : (dats m Inv 0 c).after 2 t = iblk m c 2 t := by dsimp only [dats]
theorem before0_2 (c : Dev nD) (t : Fin cfg0.N) (d) : (dats m Inv 0 c).before 2 t d = iblk m c 2 t :=
  before0_2_of m (dats m Inv 0 c) (A_eq m Inv c 2) (after0_2 m Inv c) t d
theorem after0_3 (c : Dev nD) (t : Fin cfg0.N) : (dats m Inv 0 c).after 3 t = iblk m c 3 t := by dsimp only [dats]
theorem before0_3 (c : Dev nD) (t : Fin cfg0.N) (d) : (dats m Inv 0 c).before 3 t d = iblk m c 3 t :=
  before0_3_of m (dats m Inv 0 c) (A_eq m Inv c 3) (after0_3 m Inv c) t d
theorem after0_4 (c : Dev nD) (t : Fin cfg0.N) : (dats m Inv 0 c).after 4 t = iblk m c 4 t := by dsimp only [dats]
theorem before0_4 (c : Dev nD) (t : Fin cfg0.N) (d) : (dats m Inv 0 c).before 4 t d = iblk m c 4 t :=
  before0_4_of m (dats m Inv 0 c) (A_eq m Inv c 4) (after0_4 m Inv c) t d
theorem after0_5 (c : Dev nD) (t : Fin cfg0.N) : (dats m Inv 0 c).after 5 t = iblk m c 5 t := by dsimp only [dats]
theorem before0_5 (c : Dev nD) (t : Fin cfg0.N) (d) : (dats m Inv 0 c).before 5 t d = iblk m c 5 t :=
  before0_5_of m (dats m Inv 0 c) (A_eq m Inv c 5) (after0_5 m Inv c) t d
theorem after0_6 (c : Dev nD) (t : Fin cfg0.N) : (dats m Inv 0 c).after 6 t = iblk m c 6 t := by dsimp only [dats]
theorem before0_6 (c : Dev nD) (t : Fin cfg0.N) (d) : (dats m Inv 0 c).before 6 t d = iblk m c 6 t :=
  before0_6_of m (dats m Inv 0 c) (A_eq m Inv c 6) (after0_6 m Inv c) t d
theorem after0_7 (c : Dev nD) (t : Fin cfg0.N) : (dats m Inv 0 c).after 7 t = iblk m c 7 t := by dsimp only [dats]
theorem before0_7 (c : Dev nD) (t : Fin cfg0.N) (d) : (dats m Inv 0 c).before 7 t d = iblk m c 7 t :=
  before0_7_of m (dats m Inv 0 c) (A_eq m Inv c 7) (after0_7 m Inv c) t d
theorem after0_8 (c : Dev nD) (t : Fin cfg0.N) : (dats m Inv 0 c).after 8 t = iblk m c 8 t := by dsimp only [dats]
theorem before0_8 (c : Dev nD) (t : Fin cfg0.N) (d) : (dats m Inv 0 c).before 8 t d = iblk m c 8 t :=
  before0_8_of m (dats m Inv 0 c) (A_eq m Inv c 8) (after0_8 m Inv c) t d

/-- The window whose contents are held to a predicate: the result's. -/
def fgt (w : Fin cfg0.W) : Bool := match w with | ⟨9, _⟩ => true | _ => false

/-- The predicate of the marked window's contents after a point. -/
def Rl (c : Dev nD) (w : Fin cfg0.W) (t : Fin cfg0.N) (X : (cfg0.win w).block.Idx → Elt F (cfg0.win w).elt) : Prop :=
  match w, X with | ⟨9, _⟩, X => R c t.val X | _, _ => True

/-- What is known of the result's buffer at a point's start. -/
theorem prev (c : Dev nD) (t : Fin cfg0.N) (O : Vec F S1024x2048 .f32)
    (h : ((dats m Inv 0 c).toRRel fgt (Rl R c)).Finds 9 t O) : t.val % 19 ≠ 0 → R c (t.val - 1) O := by
  intro h0
  have ht : t.val ≠ 0 := by intro e; rw [e] at h0; exact h0 rfl
  rcases ((RDat.finds_of_pos _ (w := 9) (show (cfg0.win 9).fetch t = false from rfl) ht O).mp h) with hf | hl
  · exfalso
    have := (flush0_9 ⟨t.val - 1, Nat.lt_of_le_of_lt (Nat.sub_le _ _) t.isLt⟩).mp hf
    dsimp only at this; omega
  · exact Dat.toRRel_leaves (dats m Inv 0 c) (fgt := fgt) (Rl := Rl R c) (w := 9) rfl hl

def bodyPre (c : Dev nD) (t : Fin cfg0.N) : sProp 𝕄 :=
  iprop((dats m Inv 0 c).Φ t.castSucc ∗ (dats m Inv 0 c).owesAt () t.castSucc
    ∗ (∃ d, owns (c : Thread nD τ) (st0_0 t) fullShare ((dats m Inv 0 c).before 0 t d))
    ∗ (∃ d, owns (c : Thread nD τ) (st0_1 t) fullShare ((dats m Inv 0 c).before 1 t d))
    ∗ (∃ d, owns (c : Thread nD τ) (st0_2 t) fullShare ((dats m Inv 0 c).before 2 t d))
    ∗ (∃ d, owns (c : Thread nD τ) (st0_3 t) fullShare ((dats m Inv 0 c).before 3 t d))
    ∗ (∃ d, owns (c : Thread nD τ) (st0_4 t) fullShare ((dats m Inv 0 c).before 4 t d))
    ∗ (∃ d, owns (c : Thread nD τ) (st0_5 t) fullShare ((dats m Inv 0 c).before 5 t d))
    ∗ (∃ d, owns (c : Thread nD τ) (st0_6 t) fullShare ((dats m Inv 0 c).before 6 t d))
    ∗ (∃ d, owns (c : Thread nD τ) (st0_7 t) fullShare ((dats m Inv 0 c).before 7 t d))
    ∗ (∃ d, owns (c : Thread nD τ) (st0_8 t) fullShare ((dats m Inv 0 c).before 8 t d))
    ∗ (∃ Y, ⌜((dats m Inv 0 c).toRRel fgt (Rl R c)).Finds 9 t Y⌝ ∗ owns (c : Thread nD τ) (st0_9 t) fullShare Y))

def bodyPost (c : Dev nD) (t : Fin cfg0.N) : sProp 𝕄 :=
  iprop((dats m Inv 0 c).Φ t.succ ∗ (dats m Inv 0 c).owesAt () t.succ
    ∗ owns (c : Thread nD τ) (st0_0 t) fullShare ((dats m Inv 0 c).after 0 t)
    ∗ owns (c : Thread nD τ) (st0_1 t) fullShare ((dats m Inv 0 c).after 1 t)
    ∗ owns (c : Thread nD τ) (st0_2 t) fullShare ((dats m Inv 0 c).after 2 t)
    ∗ owns (c : Thread nD τ) (st0_3 t) fullShare ((dats m Inv 0 c).after 3 t)
    ∗ owns (c : Thread nD τ) (st0_4 t) fullShare ((dats m Inv 0 c).after 4 t)
    ∗ owns (c : Thread nD τ) (st0_5 t) fullShare ((dats m Inv 0 c).after 5 t)
    ∗ owns (c : Thread nD τ) (st0_6 t) fullShare ((dats m Inv 0 c).after 6 t)
    ∗ owns (c : Thread nD τ) (st0_7 t) fullShare ((dats m Inv 0 c).after 7 t)
    ∗ owns (c : Thread nD τ) (st0_8 t) fullShare ((dats m Inv 0 c).after 8 t)
    ∗ (∃ X, ⌜Rl R c 9 t X⌝ ∗ owns (c : Thread nD τ) (st0_9 t) fullShare X))

set_option maxHeartbeats 1200000 in
/-- The body at any point, from `Steps`. -/
theorem sound_body (hs : Steps m Inv R) (c : Dev nD) (t : Fin cfg0.N) :
    bodyPre m Inv R c t ⊢ wp frame (wpE (defs₀ (F := F)) Variants.none c none) Set.univ (bodyAt0 t) (fun _ => bodyPost m Inv R c t) := by
  unfold bodyPre bodyPost bodyAt0
  simp only [before0_0, before0_1, before0_2, before0_3, before0_4, before0_5, before0_6, before0_7, before0_8]
  rw [show (dats m Inv 0 c).Φ t.succ = Phi Inv c (t.val + 1) from rfl, show (dats m Inv 0 c).Φ t.castSucc = Phi Inv c t.val from rfl,
    show (dats m Inv 0 c).owesAt () t.succ = (dats m Inv 0 c).owesAt () t.castSucc from rfl,
    after0_0, after0_1, after0_2, after0_3, after0_4, after0_5, after0_6, after0_7, after0_8]
  unfold Phi
  iintro ⟨⟨%A, %W, %hI, HA, HW, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%O, %hO, H9⟩⟩
  obtain ⟨LA, LW, LO, hS, hR, hI'⟩ := hs c t O A W hI (prev m Inv R c t O hO)
  iapply (hS Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HA]; · iexact HA
  isplitl [HW]; · iexact HW
  iintro ⟨H0, H1, H2, H3, H4, H5, H6, H7, H8, H9, HA, HW⟩
  isplitl [HA HW Hg]
  · iexists _; iexists _; isplitr; · ipureintro; exact hI'
    isplitl [HA]; · iexact HA
    isplitl [HW]; · iexact HW
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; isplitr; · ipureintro; exact hR
  iexact H9

theorem defs₀_row (t : Fin cfg0.N) :
    defs₀ (F := F) .tc cfg0.body (cfg0.bodyArgs t (cfg0.slots t)) = bodyAt0 t := by
  unfold defs₀; rw [Defs.onTc_tc]

/-- The body obligation. -/
theorem body_obligation (hs : Steps m Inv R) (c : Dev nD) :
    Pipeline.BodyObligationRel (dats (F := F) m Inv 0 c) (defs₀ (F := F)) Variants.none () Set.univ fgt (Rl R c) := fun t => by
  rw [bigSep_W0, bigSep_W0, defs₀_row]
  exact triple_restated (sound_body m Inv R hs c t) rfl .rfl fun _ => .rfl

/-- The launch's own invariant is `Phi` at contents of which nothing is asked. -/
theorem phi_in (h0 : ∀ c A W, Inv c 0 A W) (c : Dev nD) : (Pipeline.ΦA spec0 c : sProp 𝕄) ⊢ Phi Inv c 0 := by
  unfold Pipeline.ΦA Phi
  rw [scopedRest0_eq]
  iintro ⟨⟨⟨%f, HA⟩, ⟨%g, HW⟩⟩, Hg⟩
  iexists (actM.view.read (Elt F) f); iexists (rawM.view.read (Elt F) g)
  isplitr; · ipureintro; exact h0 c _ _
  isplitl [HA]
  · rw [owns_whole]; iexact HA
  isplitl [HW]
  · rw [owns_whole]; iexact HW
  iexact Hg

theorem phi_out (c : Dev nD) (n : ℕ) : (Phi Inv c n : sProp 𝕄) ⊢ Pipeline.ΦA spec0 c := by
  unfold Pipeline.ΦA Phi
  rw [scopedRest0_eq]
  simp only [owns_whole]
  iintro ⟨%A, %W, -, HA, HW, Hg⟩
  isplitl [HA HW]
  · isplitl [HA]
    · iexists _; iexact HA
    iexists _; iexact HW
  iexact Hg

set_option backward.isDefEq.respectTransparency.types false in
/-- The launch: every execution ends, with the arrays as the relational data say and the counters at zero. -/
theorem run_main (hs : Steps m Inv R) (h0 : ∀ c A W, Inv c 0 A W) :
    θ_run defs (onTc (τ := τ) (main (F := F))) (s₀ m ρ)
      (fun r => Pipeline.RDat.FramePost cfg0 (fun c => (dats m Inv 0 c).toRRel fgt (Rl R c)) (V m) r ∧ r.2.sem = fun _ => 0) :=
  Pipeline.RDat.θ_run_frame_track_shared (Q' := _) cfgs (0 : Fin 1) launch₀0 defs₀ Variants.none
    (fun c => (dats m Inv 0 c).toRRel fgt (Rl R c)) m ρ main
    (hbody := fun c => (body_obligation m Inv R hs c).toRRel) (hq := fun _ _ _ => rfl) (howed := fun _ _ => rfl)
    (V := V m) (hmain := hmain m Variants.none) (hA := A_eq m Inv) (hin := phi_in Inv h0) (hout := fun c => phi_out Inv c _)

/-- The arguments end unchanged. -/
theorem args_of (r : PUnit × MemSt nD τ sig (Elt F))
    (h : Pipeline.RDat.FramePost cfg0 (fun c => (dats m Inv 0 c).toRRel fgt (Rl R c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   (Pipeline.RDat.FramePost.arr_in h c 3 rfl).trans ((A_eq m Inv c 3).trans (V_main_arg4 m c)),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c)⟩

/-! ## The frame -/

/-- The five kinds of points are all there are, so the predicates that hold of everything need nothing. -/
theorem steps_true : Steps m (fun _ _ _ _ => True) (fun _ _ _ => True) := by
  intro c t O A W _ _
  have e := crd1 t
  have h19 : t.val % 19 < 19 := Nat.mod_lt _ (by decide)
  by_cases e0 : t.val % 19 = 0
  · exact ⟨_, _, _, (runA c (grid0.coords t) (by rw [c1_iff, e]; omega) (by rw [c2_iff, e]; omega) (by rw [c3_iff, e]; omega) (by rw [c4_iff, e]; omega) (by rw [c5_iff, e]; omega) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (iblk m c 0 t) (iblk m c 1 t) (iblk m c 2 t) (iblk m c 3 t) (iblk m c 4 t) (iblk m c 5 t) (iblk m c 6 t) (iblk m c 7 t) (iblk m c 8 t) O A W).2.2.2, trivial, trivial⟩
  by_cases e1 : t.val % 19 < 11
  · exact ⟨_, _, _, (runB c (grid0.coords t) (by rw [c1_iff, e]; omega) (by rw [c2_iff, e]; omega) (by rw [c3_iff, e]; omega) (by rw [c4_iff, e]; omega) (by rw [c5_iff, e]; omega) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (iblk m c 0 t) (iblk m c 1 t) (iblk m c 2 t) (iblk m c 3 t) (iblk m c 4 t) (iblk m c 5 t) (iblk m c 6 t) (iblk m c 7 t) (iblk m c 8 t) O A W).2.2.2, trivial, trivial⟩
  by_cases e2 : t.val % 19 = 11
  · exact ⟨_, _, _, (runC c (grid0.coords t) (by rw [c1_iff, e]; omega) (by rw [c2_iff, e]; omega) (by rw [c3_iff, e]; omega) (by rw [c4_iff, e]; omega) (by rw [c5_iff, e]; omega) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (iblk m c 0 t) (iblk m c 1 t) (iblk m c 2 t) (iblk m c 3 t) (iblk m c 4 t) (iblk m c 5 t) (iblk m c 6 t) (iblk m c 7 t) (iblk m c 8 t) O A W).2.2.2, trivial, trivial⟩
  by_cases e3 : t.val % 19 = 18
  · exact ⟨_, _, _, (runE c (grid0.coords t) (by rw [c1_iff, e]; omega) (by rw [c2_iff, e]; omega) (by rw [c3_iff, e]; omega) (by rw [c4_iff, e]; omega) (by rw [c5_iff, e]; omega) (by rw [off12_eq _ (by rw [e]; omega), e, e3]) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (iblk m c 0 t) (iblk m c 1 t) (iblk m c 2 t) (iblk m c 3 t) (iblk m c 4 t) (iblk m c 5 t) (iblk m c 6 t) (iblk m c 7 t) (iblk m c 8 t) O A W).2.2.2, trivial, trivial⟩
  exact ⟨_, _, _, (runD c (grid0.coords t) (by rw [c1_iff, e]; omega) (by rw [c2_iff, e]; omega) (by rw [c3_iff, e]; omega) (by rw [c4_iff, e]; omega) (by rw [c5_iff, e]; omega) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (iblk m c 0 t) (iblk m c 1 t) (iblk m c 2 t) (iblk m c 3 t) (iblk m c 4 t) (iblk m c 5 t) (iblk m c 6 t) (iblk m c 7 t) (iblk m c 8 t) O A W).2.2.2, trivial, trivial⟩

/-- At any values, from any memory with zero counters: every weakly fair execution of @main terminates, the arguments
    unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c => args_of m _ _ r h.1 c, h.2⟩)
    (run_main m ρ (fun _ _ _ _ => True) (fun _ _ _ => True) (steps_true m) (fun _ _ _ => trivial))

end Cert.Kernel4Ideal.Ffn

end
-- ==== Proof.FfnTiles.lean ====
/-
  The values of the feed-forward kernel, tile by tile, as functions of the whole arrays.
-/
module

public import proofs.«01_k».proof.Proof.FfnBody
public import Idealize.ShloMosaic.Lib.Pipeline.ValueKit
public import Idealize.ShloMosaic.Lib.WritesUnit
public import Idealize.ShloMosaic.Lib.VecWindow

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]

local notation "𝕄" => MT nD τ sig Unit (Elt F) ℕ (UR sig nD τ) ℕ

/-! ## Rectangles of a matrix -/

/-- The `r × c` rectangle of a matrix at row `ro` and column `co`. -/
def sub2 {R C r c : ℕ} [NeZero R] [NeZero C] {e : EltTy} (a : Vec F (⟨2, ![R, C]⟩ : Shape) e) (ro co : ℕ) : Vec F (⟨2, ![r, c]⟩ : Shape) e :=
  fun y => a (ix2 (Fin.ofNat R (ro + (y 0).val)) (Fin.ofNat C (co + (y 1).val)))

/-- A load of a rectangle. -/
theorem ld_sub2 {R C r c : ℕ} [NeZero R] [NeZero C] {e : EltTy} (a : Vec F (⟨2, ![R, C]⟩ : Shape) e) {off : Fin 2 → ℕ} {ro co : ℕ}
    (h : off = ![ro, co]) (inb : ∀ d, off d + (![r, c] : Fin 2 → ℕ) d ≤ (![R, C] : Fin 2 → ℕ) d) :
    (View.ld (S := ⟨2, ![R, C]⟩) a (Rect.unit (s := ⟨2, ![R, C]⟩) off ![r, c] inb) : Vec F (⟨2, ![r, c]⟩ : Shape) e) = sub2 a ro co := by
  subst h
  funext y
  refine congrArg a (funext fun d => ?_)
  have h0 : ro + r ≤ R := inb 0
  have h1 : co + c ≤ C := inb 1
  have y0 : (y 0).val < r := (y 0).isLt
  have y1 : (y 1).val < c := (y 1).isLt
  match d with
  | ⟨0, _⟩ => exact Fin.ext (by show ro + 1 * (y 0).val = (ro + (y 0).val) % R; rw [Nat.mod_eq_of_lt (by omega), Nat.one_mul])
  | ⟨1, _⟩ => exact Fin.ext (by show co + 1 * (y 1).val = (co + (y 1).val) % C; rw [Nat.mod_eq_of_lt (by omega), Nat.one_mul])

/-- A rectangle of a rectangle. -/
theorem sub2_sub2 {R C R' C' r c : ℕ} [NeZero R] [NeZero C] [NeZero R'] [NeZero C'] {e : EltTy} (a : Vec F (⟨2, ![R, C]⟩ : Shape) e)
    (ro co ro' co' : ℕ) (h0 : ro' + r ≤ R') (h1 : co' + c ≤ C') :
    (sub2 (sub2 a ro co : Vec F (⟨2, ![R', C']⟩ : Shape) e) ro' co' : Vec F (⟨2, ![r, c]⟩ : Shape) e) = sub2 a (ro + ro') (co + co') := by
  funext y
  have y0 : (y 0).val < r := (y 0).isLt
  have y1 : (y 1).val < c := (y 1).isLt
  refine congrArg a (funext fun d => ?_)
  match d with
  | ⟨0, _⟩ => exact Fin.ext (by show (ro + (ro' + (y 0).val) % R') % R = (ro + ro' + (y 0).val) % R; rw [Nat.mod_eq_of_lt (a := ro' + _) (by omega), Nat.add_assoc])
  | ⟨1, _⟩ => exact Fin.ext (by show (co + (co' + (y 1).val) % C') % C = (co + co' + (y 1).val) % C; rw [Nat.mod_eq_of_lt (a := co' + _) (by omega), Nat.add_assoc])

/-- The matrix itself as a rectangle. -/
theorem sub2_self {R C : ℕ} [NeZero R] [NeZero C] {e : EltTy} (a : Vec F (⟨2, ![R, C]⟩ : Shape) e) : sub2 a 0 0 = a := by
  funext y
  refine congrArg a (funext fun d => ?_)
  match d with
  | ⟨0, _⟩ => exact Fin.ext (by show (0 + (y 0).val) % R = _; rw [Nat.zero_add]; exact Nat.mod_eq_of_lt (y 0).isLt)
  | ⟨1, _⟩ => exact Fin.ext (by show (0 + (y 1).val) % C = _; rw [Nat.zero_add]; exact Nat.mod_eq_of_lt (y 1).isLt)

/-- Column tiles of 256 side by side. -/
def join {R C : ℕ} {e : EltTy} (g : ℕ → Vec F (⟨2, ![R, 256]⟩ : Shape) e) : Vec F (⟨2, ![R, C]⟩ : Shape) e :=
  fun y => g ((y 1).val / 256) (ix2 (y 0) ⟨(y 1).val % 256, Nat.mod_lt _ (by norm_num)⟩)

/-- A matrix whose column tiles are known. -/
theorem eq_join {R C : ℕ} [NeZero R] [NeZero C] {e : EltTy} (a : Vec F (⟨2, ![R, C]⟩ : Shape) e) (g : ℕ → Vec F (⟨2, ![R, 256]⟩ : Shape) e)
    (h : ∀ n, 256 * n < C → sub2 a 0 (256 * n) = g n) : a = join g := by
  funext y
  have y0 : (y 0).val < R := (y 0).isLt
  have y1 : (y 1).val < C := (y 1).isLt
  unfold join
  rw [← h _ (by omega)]
  refine congrArg a (funext fun d => ?_)
  match d with
  | ⟨0, _⟩ => exact Fin.ext (by show (y 0).val = (0 + (y 0).val) % R; rw [Nat.zero_add, Nat.mod_eq_of_lt y0])
  | ⟨1, _⟩ => exact Fin.ext (by
      show (y 1).val = (256 * ((y 1).val / 256) + (y 1).val % 256) % C
      rw [Nat.mod_eq_of_lt (by omega)]; omega)

/-- The column tile the newest store wrote. -/
theorem sub2_writes_hit {sp : Space} {R C r c : ℕ} [NeZero R] [NeZero C] {e : EltTy} (v : View sig .tc sp (⟨2, ![R, C]⟩ : Shape) e)
    (f : v.ty.Contents (Elt F)) {off : Fin 2 → ℕ} {co : ℕ} (h : off = ![0, co])
    (inb : ∀ d, off d + (![r, c] : Fin 2 → ℕ) d ≤ (![R, C] : Fin 2 → ℕ) d) (w : Vec F (⟨2, ![r, c]⟩ : Shape) e) (L : List (View.Piece (Elt F) (⟨2, ![R, C]⟩ : Shape) e)) :
    (sub2 (v.read (Elt F) (v.writes (Elt F) f ((⟨Rect.unit (s := ⟨2, ![R, C]⟩) off ![r, c] inb, w⟩ : View.Piece (Elt F) (⟨2, ![R, C]⟩ : Shape) e) :: L))) 0 co : Vec F (⟨2, ![r, c]⟩ : Shape) e) = w := by
  subst h
  have h0 : 0 + r ≤ R := inb 0
  have h1 : co + c ≤ C := inb 1
  funext y
  have y0 : (y 0).val < r := (y 0).isLt
  have y1 : (y 1).val < c := (y 1).isLt
  refine View.read_writes_cons_unit_of_mem (s := ⟨2, ![R, C]⟩) v f inb w L _ y rfl fun d => ?_
  match d with
  | ⟨0, _⟩ => show (0 + (y 0).val) % R = 0 + (y 0).val; exact Nat.mod_eq_of_lt (by omega)
  | ⟨1, _⟩ => show (co + (y 1).val) % C = co + (y 1).val; exact Nat.mod_eq_of_lt (by omega)

/-- A column tile the newest store did not touch. -/
theorem sub2_writes_miss {sp : Space} {R C r c c' : ℕ} [NeZero R] [NeZero C] {e : EltTy} (v : View sig .tc sp (⟨2, ![R, C]⟩ : Shape) e)
    (f : v.ty.Contents (Elt F)) {off : Fin 2 → ℕ} {co co' : ℕ} (h : off = ![0, co])
    (inb : ∀ d, off d + (![r, c] : Fin 2 → ℕ) d ≤ (![R, C] : Fin 2 → ℕ) d) (w : Vec F (⟨2, ![r, c]⟩ : Shape) e) (L : List (View.Piece (Elt F) (⟨2, ![R, C]⟩ : Shape) e))
    (hd : co' + c' ≤ co ∨ co + c ≤ co') (hC : co' + c' ≤ C) :
    (sub2 (v.read (Elt F) (v.writes (Elt F) f ((⟨Rect.unit (s := ⟨2, ![R, C]⟩) off ![r, c] inb, w⟩ : View.Piece (Elt F) (⟨2, ![R, C]⟩ : Shape) e) :: L))) 0 co' : Vec F (⟨2, ![r, c']⟩ : Shape) e)
      = sub2 (v.read (Elt F) (v.writes (Elt F) f L)) 0 co' := by
  subst h
  funext y
  have y1 : (y 1).val < c' := (y 1).isLt
  refine View.read_writes_cons_unit_of_not_mem (s := ⟨2, ![R, C]⟩) v f inb w L _ rfl 1 ?_
  show (co' + (y 1).val) % C < co ∨ co + c ≤ (co' + (y 1).val) % C
  rw [Nat.mod_eq_of_lt (by omega)]
  omega

/-! ## The mathematics of one tile -/

/-- The raw activations of a column tile: the rows times the tile's weights. -/
def raw (x : Vec F S1024x2048 .bf16) (w : Vec F S2048x256 .bf16) : FVec F S1024x256 .f32 := k0_pay20 (k0_pay10 x) w

/-- A tile of the gated activations from its two raw tiles and its convolution weights. -/
def gtile (a b : FVec F S1024x256 .f32) (cA cB : Vec F S3x256 .f32) (dA dB : Vec F S1x256 .f32) : FVec F S1024x256 .bf16 :=
  k0_pay23 k0_pay2 k0_pay3 b (k0_pay22 k0_pay2 k0_pay3 a cA dA) cB dB

/-- A slab of the raw buffer. -/
def slab (h : Fin 2) (W : Vec F S2x1024x256 .f32) : FVec F S1024x256 .f32 := fun y => W (ix3 h (y 0) (y 1))

/-- A loaded slab without its leading axis. -/
theorem pay13_slab (W : Vec F S2x1024x256 .f32) (h : Fin 2) {off : Fin 3 → ℕ} (e : off = ![h.val, 0, 0]) (inb) :
    k0_pay13 (View.ld (S := S2x1024x256) W (Rect.unit (s := S2x1024x256) off ![1, 1024, 256] inb) : Vec F S1x1024x256 .f32) = slab h W := by
  subst e
  funext y
  idx_vars y
  unfold slab
  pointwise [k0_pay13]

/-- The odd tile of a step that stores two tiles. -/
theorem odd_tile (w0 w1 : Vec F S1x1024x256 .f32) (cA cB : Vec F S3x256 .f32) (dA dB : Vec F S1x256 .f32) :
    k0_pay19 (k0_pay18 k0_pay2 k0_pay3 (k0_pay14 w1) (k0_pay15 k0_pay3 w0) (k0_pay16 k0_pay2 w0 cA) (k0_pay17 cA) dA cB dB)
      = gtile (k0_pay13 w0) (k0_pay13 w1) cA cB dA dB := rfl

/-- The last tile. -/
theorem last_tile (w0 w1 : Vec F S1x1024x256 .f32) (cA cB : Vec F S3x256 .f32) (dA dB : Vec F S1x256 .f32) :
    k0_pay7 (k0_pay24 w1) (k0_pay25 k0_pay2 k0_pay3 w0 cA dA) cB (k0_pay26 k0_pay2 w1) (k0_pay27 w1) (k0_pay28 k0_pay3) k0_pay29 dB
      = gtile (k0_pay13 w0) (k0_pay13 w1) cA cB dA dB := rfl

/-- A slab just stored. -/
theorem slab_hit (f : rawM.view.ty.Contents (Elt F)) (h : Fin 2) {off : Fin 3 → ℕ} (e : off = ![h.val, 0, 0]) (inb)
    (w : FVec F S1x1024x256 .f32) (L : List (View.Piece (Elt F) S2x1024x256 .f32)) :
    slab h (rawM.view.read (Elt F) (rawM.view.writes (Elt F) f ((⟨Rect.unit (s := S2x1024x256) off ![1, 1024, 256] inb, w⟩ : View.Piece (Elt F) S2x1024x256 .f32) :: L)))
      = fun y => w (ix3 0 (y 0) (y 1)) := by
  funext y
  unfold slab
  refine View.read_writes_cons_unit_of_mem (s := S2x1024x256) rawM.view f inb w L _ (ix3 0 (y 0) (y 1)) e fun d => ?_
  match d with
  | ⟨0, _⟩ => show h.val = h.val + 0; omega
  | ⟨1, _⟩ => show (y 0).val = 0 + (y 0).val; omega
  | ⟨2, _⟩ => show (y 1).val = 0 + (y 1).val; omega

/-- A slab the newest store did not touch. -/
theorem slab_miss (f : rawM.view.ty.Contents (Elt F)) (h h' : Fin 2) (hh : h ≠ h') {off : Fin 3 → ℕ} (e : off = ![h'.val, 0, 0]) (inb)
    (w : FVec F S1x1024x256 .f32) (L : List (View.Piece (Elt F) S2x1024x256 .f32)) :
    slab h (rawM.view.read (Elt F) (rawM.view.writes (Elt F) f ((⟨Rect.unit (s := S2x1024x256) off ![1, 1024, 256] inb, w⟩ : View.Piece (Elt F) S2x1024x256 .f32) :: L)))
      = slab h (rawM.view.read (Elt F) (rawM.view.writes (Elt F) f L)) := by
  funext y
  unfold slab
  refine View.read_writes_cons_unit_of_not_mem (s := S2x1024x256) rawM.view f inb w L _ e 0 ?_
  have : h.val ≠ h'.val := fun q => hh (Fin.ext q)
  show h.val < h'.val ∨ h'.val + 1 ≤ h.val
  omega

/-- A stored slab without its leading axis. -/
theorem pay5_slab (u : FVec F S1024x256 .f32) : (fun y => k0_pay5 u (ix3 0 (y 0) (y 1)) : FVec F S1024x256 .f32) = u := by
  funext y
  idx_vars y
  pointwise [k0_pay5]

/-- A stored slab without its leading axis. -/
theorem pay6_slab (u : FVec F S1024x256 .f32) : (fun y => k0_pay6 u (ix3 0 (y 0) (y 1)) : FVec F S1024x256 .f32) = u := by
  funext y
  idx_vars y
  pointwise [k0_pay6]

/-- The rows loaded whole. -/
theorem ld_rows (x : Vec F S1024x2048 .bf16) : View.ld (S := S1024x2048) x (Rect.unit (s := S1024x2048) ![0, 0] ![1024, 2048] inb_S1024x2048_S1024x2048_0_0) = x :=
  (ld_sub2 (R := 1024) (C := 2048) x rfl _).trans (sub2_self x)

/-- A half of a block of weights. -/
theorem ld_half (a : Vec F S2048x11264 .bf16) (n h : ℕ) (hh : h + 256 ≤ 512) (inb) :
    (View.ld (S := S2048x512) (sub2 (R := 2048) (C := 11264) a 0 n : Vec F S2048x512 .bf16) (Rect.unit (s := S2048x512) ![0, h] ![2048, 256] inb) : Vec F S2048x256 .bf16)
      = sub2 (R := 2048) (C := 11264) a 0 (n + h) :=
  (ld_sub2 (R := 2048) (C := 512) _ rfl _).trans (sub2_sub2 (R := 2048) (C := 11264) (R' := 2048) (C' := 512) a 0 n 0 h (by omega) (by omega))

/-- The even tile of a step that stores two tiles. -/
theorem even_tile (x : Vec F S1024x2048 .bf16) (wA wB : Vec F S2048x256 .bf16) (cA cB : Vec F S3x256 .f32) (dA dB : Vec F S1x256 .f32) :
    k0_pay23 k0_pay2 k0_pay3 (k0_pay12 x wB) (k0_pay22 k0_pay2 k0_pay3 (k0_pay11 x wA) cA dA) cB dB
      = gtile (raw x wA) (raw x wB) cA cB dA dB := rfl

/-! ## The kernel's values from the whole arrays -/

variable (m : (ℓ : Loc nD τ sig) → Buf (Elt F) ℓ)

/-- The rows of tile `i`. -/
def Xi (c : Dev nD) (i : ℕ) : Vec F S1024x2048 .bf16 := sub2 (R := 8192) (C := 2048) (V m c main_v2 : Vec F S8192x2048 .bf16) (1024 * i) 0
/-- The 256 columns of the up projection at `n`. -/
def Wn (c : Dev nD) (n : ℕ) : Vec F S2048x256 .bf16 := sub2 (R := 2048) (C := 11264) (V m c main_v4 : Vec F S2048x11264 .bf16) 0 n
/-- The convolution weights of the 256 columns at `n`. -/
def Cn (c : Dev nD) (n : ℕ) : Vec F S3x256 .f32 := sub2 (R := 3) (C := 11264) (V m c main_arg4 : Vec F S3x11264 .f32) 0 n
/-- The convolution bias of the 256 columns at `n`. -/
def Bn (c : Dev nD) (n : ℕ) : Vec F S1x256 .f32 := sub2 (R := 1) (C := 11264) (V m c main_v6 : Vec F S1x11264 .f32) 0 n
/-- Tile `k` of the gated activations of row tile `i`. -/
def Tk (c : Dev nD) (i k : ℕ) : FVec F S1024x256 .bf16 :=
  gtile (raw (Xi m c i) (Wn m c (256 * k))) (raw (Xi m c i) (Wn m c (5632 + 256 * k))) (Cn m c (256 * k)) (Cn m c (5632 + 256 * k))
    (Bn m c (256 * k)) (Bn m c (5632 + 256 * k))
/-- The gated activations of row tile `i`. -/
def Act (c : Dev nD) (i : ℕ) : Vec F S1024x5632 .bf16 := join (Tk m c i)
/-- The scale of the down projection at the 256 columns `n`. -/
def Gn (c : Dev nD) (n : ℕ) : Vec F S1x1x256 .f32 :=
  fun y => (V m c main_v3 : Vec F S1x6x2048 .f32) (ix3 0 5 (Fin.ofNat 2048 (n + (y 2).val)))
/-- Column tile `n` of the stream after the down projection. -/
def X2n (c : Dev nD) (i n : ℕ) : FVec F S1024x256 .f32 :=
  k0_pay8 (Act m c i) (sub2 (R := 5632) (C := 2048) (V m c main_v5 : Vec F S5632x2048 .bf16) 0 (256 * n) : Vec F S5632x256 .bf16)
    (sub2 (R := 8192) (C := 2048) (V m c main_v0 : Vec F S8192x2048 .f32) (1024 * i) (256 * n) : Vec F S1024x256 .f32) (Gn m c (256 * n))
/-- The final normalised rows of tile `i`. -/
def Fin9 (c : Dev nD) (i : ℕ) : FVec F S1024x2048 .f32 :=
  k0_pay9 (join (X2n m c i) : Vec F S1024x2048 .f32) (V m c main_v7 : Vec F S1x2048 .f32)

/-- A matrix loaded whole. -/
theorem ld_all {R C : ℕ} [NeZero R] [NeZero C] {e : EltTy} (x : Vec F (⟨2, ![R, C]⟩ : Shape) e) (inb : ∀ d, (![0, 0] : Fin 2 → ℕ) d + (![R, C] : Fin 2 → ℕ) d ≤ (![R, C] : Fin 2 → ℕ) d) :
    View.ld (S := ⟨2, ![R, C]⟩) x (Rect.unit (s := ⟨2, ![R, C]⟩) ![0, 0] ![R, C] inb) = x :=
  (ld_sub2 (R := R) (C := C) x rfl _).trans (sub2_self x)

/-- Once the 22 tiles are stored the load for the down projection reads the gated activations. -/
theorem act_full (c : Dev nD) (i : ℕ) (A : Vec F S1024x6144 .bf16) (h : ∀ k, k < 22 → (sub2 (R := 1024) (C := 6144) A 0 (512 + 256 * k) : Vec F S1024x256 .bf16) = Tk m c i k) (inb) :
    (View.ld (S := S1024x6144) A (Rect.unit (s := S1024x6144) ![0, 512] ![1024, 5632] inb) : Vec F S1024x5632 .bf16) = Act m c i := by
  refine (ld_sub2 (R := 1024) (C := 6144) A rfl _).trans (eq_join (R := 1024) (C := 5632) _ _ fun n hn => ?_)
  rw [← h n (by omega)]
  exact sub2_sub2 (R := 1024) (C := 6144) (R' := 1024) (C' := 5632) A 0 512 0 (256 * n) (by omega) (by omega)

/-- The block indices of the windows at a grid point. -/
theorem idx : ∀ t : Fin cfg0.N, win0_0.index t = ![t.val / 19, 0] ∧ win0_1.index t = ![0, min (t.val % 19) 10]
    ∧ win0_2.index t = ![0, 11 + min (t.val % 19) 10] ∧ win0_3.index t = ![0, 0] ∧ win0_4.index t = ![0, 0]
    ∧ win0_5.index t = ![0, t.val % 19 - 11] ∧ win0_6.index t = ![t.val / 19, t.val % 19 - 11]
    ∧ win0_7.index t = ![0, 0, 0] ∧ win0_8.index t = ![0, 0] ∧ win0_9.index t = ![t.val / 19, 0] :=
  (by decide +kernel : ∀ t : Fin grid0.N, _)

/-! ## The blocks of the windows -/

theorem iblk0 (c : Dev nD) (t : Fin cfg0.N) : (iblk m c 0 t : Vec F S1024x2048 .bf16) = Xi m c (t.val / 19) := by
  funext y
  have ht : t.val < 152 := lt_of_lt_of_eq t.isLt N_0
  unfold iblk Xi sub2
  refine congrArg (V m c main_v2) ?_
  blk_ext [idx t] <;> simp only [Fin.val_ofNat] <;> omega

theorem iblk1 (c : Dev nD) (t : Fin cfg0.N) : (iblk m c 1 t : Vec F S2048x512 .bf16) = sub2 (R := 2048) (C := 11264) (V m c main_v4 : Vec F S2048x11264 .bf16) 0 (512 * min (t.val % 19) 10) := by
  funext y
  have ht : t.val < 152 := lt_of_lt_of_eq t.isLt N_0
  unfold iblk sub2
  refine congrArg (V m c main_v4) ?_
  blk_ext [idx t] <;> simp only [Fin.val_ofNat] <;> omega

theorem iblk2 (c : Dev nD) (t : Fin cfg0.N) : (iblk m c 2 t : Vec F S2048x512 .bf16) = sub2 (R := 2048) (C := 11264) (V m c main_v4 : Vec F S2048x11264 .bf16) 0 (5632 + 512 * min (t.val % 19) 10) := by
  funext y
  have ht : t.val < 152 := lt_of_lt_of_eq t.isLt N_0
  unfold iblk sub2
  refine congrArg (V m c main_v4) ?_
  blk_ext [idx t] <;> simp only [Fin.val_ofNat] <;> omega

theorem iblk3 (c : Dev nD) (t : Fin cfg0.N) : (iblk m c 3 t : Vec F S3x11264 .f32) = (V m c main_arg4 : Vec F S3x11264 .f32) := by
  funext y
  have ht : t.val < 152 := lt_of_lt_of_eq t.isLt N_0
  unfold iblk
  refine congrArg (V m c main_arg4) ?_
  blk_ext [idx t]

theorem iblk4 (c : Dev nD) (t : Fin cfg0.N) : (iblk m c 4 t : Vec F S1x11264 .f32) = (V m c main_v6 : Vec F S1x11264 .f32) := by
  funext y
  have ht : t.val < 152 := lt_of_lt_of_eq t.isLt N_0
  unfold iblk
  refine congrArg (V m c main_v6) ?_
  blk_ext [idx t]

theorem iblk5 (c : Dev nD) (t : Fin cfg0.N) : (iblk m c 5 t : Vec F S5632x256 .bf16) = sub2 (R := 5632) (C := 2048) (V m c main_v5 : Vec F S5632x2048 .bf16) 0 (256 * (t.val % 19 - 11)) := by
  funext y
  have ht : t.val < 152 := lt_of_lt_of_eq t.isLt N_0
  unfold iblk sub2
  refine congrArg (V m c main_v5) ?_
  blk_ext [idx t] <;> simp only [Fin.val_ofNat] <;> omega

theorem iblk6 (c : Dev nD) (t : Fin cfg0.N) : (iblk m c 6 t : Vec F S1024x256 .f32) = sub2 (R := 8192) (C := 2048) (V m c main_v0 : Vec F S8192x2048 .f32) (1024 * (t.val / 19)) (256 * (t.val % 19 - 11)) := by
  funext y
  have ht : t.val < 152 := lt_of_lt_of_eq t.isLt N_0
  unfold iblk sub2
  refine congrArg (V m c main_v0) ?_
  blk_ext [idx t] <;> simp only [Fin.val_ofNat] <;> omega

theorem iblk7 (c : Dev nD) (t : Fin cfg0.N) : (iblk m c 7 t : Vec F S1x6x2048 .f32) = (V m c main_v3 : Vec F S1x6x2048 .f32) := by
  funext y
  have ht : t.val < 152 := lt_of_lt_of_eq t.isLt N_0
  unfold iblk
  refine congrArg (V m c main_v3) ?_
  blk_ext [idx t]

theorem iblk8 (c : Dev nD) (t : Fin cfg0.N) : (iblk m c 8 t : Vec F S1x2048 .f32) = (V m c main_v7 : Vec F S1x2048 .f32) := by
  funext y
  have ht : t.val < 152 := lt_of_lt_of_eq t.isLt N_0
  unfold iblk
  refine congrArg (V m c main_v7) ?_
  blk_ext [idx t]

/-- The load of the scale. -/
theorem ld_gate (c : Dev nD) {off : Fin 3 → ℕ} {n : ℕ} (e : off = ![0, 5, n]) (inb) :
    (View.ld (S := S1x6x2048) (V m c main_v3 : Vec F S1x6x2048 .f32) (Rect.unit (s := S1x6x2048) off ![1, 1, 256] inb) : Vec F S1x1x256 .f32) = Gn m c n := by
  subst e
  funext y
  have h2 : n + 256 ≤ 2048 := inb 2
  have y0 : (y 0).val < 1 := (y 0).isLt
  have y1 : (y 1).val < 1 := (y 1).isLt
  have y2 : (y 2).val < 256 := (y 2).isLt
  unfold Gn
  refine congrArg (V m c main_v3) (funext fun d => ?_)
  match d with
  | ⟨0, _⟩ => exact Fin.ext (by show 0 + 1 * (y 0).val = 0; omega)
  | ⟨1, _⟩ => exact Fin.ext (by show 5 + 1 * (y 1).val = 5; omega)
  | ⟨2, _⟩ => exact Fin.ext (by show n + 1 * (y 2).val = (n + (y 2).val) % 2048; rw [Nat.mod_eq_of_lt (by omega), Nat.one_mul])

/-- A column tile of the down projection from the step's loads. -/
theorem x2_tile (c : Dev nD) (i n : ℕ) (A : Vec F S1024x6144 .bf16) (inb inb1 inb2)
    (l : (View.ld (S := S1024x6144) A (Rect.unit (s := S1024x6144) ![0, 512] ![1024, 5632] inb) : Vec F S1024x5632 .bf16) = Act m c i)
    {off : Fin 3 → ℕ} (e : off = ![0, 5, 256 * n]) (inb3) :
    k0_pay8 (View.ld (S := S1024x6144) A (Rect.unit (s := S1024x6144) ![0, 512] ![1024, 5632] inb))
      (View.ld (S := S5632x256) (sub2 (R := 5632) (C := 2048) (V m c main_v5 : Vec F S5632x2048 .bf16) 0 (256 * n) : Vec F S5632x256 .bf16) (Rect.unit (s := S5632x256) ![0, 0] ![5632, 256] inb1))
      (View.ld (S := S1024x256) (sub2 (R := 8192) (C := 2048) (V m c main_v0 : Vec F S8192x2048 .f32) (1024 * i) (256 * n) : Vec F S1024x256 .f32) (Rect.unit (s := S1024x256) ![0, 0] ![1024, 256] inb2))
      (View.ld (S := S1x6x2048) (V m c main_v3 : Vec F S1x6x2048 .f32) (Rect.unit (s := S1x6x2048) off ![1, 1, 256] inb3)) = X2n m c i n := by
  rw [l, ld_all (R := 5632) (C := 256), ld_all (R := 1024) (C := 256), ld_gate m c e]
  rfl

end Cert.Kernel4Ideal.Ffn
end
-- ==== Proof.FfnInv.lean ====
/-
  The feed-forward kernel's invariant: what the scratch buffers and the result's buffer hold between two points of the grid.
-/
module

public import proofs.«01_k».proof.Proof.FfnTiles

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ)

/-- The scratch buffers before point `n`: the tiles stored so far of the row tile's activations, and in the raw buffer the odd
    tile of the step before. -/
def Inv (c : Dev nD) (n : ℕ) (A : Vec F S1024x6144 .bf16) (W : Vec F S2x1024x256 .f32) : Prop :=
  (∀ k, k < 22 → k + 1 < 2 * (n % 19) → (sub2 (R := 1024) (C := 6144) A 0 (512 + 256 * k) : Vec F S1024x256 .bf16) = Tk m c (n / 19) k)
  ∧ (1 ≤ n % 19 → n % 19 ≤ 11 → slab 0 W = raw (Xi m c (n / 19)) (Wn m c (256 * (2 * (n % 19) - 1)))
      ∧ slab 1 W = raw (Xi m c (n / 19)) (Wn m c (5632 + 256 * (2 * (n % 19) - 1))))

/-- The result's buffer after point `n`: the column tiles of the down projection so far, and at the row tile's last point the
    normalised rows. -/
def R (c : Dev nD) (n : ℕ) (O : Vec F S1024x2048 .f32) : Prop :=
  (11 ≤ n % 19 → n % 19 < 18 → ∀ k, k ≤ n % 19 - 11 → (sub2 (R := 1024) (C := 2048) O 0 (256 * k) : Vec F S1024x256 .f32) = X2n m c (n / 19) k)
  ∧ (n % 19 = 18 → O = Fin9 m c (n / 19))

/-- Before the first point nothing is asked. -/
theorem inv_zero (c : Dev nD) (A W) : Inv m c 0 A W :=
  ⟨fun k _ h => absurd h (by omega), fun h => absurd h (by decide)⟩

end Cert.Kernel4Ideal.Ffn
end
-- ==== Proof.FfnStepsUp.lean ====
/-
  One step of the feed-forward kernel keeps the invariant: the first step of a row tile and the steps that store two tiles.
-/
module

public import proofs.«01_k».proof.Proof.FfnInv

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The first step of a row tile: the raw buffer is cleared and the first tile stored. -/
theorem coreA (c : Dev nD) (t : Fin cfg0.N) (e0 : t.val % 19 = 0) (h1 : C1 (grid0.coords t)) (h2 : k0_cond2 (grid0.coords t) = 1#1) (h3 : ¬ C3 (grid0.coords t)) (h4 : ¬ k0_cond4 (grid0.coords t) = 1#1) (h5 : ¬ k0_cond5 (grid0.coords t) = 1#1) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32)
    (X0 : x0 = Xi m c (t.val / 19)) (X1 : x1 = sub2 (R := 2048) (C := 11264) (V m c main_v4 : Vec F S2048x11264 .bf16) 0 (512 * min (t.val % 19) 10)) (X2 : x2 = sub2 (R := 2048) (C := 11264) (V m c main_v4 : Vec F S2048x11264 .bf16) 0 (5632 + 512 * min (t.val % 19) 10)) (X3 : x3 = (V m c main_arg4 : Vec F S3x11264 .f32)) (X4 : x4 = (V m c main_v6 : Vec F S1x11264 .f32)) (X5 : x5 = sub2 (R := 5632) (C := 2048) (V m c main_v5 : Vec F S5632x2048 .bf16) 0 (256 * (t.val % 19 - 11))) (X6 : x6 = sub2 (R := 8192) (C := 2048) (V m c main_v0 : Vec F S8192x2048 .f32) (1024 * (t.val / 19)) (256 * (t.val % 19 - 11))) (X7 : x7 = (V m c main_v3 : Vec F S1x6x2048 .f32)) (X8 : x8 = (V m c main_v7 : Vec F S1x2048 .f32))
    (hI : Inv m c t.val A W) (hO : t.val % 19 ≠ 0 → R m c (t.val - 1) O) :
    R m c t.val (M9.view.read (Elt F) (M9.view.writes (Elt F) (H9.unread O) (runA c (grid0.coords t) h1 h2 h3 h4 h5 M0 H0 M1 H1 M2 H2 M3 H3 M4 H4 M5 H5 M6 H6 M7 H7 M8 H8 M9 H9 x0 x1 x2 x3 x4 x5 x6 x7 x8 O A W).2.2.1))
      ∧ Inv m c (t.val + 1) (actM.view.read (Elt F) (actM.view.writes (Elt F) (actW.unread A) (runA c (grid0.coords t) h1 h2 h3 h4 h5 M0 H0 M1 H1 M2 H2 M3 H3 M4 H4 M5 H5 M6 H6 M7 H7 M8 H8 M9 H9 x0 x1 x2 x3 x4 x5 x6 x7 x8 O A W).1))
        (rawM.view.read (Elt F) (rawM.view.writes (Elt F) (rawW.unread W) (runA c (grid0.coords t) h1 h2 h3 h4 h5 M0 H0 M1 H1 M2 H2 M3 H3 M4 H4 M5 H5 M6 H6 M7 H7 M8 H8 M9 H9 x0 x1 x2 x3 x4 x5 x6 x7 x8 O A W).2.1)) := by
  have e := crd1 t
  have hn : t.val < 152 := lt_of_lt_of_eq t.isLt N_0
  have hj : t.val % 19 < 19 := Nat.mod_lt _ (by decide)
  subst X0 X1 X2 X3 X4 X5 X6 X7 X8
  have q1 : (t.val + 1) % 19 = t.val % 19 + 1 := by omega
  have q2 : (t.val + 1) / 19 = t.val / 19 := by omega
  have q3 : min (t.val % 19) 10 = t.val % 19 := by omega
  refine ⟨?_, ?_, ?_⟩
  · exact ⟨fun h => absurd h (by omega), fun h => absurd h (by omega)⟩
  · intro k hk hk'
    rw [q1] at hk'
    rw [q2]
    unfold runA; dsimp only
    simp only [View.readAt_eq_ld, H0.read_unread, H1.read_unread, H2.read_unread, H3.read_unread, H4.read_unread, H5.read_unread, H6.read_unread, H7.read_unread, H8.read_unread, H9.read_unread, actW.read_unread, rawW.read_unread]
    by_cases k1 : k = 2 * (t.val % 19)
    · rw [show 512 + 256 * k = 512 + 512 * (t.val % 19) by omega]
      refine (sub2_writes_hit (R := 1024) (C := 6144) _ _ (by rw [off10_eq, e]) _ _ _).trans ?_
      rw [ld_sub2 _ (off6_eq _), ld_sub2 _ (off7_eq _), ld_sub2 _ (off8_eq _), ld_sub2 _ (off9_eq _), ld_rows, ld_half _ _ _ (by omega),
        ld_half _ _ _ (by omega), q3, e, even_tile]
      unfold Tk Wn Cn Bn
      rw [show 256 * k = 512 * (t.val % 19) by omega]
      rfl
    rw [sub2_writes_miss _ _ (co := 512 + 512 * (t.val % 19)) (by rw [off10_eq, e]) _ _ _ (by omega) (by omega)]
    exact absurd hk' (by omega)
  · intro j1 j2
    rw [q1, q2]
    unfold runA; dsimp only
    simp only [View.readAt_eq_ld, H0.read_unread, H1.read_unread, H2.read_unread, H3.read_unread, H4.read_unread, H5.read_unread, H6.read_unread, H7.read_unread, H8.read_unread, H9.read_unread, actW.read_unread, rawW.read_unread]
    rw [show 256 * (2 * (t.val % 19 + 1) - 1) = 512 * (t.val % 19) + 256 by omega]
    constructor
    · refine (slab_miss _ 0 1 (by decide) rfl _ _ _).trans ((slab_hit _ 0 rfl _ _ _).trans ?_)
      rw [pay5_slab, ld_rows, ld_half _ _ _ (by omega), q3]
      rfl
    · refine (slab_hit _ 1 rfl _ _ _).trans ?_
      rw [pay6_slab, ld_rows, ld_half _ _ _ (by omega), q3]
      rfl

/-- The step at such a point. -/
theorem stepA (c : Dev nD) (t : Fin cfg0.N) (O A W) (e0 : t.val % 19 = 0) (hI : Inv m c t.val A W) (hO : t.val % 19 ≠ 0 → R m c (t.val - 1) O) :
    Ok m c t O A W fun O' A' W' => R m c t.val O' ∧ Inv m c (t.val + 1) A' W' := by
  have e := crd1 t
  exact ⟨_, _, _, (runA c (grid0.coords t) (by rw [c1_iff, e]; omega) (by rw [c2_iff, e]; omega) (by rw [c3_iff, e]; omega) (by rw [c4_iff, e]; omega) (by rw [c5_iff, e]; omega) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (iblk m c 0 t) (iblk m c 1 t) (iblk m c 2 t) (iblk m c 3 t) (iblk m c 4 t) (iblk m c 5 t) (iblk m c 6 t) (iblk m c 7 t) (iblk m c 8 t) O A W).2.2.2,
    coreA m c t e0 _ _ _ _ _ _ _ _ _ _ _ _ _ _ _ _ _ _ _ _ _ _ _ _ _ _ _ _ _ _ _ _ _ _ _ _ _ (iblk0 m c t) (iblk1 m c t) (iblk2 m c t) (iblk3 m c t) (iblk4 m c t) (iblk5 m c t) (iblk6 m c t) (iblk7 m c t) (iblk8 m c t) hI hO⟩

set_option maxHeartbeats 1000000 in
/-- A step that stores two tiles and leaves the raw values of a third. -/
theorem coreB (c : Dev nD) (t : Fin cfg0.N) (e0 : t.val % 19 ≠ 0) (e1 : t.val % 19 < 11) (h1 : ¬ C1 (grid0.coords t)) (h2 : k0_cond2 (grid0.coords t) = 1#1) (h3 : ¬ C3 (grid0.coords t)) (h4 : ¬ k0_cond4 (grid0.coords t) = 1#1) (h5 : ¬ k0_cond5 (grid0.coords t) = 1#1) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32)
    (X0 : x0 = Xi m c (t.val / 19)) (X1 : x1 = sub2 (R := 2048) (C := 11264) (V m c main_v4 : Vec F S2048x11264 .bf16) 0 (512 * min (t.val % 19) 10)) (X2 : x2 = sub2 (R := 2048) (C := 11264) (V m c main_v4 : Vec F S2048x11264 .bf16) 0 (5632 + 512 * min (t.val % 19) 10)) (X3 : x3 = (V m c main_arg4 : Vec F S3x11264 .f32)) (X4 : x4 = (V m c main_v6 : Vec F S1x11264 .f32)) (X5 : x5 = sub2 (R := 5632) (C := 2048) (V m c main_v5 : Vec F S5632x2048 .bf16) 0 (256 * (t.val % 19 - 11))) (X6 : x6 = sub2 (R := 8192) (C := 2048) (V m c main_v0 : Vec F S8192x2048 .f32) (1024 * (t.val / 19)) (256 * (t.val % 19 - 11))) (X7 : x7 = (V m c main_v3 : Vec F S1x6x2048 .f32)) (X8 : x8 = (V m c main_v7 : Vec F S1x2048 .f32))
    (hI : Inv m c t.val A W) (hO : t.val % 19 ≠ 0 → R m c (t.val - 1) O) :
    R m c t.val (M9.view.read (Elt F) (M9.view.writes (Elt F) (H9.unread O) (runB c (grid0.coords t) h1 h2 h3 h4 h5 M0 H0 M1 H1 M2 H2 M3 H3 M4 H4 M5 H5 M6 H6 M7 H7 M8 H8 M9 H9 x0 x1 x2 x3 x4 x5 x6 x7 x8 O A W).2.2.1))
      ∧ Inv m c (t.val + 1) (actM.view.read (Elt F) (actM.view.writes (Elt F) (actW.unread A) (runB c (grid0.coords t) h1 h2 h3 h4 h5 M0 H0 M1 H1 M2 H2 M3 H3 M4 H4 M5 H5 M6 H6 M7 H7 M8 H8 M9 H9 x0 x1 x2 x3 x4 x5 x6 x7 x8 O A W).1))
        (rawM.view.read (Elt F) (rawM.view.writes (Elt F) (rawW.unread W) (runB c (grid0.coords t) h1 h2 h3 h4 h5 M0 H0 M1 H1 M2 H2 M3 H3 M4 H4 M5 H5 M6 H6 M7 H7 M8 H8 M9 H9 x0 x1 x2 x3 x4 x5 x6 x7 x8 O A W).2.1)) := by
  have e := crd1 t
  have hn : t.val < 152 := lt_of_lt_of_eq t.isLt N_0
  have hj : t.val % 19 < 19 := Nat.mod_lt _ (by decide)
  subst X0 X1 X2 X3 X4 X5 X6 X7 X8
  have q1 : (t.val + 1) % 19 = t.val % 19 + 1 := by omega
  have q2 : (t.val + 1) / 19 = t.val / 19 := by omega
  have q3 : min (t.val % 19) 10 = t.val % 19 := by omega
  refine ⟨?_, ?_, ?_⟩
  · exact ⟨fun h => absurd h (by omega), fun h => absurd h (by omega)⟩
  · intro k hk hk'
    rw [q1] at hk'
    rw [q2]
    unfold runB; dsimp only
    simp only [View.readAt_eq_ld, H0.read_unread, H1.read_unread, H2.read_unread, H3.read_unread, H4.read_unread, H5.read_unread, H6.read_unread, H7.read_unread, H8.read_unread, H9.read_unread, actW.read_unread, rawW.read_unread]
    by_cases k1 : k = 2 * (t.val % 19)
    · rw [show 512 + 256 * k = 512 + 512 * (t.val % 19) by omega]
      refine (sub2_writes_hit (R := 1024) (C := 6144) _ _ (by rw [off10_eq, e]) _ _ _).trans ?_
      rw [ld_sub2 _ (off6_eq _), ld_sub2 _ (off7_eq _), ld_sub2 _ (off8_eq _), ld_sub2 _ (off9_eq _), ld_rows, ld_half _ _ _ (by omega),
        ld_half _ _ _ (by omega), q3, e, even_tile]
      unfold Tk Wn Cn Bn
      rw [show 256 * k = 512 * (t.val % 19) by omega]
      rfl
    rw [sub2_writes_miss _ _ (co := 512 + 512 * (t.val % 19)) (by rw [off10_eq, e]) _ _ _ (by omega) (by omega)]
    by_cases k2 : k + 1 = 2 * (t.val % 19)
    · have k3 : 256 * k = 512 * (t.val % 19 - 1) + 256 := by omega
      obtain ⟨I0, I1⟩ := hI.2 (by omega) (by omega)
      rw [show 512 + 256 * k = 512 * (t.val % 19) + 256 by omega]
      refine (sub2_writes_hit (R := 1024) (C := 6144) _ _ (by rw [off5_eq, e]) _ _ _).trans ?_
      have l := odd_tile (View.ld (S := S2x1024x256) W (Rect.unit (s := S2x1024x256) ![0, 0, 0] ![1, 1024, 256] inb_S2x1024x256_S1x1024x256_0_0_0))
        (View.ld (S := S2x1024x256) W (Rect.unit (s := S2x1024x256) ![1, 0, 0] ![1, 1024, 256] inb_S2x1024x256_S1x1024x256_1_0_0))
      rw [pay13_slab (off := ![0, 0, 0]) W 0 rfl, pay13_slab (off := ![1, 0, 0]) W 1 rfl, I0, I1] at l
      refine (l _ _ _ _).trans ?_
      have e1' : 1 ≤ (grid0.coords t 1).val := by omega
      rw [ld_sub2 _ (off1_eq _ e1'), ld_sub2 _ (off2_eq _ e1'), ld_sub2 _ (off3_eq _ e1'), ld_sub2 _ (off4_eq _ e1'), e]
      unfold Tk Cn Bn
      rw [k3, show 256 * (2 * (t.val % 19) - 1) = 512 * (t.val % 19 - 1) + 256 by omega]
    · rw [sub2_writes_miss _ _ (co := 512 * (t.val % 19) + 256) (by rw [off5_eq, e]) _ _ _ (by omega) (by omega), View.writes_nil]
      rw [actW.read_unread]
      exact hI.1 k hk (by omega)
  · intro j1 j2
    rw [q1, q2]
    unfold runB; dsimp only
    simp only [View.readAt_eq_ld, H0.read_unread, H1.read_unread, H2.read_unread, H3.read_unread, H4.read_unread, H5.read_unread, H6.read_unread, H7.read_unread, H8.read_unread, H9.read_unread, actW.read_unread, rawW.read_unread]
    rw [show 256 * (2 * (t.val % 19 + 1) - 1) = 512 * (t.val % 19) + 256 by omega]
    constructor
    · refine (slab_miss _ 0 1 (by decide) rfl _ _ _).trans ((slab_hit _ 0 rfl _ _ _).trans ?_)
      rw [pay5_slab, ld_rows, ld_half _ _ _ (by omega), q3]
      rfl
    · refine (slab_hit _ 1 rfl _ _ _).trans ?_
      rw [pay6_slab, ld_rows, ld_half _ _ _ (by omega), q3]
      rfl

/-- The step at such a point. -/
theorem stepB (c : Dev nD) (t : Fin cfg0.N) (O A W) (e0 : t.val % 19 ≠ 0) (e1 : t.val % 19 < 11) (hI : Inv m c t.val A W) (hO : t.val % 19 ≠ 0 → R m c (t.val - 1) O) :
    Ok m c t O A W fun O' A' W' => R m c t.val O' ∧ Inv m c (t.val + 1) A' W' := by
  have e := crd1 t
  exact ⟨_, _, _, (runB c (grid0.coords t) (by rw [c1_iff, e]; omega) (by rw [c2_iff, e]; omega) (by rw [c3_iff, e]; omega) (by rw [c4_iff, e]; omega) (by rw [c5_iff, e]; omega) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (iblk m c 0 t) (iblk m c 1 t) (iblk m c 2 t) (iblk m c 3 t) (iblk m c 4 t) (iblk m c 5 t) (iblk m c 6 t) (iblk m c 7 t) (iblk m c 8 t) O A W).2.2.2,
    coreB m c t e0 e1 _ _ _ _ _ _ _ _ _ _ _ _ _ _ _ _ _ _ _ _ _ _ _ _ _ _ _ _ _ _ _ _ _ _ _ _ _ (iblk0 m c t) (iblk1 m c t) (iblk2 m c t) (iblk3 m c t) (iblk4 m c t) (iblk5 m c t) (iblk6 m c t) (iblk7 m c t) (iblk8 m c t) hI hO⟩

end Cert.Kernel4Ideal.Ffn
end
-- ==== Proof.FfnSteps.lean ====
/-
  One step of the feed-forward kernel keeps the invariant: the steps of the down projection. `steps` puts the cases together.
-/
module

public import proofs.«01_k».proof.Proof.FfnStepsUp

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- After that step the 22 tiles are stored. -/
theorem actC (c : Dev nD) (t : Fin cfg0.N) (e0 : t.val % 19 = 11) (h1 : ¬ C1 (grid0.coords t)) (h2 : ¬ k0_cond2 (grid0.coords t) = 1#1) (h3 : C3 (grid0.coords t)) (h4 : k0_cond4 (grid0.coords t) = 1#1) (h5 : ¬ k0_cond5 (grid0.coords t) = 1#1) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32)
    (X0 : x0 = Xi m c (t.val / 19)) (X1 : x1 = sub2 (R := 2048) (C := 11264) (V m c main_v4 : Vec F S2048x11264 .bf16) 0 (512 * min (t.val % 19) 10)) (X2 : x2 = sub2 (R := 2048) (C := 11264) (V m c main_v4 : Vec F S2048x11264 .bf16) 0 (5632 + 512 * min (t.val % 19) 10)) (X3 : x3 = (V m c main_arg4 : Vec F S3x11264 .f32)) (X4 : x4 = (V m c main_v6 : Vec F S1x11264 .f32)) (X5 : x5 = sub2 (R := 5632) (C := 2048) (V m c main_v5 : Vec F S5632x2048 .bf16) 0 (256 * (t.val % 19 - 11))) (X6 : x6 = sub2 (R := 8192) (C := 2048) (V m c main_v0 : Vec F S8192x2048 .f32) (1024 * (t.val / 19)) (256 * (t.val % 19 - 11))) (X7 : x7 = (V m c main_v3 : Vec F S1x6x2048 .f32)) (X8 : x8 = (V m c main_v7 : Vec F S1x2048 .f32))
    (hI : Inv m c t.val A W) :
    ∀ k, k < 22 → (sub2 (R := 1024) (C := 6144) (actM.view.read (Elt F) (actM.view.writes (Elt F) (actW.unread A) (runC c (grid0.coords t) h1 h2 h3 h4 h5 M0 H0 M1 H1 M2 H2 M3 H3 M4 H4 M5 H5 M6 H6 M7 H7 M8 H8 M9 H9 x0 x1 x2 x3 x4 x5 x6 x7 x8 O A W).1)) 0 (512 + 256 * k) : Vec F S1024x256 .bf16) = Tk m c (t.val / 19) k := by
  obtain ⟨I0, I1⟩ := hI.2 (by omega) (by omega)
  rw [e0] at I0 I1
  subst X0 X1 X2 X3 X4 X5 X6 X7 X8
  intro k hk
  unfold runC; dsimp only; unfold runC.sl.PA_1; dsimp only
  simp only [View.readAt_eq_ld, H0.read_unread, H1.read_unread, H2.read_unread, H3.read_unread, H4.read_unread, H5.read_unread, H6.read_unread, H7.read_unread, H8.read_unread, H9.read_unread, actW.read_unread, rawW.read_unread]
  by_cases k1 : k = 21
  · subst k1
    refine (sub2_writes_hit (R := 1024) (C := 6144) _ _ rfl _ _ _).trans ?_
    have l := last_tile (View.ld (S := S2x1024x256) W (Rect.unit (s := S2x1024x256) ![0, 0, 0] ![1, 1024, 256] inb_S2x1024x256_S1x1024x256_0_0_0))
      (View.ld (S := S2x1024x256) W (Rect.unit (s := S2x1024x256) ![1, 0, 0] ![1, 1024, 256] inb_S2x1024x256_S1x1024x256_1_0_0))
    rw [pay13_slab (off := ![0, 0, 0]) W 0 rfl, pay13_slab (off := ![1, 0, 0]) W 1 rfl, I0, I1] at l
    rw [ld_sub2 (off := ![0, 5376]) _ rfl, ld_sub2 (off := ![0, 5376]) _ rfl, ld_sub2 (off := ![0, 11008]) _ rfl, ld_sub2 (off := ![0, 11008]) _ rfl]
    exact l _ _ _ _
  · refine (sub2_writes_miss (R := 1024) (C := 6144) _ _ (co := 5888) rfl _ _ _ (by omega) (by omega)).trans ?_
    rw [View.writes_nil, actW.read_unread]
    exact hI.1 k hk (by omega)

set_option maxHeartbeats 1000000 in
/-- The step that stores the last tile and begins the down projection. -/
theorem coreC (c : Dev nD) (t : Fin cfg0.N) (e0 : t.val % 19 = 11) (h1 : ¬ C1 (grid0.coords t)) (h2 : ¬ k0_cond2 (grid0.coords t) = 1#1) (h3 : C3 (grid0.coords t)) (h4 : k0_cond4 (grid0.coords t) = 1#1) (h5 : ¬ k0_cond5 (grid0.coords t) = 1#1) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32)
    (X0 : x0 = Xi m c (t.val / 19)) (X1 : x1 = sub2 (R := 2048) (C := 11264) (V m c main_v4 : Vec F S2048x11264 .bf16) 0 (512 * min (t.val % 19) 10)) (X2 : x2 = sub2 (R := 2048) (C := 11264) (V m c main_v4 : Vec F S2048x11264 .bf16) 0 (5632 + 512 * min (t.val % 19) 10)) (X3 : x3 = (V m c main_arg4 : Vec F S3x11264 .f32)) (X4 : x4 = (V m c main_v6 : Vec F S1x11264 .f32)) (X5 : x5 = sub2 (R := 5632) (C := 2048) (V m c main_v5 : Vec F S5632x2048 .bf16) 0 (256 * (t.val % 19 - 11))) (X6 : x6 = sub2 (R := 8192) (C := 2048) (V m c main_v0 : Vec F S8192x2048 .f32) (1024 * (t.val / 19)) (256 * (t.val % 19 - 11))) (X7 : x7 = (V m c main_v3 : Vec F S1x6x2048 .f32)) (X8 : x8 = (V m c main_v7 : Vec F S1x2048 .f32))
    (hI : Inv m c t.val A W) (hO : t.val % 19 ≠ 0 → R m c (t.val - 1) O) :
    R m c t.val (M9.view.read (Elt F) (M9.view.writes (Elt F) (H9.unread O) (runC c (grid0.coords t) h1 h2 h3 h4 h5 M0 H0 M1 H1 M2 H2 M3 H3 M4 H4 M5 H5 M6 H6 M7 H7 M8 H8 M9 H9 x0 x1 x2 x3 x4 x5 x6 x7 x8 O A W).2.2.1))
      ∧ Inv m c (t.val + 1) (actM.view.read (Elt F) (actM.view.writes (Elt F) (actW.unread A) (runC c (grid0.coords t) h1 h2 h3 h4 h5 M0 H0 M1 H1 M2 H2 M3 H3 M4 H4 M5 H5 M6 H6 M7 H7 M8 H8 M9 H9 x0 x1 x2 x3 x4 x5 x6 x7 x8 O A W).1))
        (rawM.view.read (Elt F) (rawM.view.writes (Elt F) (rawW.unread W) (runC c (grid0.coords t) h1 h2 h3 h4 h5 M0 H0 M1 H1 M2 H2 M3 H3 M4 H4 M5 H5 M6 H6 M7 H7 M8 H8 M9 H9 x0 x1 x2 x3 x4 x5 x6 x7 x8 O A W).2.1)) := by
  have e := crd1 t
  have hn : t.val < 152 := lt_of_lt_of_eq t.isLt N_0
  have hj : t.val % 19 < 19 := Nat.mod_lt _ (by decide)
  have q1 : (t.val + 1) % 19 = t.val % 19 + 1 := by omega
  have q2 : (t.val + 1) / 19 = t.val / 19 := by omega
  have hA := actC m c t e0 h1 h2 h3 h4 h5 M0 H0 M1 H1 M2 H2 M3 H3 M4 H4 M5 H5 M6 H6 M7 H7 M8 H8 M9 H9 x0 x1 x2 x3 x4 x5 x6 x7 x8 O A W X0 X1 X2 X3 X4 X5 X6 X7 X8 hI
  refine ⟨⟨?_, fun h => absurd h (by omega)⟩, fun k hk _ => q2 ▸ hA k hk, fun _ h => absurd h (by omega)⟩
  intro _ _ k hk
  obtain rfl : k = 0 := by omega
  have l := act_full m c _ _ hA inb_S1024x6144_S1024x5632_0_512
  clear hA hI hO
  unfold runC at l ⊢; dsimp only at l ⊢
  unfold runC.sl.v25 runC.sl.v32
  dsimp only
  simp only [View.readAt_eq_ld, H0.read_unread, H1.read_unread, H2.read_unread, H3.read_unread, H4.read_unread, H5.read_unread, H6.read_unread, H7.read_unread, H8.read_unread, H9.read_unread]
  refine (sub2_writes_hit (R := 1024) (C := 2048) _ _ ((off12_eq _ (by rw [e]; omega)).trans (by rw [e, e0])) _ _ _).trans ?_
  rw [l]
  subst X0 X1 X2 X3 X4 X5 X6 X7 X8
  rw [ld_all (R := 5632) (C := 256), ld_all (R := 1024) (C := 256), ld_gate m c (off11_eq _ (by rw [e]; omega)), e]
  unfold X2n
  rw [e0]

/-- The step at such a point. -/
theorem stepC (c : Dev nD) (t : Fin cfg0.N) (O A W) (e0 : t.val % 19 = 11) (hI : Inv m c t.val A W) (hO : t.val % 19 ≠ 0 → R m c (t.val - 1) O) :
    Ok m c t O A W fun O' A' W' => R m c t.val O' ∧ Inv m c (t.val + 1) A' W' := by
  have e := crd1 t
  exact ⟨_, _, _, (runC c (grid0.coords t) (by rw [c1_iff, e]; omega) (by rw [c2_iff, e]; omega) (by rw [c3_iff, e]; omega) (by rw [c4_iff, e]; omega) (by rw [c5_iff, e]; omega) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (iblk m c 0 t) (iblk m c 1 t) (iblk m c 2 t) (iblk m c 3 t) (iblk m c 4 t) (iblk m c 5 t) (iblk m c 6 t) (iblk m c 7 t) (iblk m c 8 t) O A W).2.2.2,
    coreC m c t e0 _ _ _ _ _ _ _ _ _ _ _ _ _ _ _ _ _ _ _ _ _ _ _ _ _ _ _ _ _ _ _ _ _ _ _ _ _ (iblk0 m c t) (iblk1 m c t) (iblk2 m c t) (iblk3 m c t) (iblk4 m c t) (iblk5 m c t) (iblk6 m c t) (iblk7 m c t) (iblk8 m c t) hI hO⟩

set_option maxHeartbeats 1000000 in
/-- A step of the down projection. -/
theorem coreD (c : Dev nD) (t : Fin cfg0.N) (e0 : 11 < t.val % 19) (e1 : t.val % 19 < 18) (h1 : ¬ C1 (grid0.coords t)) (h2 : ¬ k0_cond2 (grid0.coords t) = 1#1) (h3 : ¬ C3 (grid0.coords t)) (h4 : k0_cond4 (grid0.coords t) = 1#1) (h5 : ¬ k0_cond5 (grid0.coords t) = 1#1) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32)
    (X0 : x0 = Xi m c (t.val / 19)) (X1 : x1 = sub2 (R := 2048) (C := 11264) (V m c main_v4 : Vec F S2048x11264 .bf16) 0 (512 * min (t.val % 19) 10)) (X2 : x2 = sub2 (R := 2048) (C := 11264) (V m c main_v4 : Vec F S2048x11264 .bf16) 0 (5632 + 512 * min (t.val % 19) 10)) (X3 : x3 = (V m c main_arg4 : Vec F S3x11264 .f32)) (X4 : x4 = (V m c main_v6 : Vec F S1x11264 .f32)) (X5 : x5 = sub2 (R := 5632) (C := 2048) (V m c main_v5 : Vec F S5632x2048 .bf16) 0 (256 * (t.val % 19 - 11))) (X6 : x6 = sub2 (R := 8192) (C := 2048) (V m c main_v0 : Vec F S8192x2048 .f32) (1024 * (t.val / 19)) (256 * (t.val % 19 - 11))) (X7 : x7 = (V m c main_v3 : Vec F S1x6x2048 .f32)) (X8 : x8 = (V m c main_v7 : Vec F S1x2048 .f32))
    (hI : Inv m c t.val A W) (hO : t.val % 19 ≠ 0 → R m c (t.val - 1) O) :
    R m c t.val (M9.view.read (Elt F) (M9.view.writes (Elt F) (H9.unread O) (runD c (grid0.coords t) h1 h2 h3 h4 h5 M0 H0 M1 H1 M2 H2 M3 H3 M4 H4 M5 H5 M6 H6 M7 H7 M8 H8 M9 H9 x0 x1 x2 x3 x4 x5 x6 x7 x8 O A W).2.2.1))
      ∧ Inv m c (t.val + 1) (actM.view.read (Elt F) (actM.view.writes (Elt F) (actW.unread A) (runD c (grid0.coords t) h1 h2 h3 h4 h5 M0 H0 M1 H1 M2 H2 M3 H3 M4 H4 M5 H5 M6 H6 M7 H7 M8 H8 M9 H9 x0 x1 x2 x3 x4 x5 x6 x7 x8 O A W).1))
        (rawM.view.read (Elt F) (rawM.view.writes (Elt F) (rawW.unread W) (runD c (grid0.coords t) h1 h2 h3 h4 h5 M0 H0 M1 H1 M2 H2 M3 H3 M4 H4 M5 H5 M6 H6 M7 H7 M8 H8 M9 H9 x0 x1 x2 x3 x4 x5 x6 x7 x8 O A W).2.1)) := by
  have e := crd1 t
  have hn : t.val < 152 := lt_of_lt_of_eq t.isLt N_0
  have hj : t.val % 19 < 19 := Nat.mod_lt _ (by decide)
  subst X0 X1 X2 X3 X4 X5 X6 X7 X8
  have q1 : (t.val + 1) % 19 = t.val % 19 + 1 := by omega
  have q2 : (t.val + 1) / 19 = t.val / 19 := by omega
  have p1 : (t.val - 1) % 19 = t.val % 19 - 1 := by omega
  have p2 : (t.val - 1) / 19 = t.val / 19 := by omega
  have hA : ∀ k, k < 22 → (sub2 (R := 1024) (C := 6144) A 0 (512 + 256 * k) : Vec F S1024x256 .bf16) = Tk m c (t.val / 19) k :=
    fun k hk => hI.1 k hk (by omega)
  have hR := (hO (by omega)).1
  rw [p1, p2] at hR
  refine ⟨⟨?_, fun h => absurd h (by omega)⟩, ?_, fun _ h => absurd h (by omega)⟩
  · intro _ _ k hk
    have l := act_full m c _ _ hA inb_S1024x6144_S1024x5632_0_512
    unfold runD; dsimp only
    simp only [View.readAt_eq_ld, H0.read_unread, H1.read_unread, H2.read_unread, H3.read_unread, H4.read_unread, H5.read_unread, H6.read_unread, H7.read_unread, H8.read_unread, H9.read_unread, actW.read_unread]
    by_cases k1 : k = t.val % 19 - 11
    · subst k1
      refine (sub2_writes_hit (R := 1024) (C := 2048) _ _ ((off12_eq _ (by rw [e]; omega)).trans (by rw [e])) _ _ _).trans ?_
      rw [l]
      rw [ld_all (R := 5632) (C := 256), ld_all (R := 1024) (C := 256), ld_gate m c (off11_eq _ (by rw [e]; omega)), e]
      rfl
    · refine (sub2_writes_miss (R := 1024) (C := 2048) _ _ (co := 256 * (t.val % 19 - 11)) ((off12_eq _ (by rw [e]; omega)).trans (by rw [e])) _ _ _ (by omega) (by omega)).trans ?_
      rw [View.writes_nil, H9.read_unread]
      exact hR (by omega) (by omega) k (by omega)
  · intro k hk _
    unfold runD; dsimp only
    rw [q2]
    rw [View.writes_nil, actW.read_unread]
    exact hA k hk

/-- The step at such a point. -/
theorem stepD (c : Dev nD) (t : Fin cfg0.N) (O A W) (e0 : 11 < t.val % 19) (e1 : t.val % 19 < 18) (hI : Inv m c t.val A W) (hO : t.val % 19 ≠ 0 → R m c (t.val - 1) O) :
    Ok m c t O A W fun O' A' W' => R m c t.val O' ∧ Inv m c (t.val + 1) A' W' := by
  have e := crd1 t
  exact ⟨_, _, _, (runD c (grid0.coords t) (by rw [c1_iff, e]; omega) (by rw [c2_iff, e]; omega) (by rw [c3_iff, e]; omega) (by rw [c4_iff, e]; omega) (by rw [c5_iff, e]; omega) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (iblk m c 0 t) (iblk m c 1 t) (iblk m c 2 t) (iblk m c 3 t) (iblk m c 4 t) (iblk m c 5 t) (iblk m c 6 t) (iblk m c 7 t) (iblk m c 8 t) O A W).2.2.2,
    coreD m c t e0 e1 _ _ _ _ _ _ _ _ _ _ _ _ _ _ _ _ _ _ _ _ _ _ _ _ _ _ _ _ _ _ _ _ _ _ _ _ _ (iblk0 m c t) (iblk1 m c t) (iblk2 m c t) (iblk3 m c t) (iblk4 m c t) (iblk5 m c t) (iblk6 m c t) (iblk7 m c t) (iblk8 m c t) hI hO⟩

set_option maxHeartbeats 1000000 in
/-- The last step of a row tile: the last column tile and the norm. -/
theorem coreE (c : Dev nD) (t : Fin cfg0.N) (e0 : t.val % 19 = 18) (h1 : ¬ C1 (grid0.coords t)) (h2 : ¬ k0_cond2 (grid0.coords t) = 1#1) (h3 : ¬ C3 (grid0.coords t)) (h4 : k0_cond4 (grid0.coords t) = 1#1) (h5 : k0_cond5 (grid0.coords t) = 1#1) (h6 : k0_off12 (grid0.coords t) = ![0, 1792]) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32)
    (X0 : x0 = Xi m c (t.val / 19)) (X1 : x1 = sub2 (R := 2048) (C := 11264) (V m c main_v4 : Vec F S2048x11264 .bf16) 0 (512 * min (t.val % 19) 10)) (X2 : x2 = sub2 (R := 2048) (C := 11264) (V m c main_v4 : Vec F S2048x11264 .bf16) 0 (5632 + 512 * min (t.val % 19) 10)) (X3 : x3 = (V m c main_arg4 : Vec F S3x11264 .f32)) (X4 : x4 = (V m c main_v6 : Vec F S1x11264 .f32)) (X5 : x5 = sub2 (R := 5632) (C := 2048) (V m c main_v5 : Vec F S5632x2048 .bf16) 0 (256 * (t.val % 19 - 11))) (X6 : x6 = sub2 (R := 8192) (C := 2048) (V m c main_v0 : Vec F S8192x2048 .f32) (1024 * (t.val / 19)) (256 * (t.val % 19 - 11))) (X7 : x7 = (V m c main_v3 : Vec F S1x6x2048 .f32)) (X8 : x8 = (V m c main_v7 : Vec F S1x2048 .f32))
    (hI : Inv m c t.val A W) (hO : t.val % 19 ≠ 0 → R m c (t.val - 1) O) :
    R m c t.val (M9.view.read (Elt F) (M9.view.writes (Elt F) (H9.unread O) (runE c (grid0.coords t) h1 h2 h3 h4 h5 h6 M0 H0 M1 H1 M2 H2 M3 H3 M4 H4 M5 H5 M6 H6 M7 H7 M8 H8 M9 H9 x0 x1 x2 x3 x4 x5 x6 x7 x8 O A W).2.2.1))
      ∧ Inv m c (t.val + 1) (actM.view.read (Elt F) (actM.view.writes (Elt F) (actW.unread A) (runE c (grid0.coords t) h1 h2 h3 h4 h5 h6 M0 H0 M1 H1 M2 H2 M3 H3 M4 H4 M5 H5 M6 H6 M7 H7 M8 H8 M9 H9 x0 x1 x2 x3 x4 x5 x6 x7 x8 O A W).1))
        (rawM.view.read (Elt F) (rawM.view.writes (Elt F) (rawW.unread W) (runE c (grid0.coords t) h1 h2 h3 h4 h5 h6 M0 H0 M1 H1 M2 H2 M3 H3 M4 H4 M5 H5 M6 H6 M7 H7 M8 H8 M9 H9 x0 x1 x2 x3 x4 x5 x6 x7 x8 O A W).2.1)) := by
  have e := crd1 t
  have hn : t.val < 152 := lt_of_lt_of_eq t.isLt N_0
  have hj : t.val % 19 < 19 := Nat.mod_lt _ (by decide)
  subst X0 X1 X2 X3 X4 X5 X6 X7 X8
  have q1 : (t.val + 1) % 19 = 0 := by omega
  have p1 : (t.val - 1) % 19 = t.val % 19 - 1 := by omega
  have p2 : (t.val - 1) / 19 = t.val / 19 := by omega
  have hA : ∀ k, k < 22 → (sub2 (R := 1024) (C := 6144) A 0 (512 + 256 * k) : Vec F S1024x256 .bf16) = Tk m c (t.val / 19) k :=
    fun k hk => hI.1 k hk (by omega)
  have hR := (hO (by omega)).1
  rw [p1, p2] at hR
  refine ⟨⟨fun _ h => absurd h (by omega), fun _ => ?_⟩, fun k _ h => absurd h (by omega), fun h => absurd h (by omega)⟩
  have l := act_full m c _ _ hA inb_S1024x6144_S1024x5632_0_512
  unfold runE; dsimp only
  unfold runE.sl.v22; dsimp only
  simp only [View.readAt_eq_ld, H0.read_unread, H1.read_unread, H2.read_unread, H3.read_unread, H4.read_unread, H5.read_unread, H6.read_unread, H7.read_unread, H8.read_unread, H9.read_unread, actW.read_unread]
  refine (View.read_writes_full (s := S1024x2048) M9.view _ _ _ _).trans ?_
  unfold Fin9
  rw [ld_all (R := 1024) (C := 2048), ld_all (R := 1 ) (C := 2048)]
  refine congrArg (fun u => k0_pay9 u _) (eq_join (R := 1024) (C := 2048) _ _ fun n hn => ?_)
  by_cases k1 : n = 7
  · subst k1
    refine (sub2_writes_hit (R := 1024) (C := 2048) _ _ h6 _ _ _).trans ?_
    simp only [View.readAt_eq_ld, H0.read_unread, H1.read_unread, H2.read_unread, H3.read_unread, H4.read_unread, H5.read_unread, H6.read_unread, H7.read_unread, H8.read_unread, H9.read_unread, actW.read_unread]
    rw [e0]
    exact x2_tile m c _ 7 A _ _ _ l ((off11_eq _ (by rw [e]; omega)).trans (by rw [e, e0])) _
  · refine (sub2_writes_miss (R := 1024) (C := 2048) _ _ (co := 1792) h6 _ _ _ (by omega) (by omega)).trans ?_
    rw [View.writes_nil, H9.read_unread]
    exact hR (by omega) (by omega) n (by omega)

/-- The step at such a point. -/
theorem stepE (c : Dev nD) (t : Fin cfg0.N) (O A W) (e0 : t.val % 19 = 18) (hI : Inv m c t.val A W) (hO : t.val % 19 ≠ 0 → R m c (t.val - 1) O) :
    Ok m c t O A W fun O' A' W' => R m c t.val O' ∧ Inv m c (t.val + 1) A' W' := by
  have e := crd1 t
  exact ⟨_, _, _, (runE c (grid0.coords t) (by rw [c1_iff, e]; omega) (by rw [c2_iff, e]; omega) (by rw [c3_iff, e]; omega) (by rw [c4_iff, e]; omega) (by rw [c5_iff, e]; omega) (by rw [off12_eq _ (by rw [e]; omega), e, e0]) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (iblk m c 0 t) (iblk m c 1 t) (iblk m c 2 t) (iblk m c 3 t) (iblk m c 4 t) (iblk m c 5 t) (iblk m c 6 t) (iblk m c 7 t) (iblk m c 8 t) O A W).2.2.2,
    coreE m c t e0 _ _ _ _ _ _ _ _ _ _ _ _ _ _ _ _ _ _ _ _ _ _ _ _ _ _ _ _ _ _ _ _ _ _ _ _ _ _ (iblk0 m c t) (iblk1 m c t) (iblk2 m c t) (iblk3 m c t) (iblk4 m c t) (iblk5 m c t) (iblk6 m c t) (iblk7 m c t) (iblk8 m c t) hI hO⟩

/-- Every point keeps the invariant. -/
theorem steps : Steps m (Inv m) (R m) := by
  intro c t O A W hI hO
  have h19 : t.val % 19 < 19 := Nat.mod_lt _ (by decide)
  by_cases e0 : t.val % 19 = 0
  · exact stepA m c t O A W e0 hI hO
  by_cases e1 : t.val % 19 < 11
  · exact stepB m c t O A W e0 e1 hI hO
  by_cases e2 : t.val % 19 = 11
  · exact stepC m c t O A W e2 hI hO
  by_cases e3 : t.val % 19 = 18
  · exact stepE m c t O A W e3 hI hO
  exact stepD m c t O A W (by omega) (by omega) hI hO

end Cert.Kernel4Ideal.Ffn
end
-- ==== Proof.FfnMath.lean ====
/-
  The feed-forward kernel's values against the plain formulas, over the extended reals.

  The reference is cut into named stages: `Hh` the up projection, `Cv` the convolution along a sequence, `Ac` the gated
  activations, `X2r` the stream after the down projection, `Yr` its norm. Each stage of the kernel is the reference's
  stage at the place of the row and the column in the whole array. A tile of 1024 rows holds four sequences of 256, so
  the row before a sequence's first and the row after its last are replaced by zero, as the reference's padding has it.
-/
module

public import proofs.«01_k».proof.Proof.FfnTiles
public import proofs.«01_k».proof.Proof.Gen.Reference4Ideal.Run

@[expose] public section

set_option maxRecDepth 16384

noncomputable section

open Idealize.ShloMosaic Idealize.ShloMosaic.TcCoe Idealize.SL.Sem

namespace Cert.Reference4Ideal.Ffn

open Cert.Reference4Ideal Cert.Reference4Ideal.Gen

/-- The up projection. -/
def Hh (a1 : FVec Ideal S32x256x2048 .f32) (a3 : FVec Ideal S2048x11264 .f32) : FVec Ideal S32x256x11264 .f32 :=
  Host.dotGeneral dot_S32x256x2048_S2048x11264_S32x256x11264_2_0_01_1_n_n none a1 a3

/-- A sequence with a row of zeros before and after it. -/
def Hp (h : FVec Ideal S32x256x11264 .f32) : FVec Ideal S32x258x11264 .f32 :=
  pad S32x258x11264 ![0, 1, 0] ![0, 1, 0] ![0, 0, 0] h (sitofp .f32 (constantI S_ 32 0#32)) pads_S32x256x11264_S32x258x11264_000_110_000 h_S_

/-- The convolution along a sequence. -/
def Cv (h : FVec Ideal S32x256x11264 .f32) (a4 : FVec Ideal S3x11264 .f32) (a5 : FVec Ideal S11264 .f32) : FVec Ideal S32x256x11264 .f32 :=
  addf (addf (addf (mulf (extractStridedSlice S32x256x11264 ![0, 0, 0] (Hp h) slices_S32x258x11264_S32x256x11264_0_0_0) (broadcastInDim S32x256x11264 ![0, 1, 2] bcast_S1x1x11264_S32x256x11264_0_1_2 (broadcastInDim S1x1x11264 ![2] bcast_S11264_S1x1x11264_2 (shapeCast _ (extractStridedSlice S1x11264 ![0, 0] a4 slices_S3x11264_S1x11264_0_0) shapeCasts_S1x11264_S11264)))) (mulf (extractStridedSlice S32x256x11264 ![0, 1, 0] (Hp h) slices_S32x258x11264_S32x256x11264_0_1_0) (broadcastInDim S32x256x11264 ![0, 1, 2] bcast_S1x1x11264_S32x256x11264_0_1_2 (broadcastInDim S1x1x11264 ![2] bcast_S11264_S1x1x11264_2 (shapeCast _ (extractStridedSlice S1x11264 ![1, 0] a4 slices_S3x11264_S1x11264_1_0) shapeCasts_S1x11264_S11264))))) (mulf (extractStridedSlice S32x256x11264 ![0, 2, 0] (Hp h) slices_S32x258x11264_S32x256x11264_0_2_0) (broadcastInDim S32x256x11264 ![0, 1, 2] bcast_S1x1x11264_S32x256x11264_0_1_2 (broadcastInDim S1x1x11264 ![2] bcast_S11264_S1x1x11264_2 (shapeCast _ (extractStridedSlice S1x11264 ![2, 0] a4 slices_S3x11264_S1x11264_2_0) shapeCasts_S1x11264_S11264))))) (broadcastInDim S32x256x11264 ![0, 1, 2] bcast_S1x1x11264_S32x256x11264_0_1_2 (broadcastInDim S1x1x11264 ![2] bcast_S11264_S1x1x11264_2 a5))

/-- The gated activations: the first half through `silu`, times the second half. -/
def Ac (v : FVec Ideal S32x256x11264 .f32) : FVec Ideal S32x256x5632 .f32 :=
  mulf (mulf (extractStridedSlice S32x256x5632 ![0, 0, 0] v slices_S32x256x11264_S32x256x5632_0_0_0) (Host.divf (broadcastInDim S32x256x5632 ![] bcast_S_S32x256x5632 (constant S_ .f32 0x3F800000#32)) (addf (broadcastInDim S32x256x5632 ![] bcast_S_S32x256x5632 (constant S_ .f32 0x3F800000#32)) (Host.exp (Host.negf (extractStridedSlice S32x256x5632 ![0, 0, 0] v slices_S32x256x11264_S32x256x5632_0_0_0)))))) (extractStridedSlice S32x256x5632 ![0, 0, 5632] v slices_S32x256x11264_S32x256x5632_0_0_5632)

/-- The stream after the down projection. -/
def X2r (a0 : FVec Ideal S32x256x2048 .f32) (a2 : FVec Ideal S12288 .f32) (a6 : FVec Ideal S5632x2048 .f32) (ac : FVec Ideal S32x256x5632 .f32) : FVec Ideal S32x256x2048 .f32 :=
  addf a0 (mulf (broadcastInDim S32x256x2048 ![0, 1, 2] bcast_S1x1x2048_S32x256x2048_0_1_2 (broadcastInDim S1x1x2048 ![2] bcast_S2048_S1x1x2048_2 (extractStridedSlice S2048 ![10240] a2 slices_S12288_S2048_10240))) (Host.dotGeneral dot_S32x256x5632_S5632x2048_S32x256x2048_2_0_01_1_n_n none ac a6))

/-- The norm of the stream. -/
def Yr (x : FVec Ideal S32x256x2048 .f32) (a7 : FVec Ideal S2048 .f32) : FVec Ideal S32x256x2048 .f32 :=
  mulf (mulf x (broadcastInDim S32x256x2048 ![0, 1, 2] bcast_S32x256x1_S32x256x2048_0_1_2 (Host.rsqrt (addf (Host.divf (broadcastInDim S32x256x1 ![0, 1] bcast_S32x256_S32x256x1_0_1 (Host.reduceAdd (mulf x x) (constant S_ .f32 0x00000000#32) reducesTo_S32x256x2048_S32x256_d2 h_S_)) (broadcastInDim S32x256x1 ![] bcast_S_S32x256x1 (constant S_ .f32 0x45000000#32))) (broadcastInDim S32x256x1 ![] bcast_S_S32x256x1 (constant S_ .f32 0x358637BD#32)))))) (broadcastInDim S32x256x2048 ![0, 1, 2] bcast_S1x1x2048_S32x256x2048_0_1_2 (broadcastInDim S1x1x2048 ![2] bcast_S2048_S1x1x2048_2 a7))

/-- The reference's result as a function of its arguments. -/
def Res (a0 a1 : FVec Ideal S32x256x2048 .f32) (a2 : FVec Ideal S12288 .f32) (a3 : FVec Ideal S2048x11264 .f32) (a4 : FVec Ideal S3x11264 .f32)
    (a5 : FVec Ideal S11264 .f32) (a6 : FVec Ideal S5632x2048 .f32) (a7 : FVec Ideal S2048 .f32) : FVec Ideal S8192x2048 .f32 :=
  shapeCast S8192x2048 (Yr (X2r a0 a2 a6 (Ac (Cv (Hh a1 a3) a4 a5))) a7) shapeCasts_S32x256x2048_S8192x2048

/-- The generated name of the result is `Res` of the arguments. -/
theorem res_eq (m : (ℓ : Loc nD τ sig) → Buf (Elt Ideal) ℓ) (c : Dev nD) :
    Value.res_main_v53 m c = Res (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  unfold Value.res_main_v53 Res Yr X2r Ac Cv Hp Hh; rfl

theorem Hh_at (a1 a3) (b : Fin 32) (s : Fin 256) (n : Fin 11264) : Hh a1 a3 (ix3 b s n) = ∑ d : Fin 2048, a1 (ix3 b s d) * a3 (ix2 d n) := by
  pointwise [Hh]

theorem Hp_at (h) (b : Fin 32) (s : Fin 258) (n : Fin 11264) : Hp h (ix3 b s n) = if hs : 1 ≤ s.val ∧ s.val - 1 < 256 then h (ix3 b ⟨s.val - 1, hs.2⟩ n) else 0 := by
  pointwise [Hp]
  rw [show (FloatOps.sitofp FTy.f32 0#32 : Ideal .f32) = 0 from by simp [FloatOps.sitofp]]

theorem Cv_at (h a4 a5) (b : Fin 32) (s : Fin 256) (n : Fin 11264) : Cv h a4 a5 (ix3 b s n) =
    Hp h (ix3 b ⟨s.val, by omega⟩ n) * a4 (ix2 0 n) + Hp h (ix3 b ⟨1 + s.val, by omega⟩ n) * a4 (ix2 1 n)
      + Hp h (ix3 b ⟨2 + s.val, by omega⟩ n) * a4 (ix2 2 n) + a5 (ix1 n) := by
  pointwise [Cv]

end Cert.Reference4Ideal.Ffn

namespace Cert.Kernel4Ideal.Ffn

open Cert.Kernel4Ideal Cert.Kernel4Ideal.Gen
open Cert.Reference4Ideal.Ffn (Hh_at Hh Hp Cv Ac X2r Yr Res)

theorem raw_at (x w) (r : Fin 1024) (q : Fin 256) : raw (F := Ideal) x w (ix2 r q) = ∑ d : Fin 2048, x (ix2 r d) * w (ix2 d q) := by
  pointwise [raw, k0_pay20, k0_pay10]

theorem pay2_at : ∀ r : Fin 1024, k0_pay2 (ix2 r 0) = if r.val % 256 = 0 then 0#1 else 1#1 := by
  decide +kernel
theorem pay3_at : ∀ r : Fin 1024, k0_pay3 (ix2 r 0) = if r.val % 256 = 255 then 0#1 else 1#1 := by
  decide +kernel

/-- The convolution of one tile. -/
theorem conv_at (u c d) (r : Fin 1024) (q : Fin 256) : k0_pay22 (F := Ideal) k0_pay2 k0_pay3 u c d (ix2 r q) =
    Scalar.select (k0_pay2 (ix2 r 0)) (c (ix2 0 q) * u (ix2 ⟨(r.val + 1024 - 1) % 1024, Nat.mod_lt _ (by decide)⟩ q)) 0 + c (ix2 1 q) * u (ix2 r q)
      + Scalar.select (k0_pay3 (ix2 r 0)) (c (ix2 2 q) * u (ix2 ⟨(r.val + 1024 - 1023) % 1024, Nat.mod_lt _ (by decide)⟩ q)) 0 + d (ix2 0 q) := by
  pointwise [k0_pay22]

/-- The gate of a tile in terms of the two convolutions. -/
theorem gtile_eq (a b : FVec Ideal S1024x256 .f32) (cA cB : Vec Ideal S3x256 .f32) (dA dB : Vec Ideal S1x256 .f32) (r : Fin 1024) (q : Fin 256) (A B : EReal)
    (hA : k0_pay22 k0_pay2 k0_pay3 a cA dA (ix2 r q) = A) (hB : k0_pay22 k0_pay2 k0_pay3 b cB dB (ix2 r q) = B) :
    gtile a b cA cB dA dB (ix2 r q) = A * Ideal.div 1 (1 + Ideal.exp (0 - A)) * B := by
  have e : gtile a b cA cB dA dB = truncf .bf16 (mulf (mulf (k0_pay22 k0_pay2 k0_pay3 a cA dA) (divf (broadcast S1024x256 (Scalar.ofBits .f32 0x3F800000#32))
    (addf (broadcast S1024x256 (Scalar.ofBits .f32 0x3F800000#32)) (exp (subf (broadcast S1024x256 (Scalar.ofBits .f32 0x00000000#32)) (k0_pay22 k0_pay2 k0_pay3 a cA dA))))))
    (k0_pay22 k0_pay2 k0_pay3 b cB dB)) bitsLt_bf16_f32 := by
    unfold gtile k0_pay23
    exact shapeCast_self _ _
  rw [e]
  pointwise
  rw [hA, hB]

/-- The reference's gated activations at an element. -/
theorem Ac_at (v) (b : Fin 32) (s : Fin 256) (n : Fin 5632) : Ac v (ix3 b s n) =
    v (ix3 b s ⟨n.val, by omega⟩) * Ideal.div 1 (1 + Ideal.exp (-v (ix3 b s ⟨n.val, by omega⟩))) * v (ix3 b s ⟨5632 + n.val, by omega⟩) := by
  pointwise [Ac]

theorem X2r_at (a0 a2 a6 ac) (b : Fin 32) (s : Fin 256) (n : Fin 2048) : X2r a0 a2 a6 ac (ix3 b s n) =
    a0 (ix3 b s n) + a2 (ix1 ⟨10240 + n.val, by omega⟩) * ∑ x : Fin 5632, ac (ix3 b s x) * a6 (ix2 x n) := by
  pointwise [X2r]

theorem Yr_at (x a7) (b : Fin 32) (s : Fin 256) (n : Fin 2048) : Yr x a7 (ix3 b s n) =
    x (ix3 b s n) * Ideal.rsqrt (Ideal.div (∑ k : Fin 2048, x (ix3 b s k) * x (ix3 b s k)) (Ideal.ofBits FTy.f32 1157627904#32)
      + Ideal.ofBits FTy.f32 897988541#32) * a7 (ix1 n) := by
  pointwise [Yr]

theorem pay8_at (a w x g) (r : Fin 1024) (q : Fin 256) : k0_pay8 (F := Ideal) a w x g (ix2 r q) =
    x (ix2 r q) + g (ix3 0 0 q) * ∑ k : Fin 5632, a (ix2 r k) * w (ix2 k q) := by
  pointwise [k0_pay8]

theorem pay9_at (x g) (r : Fin 1024) (q : Fin 2048) : k0_pay9 (F := Ideal) x g (ix2 r q) =
    x (ix2 r q) * Ideal.rsqrt (Ideal.div (∑ k : Fin 2048, x (ix2 r k) * x (ix2 r k)) (Ideal.ofBits FTy.f32 1157627904#32)
      + Ideal.ofBits FTy.f32 897988541#32) * g (ix2 0 q) := by
  pointwise [k0_pay9]

/-- An element of a rectangle of a matrix. -/
theorem sub2_at {R C r c : ℕ} [NeZero R] [NeZero C] {e : EltTy} (a : Vec Ideal (⟨2, ![R, C]⟩ : Shape) e) {ro co : ℕ} (x : Fin r) (y : Fin c) (P : Fin R) (Q : Fin C)
    (hP : P.val = ro + x.val) (hQ : Q.val = co + y.val) : (sub2 a ro co : Vec Ideal (⟨2, ![r, c]⟩ : Shape) e) (ix2 x y) = a (ix2 P Q) := by
  have e1 : Fin.ofNat R (ro + x.val) = P := Fin.ext (by rw [Fin.val_ofNat, ← hP, Nat.mod_eq_of_lt P.isLt])
  have e2 : Fin.ofNat C (co + y.val) = Q := Fin.ext (by rw [Fin.val_ofNat, ← hQ, Nat.mod_eq_of_lt Q.isLt])
  show a (ix2 (Fin.ofNat R (ro + x.val)) (Fin.ofNat C (co + y.val))) = _
  rw [e1, e2]

variable (m : (ℓ : Loc nD τ sig) → Buf (Elt Ideal) ℓ)

/-! The arguments of the reference's stages, named. -/

abbrev A0 (c : Dev nD) : FVec Ideal S32x256x2048 .f32 := m ((c.tc : Thread nD τ).loc main_arg0)
abbrev A1 (c : Dev nD) : FVec Ideal S32x256x2048 .f32 := m ((c.tc : Thread nD τ).loc main_arg1)
abbrev A2 (c : Dev nD) : FVec Ideal S12288 .f32 := m ((c.tc : Thread nD τ).loc main_arg2)
abbrev A3 (c : Dev nD) : FVec Ideal S2048x11264 .f32 := m ((c.tc : Thread nD τ).loc main_arg3)
abbrev A4 (c : Dev nD) : FVec Ideal S3x11264 .f32 := m ((c.tc : Thread nD τ).loc main_arg4)
abbrev A5 (c : Dev nD) : FVec Ideal S11264 .f32 := m ((c.tc : Thread nD τ).loc main_arg5)
abbrev A6 (c : Dev nD) : FVec Ideal S5632x2048 .f32 := m ((c.tc : Thread nD τ).loc main_arg6)
abbrev A7 (c : Dev nD) : FVec Ideal S2048 .f32 := m ((c.tc : Thread nD τ).loc main_arg7)

/-! The host's arrays at the launch: reshaped and cast arguments. -/

def hv0 (c : Dev nD) : FVec Ideal S8192x2048 .f32 := shapeCast S8192x2048 (A0 m c) shapeCasts_S32x256x2048_S8192x2048
def hv2 (c : Dev nD) : FVec Ideal S8192x2048 .bf16 := truncf .bf16 (shapeCast S8192x2048 (A1 m c) shapeCasts_S32x256x2048_S8192x2048) bitsLt_bf16_f32
def hv3 (c : Dev nD) : FVec Ideal S1x6x2048 .f32 := shapeCast S1x6x2048 (A2 m c) shapeCasts_S12288_S1x6x2048
def hv4 (c : Dev nD) : FVec Ideal S2048x11264 .bf16 := truncf .bf16 (A3 m c) bitsLt_bf16_f32
def hv5 (c : Dev nD) : FVec Ideal S5632x2048 .bf16 := truncf .bf16 (A6 m c) bitsLt_bf16_f32
def hv6 (c : Dev nD) : FVec Ideal S1x11264 .f32 := shapeCast S1x11264 (A5 m c) shapeCasts_S11264_S1x11264
def hv7 (c : Dev nD) : FVec Ideal S1x2048 .f32 := shapeCast S1x2048 (A7 m c) shapeCasts_S2048_S1x2048

theorem v0_eq (c : Dev nD) : V m c main_v0 = hv0 m c := rfl
theorem v2_eq (c : Dev nD) : V m c main_v2 = hv2 m c := rfl
theorem v3_eq (c : Dev nD) : V m c main_v3 = hv3 m c := rfl
theorem v4_eq (c : Dev nD) : V m c main_v4 = hv4 m c := rfl
theorem v5_eq (c : Dev nD) : V m c main_v5 = hv5 m c := rfl
theorem v6_eq (c : Dev nD) : V m c main_v6 = hv6 m c := rfl
theorem v7_eq (c : Dev nD) : V m c main_v7 = hv7 m c := rfl

theorem hv0_at (c : Dev nD) (R : Fin 8192) (d : Fin 2048) : hv0 m c (ix2 R d) = A0 m c (ix3 ⟨R.val / 256, by omega⟩ ⟨R.val % 256, by omega⟩ d) := by
  pointwise [hv0]
theorem hv2_at (c : Dev nD) (R : Fin 8192) (d : Fin 2048) : hv2 m c (ix2 R d) = A1 m c (ix3 ⟨R.val / 256, by omega⟩ ⟨R.val % 256, by omega⟩ d) := by
  pointwise [hv2]
theorem hv3_at (c : Dev nD) (q : Fin 2048) : hv3 m c (ix3 0 5 q) = A2 m c (ix1 ⟨10240 + q.val, by omega⟩) := by
  pointwise [hv3]
theorem hv4_at (c : Dev nD) (d : Fin 2048) (n : Fin 11264) : hv4 m c (ix2 d n) = A3 m c (ix2 d n) := by
  pointwise [hv4]
theorem hv5_at (c : Dev nD) (d : Fin 5632) (n : Fin 2048) : hv5 m c (ix2 d n) = A6 m c (ix2 d n) := by
  pointwise [hv5]
theorem hv6_at (c : Dev nD) (n : Fin 11264) : hv6 m c (ix2 0 n) = A5 m c (ix1 n) := by
  pointwise [hv6]
theorem hv7_at (c : Dev nD) (n : Fin 2048) : hv7 m c (ix2 0 n) = A7 m c (ix1 n) := by
  pointwise [hv7]

/-! The reference's stages at the kernel's arguments. -/

def hh (c : Dev nD) : FVec Ideal Cert.Reference4Ideal.S32x256x11264 .f32 := Hh (A1 m c) (A3 m c)
def cv (c : Dev nD) : FVec Ideal Cert.Reference4Ideal.S32x256x11264 .f32 := Cv (hh m c) (A4 m c) (A5 m c)
def ac (c : Dev nD) : FVec Ideal Cert.Reference4Ideal.S32x256x5632 .f32 := Ac (cv m c)
def x2 (c : Dev nD) : FVec Ideal S32x256x2048 .f32 := X2r (A0 m c) (A2 m c) (A6 m c) (ac m c)
def yr (c : Dev nD) : FVec Ideal S32x256x2048 .f32 := Yr (x2 m c) (A7 m c)

/-- A raw tile is the up projection at its rows and columns. -/
theorem raw_ref (c : Dev nD) (i n : ℕ) (hi : i < 8) (r : Fin 1024) (q : Fin 256) (b : Fin 32) (s : Fin 256) (N : Fin 11264)
    (hb : b.val = (1024 * i + r.val) / 256) (hs : s.val = (1024 * i + r.val) % 256) (hN : N.val = n + q.val) :
    raw (Xi m c i) (Wn m c n) (ix2 r q) = hh m c (ix3 b s N) := by
  rw [raw_at]; unfold hh; rw [Hh_at]
  refine Finset.sum_congr rfl fun d _ => ?_
  unfold Xi Wn
  rw [sub2_at _ r d ⟨1024 * i + r.val, by omega⟩ d rfl (Nat.zero_add _).symm, sub2_at _ d q d N (Nat.zero_add _).symm hN, v2_eq, v4_eq, hv2_at, hv4_at]
  rw [show (⟨(1024 * i + r.val) / 256, by omega⟩ : Fin 32) = b from Fin.ext hb.symm, show (⟨(1024 * i + r.val) % 256, by omega⟩ : Fin 256) = s from Fin.ext hs.symm]

/-- The convolution of a tile is the reference's convolution at its rows and columns. -/
theorem conv_ref (c : Dev nD) (i n : ℕ) (hi : i < 8) (r : Fin 1024) (q : Fin 256) (b : Fin 32) (s : Fin 256) (N : Fin 11264)
    (hb : b.val = (1024 * i + r.val) / 256) (hs : s.val = (1024 * i + r.val) % 256) (hN : N.val = n + q.val) :
    k0_pay22 k0_pay2 k0_pay3 (raw (Xi m c i) (Wn m c n)) (Cn m c n) (Bn m c n) (ix2 r q) = cv m c (ix3 b s N) := by
  have hs' : s.val = r.val % 256 := by omega
  have hC : ∀ j : Fin 3, Cn m c n (ix2 j q) = A4 m c (ix2 j N) := fun j => by
    unfold Cn; rw [sub2_at _ j q j N (Nat.zero_add _).symm hN, V_main_arg4]
  have hB : Bn m c n (ix2 0 q) = A5 m c (ix1 N) := by
    unfold Bn; rw [sub2_at _ 0 q 0 N rfl hN, v6_eq, hv6_at]
  rw [conv_at, hC, hC, hC, hB, pay2_at, pay3_at]; unfold cv
  rw [Cert.Reference4Ideal.Ffn.Cv_at]
  congr 1
  congr 1
  · congr 1
    · rw [Cert.Reference4Ideal.Ffn.Hp_at]
      by_cases h0 : r.val % 256 = 0
      · rw [if_pos h0, dif_neg (by dsimp only; omega), zero_mul]; rfl
      · rw [if_neg h0, dif_pos (by dsimp only; omega), raw_ref m c i n hi _ q b ⟨s.val - 1, by omega⟩ N (by dsimp only; omega) (by dsimp only; omega) hN, mul_comm]; rfl
    · rw [Cert.Reference4Ideal.Ffn.Hp_at, dif_pos (by dsimp only; omega), raw_ref m c i n hi r q b s N hb hs hN, mul_comm]
      congr 2
      blk_ext
  · rw [Cert.Reference4Ideal.Ffn.Hp_at]
    by_cases h0 : r.val % 256 = 255
    · rw [if_pos h0, dif_neg (by dsimp only; omega), zero_mul]; rfl
    · rw [if_neg h0, dif_pos (by dsimp only; omega), raw_ref m c i n hi _ q b ⟨2 + s.val - 1, by omega⟩ N (by dsimp only; omega) (by dsimp only; omega) hN, mul_comm]; rfl

/-- The gated activations of a row tile are the reference's. -/
theorem act_ref (c : Dev nD) (i : ℕ) (hi : i < 8) (r : Fin 1024) (k : Fin 5632) (b : Fin 32) (s : Fin 256)
    (hb : b.val = (1024 * i + r.val) / 256) (hs : s.val = (1024 * i + r.val) % 256) : Act m c i (ix2 r k) = ac m c (ix3 b s k) := by
  show Tk m c i (k.val / 256) (ix2 r ⟨k.val % 256, _⟩) = _
  unfold Tk ac
  rw [Ac_at]
  rw [gtile_eq _ _ _ _ _ _ r _ _ _ (conv_ref m c i _ hi r _ b s ⟨k.val, by omega⟩ hb hs (by dsimp only; omega))
    (conv_ref m c i _ hi r _ b s ⟨5632 + k.val, by omega⟩ hb hs (by dsimp only; omega)), zero_sub]

/-- The scale of a tile of the down projection. -/
theorem gn_at (c : Dev nD) (n : ℕ) (q : Fin 256) (Q : Fin 2048) (hQ : Q.val = n + q.val) :
    Gn m c n (ix3 0 0 q) = A2 m c (ix1 ⟨10240 + Q.val, by omega⟩) := by
  have e1 : Fin.ofNat 2048 (n + q.val) = Q := Fin.ext (by rw [Fin.val_ofNat, ← hQ, Nat.mod_eq_of_lt Q.isLt])
  unfold Gn
  rw [v3_eq]
  refine Eq.trans (b := hv3 m c (ix3 0 5 (Fin.ofNat 2048 (n + q.val)))) rfl ?_
  rw [e1, hv3_at]

/-- The stream after the down projection is the reference's. -/
theorem x2_ref (c : Dev nD) (i : ℕ) (hi : i < 8) (r : Fin 1024) (n : Fin 2048) (b : Fin 32) (s : Fin 256)
    (hb : b.val = (1024 * i + r.val) / 256) (hs : s.val = (1024 * i + r.val) % 256) :
    (join (X2n m c i) : Vec Ideal S1024x2048 .f32) (ix2 r n) = x2 m c (ix3 b s n) := by
  show X2n m c i (n.val / 256) (ix2 r ⟨n.val % 256, _⟩) = _
  unfold X2n x2
  rw [pay8_at, X2r_at]
  have hn : 256 * (n.val / 256) + n.val % 256 = n.val := by omega
  rw [gn_at m c (256 * (n.val / 256)) ⟨n.val % 256, Nat.mod_lt _ (by norm_num)⟩ n hn.symm,
    sub2_at _ r _ ⟨1024 * i + r.val, by omega⟩ n rfl hn.symm, v0_eq, hv0_at]
  rw [show (⟨(1024 * i + r.val) / 256, by omega⟩ : Fin 32) = b from Fin.ext hb.symm, show (⟨(1024 * i + r.val) % 256, by omega⟩ : Fin 256) = s from Fin.ext hs.symm]
  refine congrArg (fun z => A0 m c (ix3 b s n) + A2 m c (ix1 ⟨10240 + n.val, by omega⟩) * z) (Finset.sum_congr rfl fun k _ => ?_)
  rw [act_ref m c i hi r k b s hb hs, sub2_at _ k _ k n (Nat.zero_add _).symm hn.symm, v5_eq, hv5_at]

/-- The normalised rows of a tile are the reference's. -/
theorem fin_ref (c : Dev nD) (i : ℕ) (hi : i < 8) (r : Fin 1024) (n : Fin 2048) (b : Fin 32) (s : Fin 256)
    (hb : b.val = (1024 * i + r.val) / 256) (hs : s.val = (1024 * i + r.val) % 256) : Fin9 m c i (ix2 r n) = yr m c (ix3 b s n) := by
  unfold Fin9 yr
  rw [pay9_at, Yr_at, x2_ref m c i hi r n b s hb hs, v7_eq, hv7_at]
  simp only [x2_ref m c i hi r _ b s hb hs]

/-- The reference's result at the kernel's arguments. -/
def out (c : Dev nD) : FVec Ideal S8192x2048 .f32 := Res (A0 m c) (A1 m c) (A2 m c) (A3 m c) (A4 m c) (A5 m c) (A6 m c) (A7 m c)

/-- The rows of tile `i` are the rows of the result from `1024 * i`. -/
theorem out_at (c : Dev nD) (i : ℕ) (hi : i < 8) (r : Fin 1024) (n : Fin 2048) (R : Fin 8192) (hR : R.val = 1024 * i + r.val) :
    Fin9 m c i (ix2 r n) = out m c (ix2 R n) := by
  rw [fin_ref m c i hi r n ⟨R.val / 256, by omega⟩ ⟨R.val % 256, by omega⟩ (by dsimp only; omega) (by dsimp only; omega)]
  have e : out m c = shapeCast S8192x2048 (yr m c) shapeCasts_S32x256x2048_S8192x2048 := by
    unfold out Res yr x2 ac cv hh; rfl
  rw [e]
  pointwise

end Cert.Kernel4Ideal.Ffn

end
-- ==== Proof.FfnFinal.lean ====
/-
  The feed-forward kernel's result: the whole array after the run is the reference's result at the kernel's arguments.
-/
module

public import proofs.«01_k».proof.Proof.FfnSteps
public import proofs.«01_k».proof.Proof.FfnMath
public import Idealize.ShloMosaic.Lib.Pipeline.ArrRel

@[expose] public section

set_option maxRecDepth 16384

noncomputable section

open Idealize.ShloMosaic Idealize.ShloMosaic.TcCoe Idealize.SL.Sem

namespace Cert.Kernel4Ideal.Ffn

open Cert.Kernel4Ideal Cert.Kernel4Ideal.Gen

variable (m : (ℓ : Loc nD τ sig) → Buf (Elt Ideal) ℓ) (ρ : Dev nD → PrngReg)

/-- The run of the kernel: its result is the reference's, and its arguments end unchanged, from any memory. -/
theorem run_value : θ_run defs (onTc (τ := τ) (main (F := Ideal))) ⟨m, fun _ => 0, ρ⟩ (fun r => ∀ c : Dev nD,
    r.2.mem ((c.tc : Thread nD τ).loc main_v8) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ⟨?_, args_of m _ _ r h.1 c⟩) (run_main m ρ (Inv m) (R m) (steps m) (fun c A W => inv_zero m c A W))
  obtain ⟨after, hL, hA⟩ := Pipeline.RDat.FramePost.exists_exact h.1 c
  refine (hA 9).trans ?_
  refine Pipeline.Dat.arrAt_eq_of_covers _ 9 _ (by decide +kernel) fun t hf y => ?_
  have hl : R m c t.val (after 9 t) := Pipeline.Dat.toRRel_leaves (dats m (Inv m) 0 c) (fgt := fgt) (Rl := Rl (R m) c) (w := 9) rfl (hL 9 t hf)
  have ht : t.val < 152 := lt_of_lt_of_eq t.isLt N_0
  have h18 : t.val % 19 = 18 := (flush0_9 t).mp hf
  have e := hl.2 h18
  blk_simp
  show after 9 t y = _
  rw [e]
  idx_vars y
  refine (out_at m c (t.val / 19) (by omega) y0 y1 ⟨1024 * (t.val / 19) + y0, by omega⟩ rfl).trans ?_
  blk_ext [idx t]

end Cert.Kernel4Ideal.Ffn

end
-- ==== Proof.FfnClaim.lean ====
/-
  The feed-forward call's claims.
-/
module

public import proofs.«01_k».proof.Defs
public import proofs.«01_k».proof.Proof.FfnBody
public import proofs.«01_k».proof.Proof.FfnFinal
public import proofs.«01_k».proof.Proof.Gen.Kernel4
public import proofs.«01_k».proof.Proof.Gen.Reference4Ideal
public import proofs.«01_k».proof.Proof.Gen.Reference4Ideal.Run
public import Idealize.ShloMosaic.Adequacy
public import Idealize.ShloMosaic.Init

@[expose] public section

noncomputable section

namespace Cert.Proof

open Idealize.ShloMosaic Idealize.SL.Sem

/-- The feed-forward kernel at exact arithmetic: it terminates, keeps its arguments and its counters end at zero. -/
theorem ffn_frame_ideal : Cert.quiescent_Kernel4Ideal := fun m ρ _ => Cert.Kernel4Ideal.Ffn.frame m ρ

/-- The two programs' body tables agree at machine floats: they have the same text. -/
theorem ffn_defs₀ : Cert.Kernel4.defs₀ (F := Bits) = Cert.Kernel4Ideal.defs₀ := by
  unfold Cert.Kernel4.defs₀ Cert.Kernel4Ideal.defs₀
  refine congrArg Defs.onTc (funext fun l => funext fun a => ?_)
  revert a
  match l with
  | 0 => intro a; obtain ⟨t, s⟩ := a; exact rfl

theorem ffn_defs : Cert.Kernel4.defs (F := Bits) = Cert.Kernel4Ideal.defs :=
  congrArg (Pipeline.defs Cert.Kernel4.pcfgs) ffn_defs₀

/-- The same at machine floats: the run holds at any values, and the two programs have the same text. -/
theorem ffn_frame : Cert.quiescent_Kernel4 := fun m ρ _ => by
  rw [ffn_defs]
  exact (θ_run Cert.Kernel4Ideal.defs _ _).mono (fun _ h => h) (Cert.Kernel4Ideal.Ffn.frame (F := Bits) m ρ)

/-- The feed-forward reference's frame. -/
theorem ffn_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- The feed-forward kernel and its reference, at exact arithmetic: from equal arguments both runs end with equal results. -/
theorem ffn_eq : Cert.algebraic_Kernel4Ideal_Reference4Ideal := by
  pair_intro
  · run_from Cert.Kernel4Ideal.Ffn.run_value m g
  · run_from Cert.Reference4Ideal.Value.run m' g'
    · rw [Cert.Reference4Ideal.Ffn.res_eq]
      obtain ⟨h0, h1, h2, h3, h4, h5, h6, h7⟩ := hagree c
      rw [h0, h1, h2, h3, h4, h5, h6, h7]
      rfl

end Cert.Proof

end
-- ==== Proof.LatSpec.lean ====
/-
  The latent feed-forward kernel's body, run once per kind of grid point: the first column step of a row tile (`runA`), the other
  steps that form gated activations (`runB`), the step that stores the last activations and starts the second product
  (`runC`), the steps that go on with it (`runD`), and the last, which also normalises (`runE`). Each run finds what it
  stores, as lists of pieces (the last store first) for the activations, the carried products and the result's buffer.
-/
module

public import proofs.«01_k».proof.Proof.Gen.Kernel5Ideal.Frame
public import proofs.«01_k».proof.Proof.Gen.Kernel5Ideal.Skeleton
public import Idealize.ShloMosaic.Lib.Pipeline.Frame
public import Idealize.ShloMosaic.Lib.Tactic

@[expose] public section

set_option maxRecDepth 16384

noncomputable section

namespace Cert.Kernel5Ideal.Lat

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch buffer of the gated activations. -/
abbrev actM : Memref sig .tc .vmem S1024x6144 .bf16 := Memref.whole cc0_scratch0
/-- The scratch buffer of the products carried to the next column step. -/
abbrev rawM : Memref sig .tc .vmem S2x1024x256 .f32 := Memref.whole cc0_scratch1
theorem actW : actM.IsWhole := Memref.isWhole_whole _
theorem rawW : rawM.IsWhole := Memref.isWhole_whole _

/-- The first conditional's condition as printed. -/
abbrev C1 (i : grid0.Coords) : Prop := Scalar.cmpi .ne (Scalar.extui (Scalar.cmpi .eq (BitVec.ofNat 32 (i 1).val) 0#32) : BitVec 32) 0#32 = 1#1
/-- The third conditional's condition as printed. -/
abbrev C3 (i : grid0.Coords) : Prop := Scalar.cmpi .ne (Scalar.extui (Scalar.cmpi .eq (BitVec.ofNat 32 (i 1).val) 11#32) : BitVec 32) 0#32 = 1#1

/-- The body's triple with the stored pieces named: from every window's buffer and both scratch buffers at given contents
    to the same with the pieces written. -/
def Spec (c : Dev nD) (i : grid0.Coords) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32)
    (LA : List (View.Piece (Elt F) S1024x6144 .bf16)) (LW : List (View.Piece (Elt F) S2x1024x256 .f32)) (LO : List (View.Piece (Elt F) S1024x2048 .f32)) : Prop :=
  ∀ (E : Set ℕ) (K : PUnit → sProp 𝕄),
    iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare O ∗ owns (c : Thread nD τ) actM fullShare A ∗ owns (c : Thread nD τ) rawM fullShare W
        ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare (M9.view.read (Elt F) (M9.view.writes (Elt F) (H9.unread O) LO))
              ∗ owns (c : Thread nD τ) actM fullShare (actM.view.read (Elt F) (actM.view.writes (Elt F) (actW.unread A) LA))
              ∗ owns (c : Thread nD τ) rawM fullShare (rawM.view.read (Elt F) (rawM.view.writes (Elt F) (rawW.unread W) LW))) -∗ K ⟨⟩))
      ⊢ wp frame (wpE (defs₀ (F := F)) Variants.none c none) E (cc0_ffn i M0 H0 M1 H1 M2 H2 M3 H3 M4 H4 M5 H5 M6 H6 M7 H7 M8 H8 M9 H9 actM actW rawM rawW) K

end Cert.Kernel5Ideal.Lat

end
-- ==== Proof.LatRunA.lean ====
/-
  The latent feed-forward body's run at the first column step.
-/
module

public import proofs.«01_k».proof.Proof.LatSpec

@[expose] public section

set_option maxRecDepth 16384

noncomputable section

namespace Cert.Kernel5Ideal.Lat

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The run at the first column step. -/
def runA (c : Dev nD) (i : grid0.Coords) (h1 : C1 i) (h2 : k0_cond2 i = 1#1) (h3 : ¬ C3 i) (h4 : ¬ k0_cond4 i = 1#1) (h5 : ¬ k0_cond5 i = 1#1) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32) :
    Σ' (LA : List (View.Piece (Elt F) S1024x6144 .bf16)) (LW : List (View.Piece (Elt F) S2x1024x256 .f32)), { LO : List (View.Piece (Elt F) S1024x2048 .f32) //
      Spec c i M0 H0 M1 H1 M2 H2 M3 H3 M4 H4 M5 H5 M6 H6 M7 H7 M8 H8 M9 H9 x0 x1 x2 x3 x4 x5 x6 x7 x8 O A W LA LW LO } := by
  refine ⟨?_, ?_, [], fun E K => ?run⟩
  case run =>
    simp only [cc0_ffn_eq_skeleton]; unfold cc0_ffn_skel
    simp only [k0_part1_eq_skeleton, k0_part2_eq_skeleton, k0_part3_eq_skeleton, k0_part4_eq_skeleton]
    unfold k0_part1_skel k0_part2_skel k0_part3_skel k0_part4_skel
    unfold owns
    iintro ⟨⟨%f0, %hf0, P0⟩, ⟨%f1, %hf1, P1⟩, ⟨%f2, %hf2, P2⟩, ⟨%f3, %hf3, P3⟩, ⟨%f4, %hf4, P4⟩, ⟨%f5, %hf5, P5⟩, ⟨%f6, %hf6, P6⟩, ⟨%f7, %hf7, P7⟩, ⟨%f8, %hf8, P8⟩, ⟨%f9, %hf9, P9⟩, ⟨%fA, %hfA, PA⟩, ⟨%fW, %hfW, PW⟩, Hk⟩
    obtain rfl := H0.eq_unread hf0; obtain rfl := H1.eq_unread hf1; obtain rfl := H2.eq_unread hf2; obtain rfl := H3.eq_unread hf3; obtain rfl := H4.eq_unread hf4; obtain rfl := H5.eq_unread hf5; obtain rfl := H6.eq_unread hf6; obtain rfl := H7.eq_unread hf7; obtain rfl := H8.eq_unread hf8; obtain rfl := H9.eq_unread hf9
    obtain rfl := actW.eq_unread hfA; obtain rfl := rawW.eq_unread hfW
    sl_exec
    sl_step
    iapply Hk
    isplitl [P0]
    · iexists _; isplitr; · ipureintro; exact H0.read_unread _
      iexact P0
    isplitl [P1]
    · iexists _; isplitr; · ipureintro; exact H1.read_unread _
      iexact P1
    isplitl [P2]
    · iexists _; isplitr; · ipureintro; exact H2.read_unread _
      iexact P2
    isplitl [P3]
    · iexists _; isplitr; · ipureintro; exact H3.read_unread _
      iexact P3
    isplitl [P4]
    · iexists _; isplitr; · ipureintro; exact H4.read_unread _
      iexact P4
    isplitl [P5]
    · iexists _; isplitr; · ipureintro; exact H5.read_unread _
      iexact P5
    isplitl [P6]
    · iexists _; isplitr; · ipureintro; exact H6.read_unread _
      iexact P6
    isplitl [P7]
    · iexists _; isplitr; · ipureintro; exact H7.read_unread _
      iexact P7
    isplitl [P8]
    · iexists _; isplitr; · ipureintro; exact H8.read_unread _
      iexact P8
    isplitl [P9]
    · iexists _; isplitr; swap
      · iexact P9
      ipureintro; rfl
    isplitl [PA]
    · iexists _; isplitr; swap
      · iexact PA
      ipureintro; rfl
    iexists _; isplitr; swap
    · iexact PW
    ipureintro; rfl

end Cert.Kernel5Ideal.Lat

end
-- ==== Proof.LatRunB.lean ====
/-
  The latent feed-forward body's run at a column step that forms activations, not the first.
-/
module

public import proofs.«01_k».proof.Proof.LatSpec

@[expose] public section

set_option maxRecDepth 16384

noncomputable section

namespace Cert.Kernel5Ideal.Lat

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The run at a column step that forms activations, not the first. -/
def runB (c : Dev nD) (i : grid0.Coords) (h1 : ¬ C1 i) (h2 : k0_cond2 i = 1#1) (h3 : ¬ C3 i) (h4 : ¬ k0_cond4 i = 1#1) (h5 : ¬ k0_cond5 i = 1#1) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32) :
    Σ' (LA : List (View.Piece (Elt F) S1024x6144 .bf16)) (LW : List (View.Piece (Elt F) S2x1024x256 .f32)), { LO : List (View.Piece (Elt F) S1024x2048 .f32) //
      Spec c i M0 H0 M1 H1 M2 H2 M3 H3 M4 H4 M5 H5 M6 H6 M7 H7 M8 H8 M9 H9 x0 x1 x2 x3 x4 x5 x6 x7 x8 O A W LA LW LO } := by
  refine ⟨?_, ?_, [], fun E K => ?run⟩
  case run =>
    simp only [cc0_ffn_eq_skeleton]; unfold cc0_ffn_skel
    simp only [k0_part1_eq_skeleton, k0_part2_eq_skeleton, k0_part3_eq_skeleton, k0_part4_eq_skeleton]
    unfold k0_part1_skel k0_part2_skel k0_part3_skel k0_part4_skel
    unfold owns
    iintro ⟨⟨%f0, %hf0, P0⟩, ⟨%f1, %hf1, P1⟩, ⟨%f2, %hf2, P2⟩, ⟨%f3, %hf3, P3⟩, ⟨%f4, %hf4, P4⟩, ⟨%f5, %hf5, P5⟩, ⟨%f6, %hf6, P6⟩, ⟨%f7, %hf7, P7⟩, ⟨%f8, %hf8, P8⟩, ⟨%f9, %hf9, P9⟩, ⟨%fA, %hfA, PA⟩, ⟨%fW, %hfW, PW⟩, Hk⟩
    obtain rfl := H0.eq_unread hf0; obtain rfl := H1.eq_unread hf1; obtain rfl := H2.eq_unread hf2; obtain rfl := H3.eq_unread hf3; obtain rfl := H4.eq_unread hf4; obtain rfl := H5.eq_unread hf5; obtain rfl := H6.eq_unread hf6; obtain rfl := H7.eq_unread hf7; obtain rfl := H8.eq_unread hf8; obtain rfl := H9.eq_unread hf9
    obtain rfl := actW.eq_unread hfA; obtain rfl := rawW.eq_unread hfW
    sl_exec
    sl_step
    iapply Hk
    isplitl [P0]
    · iexists _; isplitr; · ipureintro; exact H0.read_unread _
      iexact P0
    isplitl [P1]
    · iexists _; isplitr; · ipureintro; exact H1.read_unread _
      iexact P1
    isplitl [P2]
    · iexists _; isplitr; · ipureintro; exact H2.read_unread _
      iexact P2
    isplitl [P3]
    · iexists _; isplitr; · ipureintro; exact H3.read_unread _
      iexact P3
    isplitl [P4]
    · iexists _; isplitr; · ipureintro; exact H4.read_unread _
      iexact P4
    isplitl [P5]
    · iexists _; isplitr; · ipureintro; exact H5.read_unread _
      iexact P5
    isplitl [P6]
    · iexists _; isplitr; · ipureintro; exact H6.read_unread _
      iexact P6
    isplitl [P7]
    · iexists _; isplitr; · ipureintro; exact H7.read_unread _
      iexact P7
    isplitl [P8]
    · iexists _; isplitr; · ipureintro; exact H8.read_unread _
      iexact P8
    isplitl [P9]
    · iexists _; isplitr; swap
      · iexact P9
      ipureintro; rfl
    isplitl [PA]
    · iexists _; isplitr; swap
      · iexact PA
      ipureintro; rfl
    iexists _; isplitr; swap
    · iexact PW
    ipureintro; rfl

end Cert.Kernel5Ideal.Lat

end
-- ==== Proof.LatRunC.lean ====
/-
  The latent feed-forward body's run at the step that stores the last activations.
-/
module

public import proofs.«01_k».proof.Proof.LatSpec

@[expose] public section

set_option maxRecDepth 16384

noncomputable section

namespace Cert.Kernel5Ideal.Lat

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The run at the step that stores the last activations. -/
def runC (c : Dev nD) (i : grid0.Coords) (h1 : ¬ C1 i) (h2 : ¬ k0_cond2 i = 1#1) (h3 : C3 i) (h4 : k0_cond4 i = 1#1) (h5 : ¬ k0_cond5 i = 1#1) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32) :
    Σ' (LA : List (View.Piece (Elt F) S1024x6144 .bf16)) (LW : List (View.Piece (Elt F) S2x1024x256 .f32)), { LO : List (View.Piece (Elt F) S1024x2048 .f32) //
      Spec c i M0 H0 M1 H1 M2 H2 M3 H3 M4 H4 M5 H5 M6 H6 M7 H7 M8 H8 M9 H9 x0 x1 x2 x3 x4 x5 x6 x7 x8 O A W LA LW LO } := by
  refine ⟨?_, [], ?_, fun E K => ?run⟩
  case run =>
    simp only [cc0_ffn_eq_skeleton]; unfold cc0_ffn_skel
    simp only [k0_part5_eq_skeleton]
    unfold k0_part5_skel
    unfold owns
    iintro ⟨⟨%f0, %hf0, P0⟩, ⟨%f1, %hf1, P1⟩, ⟨%f2, %hf2, P2⟩, ⟨%f3, %hf3, P3⟩, ⟨%f4, %hf4, P4⟩, ⟨%f5, %hf5, P5⟩, ⟨%f6, %hf6, P6⟩, ⟨%f7, %hf7, P7⟩, ⟨%f8, %hf8, P8⟩, ⟨%f9, %hf9, P9⟩, ⟨%fA, %hfA, PA⟩, ⟨%fW, %hfW, PW⟩, Hk⟩
    obtain rfl := H0.eq_unread hf0; obtain rfl := H1.eq_unread hf1; obtain rfl := H2.eq_unread hf2; obtain rfl := H3.eq_unread hf3; obtain rfl := H4.eq_unread hf4; obtain rfl := H5.eq_unread hf5; obtain rfl := H6.eq_unread hf6; obtain rfl := H7.eq_unread hf7; obtain rfl := H8.eq_unread hf8; obtain rfl := H9.eq_unread hf9
    obtain rfl := actW.eq_unread hfA; obtain rfl := rawW.eq_unread hfW
    sl_exec
    sl_step
    iapply Hk
    isplitl [P0]
    · iexists _; isplitr; · ipureintro; exact H0.read_unread _
      iexact P0
    isplitl [P1]
    · iexists _; isplitr; · ipureintro; exact H1.read_unread _
      iexact P1
    isplitl [P2]
    · iexists _; isplitr; · ipureintro; exact H2.read_unread _
      iexact P2
    isplitl [P3]
    · iexists _; isplitr; · ipureintro; exact H3.read_unread _
      iexact P3
    isplitl [P4]
    · iexists _; isplitr; · ipureintro; exact H4.read_unread _
      iexact P4
    isplitl [P5]
    · iexists _; isplitr; · ipureintro; exact H5.read_unread _
      iexact P5
    isplitl [P6]
    · iexists _; isplitr; · ipureintro; exact H6.read_unread _
      iexact P6
    isplitl [P7]
    · iexists _; isplitr; · ipureintro; exact H7.read_unread _
      iexact P7
    isplitl [P8]
    · iexists _; isplitr; · ipureintro; exact H8.read_unread _
      iexact P8
    isplitl [P9]
    · iexists _; isplitr; swap
      · iexact P9
      ipureintro; rfl
    isplitl [PA]
    · iexists _; isplitr; swap
      · iexact PA
      ipureintro; rfl
    iexists _; isplitr; swap
    · iexact PW
    ipureintro; rfl

end Cert.Kernel5Ideal.Lat

end
-- ==== Proof.LatRunD.lean ====
/-
  The latent feed-forward body's run at a step of the second product.
-/
module

public import proofs.«01_k».proof.Proof.LatSpec

@[expose] public section

set_option maxRecDepth 16384

noncomputable section

namespace Cert.Kernel5Ideal.Lat

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The run at a step of the second product. -/
def runD (c : Dev nD) (i : grid0.Coords) (h1 : ¬ C1 i) (h2 : ¬ k0_cond2 i = 1#1) (h3 : ¬ C3 i) (h4 : k0_cond4 i = 1#1) (h5 : ¬ k0_cond5 i = 1#1) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32) :
    Σ' (LA : List (View.Piece (Elt F) S1024x6144 .bf16)) (LW : List (View.Piece (Elt F) S2x1024x256 .f32)), { LO : List (View.Piece (Elt F) S1024x2048 .f32) //
      Spec c i M0 H0 M1 H1 M2 H2 M3 H3 M4 H4 M5 H5 M6 H6 M7 H7 M8 H8 M9 H9 x0 x1 x2 x3 x4 x5 x6 x7 x8 O A W LA LW LO } := by
  refine ⟨[], [], ?_, fun E K => ?run⟩
  case run =>
    simp only [cc0_ffn_eq_skeleton]; unfold cc0_ffn_skel
    unfold owns
    iintro ⟨⟨%f0, %hf0, P0⟩, ⟨%f1, %hf1, P1⟩, ⟨%f2, %hf2, P2⟩, ⟨%f3, %hf3, P3⟩, ⟨%f4, %hf4, P4⟩, ⟨%f5, %hf5, P5⟩, ⟨%f6, %hf6, P6⟩, ⟨%f7, %hf7, P7⟩, ⟨%f8, %hf8, P8⟩, ⟨%f9, %hf9, P9⟩, ⟨%fA, %hfA, PA⟩, ⟨%fW, %hfW, PW⟩, Hk⟩
    obtain rfl := H0.eq_unread hf0; obtain rfl := H1.eq_unread hf1; obtain rfl := H2.eq_unread hf2; obtain rfl := H3.eq_unread hf3; obtain rfl := H4.eq_unread hf4; obtain rfl := H5.eq_unread hf5; obtain rfl := H6.eq_unread hf6; obtain rfl := H7.eq_unread hf7; obtain rfl := H8.eq_unread hf8; obtain rfl := H9.eq_unread hf9
    obtain rfl := actW.eq_unread hfA; obtain rfl := rawW.eq_unread hfW
    sl_exec
    sl_step
    iapply Hk
    isplitl [P0]
    · iexists _; isplitr; · ipureintro; exact H0.read_unread _
      iexact P0
    isplitl [P1]
    · iexists _; isplitr; · ipureintro; exact H1.read_unread _
      iexact P1
    isplitl [P2]
    · iexists _; isplitr; · ipureintro; exact H2.read_unread _
      iexact P2
    isplitl [P3]
    · iexists _; isplitr; · ipureintro; exact H3.read_unread _
      iexact P3
    isplitl [P4]
    · iexists _; isplitr; · ipureintro; exact H4.read_unread _
      iexact P4
    isplitl [P5]
    · iexists _; isplitr; · ipureintro; exact H5.read_unread _
      iexact P5
    isplitl [P6]
    · iexists _; isplitr; · ipureintro; exact H6.read_unread _
      iexact P6
    isplitl [P7]
    · iexists _; isplitr; · ipureintro; exact H7.read_unread _
      iexact P7
    isplitl [P8]
    · iexists _; isplitr; · ipureintro; exact H8.read_unread _
      iexact P8
    isplitl [P9]
    · iexists _; isplitr; swap
      · iexact P9
      ipureintro; rfl
    isplitl [PA]
    · iexists _; isplitr; swap
      · iexact PA
      ipureintro; rfl
    iexists _; isplitr; swap
    · iexact PW
    ipureintro; rfl

end Cert.Kernel5Ideal.Lat

end
-- ==== Proof.LatRunE.lean ====
/-
  The latent feed-forward body's run at the last step.
-/
module

public import proofs.«01_k».proof.Proof.LatSpec

@[expose] public section

set_option maxRecDepth 16384

noncomputable section

namespace Cert.Kernel5Ideal.Lat

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The run at the last step. -/
def runE (c : Dev nD) (i : grid0.Coords) (h1 : ¬ C1 i) (h2 : ¬ k0_cond2 i = 1#1) (h3 : ¬ C3 i) (h4 : k0_cond4 i = 1#1) (h5 : k0_cond5 i = 1#1) (h6 : k0_off12 i = ![0, 1792]) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32) :
    Σ' (LA : List (View.Piece (Elt F) S1024x6144 .bf16)) (LW : List (View.Piece (Elt F) S2x1024x256 .f32)), { LO : List (View.Piece (Elt F) S1024x2048 .f32) //
      Spec c i M0 H0 M1 H1 M2 H2 M3 H3 M4 H4 M5 H5 M6 H6 M7 H7 M8 H8 M9 H9 x0 x1 x2 x3 x4 x5 x6 x7 x8 O A W LA LW LO } := by
  refine ⟨[], [], ?_, fun E K => ?run⟩
  case run =>
    simp only [cc0_ffn_eq_skeleton]; unfold cc0_ffn_skel
    unfold owns
    iintro ⟨⟨%f0, %hf0, P0⟩, ⟨%f1, %hf1, P1⟩, ⟨%f2, %hf2, P2⟩, ⟨%f3, %hf3, P3⟩, ⟨%f4, %hf4, P4⟩, ⟨%f5, %hf5, P5⟩, ⟨%f6, %hf6, P6⟩, ⟨%f7, %hf7, P7⟩, ⟨%f8, %hf8, P8⟩, ⟨%f9, %hf9, P9⟩, ⟨%fA, %hfA, PA⟩, ⟨%fW, %hfW, PW⟩, Hk⟩
    obtain rfl := H0.eq_unread hf0; obtain rfl := H1.eq_unread hf1; obtain rfl := H2.eq_unread hf2; obtain rfl := H3.eq_unread hf3; obtain rfl := H4.eq_unread hf4; obtain rfl := H5.eq_unread hf5; obtain rfl := H6.eq_unread hf6; obtain rfl := H7.eq_unread hf7; obtain rfl := H8.eq_unread hf8; obtain rfl := H9.eq_unread hf9
    obtain rfl := actW.eq_unread hfA; obtain rfl := rawW.eq_unread hfW
    letI : ClosedOff (k0_off12 i) := ⟨![0, 1792], h6⟩
    sl_exec
    sl_step
    iapply Hk
    isplitl [P0]
    · iexists _; isplitr; · ipureintro; exact H0.read_unread _
      iexact P0
    isplitl [P1]
    · iexists _; isplitr; · ipureintro; exact H1.read_unread _
      iexact P1
    isplitl [P2]
    · iexists _; isplitr; · ipureintro; exact H2.read_unread _
      iexact P2
    isplitl [P3]
    · iexists _; isplitr; · ipureintro; exact H3.read_unread _
      iexact P3
    isplitl [P4]
    · iexists _; isplitr; · ipureintro; exact H4.read_unread _
      iexact P4
    isplitl [P5]
    · iexists _; isplitr; · ipureintro; exact H5.read_unread _
      iexact P5
    isplitl [P6]
    · iexists _; isplitr; · ipureintro; exact H6.read_unread _
      iexact P6
    isplitl [P7]
    · iexists _; isplitr; · ipureintro; exact H7.read_unread _
      iexact P7
    isplitl [P8]
    · iexists _; isplitr; · ipureintro; exact H8.read_unread _
      iexact P8
    isplitl [P9]
    · iexists _; isplitr; swap
      · iexact P9
      ipureintro; rfl
    isplitl [PA]
    · iexists _; isplitr; swap
      · iexact PA
      ipureintro; rfl
    iexists _; isplitr; swap
    · iexact PW
    ipureintro; rfl

end Cert.Kernel5Ideal.Lat

end
-- ==== Proof.LatBody.lean ====
/-
  The latent feed-forward kernel's frame and run. The windows' blocks are exact data; the result's window and the two scratch buffers
  are held to predicates (`R` of the result's buffer after a point, `Inv` of the scratch buffers before one), so that one
  launch serves both the frame, with predicates that hold of everything, and the value proof.
-/
module

public import proofs.«01_k».proof.Proof.LatRunA
public import proofs.«01_k».proof.Proof.LatRunB
public import proofs.«01_k».proof.Proof.LatRunC
public import proofs.«01_k».proof.Proof.LatRunD
public import proofs.«01_k».proof.Proof.LatRunE
public import Idealize.ShloMosaic.Lib.Pipeline.DatRel

@[expose] public section

set_option maxRecDepth 16384

noncomputable section

namespace Cert.Kernel5Ideal.Lat

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions at a grid point -/

theorem crd1 : ∀ t : Fin cfg0.N, (grid0.coords t 1).val = t.val % 19 :=
  (by decide +kernel : ∀ t : Fin grid0.N, (grid0.coords t 1).val = t.val % 19)
theorem crd0 : ∀ t : Fin cfg0.N, (grid0.coords t 0).val = t.val / 19 :=
  (by decide +kernel : ∀ t : Fin grid0.N, (grid0.coords t 0).val = t.val / 19)

theorem c1_iff (i : grid0.Coords) : C1 i ↔ (i 1).val = 0 := by
  unfold C1; generalize hn : (i 1).val = n
  have h19 : n < 19 := hn ▸ (i 1).isLt
  clear hn
  revert n; decide +kernel
theorem c2_iff (i : grid0.Coords) : k0_cond2 i = 1#1 ↔ (i 1).val < 11 := by
  unfold k0_cond2; dsimp only; generalize hn : (i 1).val = n
  have h19 : n < 19 := hn ▸ (i 1).isLt
  clear hn
  revert n; decide +kernel
theorem c3_iff (i : grid0.Coords) : C3 i ↔ (i 1).val = 11 := by
  unfold C3; generalize hn : (i 1).val = n
  have h19 : n < 19 := hn ▸ (i 1).isLt
  clear hn
  revert n; decide +kernel
theorem c4_iff (i : grid0.Coords) : k0_cond4 i = 1#1 ↔ 11 ≤ (i 1).val := by
  unfold k0_cond4; dsimp only; generalize hn : (i 1).val = n
  have h19 : n < 19 := hn ▸ (i 1).isLt
  clear hn
  revert n; decide +kernel
theorem c5_iff (i : grid0.Coords) : k0_cond5 i = 1#1 ↔ (i 1).val = 18 := by
  unfold k0_cond5; dsimp only; generalize hn : (i 1).val = n
  have h19 : n < 19 := hn ▸ (i 1).isLt
  clear hn
  revert n; decide +kernel
theorem off1_eq (i : grid0.Coords) (h : 1 ≤ (i 1).val) : k0_off1 i = ![0, 512 * ((i 1).val - 1) + 256] := by
  unfold k0_off1; dsimp only; generalize hn : (i 1).val = n at h ⊢
  have h19 : n < 19 := hn ▸ (i 1).isLt
  clear hn
  revert h; revert h19; revert n; decide +kernel
theorem off2_eq (i : grid0.Coords) (h : 1 ≤ (i 1).val) : k0_off2 i = ![0, 512 * ((i 1).val - 1) + 256] := by
  unfold k0_off2; dsimp only; generalize hn : (i 1).val = n at h ⊢
  have h19 : n < 19 := hn ▸ (i 1).isLt
  clear hn
  revert h; revert h19; revert n; decide +kernel
theorem off3_eq (i : grid0.Coords) (h : 1 ≤ (i 1).val) : k0_off3 i = ![0, 5632 + (512 * ((i 1).val - 1) + 256)] := by
  unfold k0_off3; dsimp only; generalize hn : (i 1).val = n at h ⊢
  have h19 : n < 19 := hn ▸ (i 1).isLt
  clear hn
  revert h; revert h19; revert n; decide +kernel
theorem off4_eq (i : grid0.Coords) (h : 1 ≤ (i 1).val) : k0_off4 i = ![0, 5632 + (512 * ((i 1).val - 1) + 256)] := by
  unfold k0_off4; dsimp only; generalize hn : (i 1).val = n at h ⊢
  have h19 : n < 19 := hn ▸ (i 1).isLt
  clear hn
  revert h; revert h19; revert n; decide +kernel
theorem off5_eq (i : grid0.Coords) : k0_off5 i = ![0, 512 * (i 1).val + 256] := by
  unfold k0_off5; dsimp only; generalize hn : (i 1).val = n
  have h19 : n < 19 := hn ▸ (i 1).isLt
  clear hn
  revert h19; revert n; decide +kernel
theorem off6_eq (i : grid0.Coords) : k0_off6 i = ![0, 512 * (i 1).val] := by
  unfold k0_off6; dsimp only; generalize hn : (i 1).val = n
  have h19 : n < 19 := hn ▸ (i 1).isLt
  clear hn
  revert h19; revert n; decide +kernel
theorem off7_eq (i : grid0.Coords) : k0_off7 i = ![0, 512 * (i 1).val] := by
  unfold k0_off7; dsimp only; generalize hn : (i 1).val = n
  have h19 : n < 19 := hn ▸ (i 1).isLt
  clear hn
  revert h19; revert n; decide +kernel
theorem off8_eq (i : grid0.Coords) : k0_off8 i = ![0, 5632 + 512 * (i 1).val] := by
  unfold k0_off8; dsimp only; generalize hn : (i 1).val = n
  have h19 : n < 19 := hn ▸ (i 1).isLt
  clear hn
  revert h19; revert n; decide +kernel
theorem off9_eq (i : grid0.Coords) : k0_off9 i = ![0, 5632 + 512 * (i 1).val] := by
  unfold k0_off9; dsimp only; generalize hn : (i 1).val = n
  have h19 : n < 19 := hn ▸ (i 1).isLt
  clear hn
  revert h19; revert n; decide +kernel
theorem off10_eq (i : grid0.Coords) : k0_off10 i = ![0, 512 + 512 * (i 1).val] := by
  unfold k0_off10; dsimp only; generalize hn : (i 1).val = n
  have h19 : n < 19 := hn ▸ (i 1).isLt
  clear hn
  revert h19; revert n; decide +kernel
theorem off11_eq (i : grid0.Coords) (h : 11 ≤ (i 1).val) : k0_off11 i = ![0, 5, 256 * ((i 1).val - 11)] := by
  unfold k0_off11; dsimp only; generalize hn : (i 1).val = n at h ⊢
  have h19 : n < 19 := hn ▸ (i 1).isLt
  clear hn
  revert h; revert h19; revert n; decide +kernel
theorem off12_eq (i : grid0.Coords) (h : 11 ≤ (i 1).val) : k0_off12 i = ![0, 256 * ((i 1).val - 11)] := by
  unfold k0_off12; dsimp only; generalize hn : (i 1).val = n at h ⊢
  have h19 : n < 19 := hn ▸ (i 1).isLt
  clear hn
  revert h; revert h19; revert n; decide +kernel

/-! ## One point -/

/-- The body at point `t` leaves, from scratch contents `A`, `W` and result contents `O`, contents of which `Q` holds. -/
def Ok (c : Dev nD) (t : Fin cfg0.N) (O : Vec F S1024x2048 .f32) (A : Vec F S1024x6144 .bf16) (W : Vec F S2x1024x256 .f32)
    (Q : Vec F S1024x2048 .f32 → Vec F S1024x6144 .bf16 → Vec F S2x1024x256 .f32 → Prop) : Prop :=
  ∃ LA LW LO, Spec c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (iblk m c 0 t) (iblk m c 1 t) (iblk m c 2 t) (iblk m c 3 t) (iblk m c 4 t) (iblk m c 5 t) (iblk m c 6 t) (iblk m c 7 t) (iblk m c 8 t) O A W LA LW LO
    ∧ Q ((st0_9 t).view.read (Elt F) ((st0_9 t).view.writes (Elt F) ((hstage0_9 ((cfg0.slots t 9).cast nbuf0_9)).unread O) LO))
        (actM.view.read (Elt F) (actM.view.writes (Elt F) (actW.unread A) LA))
        (rawM.view.read (Elt F) (rawM.view.writes (Elt F) (rawW.unread W) LW))

/-- What the body needs of `Inv` and `R` at every point. -/
def Steps (Inv : Dev nD → ℕ → Vec F S1024x6144 .bf16 → Vec F S2x1024x256 .f32 → Prop) (R : Dev nD → ℕ → Vec F S1024x2048 .f32 → Prop) : Prop :=
  ∀ (c : Dev nD) (t : Fin cfg0.N) O A W, Inv c t.val A W → (t.val % 19 ≠ 0 → R c (t.val - 1) O) →
    Ok m c t O A W fun O' A' W' => R c t.val O' ∧ Inv c (t.val + 1) A' W'

variable (Inv : Dev nD → ℕ → Vec F S1024x6144 .bf16 → Vec F S2x1024x256 .f32 → Prop) (R : Dev nD → ℕ → Vec F S1024x2048 .f32 → Prop)

/-- The scratch buffers held to `Inv`, and the generator register. -/
def Phi (c : Dev nD) (n : ℕ) : sProp 𝕄 :=
  iprop(∃ A W, ⌜Inv c n A W⌝ ∗ owns (c : Thread nD τ) actM fullShare A ∗ owns (c : Thread nD τ) rawM fullShare W ∗ ∃ r, prngReg c r)

/-- The exact data: every input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Dat.unnamed (cfg := cfg0) 9 t
  Φ t := Phi Inv c t.val
  q w := Pipeline.shareOf spec0 w
  owed _ := 0

theorem A_eq (c : Dev nD) (w : Fin cfg0.W) : (dats m Inv 0 c).A w = V m c (Pipeline.arrRef spec0 w) := by
  dsimp only [dats]

theorem after0_0 (c : Dev nD) (t : Fin cfg0.N) : (dats m Inv 0 c).after 0 t = iblk m c 0 t := by dsimp only [dats]
theorem before0_0 (c : Dev nD) (t : Fin cfg0.N) (d) : (dats m Inv 0 c).before 0 t d = iblk m c 0 t :=
  before0_0_of m (dats m Inv 0 c) (A_eq m Inv c 0) (after0_0 m Inv c) t d
theorem after0_1 (c : Dev nD) (t : Fin cfg0.N) : (dats m Inv 0 c).after 1 t = iblk m c 1 t := by dsimp only [dats]
theorem before0_1 (c : Dev nD) (t : Fin cfg0.N) (d) : (dats m Inv 0 c).before 1 t d = iblk m c 1 t :=
  before0_1_of m (dats m Inv 0 c) (A_eq m Inv c 1) (after0_1 m Inv c) t d
theorem after0_2 (c : Dev nD) (t : Fin cfg0.N) : (dats m Inv 0 c).after 2 t = iblk m c 2 t := by dsimp only [dats]
theorem before0_2 (c : Dev nD) (t : Fin cfg0.N) (d) : (dats m Inv 0 c).before 2 t d = iblk m c 2 t :=
  before0_2_of m (dats m Inv 0 c) (A_eq m Inv c 2) (after0_2 m Inv c) t d
theorem after0_3 (c : Dev nD) (t : Fin cfg0.N) : (dats m Inv 0 c).after 3 t = iblk m c 3 t := by dsimp only [dats]
theorem before0_3 (c : Dev nD) (t : Fin cfg0.N) (d) : (dats m Inv 0 c).before 3 t d = iblk m c 3 t :=
  before0_3_of m (dats m Inv 0 c) (A_eq m Inv c 3) (after0_3 m Inv c) t d
theorem after0_4 (c : Dev nD) (t : Fin cfg0.N) : (dats m Inv 0 c).after 4 t = iblk m c 4 t := by dsimp only [dats]
theorem before0_4 (c : Dev nD) (t : Fin cfg0.N) (d) : (dats m Inv 0 c).before 4 t d = iblk m c 4 t :=
  before0_4_of m (dats m Inv 0 c) (A_eq m Inv c 4) (after0_4 m Inv c) t d
theorem after0_5 (c : Dev nD) (t : Fin cfg0.N) : (dats m Inv 0 c).after 5 t = iblk m c 5 t := by dsimp only [dats]
theorem before0_5 (c : Dev nD) (t : Fin cfg0.N) (d) : (dats m Inv 0 c).before 5 t d = iblk m c 5 t :=
  before0_5_of m (dats m Inv 0 c) (A_eq m Inv c 5) (after0_5 m Inv c) t d
theorem after0_6 (c : Dev nD) (t : Fin cfg0.N) : (dats m Inv 0 c).after 6 t = iblk m c 6 t := by dsimp only [dats]
theorem before0_6 (c : Dev nD) (t : Fin cfg0.N) (d) : (dats m Inv 0 c).before 6 t d = iblk m c 6 t :=
  before0_6_of m (dats m Inv 0 c) (A_eq m Inv c 6) (after0_6 m Inv c) t d
theorem after0_7 (c : Dev nD) (t : Fin cfg0.N) : (dats m Inv 0 c).after 7 t = iblk m c 7 t := by dsimp only [dats]
theorem before0_7 (c : Dev nD) (t : Fin cfg0.N) (d) : (dats m Inv 0 c).before 7 t d = iblk m c 7 t :=
  before0_7_of m (dats m Inv 0 c) (A_eq m Inv c 7) (after0_7 m Inv c) t d
theorem after0_8 (c : Dev nD) (t : Fin cfg0.N) : (dats m Inv 0 c).after 8 t = iblk m c 8 t := by dsimp only [dats]
theorem before0_8 (c : Dev nD) (t : Fin cfg0.N) (d) : (dats m Inv 0 c).before 8 t d = iblk m c 8 t :=
  before0_8_of m (dats m Inv 0 c) (A_eq m Inv c 8) (after0_8 m Inv c) t d

/-- The window whose contents are held to a predicate: the result's. -/
def fgt (w : Fin cfg0.W) : Bool := match w with | ⟨9, _⟩ => true | _ => false

/-- The predicate of the marked window's contents after a point. -/
def Rl (c : Dev nD) (w : Fin cfg0.W) (t : Fin cfg0.N) (X : (cfg0.win w).block.Idx → Elt F (cfg0.win w).elt) : Prop :=
  match w, X with | ⟨9, _⟩, X => R c t.val X | _, _ => True

/-- What is known of the result's buffer at a point's start. -/
theorem prev (c : Dev nD) (t : Fin cfg0.N) (O : Vec F S1024x2048 .f32)
    (h : ((dats m Inv 0 c).toRRel fgt (Rl R c)).Finds 9 t O) : t.val % 19 ≠ 0 → R c (t.val - 1) O := by
  intro h0
  have ht : t.val ≠ 0 := by intro e; rw [e] at h0; exact h0 rfl
  rcases ((RDat.finds_of_pos _ (w := 9) (show (cfg0.win 9).fetch t = false from rfl) ht O).mp h) with hf | hl
  · exfalso
    have := (flush0_9 ⟨t.val - 1, Nat.lt_of_le_of_lt (Nat.sub_le _ _) t.isLt⟩).mp hf
    dsimp only at this; omega
  · exact Dat.toRRel_leaves (dats m Inv 0 c) (fgt := fgt) (Rl := Rl R c) (w := 9) rfl hl

def bodyPre (c : Dev nD) (t : Fin cfg0.N) : sProp 𝕄 :=
  iprop((dats m Inv 0 c).Φ t.castSucc ∗ (dats m Inv 0 c).owesAt () t.castSucc
    ∗ (∃ d, owns (c : Thread nD τ) (st0_0 t) fullShare ((dats m Inv 0 c).before 0 t d))
    ∗ (∃ d, owns (c : Thread nD τ) (st0_1 t) fullShare ((dats m Inv 0 c).before 1 t d))
    ∗ (∃ d, owns (c : Thread nD τ) (st0_2 t) fullShare ((dats m Inv 0 c).before 2 t d))
    ∗ (∃ d, owns (c : Thread nD τ) (st0_3 t) fullShare ((dats m Inv 0 c).before 3 t d))
    ∗ (∃ d, owns (c : Thread nD τ) (st0_4 t) fullShare ((dats m Inv 0 c).before 4 t d))
    ∗ (∃ d, owns (c : Thread nD τ) (st0_5 t) fullShare ((dats m Inv 0 c).before 5 t d))
    ∗ (∃ d, owns (c : Thread nD τ) (st0_6 t) fullShare ((dats m Inv 0 c).before 6 t d))
    ∗ (∃ d, owns (c : Thread nD τ) (st0_7 t) fullShare ((dats m Inv 0 c).before 7 t d))
    ∗ (∃ d, owns (c : Thread nD τ) (st0_8 t) fullShare ((dats m Inv 0 c).before 8 t d))
    ∗ (∃ Y, ⌜((dats m Inv 0 c).toRRel fgt (Rl R c)).Finds 9 t Y⌝ ∗ owns (c : Thread nD τ) (st0_9 t) fullShare Y))

def bodyPost (c : Dev nD) (t : Fin cfg0.N) : sProp 𝕄 :=
  iprop((dats m Inv 0 c).Φ t.succ ∗ (dats m Inv 0 c).owesAt () t.succ
    ∗ owns (c : Thread nD τ) (st0_0 t) fullShare ((dats m Inv 0 c).after 0 t)
    ∗ owns (c : Thread nD τ) (st0_1 t) fullShare ((dats m Inv 0 c).after 1 t)
    ∗ owns (c : Thread nD τ) (st0_2 t) fullShare ((dats m Inv 0 c).after 2 t)
    ∗ owns (c : Thread nD τ) (st0_3 t) fullShare ((dats m Inv 0 c).after 3 t)
    ∗ owns (c : Thread nD τ) (st0_4 t) fullShare ((dats m Inv 0 c).after 4 t)
    ∗ owns (c : Thread nD τ) (st0_5 t) fullShare ((dats m Inv 0 c).after 5 t)
    ∗ owns (c : Thread nD τ) (st0_6 t) fullShare ((dats m Inv 0 c).after 6 t)
    ∗ owns (c : Thread nD τ) (st0_7 t) fullShare ((dats m Inv 0 c).after 7 t)
    ∗ owns (c : Thread nD τ) (st0_8 t) fullShare ((dats m Inv 0 c).after 8 t)
    ∗ (∃ X, ⌜Rl R c 9 t X⌝ ∗ owns (c : Thread nD τ) (st0_9 t) fullShare X))

set_option maxHeartbeats 1200000 in
/-- The body at any point, from `Steps`. -/
theorem sound_body (hs : Steps m Inv R) (c : Dev nD) (t : Fin cfg0.N) :
    bodyPre m Inv R c t ⊢ wp frame (wpE (defs₀ (F := F)) Variants.none c none) Set.univ (bodyAt0 t) (fun _ => bodyPost m Inv R c t) := by
  unfold bodyPre bodyPost bodyAt0
  simp only [before0_0, before0_1, before0_2, before0_3, before0_4, before0_5, before0_6, before0_7, before0_8]
  rw [show (dats m Inv 0 c).Φ t.succ = Phi Inv c (t.val + 1) from rfl, show (dats m Inv 0 c).Φ t.castSucc = Phi Inv c t.val from rfl,
    show (dats m Inv 0 c).owesAt () t.succ = (dats m Inv 0 c).owesAt () t.castSucc from rfl,
    after0_0, after0_1, after0_2, after0_3, after0_4, after0_5, after0_6, after0_7, after0_8]
  unfold Phi
  iintro ⟨⟨%A, %W, %hI, HA, HW, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%O, %hO, H9⟩⟩
  obtain ⟨LA, LW, LO, hS, hR, hI'⟩ := hs c t O A W hI (prev m Inv R c t O hO)
  iapply (hS Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HA]; · iexact HA
  isplitl [HW]; · iexact HW
  iintro ⟨H0, H1, H2, H3, H4, H5, H6, H7, H8, H9, HA, HW⟩
  isplitl [HA HW Hg]
  · iexists _; iexists _; isplitr; · ipureintro; exact hI'
    isplitl [HA]; · iexact HA
    isplitl [HW]; · iexact HW
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; isplitr; · ipureintro; exact hR
  iexact H9

theorem defs₀_row (t : Fin cfg0.N) :
    defs₀ (F := F) .tc cfg0.body (cfg0.bodyArgs t (cfg0.slots t)) = bodyAt0 t := by
  unfold defs₀; rw [Defs.onTc_tc]

/-- The body obligation. -/
theorem body_obligation (hs : Steps m Inv R) (c : Dev nD) :
    Pipeline.BodyObligationRel (dats (F := F) m Inv 0 c) (defs₀ (F := F)) Variants.none () Set.univ fgt (Rl R c) := fun t => by
  rw [bigSep_W0, bigSep_W0, defs₀_row]
  exact triple_restated (sound_body m Inv R hs c t) rfl .rfl fun _ => .rfl

/-- The launch's own invariant is `Phi` at contents of which nothing is asked. -/
theorem phi_in (h0 : ∀ c A W, Inv c 0 A W) (c : Dev nD) : (Pipeline.ΦA spec0 c : sProp 𝕄) ⊢ Phi Inv c 0 := by
  unfold Pipeline.ΦA Phi
  rw [scopedRest0_eq]
  iintro ⟨⟨⟨%f, HA⟩, ⟨%g, HW⟩⟩, Hg⟩
  iexists (actM.view.read (Elt F) f); iexists (rawM.view.read (Elt F) g)
  isplitr; · ipureintro; exact h0 c _ _
  isplitl [HA]
  · rw [owns_whole]; iexact HA
  isplitl [HW]
  · rw [owns_whole]; iexact HW
  iexact Hg

theorem phi_out (c : Dev nD) (n : ℕ) : (Phi Inv c n : sProp 𝕄) ⊢ Pipeline.ΦA spec0 c := by
  unfold Pipeline.ΦA Phi
  rw [scopedRest0_eq]
  simp only [owns_whole]
  iintro ⟨%A, %W, -, HA, HW, Hg⟩
  isplitl [HA HW]
  · isplitl [HA]
    · iexists _; iexact HA
    iexists _; iexact HW
  iexact Hg

set_option backward.isDefEq.respectTransparency.types false in
/-- The launch: every execution ends, with the arrays as the relational data say and the counters at zero. -/
theorem run_main (hs : Steps m Inv R) (h0 : ∀ c A W, Inv c 0 A W) :
    θ_run defs (onTc (τ := τ) (main (F := F))) (s₀ m ρ)
      (fun r => Pipeline.RDat.FramePost cfg0 (fun c => (dats m Inv 0 c).toRRel fgt (Rl R c)) (V m) r ∧ r.2.sem = fun _ => 0) :=
  Pipeline.RDat.θ_run_frame_track_shared (Q' := _) cfgs (0 : Fin 1) launch₀0 defs₀ Variants.none
    (fun c => (dats m Inv 0 c).toRRel fgt (Rl R c)) m ρ main
    (hbody := fun c => (body_obligation m Inv R hs c).toRRel) (hq := fun _ _ _ => rfl) (howed := fun _ _ => rfl)
    (V := V m) (hmain := hmain m Variants.none) (hA := A_eq m Inv) (hin := phi_in Inv h0) (hout := fun c => phi_out Inv c _)

/-- The arguments end unchanged. -/
theorem args_of (r : PUnit × MemSt nD τ sig (Elt F))
    (h : Pipeline.RDat.FramePost cfg0 (fun c => (dats m Inv 0 c).toRRel fgt (Rl R c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   (Pipeline.RDat.FramePost.arr_in h c 3 rfl).trans ((A_eq m Inv c 3).trans (V_main_arg4 m c)),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c)⟩

/-! ## The frame -/

/-- The five kinds of points are all there are, so the predicates that hold of everything need nothing. -/
theorem steps_true : Steps m (fun _ _ _ _ => True) (fun _ _ _ => True) := by
  intro c t O A W _ _
  have e := crd1 t
  have h19 : t.val % 19 < 19 := Nat.mod_lt _ (by decide)
  by_cases e0 : t.val % 19 = 0
  · exact ⟨_, _, _, (runA c (grid0.coords t) (by rw [c1_iff, e]; omega) (by rw [c2_iff, e]; omega) (by rw [c3_iff, e]; omega) (by rw [c4_iff, e]; omega) (by rw [c5_iff, e]; omega) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (iblk m c 0 t) (iblk m c 1 t) (iblk m c 2 t) (iblk m c 3 t) (iblk m c 4 t) (iblk m c 5 t) (iblk m c 6 t) (iblk m c 7 t) (iblk m c 8 t) O A W).2.2.2, trivial, trivial⟩
  by_cases e1 : t.val % 19 < 11
  · exact ⟨_, _, _, (runB c (grid0.coords t) (by rw [c1_iff, e]; omega) (by rw [c2_iff, e]; omega) (by rw [c3_iff, e]; omega) (by rw [c4_iff, e]; omega) (by rw [c5_iff, e]; omega) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (iblk m c 0 t) (iblk m c 1 t) (iblk m c 2 t) (iblk m c 3 t) (iblk m c 4 t) (iblk m c 5 t) (iblk m c 6 t) (iblk m c 7 t) (iblk m c 8 t) O A W).2.2.2, trivial, trivial⟩
  by_cases e2 : t.val % 19 = 11
  · exact ⟨_, _, _, (runC c (grid0.coords t) (by rw [c1_iff, e]; omega) (by rw [c2_iff, e]; omega) (by rw [c3_iff, e]; omega) (by rw [c4_iff, e]; omega) (by rw [c5_iff, e]; omega) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (iblk m c 0 t) (iblk m c 1 t) (iblk m c 2 t) (iblk m c 3 t) (iblk m c 4 t) (iblk m c 5 t) (iblk m c 6 t) (iblk m c 7 t) (iblk m c 8 t) O A W).2.2.2, trivial, trivial⟩
  by_cases e3 : t.val % 19 = 18
  · exact ⟨_, _, _, (runE c (grid0.coords t) (by rw [c1_iff, e]; omega) (by rw [c2_iff, e]; omega) (by rw [c3_iff, e]; omega) (by rw [c4_iff, e]; omega) (by rw [c5_iff, e]; omega) (by rw [off12_eq _ (by rw [e]; omega), e, e3]) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (iblk m c 0 t) (iblk m c 1 t) (iblk m c 2 t) (iblk m c 3 t) (iblk m c 4 t) (iblk m c 5 t) (iblk m c 6 t) (iblk m c 7 t) (iblk m c 8 t) O A W).2.2.2, trivial, trivial⟩
  exact ⟨_, _, _, (runD c (grid0.coords t) (by rw [c1_iff, e]; omega) (by rw [c2_iff, e]; omega) (by rw [c3_iff, e]; omega) (by rw [c4_iff, e]; omega) (by rw [c5_iff, e]; omega) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (iblk m c 0 t) (iblk m c 1 t) (iblk m c 2 t) (iblk m c 3 t) (iblk m c 4 t) (iblk m c 5 t) (iblk m c 6 t) (iblk m c 7 t) (iblk m c 8 t) O A W).2.2.2, trivial, trivial⟩

/-- At any values, from any memory with zero counters: every weakly fair execution of @main terminates, the arguments
    unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c => args_of m _ _ r h.1 c, h.2⟩)
    (run_main m ρ (fun _ _ _ _ => True) (fun _ _ _ => True) (steps_true m) (fun _ _ _ => trivial))

end Cert.Kernel5Ideal.Lat

end
-- ==== Proof.LatTiles.lean ====
/-
  The values of the latent feed-forward kernel, tile by tile, as functions of the whole arrays.
-/
module

public import proofs.«01_k».proof.Proof.LatBody
public import Idealize.ShloMosaic.Lib.Pipeline.ValueKit
public import Idealize.ShloMosaic.Lib.WritesUnit
public import Idealize.ShloMosaic.Lib.VecWindow

@[expose] public section

set_option maxRecDepth 16384

noncomputable section

namespace Cert.Kernel5Ideal.Lat

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]

local notation "𝕄" => MT nD τ sig Unit (Elt F) ℕ (UR sig nD τ) ℕ

/-! ## Rectangles of a matrix -/

/-- The `r × c` rectangle of a matrix at row `ro` and column `co`. -/
def sub2 {R C r c : ℕ} [NeZero R] [NeZero C] {e : EltTy} (a : Vec F (⟨2, ![R, C]⟩ : Shape) e) (ro co : ℕ) : Vec F (⟨2, ![r, c]⟩ : Shape) e :=
  fun y => a (ix2 (Fin.ofNat R (ro + (y 0).val)) (Fin.ofNat C (co + (y 1).val)))

/-- A load of a rectangle. -/
theorem ld_sub2 {R C r c : ℕ} [NeZero R] [NeZero C] {e : EltTy} (a : Vec F (⟨2, ![R, C]⟩ : Shape) e) {off : Fin 2 → ℕ} {ro co : ℕ}
    (h : off = ![ro, co]) (inb : ∀ d, off d + (![r, c] : Fin 2 → ℕ) d ≤ (![R, C] : Fin 2 → ℕ) d) :
    (View.ld (S := ⟨2, ![R, C]⟩) a (Rect.unit (s := ⟨2, ![R, C]⟩) off ![r, c] inb) : Vec F (⟨2, ![r, c]⟩ : Shape) e) = sub2 a ro co := by
  subst h
  funext y
  refine congrArg a (funext fun d => ?_)
  have h0 : ro + r ≤ R := inb 0
  have h1 : co + c ≤ C := inb 1
  have y0 : (y 0).val < r := (y 0).isLt
  have y1 : (y 1).val < c := (y 1).isLt
  match d with
  | ⟨0, _⟩ => exact Fin.ext (by show ro + 1 * (y 0).val = (ro + (y 0).val) % R; rw [Nat.mod_eq_of_lt (by omega), Nat.one_mul])
  | ⟨1, _⟩ => exact Fin.ext (by show co + 1 * (y 1).val = (co + (y 1).val) % C; rw [Nat.mod_eq_of_lt (by omega), Nat.one_mul])

/-- A rectangle of a rectangle. -/
theorem sub2_sub2 {R C R' C' r c : ℕ} [NeZero R] [NeZero C] [NeZero R'] [NeZero C'] {e : EltTy} (a : Vec F (⟨2, ![R, C]⟩ : Shape) e)
    (ro co ro' co' : ℕ) (h0 : ro' + r ≤ R') (h1 : co' + c ≤ C') :
    (sub2 (sub2 a ro co : Vec F (⟨2, ![R', C']⟩ : Shape) e) ro' co' : Vec F (⟨2, ![r, c]⟩ : Shape) e) = sub2 a (ro + ro') (co + co') := by
  funext y
  have y0 : (y 0).val < r := (y 0).isLt
  have y1 : (y 1).val < c := (y 1).isLt
  refine congrArg a (funext fun d => ?_)
  match d with
  | ⟨0, _⟩ => exact Fin.ext (by show (ro + (ro' + (y 0).val) % R') % R = (ro + ro' + (y 0).val) % R; rw [Nat.mod_eq_of_lt (a := ro' + _) (by omega), Nat.add_assoc])
  | ⟨1, _⟩ => exact Fin.ext (by show (co + (co' + (y 1).val) % C') % C = (co + co' + (y 1).val) % C; rw [Nat.mod_eq_of_lt (a := co' + _) (by omega), Nat.add_assoc])

/-- The matrix itself as a rectangle. -/
theorem sub2_self {R C : ℕ} [NeZero R] [NeZero C] {e : EltTy} (a : Vec F (⟨2, ![R, C]⟩ : Shape) e) : sub2 a 0 0 = a := by
  funext y
  refine congrArg a (funext fun d => ?_)
  match d with
  | ⟨0, _⟩ => exact Fin.ext (by show (0 + (y 0).val) % R = _; rw [Nat.zero_add]; exact Nat.mod_eq_of_lt (y 0).isLt)
  | ⟨1, _⟩ => exact Fin.ext (by show (0 + (y 1).val) % C = _; rw [Nat.zero_add]; exact Nat.mod_eq_of_lt (y 1).isLt)

/-- Column tiles of 256 side by side. -/
def join {R C : ℕ} {e : EltTy} (g : ℕ → Vec F (⟨2, ![R, 256]⟩ : Shape) e) : Vec F (⟨2, ![R, C]⟩ : Shape) e :=
  fun y => g ((y 1).val / 256) (ix2 (y 0) ⟨(y 1).val % 256, Nat.mod_lt _ (by norm_num)⟩)

/-- A matrix whose column tiles are known. -/
theorem eq_join {R C : ℕ} [NeZero R] [NeZero C] {e : EltTy} (a : Vec F (⟨2, ![R, C]⟩ : Shape) e) (g : ℕ → Vec F (⟨2, ![R, 256]⟩ : Shape) e)
    (h : ∀ n, 256 * n < C → sub2 a 0 (256 * n) = g n) : a = join g := by
  funext y
  have y0 : (y 0).val < R := (y 0).isLt
  have y1 : (y 1).val < C := (y 1).isLt
  unfold join
  rw [← h _ (by omega)]
  refine congrArg a (funext fun d => ?_)
  match d with
  | ⟨0, _⟩ => exact Fin.ext (by show (y 0).val = (0 + (y 0).val) % R; rw [Nat.zero_add, Nat.mod_eq_of_lt y0])
  | ⟨1, _⟩ => exact Fin.ext (by
      show (y 1).val = (256 * ((y 1).val / 256) + (y 1).val % 256) % C
      rw [Nat.mod_eq_of_lt (by omega)]; omega)

/-- The column tile the newest store wrote. -/
theorem sub2_writes_hit {sp : Space} {R C r c : ℕ} [NeZero R] [NeZero C] {e : EltTy} (v : View sig .tc sp (⟨2, ![R, C]⟩ : Shape) e)
    (f : v.ty.Contents (Elt F)) {off : Fin 2 → ℕ} {co : ℕ} (h : off = ![0, co])
    (inb : ∀ d, off d + (![r, c] : Fin 2 → ℕ) d ≤ (![R, C] : Fin 2 → ℕ) d) (w : Vec F (⟨2, ![r, c]⟩ : Shape) e) (L : List (View.Piece (Elt F) (⟨2, ![R, C]⟩ : Shape) e)) :
    (sub2 (v.read (Elt F) (v.writes (Elt F) f ((⟨Rect.unit (s := ⟨2, ![R, C]⟩) off ![r, c] inb, w⟩ : View.Piece (Elt F) (⟨2, ![R, C]⟩ : Shape) e) :: L))) 0 co : Vec F (⟨2, ![r, c]⟩ : Shape) e) = w := by
  subst h
  have h0 : 0 + r ≤ R := inb 0
  have h1 : co + c ≤ C := inb 1
  funext y
  have y0 : (y 0).val < r := (y 0).isLt
  have y1 : (y 1).val < c := (y 1).isLt
  refine View.read_writes_cons_unit_of_mem (s := ⟨2, ![R, C]⟩) v f inb w L _ y rfl fun d => ?_
  match d with
  | ⟨0, _⟩ => show (0 + (y 0).val) % R = 0 + (y 0).val; exact Nat.mod_eq_of_lt (by omega)
  | ⟨1, _⟩ => show (co + (y 1).val) % C = co + (y 1).val; exact Nat.mod_eq_of_lt (by omega)

/-- A column tile the newest store did not touch. -/
theorem sub2_writes_miss {sp : Space} {R C r c c' : ℕ} [NeZero R] [NeZero C] {e : EltTy} (v : View sig .tc sp (⟨2, ![R, C]⟩ : Shape) e)
    (f : v.ty.Contents (Elt F)) {off : Fin 2 → ℕ} {co co' : ℕ} (h : off = ![0, co])
    (inb : ∀ d, off d + (![r, c] : Fin 2 → ℕ) d ≤ (![R, C] : Fin 2 → ℕ) d) (w : Vec F (⟨2, ![r, c]⟩ : Shape) e) (L : List (View.Piece (Elt F) (⟨2, ![R, C]⟩ : Shape) e))
    (hd : co' + c' ≤ co ∨ co + c ≤ co') (hC : co' + c' ≤ C) :
    (sub2 (v.read (Elt F) (v.writes (Elt F) f ((⟨Rect.unit (s := ⟨2, ![R, C]⟩) off ![r, c] inb, w⟩ : View.Piece (Elt F) (⟨2, ![R, C]⟩ : Shape) e) :: L))) 0 co' : Vec F (⟨2, ![r, c']⟩ : Shape) e)
      = sub2 (v.read (Elt F) (v.writes (Elt F) f L)) 0 co' := by
  subst h
  funext y
  have y1 : (y 1).val < c' := (y 1).isLt
  refine View.read_writes_cons_unit_of_not_mem (s := ⟨2, ![R, C]⟩) v f inb w L _ rfl 1 ?_
  show (co' + (y 1).val) % C < co ∨ co + c ≤ (co' + (y 1).val) % C
  rw [Nat.mod_eq_of_lt (by omega)]
  omega

/-! ## The mathematics of one tile -/

/-- The raw activations of a column tile: the rows times the tile's weights. -/
def raw (x : Vec F S1024x2048 .bf16) (w : Vec F S2048x256 .bf16) : FVec F S1024x256 .f32 := k0_pay20 (k0_pay10 x) w

/-- A tile of the gated activations from its two raw tiles and its convolution weights. -/
def gtile (a b : FVec F S1024x256 .f32) (cA cB : Vec F S3x256 .f32) (dA dB : Vec F S1x256 .f32) : FVec F S1024x256 .bf16 :=
  k0_pay23 k0_pay2 k0_pay3 b (k0_pay22 k0_pay2 k0_pay3 a cA dA) cB dB

/-- A slab of the raw buffer. -/
def slab (h : Fin 2) (W : Vec F S2x1024x256 .f32) : FVec F S1024x256 .f32 := fun y => W (ix3 h (y 0) (y 1))

/-- A loaded slab without its leading axis. -/
theorem pay13_slab (W : Vec F S2x1024x256 .f32) (h : Fin 2) {off : Fin 3 → ℕ} (e : off = ![h.val, 0, 0]) (inb) :
    k0_pay13 (View.ld (S := S2x1024x256) W (Rect.unit (s := S2x1024x256) off ![1, 1024, 256] inb) : Vec F S1x1024x256 .f32) = slab h W := by
  subst e
  funext y
  idx_vars y
  unfold slab
  pointwise [k0_pay13]

/-- The odd tile of a step that stores two tiles. -/
theorem odd_tile (w0 w1 : Vec F S1x1024x256 .f32) (cA cB : Vec F S3x256 .f32) (dA dB : Vec F S1x256 .f32) :
    k0_pay19 (k0_pay18 k0_pay2 k0_pay3 (k0_pay14 w1) (k0_pay15 k0_pay3 w0) (k0_pay16 k0_pay2 w0 cA) (k0_pay17 cA) dA cB dB)
      = gtile (k0_pay13 w0) (k0_pay13 w1) cA cB dA dB := rfl

/-- The last tile. -/
theorem last_tile (w0 w1 : Vec F S1x1024x256 .f32) (cA cB : Vec F S3x256 .f32) (dA dB : Vec F S1x256 .f32) :
    k0_pay7 (k0_pay24 w1) (k0_pay25 k0_pay2 k0_pay3 w0 cA dA) cB (k0_pay26 k0_pay2 w1) (k0_pay27 w1) (k0_pay28 k0_pay3) k0_pay29 dB
      = gtile (k0_pay13 w0) (k0_pay13 w1) cA cB dA dB := rfl

/-- A slab just stored. -/
theorem slab_hit (f : rawM.view.ty.Contents (Elt F)) (h : Fin 2) {off : Fin 3 → ℕ} (e : off = ![h.val, 0, 0]) (inb)
    (w : FVec F S1x1024x256 .f32) (L : List (View.Piece (Elt F) S2x1024x256 .f32)) :
    slab h (rawM.view.read (Elt F) (rawM.view.writes (Elt F) f ((⟨Rect.unit (s := S2x1024x256) off ![1, 1024, 256] inb, w⟩ : View.Piece (Elt F) S2x1024x256 .f32) :: L)))
      = fun y => w (ix3 0 (y 0) (y 1)) := by
  funext y
  unfold slab
  refine View.read_writes_cons_unit_of_mem (s := S2x1024x256) rawM.view f inb w L _ (ix3 0 (y 0) (y 1)) e fun d => ?_
  match d with
  | ⟨0, _⟩ => show h.val = h.val + 0; omega
  | ⟨1, _⟩ => show (y 0).val = 0 + (y 0).val; omega
  | ⟨2, _⟩ => show (y 1).val = 0 + (y 1).val; omega

/-- A slab the newest store did not touch. -/
theorem slab_miss (f : rawM.view.ty.Contents (Elt F)) (h h' : Fin 2) (hh : h ≠ h') {off : Fin 3 → ℕ} (e : off = ![h'.val, 0, 0]) (inb)
    (w : FVec F S1x1024x256 .f32) (L : List (View.Piece (Elt F) S2x1024x256 .f32)) :
    slab h (rawM.view.read (Elt F) (rawM.view.writes (Elt F) f ((⟨Rect.unit (s := S2x1024x256) off ![1, 1024, 256] inb, w⟩ : View.Piece (Elt F) S2x1024x256 .f32) :: L)))
      = slab h (rawM.view.read (Elt F) (rawM.view.writes (Elt F) f L)) := by
  funext y
  unfold slab
  refine View.read_writes_cons_unit_of_not_mem (s := S2x1024x256) rawM.view f inb w L _ e 0 ?_
  have : h.val ≠ h'.val := fun q => hh (Fin.ext q)
  show h.val < h'.val ∨ h'.val + 1 ≤ h.val
  omega

/-- A stored slab without its leading axis. -/
theorem pay5_slab (u : FVec F S1024x256 .f32) : (fun y => k0_pay5 u (ix3 0 (y 0) (y 1)) : FVec F S1024x256 .f32) = u := by
  funext y
  idx_vars y
  pointwise [k0_pay5]

/-- A stored slab without its leading axis. -/
theorem pay6_slab (u : FVec F S1024x256 .f32) : (fun y => k0_pay6 u (ix3 0 (y 0) (y 1)) : FVec F S1024x256 .f32) = u := by
  funext y
  idx_vars y
  pointwise [k0_pay6]

/-- The rows loaded whole. -/
theorem ld_rows (x : Vec F S1024x2048 .bf16) : View.ld (S := S1024x2048) x (Rect.unit (s := S1024x2048) ![0, 0] ![1024, 2048] inb_S1024x2048_S1024x2048_0_0) = x :=
  (ld_sub2 (R := 1024) (C := 2048) x rfl _).trans (sub2_self x)

/-- A half of a block of weights. -/
theorem ld_half (a : Vec F S2048x11264 .bf16) (n h : ℕ) (hh : h + 256 ≤ 512) (inb) :
    (View.ld (S := S2048x512) (sub2 (R := 2048) (C := 11264) a 0 n : Vec F S2048x512 .bf16) (Rect.unit (s := S2048x512) ![0, h] ![2048, 256] inb) : Vec F S2048x256 .bf16)
      = sub2 (R := 2048) (C := 11264) a 0 (n + h) :=
  (ld_sub2 (R := 2048) (C := 512) _ rfl _).trans (sub2_sub2 (R := 2048) (C := 11264) (R' := 2048) (C' := 512) a 0 n 0 h (by omega) (by omega))

/-- The even tile of a step that stores two tiles. -/
theorem even_tile (x : Vec F S1024x2048 .bf16) (wA wB : Vec F S2048x256 .bf16) (cA cB : Vec F S3x256 .f32) (dA dB : Vec F S1x256 .f32) :
    k0_pay23 k0_pay2 k0_pay3 (k0_pay12 x wB) (k0_pay22 k0_pay2 k0_pay3 (k0_pay11 x wA) cA dA) cB dB
      = gtile (raw x wA) (raw x wB) cA cB dA dB := rfl

/-! ## The kernel's values from the whole arrays -/

variable (m : (ℓ : Loc nD τ sig) → Buf (Elt F) ℓ)

/-- The rows of tile `i`. -/
def Xi (c : Dev nD) (i : ℕ) : Vec F S1024x2048 .bf16 := sub2 (R := 2048) (C := 2048) (V m c main_v2 : Vec F S2048x2048 .bf16) (1024 * i) 0
/-- The 256 columns of the up projection at `n`. -/
def Wn (c : Dev nD) (n : ℕ) : Vec F S2048x256 .bf16 := sub2 (R := 2048) (C := 11264) (V m c main_v4 : Vec F S2048x11264 .bf16) 0 n
/-- The convolution weights of the 256 columns at `n`. -/
def Cn (c : Dev nD) (n : ℕ) : Vec F S3x256 .f32 := sub2 (R := 3) (C := 11264) (V m c main_arg4 : Vec F S3x11264 .f32) 0 n
/-- The convolution bias of the 256 columns at `n`. -/
def Bn (c : Dev nD) (n : ℕ) : Vec F S1x256 .f32 := sub2 (R := 1) (C := 11264) (V m c main_v6 : Vec F S1x11264 .f32) 0 n
/-- Tile `k` of the gated activations of row tile `i`. -/
def Tk (c : Dev nD) (i k : ℕ) : FVec F S1024x256 .bf16 :=
  gtile (raw (Xi m c i) (Wn m c (256 * k))) (raw (Xi m c i) (Wn m c (5632 + 256 * k))) (Cn m c (256 * k)) (Cn m c (5632 + 256 * k))
    (Bn m c (256 * k)) (Bn m c (5632 + 256 * k))
/-- The gated activations of row tile `i`. -/
def Act (c : Dev nD) (i : ℕ) : Vec F S1024x5632 .bf16 := join (Tk m c i)
/-- The modulation rows of row tile `i`, which is sequence `i`. -/
def Mi (c : Dev nD) (i : ℕ) : Vec F S1x6x2048 .f32 :=
  fun y => (V m c main_v3 : Vec F S2x6x2048 .f32) (ix3 (Fin.ofNat 2 i) (y 1) (y 2))
/-- The scale of the down projection of row tile `i` at the 256 columns `n`. -/
def Gn (c : Dev nD) (i n : ℕ) : Vec F S1x1x256 .f32 :=
  fun y => Mi m c i (ix3 0 5 (Fin.ofNat 2048 (n + (y 2).val)))
/-- Column tile `n` of the stream after the down projection. -/
def X2n (c : Dev nD) (i n : ℕ) : FVec F S1024x256 .f32 :=
  k0_pay8 (Act m c i) (sub2 (R := 5632) (C := 2048) (V m c main_v5 : Vec F S5632x2048 .bf16) 0 (256 * n) : Vec F S5632x256 .bf16)
    (sub2 (R := 2048) (C := 2048) (V m c main_v0 : Vec F S2048x2048 .f32) (1024 * i) (256 * n) : Vec F S1024x256 .f32) (Gn m c i (256 * n))
/-- The final normalised rows of tile `i`. -/
def Fin9 (c : Dev nD) (i : ℕ) : FVec F S1024x2048 .f32 :=
  k0_pay9 (join (X2n m c i) : Vec F S1024x2048 .f32) (V m c main_v7 : Vec F S1x2048 .f32)

/-- A matrix loaded whole. -/
theorem ld_all {R C : ℕ} [NeZero R] [NeZero C] {e : EltTy} (x : Vec F (⟨2, ![R, C]⟩ : Shape) e) (inb : ∀ d, (![0, 0] : Fin 2 → ℕ) d + (![R, C] : Fin 2 → ℕ) d ≤ (![R, C] : Fin 2 → ℕ) d) :
    View.ld (S := ⟨2, ![R, C]⟩) x (Rect.unit (s := ⟨2, ![R, C]⟩) ![0, 0] ![R, C] inb) = x :=
  (ld_sub2 (R := R) (C := C) x rfl _).trans (sub2_self x)

/-- Once the 22 tiles are stored the load for the down projection reads the gated activations. -/
theorem act_full (c : Dev nD) (i : ℕ) (A : Vec F S1024x6144 .bf16) (h : ∀ k, k < 22 → (sub2 (R := 1024) (C := 6144) A 0 (512 + 256 * k) : Vec F S1024x256 .bf16) = Tk m c i k) (inb) :
    (View.ld (S := S1024x6144) A (Rect.unit (s := S1024x6144) ![0, 512] ![1024, 5632] inb) : Vec F S1024x5632 .bf16) = Act m c i := by
  refine (ld_sub2 (R := 1024) (C := 6144) A rfl _).trans (eq_join (R := 1024) (C := 5632) _ _ fun n hn => ?_)
  rw [← h n (by omega)]
  exact sub2_sub2 (R := 1024) (C := 6144) (R' := 1024) (C' := 5632) A 0 512 0 (256 * n) (by omega) (by omega)

/-- The block indices of the windows at a grid point. -/
theorem idx : ∀ t : Fin cfg0.N, win0_0.index t = ![t.val / 19, 0] ∧ win0_1.index t = ![0, min (t.val % 19) 10]
    ∧ win0_2.index t = ![0, 11 + min (t.val % 19) 10] ∧ win0_3.index t = ![0, 0] ∧ win0_4.index t = ![0, 0]
    ∧ win0_5.index t = ![0, t.val % 19 - 11] ∧ win0_6.index t = ![t.val / 19, t.val % 19 - 11]
    ∧ win0_7.index t = ![t.val / 19, 0, 0] ∧ win0_8.index t = ![0, 0] ∧ win0_9.index t = ![t.val / 19, 0] :=
  (by decide +kernel : ∀ t : Fin grid0.N, _)

/-! ## The blocks of the windows -/

theorem iblk0 (c : Dev nD) (t : Fin cfg0.N) : (iblk m c 0 t : Vec F S1024x2048 .bf16) = Xi m c (t.val / 19) := by
  funext y
  have ht : t.val < 38 := lt_of_lt_of_eq t.isLt N_0
  unfold iblk Xi sub2
  refine congrArg (V m c main_v2) ?_
  blk_ext [idx t] <;> simp only [Fin.val_ofNat] <;> omega

theorem iblk1 (c : Dev nD) (t : Fin cfg0.N) : (iblk m c 1 t : Vec F S2048x512 .bf16) = sub2 (R := 2048) (C := 11264) (V m c main_v4 : Vec F S2048x11264 .bf16) 0 (512 * min (t.val % 19) 10) := by
  funext y
  have ht : t.val < 38 := lt_of_lt_of_eq t.isLt N_0
  unfold iblk sub2
  refine congrArg (V m c main_v4) ?_
  blk_ext [idx t] <;> simp only [Fin.val_ofNat] <;> omega

theorem iblk2 (c : Dev nD) (t : Fin cfg0.N) : (iblk m c 2 t : Vec F S2048x512 .bf16) = sub2 (R := 2048) (C := 11264) (V m c main_v4 : Vec F S2048x11264 .bf16) 0 (5632 + 512 * min (t.val % 19) 10) := by
  funext y
  have ht : t.val < 38 := lt_of_lt_of_eq t.isLt N_0
  unfold iblk sub2
  refine congrArg (V m c main_v4) ?_
  blk_ext [idx t] <;> simp only [Fin.val_ofNat] <;> omega

theorem iblk3 (c : Dev nD) (t : Fin cfg0.N) : (iblk m c 3 t : Vec F S3x11264 .f32) = (V m c main_arg4 : Vec F S3x11264 .f32) := by
  funext y
  have ht : t.val < 38 := lt_of_lt_of_eq t.isLt N_0
  unfold iblk
  refine congrArg (V m c main_arg4) ?_
  blk_ext [idx t]

theorem iblk4 (c : Dev nD) (t : Fin cfg0.N) : (iblk m c 4 t : Vec F S1x11264 .f32) = (V m c main_v6 : Vec F S1x11264 .f32) := by
  funext y
  have ht : t.val < 38 := lt_of_lt_of_eq t.isLt N_0
  unfold iblk
  refine congrArg (V m c main_v6) ?_
  blk_ext [idx t]

theorem iblk5 (c : Dev nD) (t : Fin cfg0.N) : (iblk m c 5 t : Vec F S5632x256 .bf16) = sub2 (R := 5632) (C := 2048) (V m c main_v5 : Vec F S5632x2048 .bf16) 0 (256 * (t.val % 19 - 11)) := by
  funext y
  have ht : t.val < 38 := lt_of_lt_of_eq t.isLt N_0
  unfold iblk sub2
  refine congrArg (V m c main_v5) ?_
  blk_ext [idx t] <;> simp only [Fin.val_ofNat] <;> omega

theorem iblk6 (c : Dev nD) (t : Fin cfg0.N) : (iblk m c 6 t : Vec F S1024x256 .f32) = sub2 (R := 2048) (C := 2048) (V m c main_v0 : Vec F S2048x2048 .f32) (1024 * (t.val / 19)) (256 * (t.val % 19 - 11)) := by
  funext y
  have ht : t.val < 38 := lt_of_lt_of_eq t.isLt N_0
  unfold iblk sub2
  refine congrArg (V m c main_v0) ?_
  blk_ext [idx t] <;> simp only [Fin.val_ofNat] <;> omega

theorem iblk7 (c : Dev nD) (t : Fin cfg0.N) : (iblk m c 7 t : Vec F S1x6x2048 .f32) = Mi m c (t.val / 19) := by
  funext y
  have ht : t.val < 38 := lt_of_lt_of_eq t.isLt N_0
  unfold iblk Mi
  refine congrArg (V m c main_v3) ?_
  blk_ext [idx t] <;> simp only [Fin.val_ofNat] <;> omega

theorem iblk8 (c : Dev nD) (t : Fin cfg0.N) : (iblk m c 8 t : Vec F S1x2048 .f32) = (V m c main_v7 : Vec F S1x2048 .f32) := by
  funext y
  have ht : t.val < 38 := lt_of_lt_of_eq t.isLt N_0
  unfold iblk
  refine congrArg (V m c main_v7) ?_
  blk_ext [idx t]

/-- The load of the scale. -/
theorem ld_gate (c : Dev nD) {i : ℕ} {off : Fin 3 → ℕ} {n : ℕ} (e : off = ![0, 5, n]) (inb) :
    (View.ld (S := S1x6x2048) (Mi m c i) (Rect.unit (s := S1x6x2048) off ![1, 1, 256] inb) : Vec F S1x1x256 .f32) = Gn m c i n := by
  subst e
  funext y
  have h2 : n + 256 ≤ 2048 := inb 2
  have y0 : (y 0).val < 1 := (y 0).isLt
  have y1 : (y 1).val < 1 := (y 1).isLt
  have y2 : (y 2).val < 256 := (y 2).isLt
  unfold Gn
  refine congrArg (Mi m c i) (funext fun d => ?_)
  match d with
  | ⟨0, _⟩ => exact Fin.ext (by show 0 + 1 * (y 0).val = 0; omega)
  | ⟨1, _⟩ => exact Fin.ext (by show 5 + 1 * (y 1).val = 5; omega)
  | ⟨2, _⟩ => exact Fin.ext (by show n + 1 * (y 2).val = (n + (y 2).val) % 2048; rw [Nat.mod_eq_of_lt (by omega), Nat.one_mul])

/-- A column tile of the down projection from the step's loads. -/
theorem x2_tile (c : Dev nD) (i n : ℕ) (A : Vec F S1024x6144 .bf16) (inb inb1 inb2)
    (l : (View.ld (S := S1024x6144) A (Rect.unit (s := S1024x6144) ![0, 512] ![1024, 5632] inb) : Vec F S1024x5632 .bf16) = Act m c i)
    {off : Fin 3 → ℕ} (e : off = ![0, 5, 256 * n]) (inb3) :
    k0_pay8 (View.ld (S := S1024x6144) A (Rect.unit (s := S1024x6144) ![0, 512] ![1024, 5632] inb))
      (View.ld (S := S5632x256) (sub2 (R := 5632) (C := 2048) (V m c main_v5 : Vec F S5632x2048 .bf16) 0 (256 * n) : Vec F S5632x256 .bf16) (Rect.unit (s := S5632x256) ![0, 0] ![5632, 256] inb1))
      (View.ld (S := S1024x256) (sub2 (R := 2048) (C := 2048) (V m c main_v0 : Vec F S2048x2048 .f32) (1024 * i) (256 * n) : Vec F S1024x256 .f32) (Rect.unit (s := S1024x256) ![0, 0] ![1024, 256] inb2))
      (View.ld (S := S1x6x2048) (Mi m c i) (Rect.unit (s := S1x6x2048) off ![1, 1, 256] inb3)) = X2n m c i n := by
  rw [l, ld_all (R := 5632) (C := 256), ld_all (R := 1024) (C := 256), ld_gate m c e]
  rfl

end Cert.Kernel5Ideal.Lat
end
-- ==== Proof.LatInv.lean ====
/-
  The latent feed-forward kernel's invariant: what the scratch buffers and the result's buffer hold between two points of the grid.
-/
module

public import proofs.«01_k».proof.Proof.LatTiles

@[expose] public section

set_option maxRecDepth 16384

noncomputable section

namespace Cert.Kernel5Ideal.Lat

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ)

/-- The scratch buffers before point `n`: the tiles stored so far of the row tile's activations, and in the raw buffer the odd
    tile of the step before. -/
def Inv (c : Dev nD) (n : ℕ) (A : Vec F S1024x6144 .bf16) (W : Vec F S2x1024x256 .f32) : Prop :=
  (∀ k, k < 22 → k + 1 < 2 * (n % 19) → (sub2 (R := 1024) (C := 6144) A 0 (512 + 256 * k) : Vec F S1024x256 .bf16) = Tk m c (n / 19) k)
  ∧ (1 ≤ n % 19 → n % 19 ≤ 11 → slab 0 W = raw (Xi m c (n / 19)) (Wn m c (256 * (2 * (n % 19) - 1)))
      ∧ slab 1 W = raw (Xi m c (n / 19)) (Wn m c (5632 + 256 * (2 * (n % 19) - 1))))

/-- The result's buffer after point `n`: the column tiles of the down projection so far, and at the row tile's last point the
    normalised rows. -/
def R (c : Dev nD) (n : ℕ) (O : Vec F S1024x2048 .f32) : Prop :=
  (11 ≤ n % 19 → n % 19 < 18 → ∀ k, k ≤ n % 19 - 11 → (sub2 (R := 1024) (C := 2048) O 0 (256 * k) : Vec F S1024x256 .f32) = X2n m c (n / 19) k)
  ∧ (n % 19 = 18 → O = Fin9 m c (n / 19))

/-- Before the first point nothing is asked. -/
theorem inv_zero (c : Dev nD) (A W) : Inv m c 0 A W :=
  ⟨fun k _ h => absurd h (by omega), fun h => absurd h (by decide)⟩

end Cert.Kernel5Ideal.Lat
end
-- ==== Proof.LatStepsUp.lean ====
/-
  One step of the latent feed-forward kernel keeps the invariant: the first step of a row tile and the steps that store two tiles.
-/
module

public import proofs.«01_k».proof.Proof.LatInv

@[expose] public section

set_option maxRecDepth 16384

noncomputable section

namespace Cert.Kernel5Ideal.Lat

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The first step of a row tile: the raw buffer is cleared and the first tile stored. -/
theorem coreA (c : Dev nD) (t : Fin cfg0.N) (e0 : t.val % 19 = 0) (h1 : C1 (grid0.coords t)) (h2 : k0_cond2 (grid0.coords t) = 1#1) (h3 : ¬ C3 (grid0.coords t)) (h4 : ¬ k0_cond4 (grid0.coords t) = 1#1) (h5 : ¬ k0_cond5 (grid0.coords t) = 1#1) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32)
    (X0 : x0 = Xi m c (t.val / 19)) (X1 : x1 = sub2 (R := 2048) (C := 11264) (V m c main_v4 : Vec F S2048x11264 .bf16) 0 (512 * min (t.val % 19) 10)) (X2 : x2 = sub2 (R := 2048) (C := 11264) (V m c main_v4 : Vec F S2048x11264 .bf16) 0 (5632 + 512 * min (t.val % 19) 10)) (X3 : x3 = (V m c main_arg4 : Vec F S3x11264 .f32)) (X4 : x4 = (V m c main_v6 : Vec F S1x11264 .f32)) (X5 : x5 = sub2 (R := 5632) (C := 2048) (V m c main_v5 : Vec F S5632x2048 .bf16) 0 (256 * (t.val % 19 - 11))) (X6 : x6 = sub2 (R := 2048) (C := 2048) (V m c main_v0 : Vec F S2048x2048 .f32) (1024 * (t.val / 19)) (256 * (t.val % 19 - 11))) (X7 : x7 = Mi m c (t.val / 19)) (X8 : x8 = (V m c main_v7 : Vec F S1x2048 .f32))
    (hI : Inv m c t.val A W) (hO : t.val % 19 ≠ 0 → R m c (t.val - 1) O) :
    R m c t.val (M9.view.read (Elt F) (M9.view.writes (Elt F) (H9.unread O) (runA c (grid0.coords t) h1 h2 h3 h4 h5 M0 H0 M1 H1 M2 H2 M3 H3 M4 H4 M5 H5 M6 H6 M7 H7 M8 H8 M9 H9 x0 x1 x2 x3 x4 x5 x6 x7 x8 O A W).2.2.1))
      ∧ Inv m c (t.val + 1) (actM.view.read (Elt F) (actM.view.writes (Elt F) (actW.unread A) (runA c (grid0.coords t) h1 h2 h3 h4 h5 M0 H0 M1 H1 M2 H2 M3 H3 M4 H4 M5 H5 M6 H6 M7 H7 M8 H8 M9 H9 x0 x1 x2 x3 x4 x5 x6 x7 x8 O A W).1))
        (rawM.view.read (Elt F) (rawM.view.writes (Elt F) (rawW.unread W) (runA c (grid0.coords t) h1 h2 h3 h4 h5 M0 H0 M1 H1 M2 H2 M3 H3 M4 H4 M5 H5 M6 H6 M7 H7 M8 H8 M9 H9 x0 x1 x2 x3 x4 x5 x6 x7 x8 O A W).2.1)) := by
  have e := crd1 t
  have hn : t.val < 38 := lt_of_lt_of_eq t.isLt N_0
  have hj : t.val % 19 < 19 := Nat.mod_lt _ (by decide)
  subst X0 X1 X2 X3 X4 X5 X6 X7 X8
  have q1 : (t.val + 1) % 19 = t.val % 19 + 1 := by omega
  have q2 : (t.val + 1) / 19 = t.val / 19 := by omega
  have q3 : min (t.val % 19) 10 = t.val % 19 := by omega
  refine ⟨?_, ?_, ?_⟩
  · exact ⟨fun h => absurd h (by omega), fun h => absurd h (by omega)⟩
  · intro k hk hk'
    rw [q1] at hk'
    rw [q2]
    unfold runA; dsimp only
    simp only [View.readAt_eq_ld, H0.read_unread, H1.read_unread, H2.read_unread, H3.read_unread, H4.read_unread, H5.read_unread, H6.read_unread, H7.read_unread, H8.read_unread, H9.read_unread, actW.read_unread, rawW.read_unread]
    by_cases k1 : k = 2 * (t.val % 19)
    · rw [show 512 + 256 * k = 512 + 512 * (t.val % 19) by omega]
      refine (sub2_writes_hit (R := 1024) (C := 6144) _ _ (by rw [off10_eq, e]) _ _ _).trans ?_
      rw [ld_sub2 _ (off6_eq _), ld_sub2 _ (off7_eq _), ld_sub2 _ (off8_eq _), ld_sub2 _ (off9_eq _), ld_rows, ld_half _ _ _ (by omega),
        ld_half _ _ _ (by omega), q3, e, even_tile]
      unfold Tk Wn Cn Bn
      rw [show 256 * k = 512 * (t.val % 19) by omega]
      rfl
    rw [sub2_writes_miss _ _ (co := 512 + 512 * (t.val % 19)) (by rw [off10_eq, e]) _ _ _ (by omega) (by omega)]
    exact absurd hk' (by omega)
  · intro j1 j2
    rw [q1, q2]
    unfold runA; dsimp only
    simp only [View.readAt_eq_ld, H0.read_unread, H1.read_unread, H2.read_unread, H3.read_unread, H4.read_unread, H5.read_unread, H6.read_unread, H7.read_unread, H8.read_unread, H9.read_unread, actW.read_unread, rawW.read_unread]
    rw [show 256 * (2 * (t.val % 19 + 1) - 1) = 512 * (t.val % 19) + 256 by omega]
    constructor
    · refine (slab_miss _ 0 1 (by decide) rfl _ _ _).trans ((slab_hit _ 0 rfl _ _ _).trans ?_)
      rw [pay5_slab, ld_rows, ld_half _ _ _ (by omega), q3]
      rfl
    · refine (slab_hit _ 1 rfl _ _ _).trans ?_
      rw [pay6_slab, ld_rows, ld_half _ _ _ (by omega), q3]
      rfl

/-- The step at such a point. -/
theorem stepA (c : Dev nD) (t : Fin cfg0.N) (O A W) (e0 : t.val % 19 = 0) (hI : Inv m c t.val A W) (hO : t.val % 19 ≠ 0 → R m c (t.val - 1) O) :
    Ok m c t O A W fun O' A' W' => R m c t.val O' ∧ Inv m c (t.val + 1) A' W' := by
  have e := crd1 t
  exact ⟨_, _, _, (runA c (grid0.coords t) (by rw [c1_iff, e]; omega) (by rw [c2_iff, e]; omega) (by rw [c3_iff, e]; omega) (by rw [c4_iff, e]; omega) (by rw [c5_iff, e]; omega) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (iblk m c 0 t) (iblk m c 1 t) (iblk m c 2 t) (iblk m c 3 t) (iblk m c 4 t) (iblk m c 5 t) (iblk m c 6 t) (iblk m c 7 t) (iblk m c 8 t) O A W).2.2.2,
    coreA m c t e0 _ _ _ _ _ _ _ _ _ _ _ _ _ _ _ _ _ _ _ _ _ _ _ _ _ _ _ _ _ _ _ _ _ _ _ _ _ (iblk0 m c t) (iblk1 m c t) (iblk2 m c t) (iblk3 m c t) (iblk4 m c t) (iblk5 m c t) (iblk6 m c t) (iblk7 m c t) (iblk8 m c t) hI hO⟩

set_option maxHeartbeats 1000000 in
/-- A step that stores two tiles and leaves the raw values of a third. -/
theorem coreB (c : Dev nD) (t : Fin cfg0.N) (e0 : t.val % 19 ≠ 0) (e1 : t.val % 19 < 11) (h1 : ¬ C1 (grid0.coords t)) (h2 : k0_cond2 (grid0.coords t) = 1#1) (h3 : ¬ C3 (grid0.coords t)) (h4 : ¬ k0_cond4 (grid0.coords t) = 1#1) (h5 : ¬ k0_cond5 (grid0.coords t) = 1#1) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32)
    (X0 : x0 = Xi m c (t.val / 19)) (X1 : x1 = sub2 (R := 2048) (C := 11264) (V m c main_v4 : Vec F S2048x11264 .bf16) 0 (512 * min (t.val % 19) 10)) (X2 : x2 = sub2 (R := 2048) (C := 11264) (V m c main_v4 : Vec F S2048x11264 .bf16) 0 (5632 + 512 * min (t.val % 19) 10)) (X3 : x3 = (V m c main_arg4 : Vec F S3x11264 .f32)) (X4 : x4 = (V m c main_v6 : Vec F S1x11264 .f32)) (X5 : x5 = sub2 (R := 5632) (C := 2048) (V m c main_v5 : Vec F S5632x2048 .bf16) 0 (256 * (t.val % 19 - 11))) (X6 : x6 = sub2 (R := 2048) (C := 2048) (V m c main_v0 : Vec F S2048x2048 .f32) (1024 * (t.val / 19)) (256 * (t.val % 19 - 11))) (X7 : x7 = Mi m c (t.val / 19)) (X8 : x8 = (V m c main_v7 : Vec F S1x2048 .f32))
    (hI : Inv m c t.val A W) (hO : t.val % 19 ≠ 0 → R m c (t.val - 1) O) :
    R m c t.val (M9.view.read (Elt F) (M9.view.writes (Elt F) (H9.unread O) (runB c (grid0.coords t) h1 h2 h3 h4 h5 M0 H0 M1 H1 M2 H2 M3 H3 M4 H4 M5 H5 M6 H6 M7 H7 M8 H8 M9 H9 x0 x1 x2 x3 x4 x5 x6 x7 x8 O A W).2.2.1))
      ∧ Inv m c (t.val + 1) (actM.view.read (Elt F) (actM.view.writes (Elt F) (actW.unread A) (runB c (grid0.coords t) h1 h2 h3 h4 h5 M0 H0 M1 H1 M2 H2 M3 H3 M4 H4 M5 H5 M6 H6 M7 H7 M8 H8 M9 H9 x0 x1 x2 x3 x4 x5 x6 x7 x8 O A W).1))
        (rawM.view.read (Elt F) (rawM.view.writes (Elt F) (rawW.unread W) (runB c (grid0.coords t) h1 h2 h3 h4 h5 M0 H0 M1 H1 M2 H2 M3 H3 M4 H4 M5 H5 M6 H6 M7 H7 M8 H8 M9 H9 x0 x1 x2 x3 x4 x5 x6 x7 x8 O A W).2.1)) := by
  have e := crd1 t
  have hn : t.val < 38 := lt_of_lt_of_eq t.isLt N_0
  have hj : t.val % 19 < 19 := Nat.mod_lt _ (by decide)
  subst X0 X1 X2 X3 X4 X5 X6 X7 X8
  have q1 : (t.val + 1) % 19 = t.val % 19 + 1 := by omega
  have q2 : (t.val + 1) / 19 = t.val / 19 := by omega
  have q3 : min (t.val % 19) 10 = t.val % 19 := by omega
  refine ⟨?_, ?_, ?_⟩
  · exact ⟨fun h => absurd h (by omega), fun h => absurd h (by omega)⟩
  · intro k hk hk'
    rw [q1] at hk'
    rw [q2]
    unfold runB; dsimp only
    simp only [View.readAt_eq_ld, H0.read_unread, H1.read_unread, H2.read_unread, H3.read_unread, H4.read_unread, H5.read_unread, H6.read_unread, H7.read_unread, H8.read_unread, H9.read_unread, actW.read_unread, rawW.read_unread]
    by_cases k1 : k = 2 * (t.val % 19)
    · rw [show 512 + 256 * k = 512 + 512 * (t.val % 19) by omega]
      refine (sub2_writes_hit (R := 1024) (C := 6144) _ _ (by rw [off10_eq, e]) _ _ _).trans ?_
      rw [ld_sub2 _ (off6_eq _), ld_sub2 _ (off7_eq _), ld_sub2 _ (off8_eq _), ld_sub2 _ (off9_eq _), ld_rows, ld_half _ _ _ (by omega),
        ld_half _ _ _ (by omega), q3, e, even_tile]
      unfold Tk Wn Cn Bn
      rw [show 256 * k = 512 * (t.val % 19) by omega]
      rfl
    rw [sub2_writes_miss _ _ (co := 512 + 512 * (t.val % 19)) (by rw [off10_eq, e]) _ _ _ (by omega) (by omega)]
    by_cases k2 : k + 1 = 2 * (t.val % 19)
    · have k3 : 256 * k = 512 * (t.val % 19 - 1) + 256 := by omega
      obtain ⟨I0, I1⟩ := hI.2 (by omega) (by omega)
      rw [show 512 + 256 * k = 512 * (t.val % 19) + 256 by omega]
      refine (sub2_writes_hit (R := 1024) (C := 6144) _ _ (by rw [off5_eq, e]) _ _ _).trans ?_
      have l := odd_tile (View.ld (S := S2x1024x256) W (Rect.unit (s := S2x1024x256) ![0, 0, 0] ![1, 1024, 256] inb_S2x1024x256_S1x1024x256_0_0_0))
        (View.ld (S := S2x1024x256) W (Rect.unit (s := S2x1024x256) ![1, 0, 0] ![1, 1024, 256] inb_S2x1024x256_S1x1024x256_1_0_0))
      rw [pay13_slab (off := ![0, 0, 0]) W 0 rfl, pay13_slab (off := ![1, 0, 0]) W 1 rfl, I0, I1] at l
      refine (l _ _ _ _).trans ?_
      have e1' : 1 ≤ (grid0.coords t 1).val := by omega
      rw [ld_sub2 _ (off1_eq _ e1'), ld_sub2 _ (off2_eq _ e1'), ld_sub2 _ (off3_eq _ e1'), ld_sub2 _ (off4_eq _ e1'), e]
      unfold Tk Cn Bn
      rw [k3, show 256 * (2 * (t.val % 19) - 1) = 512 * (t.val % 19 - 1) + 256 by omega]
    · rw [sub2_writes_miss _ _ (co := 512 * (t.val % 19) + 256) (by rw [off5_eq, e]) _ _ _ (by omega) (by omega), View.writes_nil]
      rw [actW.read_unread]
      exact hI.1 k hk (by omega)
  · intro j1 j2
    rw [q1, q2]
    unfold runB; dsimp only
    simp only [View.readAt_eq_ld, H0.read_unread, H1.read_unread, H2.read_unread, H3.read_unread, H4.read_unread, H5.read_unread, H6.read_unread, H7.read_unread, H8.read_unread, H9.read_unread, actW.read_unread, rawW.read_unread]
    rw [show 256 * (2 * (t.val % 19 + 1) - 1) = 512 * (t.val % 19) + 256 by omega]
    constructor
    · refine (slab_miss _ 0 1 (by decide) rfl _ _ _).trans ((slab_hit _ 0 rfl _ _ _).trans ?_)
      rw [pay5_slab, ld_rows, ld_half _ _ _ (by omega), q3]
      rfl
    · refine (slab_hit _ 1 rfl _ _ _).trans ?_
      rw [pay6_slab, ld_rows, ld_half _ _ _ (by omega), q3]
      rfl

/-- The step at such a point. -/
theorem stepB (c : Dev nD) (t : Fin cfg0.N) (O A W) (e0 : t.val % 19 ≠ 0) (e1 : t.val % 19 < 11) (hI : Inv m c t.val A W) (hO : t.val % 19 ≠ 0 → R m c (t.val - 1) O) :
    Ok m c t O A W fun O' A' W' => R m c t.val O' ∧ Inv m c (t.val + 1) A' W' := by
  have e := crd1 t
  exact ⟨_, _, _, (runB c (grid0.coords t) (by rw [c1_iff, e]; omega) (by rw [c2_iff, e]; omega) (by rw [c3_iff, e]; omega) (by rw [c4_iff, e]; omega) (by rw [c5_iff, e]; omega) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (iblk m c 0 t) (iblk m c 1 t) (iblk m c 2 t) (iblk m c 3 t) (iblk m c 4 t) (iblk m c 5 t) (iblk m c 6 t) (iblk m c 7 t) (iblk m c 8 t) O A W).2.2.2,
    coreB m c t e0 e1 _ _ _ _ _ _ _ _ _ _ _ _ _ _ _ _ _ _ _ _ _ _ _ _ _ _ _ _ _ _ _ _ _ _ _ _ _ (iblk0 m c t) (iblk1 m c t) (iblk2 m c t) (iblk3 m c t) (iblk4 m c t) (iblk5 m c t) (iblk6 m c t) (iblk7 m c t) (iblk8 m c t) hI hO⟩

end Cert.Kernel5Ideal.Lat
end
-- ==== Proof.LatSteps.lean ====
/-
  One step of the latent feed-forward kernel keeps the invariant: the steps of the down projection. `steps` puts the cases together.
-/
module

public import proofs.«01_k».proof.Proof.LatStepsUp

@[expose] public section

set_option maxRecDepth 16384

noncomputable section

namespace Cert.Kernel5Ideal.Lat

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- After that step the 22 tiles are stored. -/
theorem actC (c : Dev nD) (t : Fin cfg0.N) (e0 : t.val % 19 = 11) (h1 : ¬ C1 (grid0.coords t)) (h2 : ¬ k0_cond2 (grid0.coords t) = 1#1) (h3 : C3 (grid0.coords t)) (h4 : k0_cond4 (grid0.coords t) = 1#1) (h5 : ¬ k0_cond5 (grid0.coords t) = 1#1) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32)
    (X0 : x0 = Xi m c (t.val / 19)) (X1 : x1 = sub2 (R := 2048) (C := 11264) (V m c main_v4 : Vec F S2048x11264 .bf16) 0 (512 * min (t.val % 19) 10)) (X2 : x2 = sub2 (R := 2048) (C := 11264) (V m c main_v4 : Vec F S2048x11264 .bf16) 0 (5632 + 512 * min (t.val % 19) 10)) (X3 : x3 = (V m c main_arg4 : Vec F S3x11264 .f32)) (X4 : x4 = (V m c main_v6 : Vec F S1x11264 .f32)) (X5 : x5 = sub2 (R := 5632) (C := 2048) (V m c main_v5 : Vec F S5632x2048 .bf16) 0 (256 * (t.val % 19 - 11))) (X6 : x6 = sub2 (R := 2048) (C := 2048) (V m c main_v0 : Vec F S2048x2048 .f32) (1024 * (t.val / 19)) (256 * (t.val % 19 - 11))) (X7 : x7 = Mi m c (t.val / 19)) (X8 : x8 = (V m c main_v7 : Vec F S1x2048 .f32))
    (hI : Inv m c t.val A W) :
    ∀ k, k < 22 → (sub2 (R := 1024) (C := 6144) (actM.view.read (Elt F) (actM.view.writes (Elt F) (actW.unread A) (runC c (grid0.coords t) h1 h2 h3 h4 h5 M0 H0 M1 H1 M2 H2 M3 H3 M4 H4 M5 H5 M6 H6 M7 H7 M8 H8 M9 H9 x0 x1 x2 x3 x4 x5 x6 x7 x8 O A W).1)) 0 (512 + 256 * k) : Vec F S1024x256 .bf16) = Tk m c (t.val / 19) k := by
  obtain ⟨I0, I1⟩ := hI.2 (by omega) (by omega)
  rw [e0] at I0 I1
  subst X0 X1 X2 X3 X4 X5 X6 X7 X8
  intro k hk
  unfold runC; dsimp only; unfold runC.sl.PA_1; dsimp only
  simp only [View.readAt_eq_ld, H0.read_unread, H1.read_unread, H2.read_unread, H3.read_unread, H4.read_unread, H5.read_unread, H6.read_unread, H7.read_unread, H8.read_unread, H9.read_unread, actW.read_unread, rawW.read_unread]
  by_cases k1 : k = 21
  · subst k1
    refine (sub2_writes_hit (R := 1024) (C := 6144) _ _ rfl _ _ _).trans ?_
    have l := last_tile (View.ld (S := S2x1024x256) W (Rect.unit (s := S2x1024x256) ![0, 0, 0] ![1, 1024, 256] inb_S2x1024x256_S1x1024x256_0_0_0))
      (View.ld (S := S2x1024x256) W (Rect.unit (s := S2x1024x256) ![1, 0, 0] ![1, 1024, 256] inb_S2x1024x256_S1x1024x256_1_0_0))
    rw [pay13_slab (off := ![0, 0, 0]) W 0 rfl, pay13_slab (off := ![1, 0, 0]) W 1 rfl, I0, I1] at l
    rw [ld_sub2 (off := ![0, 5376]) _ rfl, ld_sub2 (off := ![0, 5376]) _ rfl, ld_sub2 (off := ![0, 11008]) _ rfl, ld_sub2 (off := ![0, 11008]) _ rfl]
    exact l _ _ _ _
  · refine (sub2_writes_miss (R := 1024) (C := 6144) _ _ (co := 5888) rfl _ _ _ (by omega) (by omega)).trans ?_
    rw [View.writes_nil, actW.read_unread]
    exact hI.1 k hk (by omega)

set_option maxHeartbeats 1000000 in
/-- The step that stores the last tile and begins the down projection. -/
theorem coreC (c : Dev nD) (t : Fin cfg0.N) (e0 : t.val % 19 = 11) (h1 : ¬ C1 (grid0.coords t)) (h2 : ¬ k0_cond2 (grid0.coords t) = 1#1) (h3 : C3 (grid0.coords t)) (h4 : k0_cond4 (grid0.coords t) = 1#1) (h5 : ¬ k0_cond5 (grid0.coords t) = 1#1) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32)
    (X0 : x0 = Xi m c (t.val / 19)) (X1 : x1 = sub2 (R := 2048) (C := 11264) (V m c main_v4 : Vec F S2048x11264 .bf16) 0 (512 * min (t.val % 19) 10)) (X2 : x2 = sub2 (R := 2048) (C := 11264) (V m c main_v4 : Vec F S2048x11264 .bf16) 0 (5632 + 512 * min (t.val % 19) 10)) (X3 : x3 = (V m c main_arg4 : Vec F S3x11264 .f32)) (X4 : x4 = (V m c main_v6 : Vec F S1x11264 .f32)) (X5 : x5 = sub2 (R := 5632) (C := 2048) (V m c main_v5 : Vec F S5632x2048 .bf16) 0 (256 * (t.val % 19 - 11))) (X6 : x6 = sub2 (R := 2048) (C := 2048) (V m c main_v0 : Vec F S2048x2048 .f32) (1024 * (t.val / 19)) (256 * (t.val % 19 - 11))) (X7 : x7 = Mi m c (t.val / 19)) (X8 : x8 = (V m c main_v7 : Vec F S1x2048 .f32))
    (hI : Inv m c t.val A W) (hO : t.val % 19 ≠ 0 → R m c (t.val - 1) O) :
    R m c t.val (M9.view.read (Elt F) (M9.view.writes (Elt F) (H9.unread O) (runC c (grid0.coords t) h1 h2 h3 h4 h5 M0 H0 M1 H1 M2 H2 M3 H3 M4 H4 M5 H5 M6 H6 M7 H7 M8 H8 M9 H9 x0 x1 x2 x3 x4 x5 x6 x7 x8 O A W).2.2.1))
      ∧ Inv m c (t.val + 1) (actM.view.read (Elt F) (actM.view.writes (Elt F) (actW.unread A) (runC c (grid0.coords t) h1 h2 h3 h4 h5 M0 H0 M1 H1 M2 H2 M3 H3 M4 H4 M5 H5 M6 H6 M7 H7 M8 H8 M9 H9 x0 x1 x2 x3 x4 x5 x6 x7 x8 O A W).1))
        (rawM.view.read (Elt F) (rawM.view.writes (Elt F) (rawW.unread W) (runC c (grid0.coords t) h1 h2 h3 h4 h5 M0 H0 M1 H1 M2 H2 M3 H3 M4 H4 M5 H5 M6 H6 M7 H7 M8 H8 M9 H9 x0 x1 x2 x3 x4 x5 x6 x7 x8 O A W).2.1)) := by
  have e := crd1 t
  have hn : t.val < 38 := lt_of_lt_of_eq t.isLt N_0
  have hj : t.val % 19 < 19 := Nat.mod_lt _ (by decide)
  have q1 : (t.val + 1) % 19 = t.val % 19 + 1 := by omega
  have q2 : (t.val + 1) / 19 = t.val / 19 := by omega
  have hA := actC m c t e0 h1 h2 h3 h4 h5 M0 H0 M1 H1 M2 H2 M3 H3 M4 H4 M5 H5 M6 H6 M7 H7 M8 H8 M9 H9 x0 x1 x2 x3 x4 x5 x6 x7 x8 O A W X0 X1 X2 X3 X4 X5 X6 X7 X8 hI
  refine ⟨⟨?_, fun h => absurd h (by omega)⟩, fun k hk _ => q2 ▸ hA k hk, fun _ h => absurd h (by omega)⟩
  intro _ _ k hk
  obtain rfl : k = 0 := by omega
  have l := act_full m c _ _ hA inb_S1024x6144_S1024x5632_0_512
  clear hA hI hO
  unfold runC at l ⊢; dsimp only at l ⊢
  unfold runC.sl.v25 runC.sl.v32
  dsimp only
  simp only [View.readAt_eq_ld, H0.read_unread, H1.read_unread, H2.read_unread, H3.read_unread, H4.read_unread, H5.read_unread, H6.read_unread, H7.read_unread, H8.read_unread, H9.read_unread]
  refine (sub2_writes_hit (R := 1024) (C := 2048) _ _ ((off12_eq _ (by rw [e]; omega)).trans (by rw [e, e0])) _ _ _).trans ?_
  rw [l]
  subst X0 X1 X2 X3 X4 X5 X6 X7 X8
  rw [ld_all (R := 5632) (C := 256), ld_all (R := 1024) (C := 256), ld_gate m c (off11_eq _ (by rw [e]; omega)), e]
  unfold X2n
  rw [e0]

/-- The step at such a point. -/
theorem stepC (c : Dev nD) (t : Fin cfg0.N) (O A W) (e0 : t.val % 19 = 11) (hI : Inv m c t.val A W) (hO : t.val % 19 ≠ 0 → R m c (t.val - 1) O) :
    Ok m c t O A W fun O' A' W' => R m c t.val O' ∧ Inv m c (t.val + 1) A' W' := by
  have e := crd1 t
  exact ⟨_, _, _, (runC c (grid0.coords t) (by rw [c1_iff, e]; omega) (by rw [c2_iff, e]; omega) (by rw [c3_iff, e]; omega) (by rw [c4_iff, e]; omega) (by rw [c5_iff, e]; omega) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (iblk m c 0 t) (iblk m c 1 t) (iblk m c 2 t) (iblk m c 3 t) (iblk m c 4 t) (iblk m c 5 t) (iblk m c 6 t) (iblk m c 7 t) (iblk m c 8 t) O A W).2.2.2,
    coreC m c t e0 _ _ _ _ _ _ _ _ _ _ _ _ _ _ _ _ _ _ _ _ _ _ _ _ _ _ _ _ _ _ _ _ _ _ _ _ _ (iblk0 m c t) (iblk1 m c t) (iblk2 m c t) (iblk3 m c t) (iblk4 m c t) (iblk5 m c t) (iblk6 m c t) (iblk7 m c t) (iblk8 m c t) hI hO⟩

set_option maxHeartbeats 1000000 in
/-- A step of the down projection. -/
theorem coreD (c : Dev nD) (t : Fin cfg0.N) (e0 : 11 < t.val % 19) (e1 : t.val % 19 < 18) (h1 : ¬ C1 (grid0.coords t)) (h2 : ¬ k0_cond2 (grid0.coords t) = 1#1) (h3 : ¬ C3 (grid0.coords t)) (h4 : k0_cond4 (grid0.coords t) = 1#1) (h5 : ¬ k0_cond5 (grid0.coords t) = 1#1) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32)
    (X0 : x0 = Xi m c (t.val / 19)) (X1 : x1 = sub2 (R := 2048) (C := 11264) (V m c main_v4 : Vec F S2048x11264 .bf16) 0 (512 * min (t.val % 19) 10)) (X2 : x2 = sub2 (R := 2048) (C := 11264) (V m c main_v4 : Vec F S2048x11264 .bf16) 0 (5632 + 512 * min (t.val % 19) 10)) (X3 : x3 = (V m c main_arg4 : Vec F S3x11264 .f32)) (X4 : x4 = (V m c main_v6 : Vec F S1x11264 .f32)) (X5 : x5 = sub2 (R := 5632) (C := 2048) (V m c main_v5 : Vec F S5632x2048 .bf16) 0 (256 * (t.val % 19 - 11))) (X6 : x6 = sub2 (R := 2048) (C := 2048) (V m c main_v0 : Vec F S2048x2048 .f32) (1024 * (t.val / 19)) (256 * (t.val % 19 - 11))) (X7 : x7 = Mi m c (t.val / 19)) (X8 : x8 = (V m c main_v7 : Vec F S1x2048 .f32))
    (hI : Inv m c t.val A W) (hO : t.val % 19 ≠ 0 → R m c (t.val - 1) O) :
    R m c t.val (M9.view.read (Elt F) (M9.view.writes (Elt F) (H9.unread O) (runD c (grid0.coords t) h1 h2 h3 h4 h5 M0 H0 M1 H1 M2 H2 M3 H3 M4 H4 M5 H5 M6 H6 M7 H7 M8 H8 M9 H9 x0 x1 x2 x3 x4 x5 x6 x7 x8 O A W).2.2.1))
      ∧ Inv m c (t.val + 1) (actM.view.read (Elt F) (actM.view.writes (Elt F) (actW.unread A) (runD c (grid0.coords t) h1 h2 h3 h4 h5 M0 H0 M1 H1 M2 H2 M3 H3 M4 H4 M5 H5 M6 H6 M7 H7 M8 H8 M9 H9 x0 x1 x2 x3 x4 x5 x6 x7 x8 O A W).1))
        (rawM.view.read (Elt F) (rawM.view.writes (Elt F) (rawW.unread W) (runD c (grid0.coords t) h1 h2 h3 h4 h5 M0 H0 M1 H1 M2 H2 M3 H3 M4 H4 M5 H5 M6 H6 M7 H7 M8 H8 M9 H9 x0 x1 x2 x3 x4 x5 x6 x7 x8 O A W).2.1)) := by
  have e := crd1 t
  have hn : t.val < 38 := lt_of_lt_of_eq t.isLt N_0
  have hj : t.val % 19 < 19 := Nat.mod_lt _ (by decide)
  subst X0 X1 X2 X3 X4 X5 X6 X7 X8
  have q1 : (t.val + 1) % 19 = t.val % 19 + 1 := by omega
  have q2 : (t.val + 1) / 19 = t.val / 19 := by omega
  have p1 : (t.val - 1) % 19 = t.val % 19 - 1 := by omega
  have p2 : (t.val - 1) / 19 = t.val / 19 := by omega
  have hA : ∀ k, k < 22 → (sub2 (R := 1024) (C := 6144) A 0 (512 + 256 * k) : Vec F S1024x256 .bf16) = Tk m c (t.val / 19) k :=
    fun k hk => hI.1 k hk (by omega)
  have hR := (hO (by omega)).1
  rw [p1, p2] at hR
  refine ⟨⟨?_, fun h => absurd h (by omega)⟩, ?_, fun _ h => absurd h (by omega)⟩
  · intro _ _ k hk
    have l := act_full m c _ _ hA inb_S1024x6144_S1024x5632_0_512
    unfold runD; dsimp only
    simp only [View.readAt_eq_ld, H0.read_unread, H1.read_unread, H2.read_unread, H3.read_unread, H4.read_unread, H5.read_unread, H6.read_unread, H7.read_unread, H8.read_unread, H9.read_unread, actW.read_unread]
    by_cases k1 : k = t.val % 19 - 11
    · subst k1
      refine (sub2_writes_hit (R := 1024) (C := 2048) _ _ ((off12_eq _ (by rw [e]; omega)).trans (by rw [e])) _ _ _).trans ?_
      rw [l]
      rw [ld_all (R := 5632) (C := 256), ld_all (R := 1024) (C := 256), ld_gate m c (off11_eq _ (by rw [e]; omega)), e]
      rfl
    · refine (sub2_writes_miss (R := 1024) (C := 2048) _ _ (co := 256 * (t.val % 19 - 11)) ((off12_eq _ (by rw [e]; omega)).trans (by rw [e])) _ _ _ (by omega) (by omega)).trans ?_
      rw [View.writes_nil, H9.read_unread]
      exact hR (by omega) (by omega) k (by omega)
  · intro k hk _
    unfold runD; dsimp only
    rw [q2]
    rw [View.writes_nil, actW.read_unread]
    exact hA k hk

/-- The step at such a point. -/
theorem stepD (c : Dev nD) (t : Fin cfg0.N) (O A W) (e0 : 11 < t.val % 19) (e1 : t.val % 19 < 18) (hI : Inv m c t.val A W) (hO : t.val % 19 ≠ 0 → R m c (t.val - 1) O) :
    Ok m c t O A W fun O' A' W' => R m c t.val O' ∧ Inv m c (t.val + 1) A' W' := by
  have e := crd1 t
  exact ⟨_, _, _, (runD c (grid0.coords t) (by rw [c1_iff, e]; omega) (by rw [c2_iff, e]; omega) (by rw [c3_iff, e]; omega) (by rw [c4_iff, e]; omega) (by rw [c5_iff, e]; omega) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (iblk m c 0 t) (iblk m c 1 t) (iblk m c 2 t) (iblk m c 3 t) (iblk m c 4 t) (iblk m c 5 t) (iblk m c 6 t) (iblk m c 7 t) (iblk m c 8 t) O A W).2.2.2,
    coreD m c t e0 e1 _ _ _ _ _ _ _ _ _ _ _ _ _ _ _ _ _ _ _ _ _ _ _ _ _ _ _ _ _ _ _ _ _ _ _ _ _ (iblk0 m c t) (iblk1 m c t) (iblk2 m c t) (iblk3 m c t) (iblk4 m c t) (iblk5 m c t) (iblk6 m c t) (iblk7 m c t) (iblk8 m c t) hI hO⟩

set_option maxHeartbeats 1000000 in
/-- The last step of a row tile: the last column tile and the norm. -/
theorem coreE (c : Dev nD) (t : Fin cfg0.N) (e0 : t.val % 19 = 18) (h1 : ¬ C1 (grid0.coords t)) (h2 : ¬ k0_cond2 (grid0.coords t) = 1#1) (h3 : ¬ C3 (grid0.coords t)) (h4 : k0_cond4 (grid0.coords t) = 1#1) (h5 : k0_cond5 (grid0.coords t) = 1#1) (h6 : k0_off12 (grid0.coords t) = ![0, 1792]) (M0 : Memref sig .tc .vmem S1024x2048 .bf16) (H0 : M0.IsWhole) (M1 : Memref sig .tc .vmem S2048x512 .bf16) (H1 : M1.IsWhole) (M2 : Memref sig .tc .vmem S2048x512 .bf16) (H2 : M2.IsWhole) (M3 : Memref sig .tc .vmem S3x11264 .f32) (H3 : M3.IsWhole) (M4 : Memref sig .tc .vmem S1x11264 .f32) (H4 : M4.IsWhole) (M5 : Memref sig .tc .vmem S5632x256 .bf16) (H5 : M5.IsWhole) (M6 : Memref sig .tc .vmem S1024x256 .f32) (H6 : M6.IsWhole) (M7 : Memref sig .tc .vmem S1x6x2048 .f32) (H7 : M7.IsWhole) (M8 : Memref sig .tc .vmem S1x2048 .f32) (H8 : M8.IsWhole) (M9 : Memref sig .tc .vmem S1024x2048 .f32) (H9 : M9.IsWhole)
    (x0 : Vec F S1024x2048 .bf16) (x1 : Vec F S2048x512 .bf16) (x2 : Vec F S2048x512 .bf16) (x3 : Vec F S3x11264 .f32) (x4 : Vec F S1x11264 .f32) (x5 : Vec F S5632x256 .bf16) (x6 : Vec F S1024x256 .f32) (x7 : Vec F S1x6x2048 .f32) (x8 : Vec F S1x2048 .f32) (O : Vec F S1024x2048 .f32) (A : Vec F S1024x6144 .bf16) (W : Vec F S2x1024x256 .f32)
    (X0 : x0 = Xi m c (t.val / 19)) (X1 : x1 = sub2 (R := 2048) (C := 11264) (V m c main_v4 : Vec F S2048x11264 .bf16) 0 (512 * min (t.val % 19) 10)) (X2 : x2 = sub2 (R := 2048) (C := 11264) (V m c main_v4 : Vec F S2048x11264 .bf16) 0 (5632 + 512 * min (t.val % 19) 10)) (X3 : x3 = (V m c main_arg4 : Vec F S3x11264 .f32)) (X4 : x4 = (V m c main_v6 : Vec F S1x11264 .f32)) (X5 : x5 = sub2 (R := 5632) (C := 2048) (V m c main_v5 : Vec F S5632x2048 .bf16) 0 (256 * (t.val % 19 - 11))) (X6 : x6 = sub2 (R := 2048) (C := 2048) (V m c main_v0 : Vec F S2048x2048 .f32) (1024 * (t.val / 19)) (256 * (t.val % 19 - 11))) (X7 : x7 = Mi m c (t.val / 19)) (X8 : x8 = (V m c main_v7 : Vec F S1x2048 .f32))
    (hI : Inv m c t.val A W) (hO : t.val % 19 ≠ 0 → R m c (t.val - 1) O) :
    R m c t.val (M9.view.read (Elt F) (M9.view.writes (Elt F) (H9.unread O) (runE c (grid0.coords t) h1 h2 h3 h4 h5 h6 M0 H0 M1 H1 M2 H2 M3 H3 M4 H4 M5 H5 M6 H6 M7 H7 M8 H8 M9 H9 x0 x1 x2 x3 x4 x5 x6 x7 x8 O A W).2.2.1))
      ∧ Inv m c (t.val + 1) (actM.view.read (Elt F) (actM.view.writes (Elt F) (actW.unread A) (runE c (grid0.coords t) h1 h2 h3 h4 h5 h6 M0 H0 M1 H1 M2 H2 M3 H3 M4 H4 M5 H5 M6 H6 M7 H7 M8 H8 M9 H9 x0 x1 x2 x3 x4 x5 x6 x7 x8 O A W).1))
        (rawM.view.read (Elt F) (rawM.view.writes (Elt F) (rawW.unread W) (runE c (grid0.coords t) h1 h2 h3 h4 h5 h6 M0 H0 M1 H1 M2 H2 M3 H3 M4 H4 M5 H5 M6 H6 M7 H7 M8 H8 M9 H9 x0 x1 x2 x3 x4 x5 x6 x7 x8 O A W).2.1)) := by
  have e := crd1 t
  have hn : t.val < 38 := lt_of_lt_of_eq t.isLt N_0
  have hj : t.val % 19 < 19 := Nat.mod_lt _ (by decide)
  subst X0 X1 X2 X3 X4 X5 X6 X7 X8
  have q1 : (t.val + 1) % 19 = 0 := by omega
  have p1 : (t.val - 1) % 19 = t.val % 19 - 1 := by omega
  have p2 : (t.val - 1) / 19 = t.val / 19 := by omega
  have hA : ∀ k, k < 22 → (sub2 (R := 1024) (C := 6144) A 0 (512 + 256 * k) : Vec F S1024x256 .bf16) = Tk m c (t.val / 19) k :=
    fun k hk => hI.1 k hk (by omega)
  have hR := (hO (by omega)).1
  rw [p1, p2] at hR
  refine ⟨⟨fun _ h => absurd h (by omega), fun _ => ?_⟩, fun k _ h => absurd h (by omega), fun h => absurd h (by omega)⟩
  have l := act_full m c _ _ hA inb_S1024x6144_S1024x5632_0_512
  unfold runE; dsimp only
  unfold runE.sl.v22; dsimp only
  simp only [View.readAt_eq_ld, H0.read_unread, H1.read_unread, H2.read_unread, H3.read_unread, H4.read_unread, H5.read_unread, H6.read_unread, H7.read_unread, H8.read_unread, H9.read_unread, actW.read_unread]
  refine (View.read_writes_full (s := S1024x2048) M9.view _ _ _ _).trans ?_
  unfold Fin9
  rw [ld_all (R := 1024) (C := 2048), ld_all (R := 1 ) (C := 2048)]
  refine congrArg (fun u => k0_pay9 u _) (eq_join (R := 1024) (C := 2048) _ _ fun n hn => ?_)
  by_cases k1 : n = 7
  · subst k1
    refine (sub2_writes_hit (R := 1024) (C := 2048) _ _ h6 _ _ _).trans ?_
    simp only [View.readAt_eq_ld, H0.read_unread, H1.read_unread, H2.read_unread, H3.read_unread, H4.read_unread, H5.read_unread, H6.read_unread, H7.read_unread, H8.read_unread, H9.read_unread, actW.read_unread]
    rw [e0]
    exact x2_tile m c _ 7 A _ _ _ l ((off11_eq _ (by rw [e]; omega)).trans (by rw [e, e0])) _
  · refine (sub2_writes_miss (R := 1024) (C := 2048) _ _ (co := 1792) h6 _ _ _ (by omega) (by omega)).trans ?_
    rw [View.writes_nil, H9.read_unread]
    exact hR (by omega) (by omega) n (by omega)

/-- The step at such a point. -/
theorem stepE (c : Dev nD) (t : Fin cfg0.N) (O A W) (e0 : t.val % 19 = 18) (hI : Inv m c t.val A W) (hO : t.val % 19 ≠ 0 → R m c (t.val - 1) O) :
    Ok m c t O A W fun O' A' W' => R m c t.val O' ∧ Inv m c (t.val + 1) A' W' := by
  have e := crd1 t
  exact ⟨_, _, _, (runE c (grid0.coords t) (by rw [c1_iff, e]; omega) (by rw [c2_iff, e]; omega) (by rw [c3_iff, e]; omega) (by rw [c4_iff, e]; omega) (by rw [c5_iff, e]; omega) (by rw [off12_eq _ (by rw [e]; omega), e, e0]) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (iblk m c 0 t) (iblk m c 1 t) (iblk m c 2 t) (iblk m c 3 t) (iblk m c 4 t) (iblk m c 5 t) (iblk m c 6 t) (iblk m c 7 t) (iblk m c 8 t) O A W).2.2.2,
    coreE m c t e0 _ _ _ _ _ _ _ _ _ _ _ _ _ _ _ _ _ _ _ _ _ _ _ _ _ _ _ _ _ _ _ _ _ _ _ _ _ _ (iblk0 m c t) (iblk1 m c t) (iblk2 m c t) (iblk3 m c t) (iblk4 m c t) (iblk5 m c t) (iblk6 m c t) (iblk7 m c t) (iblk8 m c t) hI hO⟩

/-- Every point keeps the invariant. -/
theorem steps : Steps m (Inv m) (R m) := by
  intro c t O A W hI hO
  have h19 : t.val % 19 < 19 := Nat.mod_lt _ (by decide)
  by_cases e0 : t.val % 19 = 0
  · exact stepA m c t O A W e0 hI hO
  by_cases e1 : t.val % 19 < 11
  · exact stepB m c t O A W e0 e1 hI hO
  by_cases e2 : t.val % 19 = 11
  · exact stepC m c t O A W e2 hI hO
  by_cases e3 : t.val % 19 = 18
  · exact stepE m c t O A W e3 hI hO
  exact stepD m c t O A W (by omega) (by omega) hI hO

end Cert.Kernel5Ideal.Lat
end
-- ==== Proof.LatMath.lean ====
/-
  The latent feed-forward kernel's values against the plain formulas, over the extended reals.

  The reference is cut into named stages: `Hh` the up projection, `Cv` the convolution along a sequence, `Ac` the gated
  activations, `X2r` the stream after the down projection, `Yr` its norm. Each stage of the kernel is the reference's
  stage at the place of the row and the column in the whole array. A tile of 1024 rows is one sequence, so
  the row before a sequence's first and the row after its last are replaced by zero, as the reference's padding has it.
-/
module

public import proofs.«01_k».proof.Proof.LatTiles
public import proofs.«01_k».proof.Proof.Gen.Reference5Ideal.Run

@[expose] public section

set_option maxRecDepth 16384

noncomputable section

open Idealize.ShloMosaic Idealize.ShloMosaic.TcCoe Idealize.SL.Sem

namespace Cert.Reference5Ideal.Lat

open Cert.Reference5Ideal Cert.Reference5Ideal.Gen

/-- The up projection. -/
def Hh (a1 : FVec Ideal S2x1024x2048 .f32) (a3 : FVec Ideal S2048x11264 .f32) : FVec Ideal S2x1024x11264 .f32 :=
  Host.dotGeneral dot_S2x1024x2048_S2048x11264_S2x1024x11264_2_0_01_1_n_n none a1 a3

/-- A sequence with a row of zeros before and after it. -/
def Hp (h : FVec Ideal S2x1024x11264 .f32) : FVec Ideal S2x1026x11264 .f32 :=
  pad S2x1026x11264 ![0, 1, 0] ![0, 1, 0] ![0, 0, 0] h (sitofp .f32 (constantI S_ 32 0#32)) pads_S2x1024x11264_S2x1026x11264_000_110_000 h_S_

/-- The convolution along a sequence. -/
def Cv (h : FVec Ideal S2x1024x11264 .f32) (a4 : FVec Ideal S3x11264 .f32) (a5 : FVec Ideal S11264 .f32) : FVec Ideal S2x1024x11264 .f32 :=
  addf (addf (addf (mulf (extractStridedSlice S2x1024x11264 ![0, 0, 0] (Hp h) slices_S2x1026x11264_S2x1024x11264_0_0_0) (broadcastInDim S2x1024x11264 ![0, 1, 2] bcast_S1x1x11264_S2x1024x11264_0_1_2 (broadcastInDim S1x1x11264 ![2] bcast_S11264_S1x1x11264_2 (shapeCast _ (extractStridedSlice S1x11264 ![0, 0] a4 slices_S3x11264_S1x11264_0_0) shapeCasts_S1x11264_S11264)))) (mulf (extractStridedSlice S2x1024x11264 ![0, 1, 0] (Hp h) slices_S2x1026x11264_S2x1024x11264_0_1_0) (broadcastInDim S2x1024x11264 ![0, 1, 2] bcast_S1x1x11264_S2x1024x11264_0_1_2 (broadcastInDim S1x1x11264 ![2] bcast_S11264_S1x1x11264_2 (shapeCast _ (extractStridedSlice S1x11264 ![1, 0] a4 slices_S3x11264_S1x11264_1_0) shapeCasts_S1x11264_S11264))))) (mulf (extractStridedSlice S2x1024x11264 ![0, 2, 0] (Hp h) slices_S2x1026x11264_S2x1024x11264_0_2_0) (broadcastInDim S2x1024x11264 ![0, 1, 2] bcast_S1x1x11264_S2x1024x11264_0_1_2 (broadcastInDim S1x1x11264 ![2] bcast_S11264_S1x1x11264_2 (shapeCast _ (extractStridedSlice S1x11264 ![2, 0] a4 slices_S3x11264_S1x11264_2_0) shapeCasts_S1x11264_S11264))))) (broadcastInDim S2x1024x11264 ![0, 1, 2] bcast_S1x1x11264_S2x1024x11264_0_1_2 (broadcastInDim S1x1x11264 ![2] bcast_S11264_S1x1x11264_2 a5))

/-- The gated activations: the first half through `silu`, times the second half. -/
def Ac (v : FVec Ideal S2x1024x11264 .f32) : FVec Ideal S2x1024x5632 .f32 :=
  mulf (mulf (extractStridedSlice S2x1024x5632 ![0, 0, 0] v slices_S2x1024x11264_S2x1024x5632_0_0_0) (Host.divf (broadcastInDim S2x1024x5632 ![] bcast_S_S2x1024x5632 (constant S_ .f32 0x3F800000#32)) (addf (broadcastInDim S2x1024x5632 ![] bcast_S_S2x1024x5632 (constant S_ .f32 0x3F800000#32)) (Host.exp (Host.negf (extractStridedSlice S2x1024x5632 ![0, 0, 0] v slices_S2x1024x11264_S2x1024x5632_0_0_0)))))) (extractStridedSlice S2x1024x5632 ![0, 0, 5632] v slices_S2x1024x11264_S2x1024x5632_0_0_5632)

/-- The stream after the down projection. -/
def X2r (a0 : FVec Ideal S2x1024x2048 .f32) (a2 : FVec Ideal S2x12288 .f32) (a6 : FVec Ideal S5632x2048 .f32) (ac : FVec Ideal S2x1024x5632 .f32) : FVec Ideal S2x1024x2048 .f32 :=
  addf a0 (mulf (broadcastInDim S2x1024x2048 ![0, 1, 2] bcast_S2x1x2048_S2x1024x2048_0_1_2 (extractStridedSlice S2x1x2048 ![0, 0, 10240] (broadcastInDim S2x1x12288 ![0, 2] bcast_S2x12288_S2x1x12288_0_2 a2) slices_S2x1x12288_S2x1x2048_0_0_10240)) (Host.dotGeneral dot_S2x1024x5632_S5632x2048_S2x1024x2048_2_0_01_1_n_n none ac a6))

/-- The norm of the stream. -/
def Yr (x : FVec Ideal S2x1024x2048 .f32) (a7 : FVec Ideal S2048 .f32) : FVec Ideal S2x1024x2048 .f32 :=
  mulf (mulf x (broadcastInDim S2x1024x2048 ![0, 1, 2] bcast_S2x1024x1_S2x1024x2048_0_1_2 (Host.rsqrt (addf (Host.divf (broadcastInDim S2x1024x1 ![0, 1] bcast_S2x1024_S2x1024x1_0_1 (Host.reduceAdd (mulf x x) (constant S_ .f32 0x00000000#32) reducesTo_S2x1024x2048_S2x1024_d2 h_S_)) (broadcastInDim S2x1024x1 ![] bcast_S_S2x1024x1 (constant S_ .f32 0x45000000#32))) (broadcastInDim S2x1024x1 ![] bcast_S_S2x1024x1 (constant S_ .f32 0x358637BD#32)))))) (broadcastInDim S2x1024x2048 ![0, 1, 2] bcast_S1x1x2048_S2x1024x2048_0_1_2 (broadcastInDim S1x1x2048 ![2] bcast_S2048_S1x1x2048_2 a7))

/-- The reference's result as a function of its arguments. -/
def Res (a0 a1 : FVec Ideal S2x1024x2048 .f32) (a2 : FVec Ideal S2x12288 .f32) (a3 : FVec Ideal S2048x11264 .f32) (a4 : FVec Ideal S3x11264 .f32)
    (a5 : FVec Ideal S11264 .f32) (a6 : FVec Ideal S5632x2048 .f32) (a7 : FVec Ideal S2048 .f32) : FVec Ideal S2048x2048 .f32 :=
  shapeCast S2048x2048 (Yr (X2r a0 a2 a6 (Ac (Cv (Hh a1 a3) a4 a5))) a7) shapeCasts_S2x1024x2048_S2048x2048

/-- The generated name of the result is `Res` of the arguments. -/
theorem res_eq (m : (ℓ : Loc nD τ sig) → Buf (Elt Ideal) ℓ) (c : Dev nD) :
    Value.res_main_v53 m c = Res (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  unfold Value.res_main_v53 Res Yr X2r Ac Cv Hp Hh; rfl

theorem Hh_at (a1 a3) (b : Fin 2) (s : Fin 1024) (n : Fin 11264) : Hh a1 a3 (ix3 b s n) = ∑ d : Fin 2048, a1 (ix3 b s d) * a3 (ix2 d n) := by
  pointwise [Hh]

theorem Hp_at (h) (b : Fin 2) (s : Fin 1026) (n : Fin 11264) : Hp h (ix3 b s n) = if hs : 1 ≤ s.val ∧ s.val - 1 < 1024 then h (ix3 b ⟨s.val - 1, hs.2⟩ n) else 0 := by
  pointwise [Hp]
  rw [show (FloatOps.sitofp FTy.f32 0#32 : Ideal .f32) = 0 from by simp [FloatOps.sitofp]]

theorem Cv_at (h a4 a5) (b : Fin 2) (s : Fin 1024) (n : Fin 11264) : Cv h a4 a5 (ix3 b s n) =
    Hp h (ix3 b ⟨s.val, by omega⟩ n) * a4 (ix2 0 n) + Hp h (ix3 b ⟨1 + s.val, by omega⟩ n) * a4 (ix2 1 n)
      + Hp h (ix3 b ⟨2 + s.val, by omega⟩ n) * a4 (ix2 2 n) + a5 (ix1 n) := by
  pointwise [Cv]

end Cert.Reference5Ideal.Lat

namespace Cert.Kernel5Ideal.Lat

open Cert.Kernel5Ideal Cert.Kernel5Ideal.Gen
open Cert.Reference5Ideal.Lat (Hh_at Hh Hp Cv Ac X2r Yr Res)

theorem raw_at (x w) (r : Fin 1024) (q : Fin 256) : raw (F := Ideal) x w (ix2 r q) = ∑ d : Fin 2048, x (ix2 r d) * w (ix2 d q) := by
  pointwise [raw, k0_pay20, k0_pay10]

theorem pay2_at : ∀ r : Fin 1024, k0_pay2 (ix2 r 0) = if r.val % 1024 = 0 then 0#1 else 1#1 := by
  decide +kernel
theorem pay3_at : ∀ r : Fin 1024, k0_pay3 (ix2 r 0) = if r.val % 1024 = 1023 then 0#1 else 1#1 := by
  decide +kernel

/-- The convolution of one tile. -/
theorem conv_at (u c d) (r : Fin 1024) (q : Fin 256) : k0_pay22 (F := Ideal) k0_pay2 k0_pay3 u c d (ix2 r q) =
    Scalar.select (k0_pay2 (ix2 r 0)) (c (ix2 0 q) * u (ix2 ⟨(r.val + 1024 - 1) % 1024, Nat.mod_lt _ (by decide)⟩ q)) 0 + c (ix2 1 q) * u (ix2 r q)
      + Scalar.select (k0_pay3 (ix2 r 0)) (c (ix2 2 q) * u (ix2 ⟨(r.val + 1024 - 1023) % 1024, Nat.mod_lt _ (by decide)⟩ q)) 0 + d (ix2 0 q) := by
  pointwise [k0_pay22]

/-- The gate of a tile in terms of the two convolutions. -/
theorem gtile_eq (a b : FVec Ideal S1024x256 .f32) (cA cB : Vec Ideal S3x256 .f32) (dA dB : Vec Ideal S1x256 .f32) (r : Fin 1024) (q : Fin 256) (A B : EReal)
    (hA : k0_pay22 k0_pay2 k0_pay3 a cA dA (ix2 r q) = A) (hB : k0_pay22 k0_pay2 k0_pay3 b cB dB (ix2 r q) = B) :
    gtile a b cA cB dA dB (ix2 r q) = A * Ideal.div 1 (1 + Ideal.exp (0 - A)) * B := by
  have e : gtile a b cA cB dA dB = truncf .bf16 (mulf (mulf (k0_pay22 k0_pay2 k0_pay3 a cA dA) (divf (broadcast S1024x256 (Scalar.ofBits .f32 0x3F800000#32))
    (addf (broadcast S1024x256 (Scalar.ofBits .f32 0x3F800000#32)) (exp (subf (broadcast S1024x256 (Scalar.ofBits .f32 0x00000000#32)) (k0_pay22 k0_pay2 k0_pay3 a cA dA))))))
    (k0_pay22 k0_pay2 k0_pay3 b cB dB)) bitsLt_bf16_f32 := by
    unfold gtile k0_pay23
    exact shapeCast_self _ _
  rw [e]
  pointwise
  rw [hA, hB]

/-- The reference's gated activations at an element. -/
theorem Ac_at (v) (b : Fin 2) (s : Fin 1024) (n : Fin 5632) : Ac v (ix3 b s n) =
    v (ix3 b s ⟨n.val, by omega⟩) * Ideal.div 1 (1 + Ideal.exp (-v (ix3 b s ⟨n.val, by omega⟩))) * v (ix3 b s ⟨5632 + n.val, by omega⟩) := by
  pointwise [Ac]

theorem X2r_at (a0 a2 a6 ac) (b : Fin 2) (s : Fin 1024) (n : Fin 2048) : X2r a0 a2 a6 ac (ix3 b s n) =
    a0 (ix3 b s n) + a2 (ix2 b ⟨10240 + n.val, by omega⟩) * ∑ x : Fin 5632, ac (ix3 b s x) * a6 (ix2 x n) := by
  pointwise [X2r]

theorem Yr_at (x a7) (b : Fin 2) (s : Fin 1024) (n : Fin 2048) : Yr x a7 (ix3 b s n) =
    x (ix3 b s n) * Ideal.rsqrt (Ideal.div (∑ k : Fin 2048, x (ix3 b s k) * x (ix3 b s k)) (Ideal.ofBits FTy.f32 1157627904#32)
      + Ideal.ofBits FTy.f32 897988541#32) * a7 (ix1 n) := by
  pointwise [Yr]

theorem pay8_at (a w x g) (r : Fin 1024) (q : Fin 256) : k0_pay8 (F := Ideal) a w x g (ix2 r q) =
    x (ix2 r q) + g (ix3 0 0 q) * ∑ k : Fin 5632, a (ix2 r k) * w (ix2 k q) := by
  pointwise [k0_pay8]

theorem pay9_at (x g) (r : Fin 1024) (q : Fin 2048) : k0_pay9 (F := Ideal) x g (ix2 r q) =
    x (ix2 r q) * Ideal.rsqrt (Ideal.div (∑ k : Fin 2048, x (ix2 r k) * x (ix2 r k)) (Ideal.ofBits FTy.f32 1157627904#32)
      + Ideal.ofBits FTy.f32 897988541#32) * g (ix2 0 q) := by
  pointwise [k0_pay9]

/-- An element of a rectangle of a matrix. -/
theorem sub2_at {R C r c : ℕ} [NeZero R] [NeZero C] {e : EltTy} (a : Vec Ideal (⟨2, ![R, C]⟩ : Shape) e) {ro co : ℕ} (x : Fin r) (y : Fin c) (P : Fin R) (Q : Fin C)
    (hP : P.val = ro + x.val) (hQ : Q.val = co + y.val) : (sub2 a ro co : Vec Ideal (⟨2, ![r, c]⟩ : Shape) e) (ix2 x y) = a (ix2 P Q) := by
  have e1 : Fin.ofNat R (ro + x.val) = P := Fin.ext (by rw [Fin.val_ofNat, ← hP, Nat.mod_eq_of_lt P.isLt])
  have e2 : Fin.ofNat C (co + y.val) = Q := Fin.ext (by rw [Fin.val_ofNat, ← hQ, Nat.mod_eq_of_lt Q.isLt])
  show a (ix2 (Fin.ofNat R (ro + x.val)) (Fin.ofNat C (co + y.val))) = _
  rw [e1, e2]

variable (m : (ℓ : Loc nD τ sig) → Buf (Elt Ideal) ℓ)

/-! The arguments of the reference's stages, named. -/

abbrev A0 (c : Dev nD) : FVec Ideal S2x1024x2048 .f32 := m ((c.tc : Thread nD τ).loc main_arg0)
abbrev A1 (c : Dev nD) : FVec Ideal S2x1024x2048 .f32 := m ((c.tc : Thread nD τ).loc main_arg1)
abbrev A2 (c : Dev nD) : FVec Ideal S2x12288 .f32 := m ((c.tc : Thread nD τ).loc main_arg2)
abbrev A3 (c : Dev nD) : FVec Ideal S2048x11264 .f32 := m ((c.tc : Thread nD τ).loc main_arg3)
abbrev A4 (c : Dev nD) : FVec Ideal S3x11264 .f32 := m ((c.tc : Thread nD τ).loc main_arg4)
abbrev A5 (c : Dev nD) : FVec Ideal S11264 .f32 := m ((c.tc : Thread nD τ).loc main_arg5)
abbrev A6 (c : Dev nD) : FVec Ideal S5632x2048 .f32 := m ((c.tc : Thread nD τ).loc main_arg6)
abbrev A7 (c : Dev nD) : FVec Ideal S2048 .f32 := m ((c.tc : Thread nD τ).loc main_arg7)

/-! The host's arrays at the launch: reshaped and cast arguments. -/

def hv0 (c : Dev nD) : FVec Ideal S2048x2048 .f32 := shapeCast S2048x2048 (A0 m c) shapeCasts_S2x1024x2048_S2048x2048
def hv2 (c : Dev nD) : FVec Ideal S2048x2048 .bf16 := truncf .bf16 (shapeCast S2048x2048 (A1 m c) shapeCasts_S2x1024x2048_S2048x2048) bitsLt_bf16_f32
def hv3 (c : Dev nD) : FVec Ideal S2x6x2048 .f32 := shapeCast S2x6x2048 (A2 m c) shapeCasts_S2x12288_S2x6x2048
def hv4 (c : Dev nD) : FVec Ideal S2048x11264 .bf16 := truncf .bf16 (A3 m c) bitsLt_bf16_f32
def hv5 (c : Dev nD) : FVec Ideal S5632x2048 .bf16 := truncf .bf16 (A6 m c) bitsLt_bf16_f32
def hv6 (c : Dev nD) : FVec Ideal S1x11264 .f32 := shapeCast S1x11264 (A5 m c) shapeCasts_S11264_S1x11264
def hv7 (c : Dev nD) : FVec Ideal S1x2048 .f32 := shapeCast S1x2048 (A7 m c) shapeCasts_S2048_S1x2048

theorem v0_eq (c : Dev nD) : V m c main_v0 = hv0 m c := rfl
theorem v2_eq (c : Dev nD) : V m c main_v2 = hv2 m c := rfl
theorem v3_eq (c : Dev nD) : V m c main_v3 = hv3 m c := rfl
theorem v4_eq (c : Dev nD) : V m c main_v4 = hv4 m c := rfl
theorem v5_eq (c : Dev nD) : V m c main_v5 = hv5 m c := rfl
theorem v6_eq (c : Dev nD) : V m c main_v6 = hv6 m c := rfl
theorem v7_eq (c : Dev nD) : V m c main_v7 = hv7 m c := rfl

theorem hv0_at (c : Dev nD) (R : Fin 2048) (d : Fin 2048) : hv0 m c (ix2 R d) = A0 m c (ix3 ⟨R.val / 1024, by omega⟩ ⟨R.val % 1024, by omega⟩ d) := by
  pointwise [hv0]
theorem hv2_at (c : Dev nD) (R : Fin 2048) (d : Fin 2048) : hv2 m c (ix2 R d) = A1 m c (ix3 ⟨R.val / 1024, by omega⟩ ⟨R.val % 1024, by omega⟩ d) := by
  pointwise [hv2]
theorem hv3_at (c : Dev nD) (b : Fin 2) (q : Fin 2048) : hv3 m c (ix3 b 5 q) = A2 m c (ix2 b ⟨10240 + q.val, by omega⟩) := by
  pointwise [hv3]
theorem hv4_at (c : Dev nD) (d : Fin 2048) (n : Fin 11264) : hv4 m c (ix2 d n) = A3 m c (ix2 d n) := by
  pointwise [hv4]
theorem hv5_at (c : Dev nD) (d : Fin 5632) (n : Fin 2048) : hv5 m c (ix2 d n) = A6 m c (ix2 d n) := by
  pointwise [hv5]
theorem hv6_at (c : Dev nD) (n : Fin 11264) : hv6 m c (ix2 0 n) = A5 m c (ix1 n) := by
  pointwise [hv6]
theorem hv7_at (c : Dev nD) (n : Fin 2048) : hv7 m c (ix2 0 n) = A7 m c (ix1 n) := by
  pointwise [hv7]

/-! The reference's stages at the kernel's arguments. -/

def hh (c : Dev nD) : FVec Ideal Cert.Reference5Ideal.S2x1024x11264 .f32 := Hh (A1 m c) (A3 m c)
def cv (c : Dev nD) : FVec Ideal Cert.Reference5Ideal.S2x1024x11264 .f32 := Cv (hh m c) (A4 m c) (A5 m c)
def ac (c : Dev nD) : FVec Ideal Cert.Reference5Ideal.S2x1024x5632 .f32 := Ac (cv m c)
def x2 (c : Dev nD) : FVec Ideal S2x1024x2048 .f32 := X2r (A0 m c) (A2 m c) (A6 m c) (ac m c)
def yr (c : Dev nD) : FVec Ideal S2x1024x2048 .f32 := Yr (x2 m c) (A7 m c)

/-- A raw tile is the up projection at its rows and columns. -/
theorem raw_ref (c : Dev nD) (i n : ℕ) (hi : i < 2) (r : Fin 1024) (q : Fin 256) (b : Fin 2) (s : Fin 1024) (N : Fin 11264)
    (hb : b.val = (1024 * i + r.val) / 1024) (hs : s.val = (1024 * i + r.val) % 1024) (hN : N.val = n + q.val) :
    raw (Xi m c i) (Wn m c n) (ix2 r q) = hh m c (ix3 b s N) := by
  rw [raw_at]; unfold hh; rw [Hh_at]
  refine Finset.sum_congr rfl fun d _ => ?_
  unfold Xi Wn
  rw [sub2_at _ r d ⟨1024 * i + r.val, by omega⟩ d rfl (Nat.zero_add _).symm, sub2_at _ d q d N (Nat.zero_add _).symm hN, v2_eq, v4_eq, hv2_at, hv4_at]
  rw [show (⟨(1024 * i + r.val) / 1024, by omega⟩ : Fin 2) = b from Fin.ext hb.symm, show (⟨(1024 * i + r.val) % 1024, by omega⟩ : Fin 1024) = s from Fin.ext hs.symm]

/-- The convolution of a tile is the reference's convolution at its rows and columns. -/
theorem conv_ref (c : Dev nD) (i n : ℕ) (hi : i < 2) (r : Fin 1024) (q : Fin 256) (b : Fin 2) (s : Fin 1024) (N : Fin 11264)
    (hb : b.val = (1024 * i + r.val) / 1024) (hs : s.val = (1024 * i + r.val) % 1024) (hN : N.val = n + q.val) :
    k0_pay22 k0_pay2 k0_pay3 (raw (Xi m c i) (Wn m c n)) (Cn m c n) (Bn m c n) (ix2 r q) = cv m c (ix3 b s N) := by
  have hs' : s.val = r.val % 1024 := by omega
  have hC : ∀ j : Fin 3, Cn m c n (ix2 j q) = A4 m c (ix2 j N) := fun j => by
    unfold Cn; rw [sub2_at _ j q j N (Nat.zero_add _).symm hN, V_main_arg4]
  have hB : Bn m c n (ix2 0 q) = A5 m c (ix1 N) := by
    unfold Bn; rw [sub2_at _ 0 q 0 N rfl hN, v6_eq, hv6_at]
  rw [conv_at, hC, hC, hC, hB, pay2_at, pay3_at]; unfold cv
  rw [Cert.Reference5Ideal.Lat.Cv_at]
  congr 1
  congr 1
  · congr 1
    · rw [Cert.Reference5Ideal.Lat.Hp_at]
      by_cases h0 : r.val % 1024 = 0
      · rw [if_pos h0, dif_neg (by dsimp only; omega), zero_mul]; rfl
      · rw [if_neg h0, dif_pos (by dsimp only; omega), raw_ref m c i n hi _ q b ⟨s.val - 1, by omega⟩ N (by dsimp only; omega) (by dsimp only; omega) hN, mul_comm]; rfl
    · rw [Cert.Reference5Ideal.Lat.Hp_at, dif_pos (by dsimp only; omega), raw_ref m c i n hi r q b s N hb hs hN, mul_comm]
      congr 2
      blk_ext
  · rw [Cert.Reference5Ideal.Lat.Hp_at]
    by_cases h0 : r.val % 1024 = 1023
    · rw [if_pos h0, dif_neg (by dsimp only; omega), zero_mul]; rfl
    · rw [if_neg h0, dif_pos (by dsimp only; omega), raw_ref m c i n hi _ q b ⟨2 + s.val - 1, by omega⟩ N (by dsimp only; omega) (by dsimp only; omega) hN, mul_comm]; rfl

/-- The gated activations of a row tile are the reference's. -/
theorem act_ref (c : Dev nD) (i : ℕ) (hi : i < 2) (r : Fin 1024) (k : Fin 5632) (b : Fin 2) (s : Fin 1024)
    (hb : b.val = (1024 * i + r.val) / 1024) (hs : s.val = (1024 * i + r.val) % 1024) : Act m c i (ix2 r k) = ac m c (ix3 b s k) := by
  show Tk m c i (k.val / 256) (ix2 r ⟨k.val % 256, _⟩) = _
  unfold Tk ac
  rw [Ac_at]
  rw [gtile_eq _ _ _ _ _ _ r _ _ _ (conv_ref m c i _ hi r _ b s ⟨k.val, by omega⟩ hb hs (by dsimp only; omega))
    (conv_ref m c i _ hi r _ b s ⟨5632 + k.val, by omega⟩ hb hs (by dsimp only; omega)), zero_sub]

/-- The scale of a tile of the down projection. -/
theorem gn_at (c : Dev nD) (i n : ℕ) (b : Fin 2) (hb : b.val = i) (q : Fin 256) (Q : Fin 2048) (hQ : Q.val = n + q.val) :
    Gn m c i n (ix3 0 0 q) = A2 m c (ix2 b ⟨10240 + Q.val, by omega⟩) := by
  have e1 : Fin.ofNat 2048 (n + q.val) = Q := Fin.ext (by rw [Fin.val_ofNat, ← hQ, Nat.mod_eq_of_lt Q.isLt])
  have e2 : Fin.ofNat 2 i = b := Fin.ext (by rw [Fin.val_ofNat, ← hb, Nat.mod_eq_of_lt b.isLt])
  unfold Gn Mi
  rw [v3_eq]
  refine Eq.trans (b := hv3 m c (ix3 (Fin.ofNat 2 i) 5 (Fin.ofNat 2048 (n + q.val)))) rfl ?_
  rw [e1, e2, hv3_at]

/-- The stream after the down projection is the reference's. -/
theorem x2_ref (c : Dev nD) (i : ℕ) (hi : i < 2) (r : Fin 1024) (n : Fin 2048) (b : Fin 2) (s : Fin 1024)
    (hb : b.val = (1024 * i + r.val) / 1024) (hs : s.val = (1024 * i + r.val) % 1024) :
    (join (X2n m c i) : Vec Ideal S1024x2048 .f32) (ix2 r n) = x2 m c (ix3 b s n) := by
  show X2n m c i (n.val / 256) (ix2 r ⟨n.val % 256, _⟩) = _
  unfold X2n x2
  rw [pay8_at, X2r_at]
  have hn : 256 * (n.val / 256) + n.val % 256 = n.val := by omega
  rw [gn_at m c i (256 * (n.val / 256)) b (by omega) ⟨n.val % 256, Nat.mod_lt _ (by norm_num)⟩ n hn.symm,
    sub2_at _ r _ ⟨1024 * i + r.val, by omega⟩ n rfl hn.symm, v0_eq, hv0_at]
  rw [show (⟨(1024 * i + r.val) / 1024, by omega⟩ : Fin 2) = b from Fin.ext hb.symm, show (⟨(1024 * i + r.val) % 1024, by omega⟩ : Fin 1024) = s from Fin.ext hs.symm]
  refine congrArg (fun z => A0 m c (ix3 b s n) + A2 m c (ix2 b ⟨10240 + n.val, by omega⟩) * z) (Finset.sum_congr rfl fun k _ => ?_)
  rw [act_ref m c i hi r k b s hb hs, sub2_at _ k _ k n (Nat.zero_add _).symm hn.symm, v5_eq, hv5_at]

/-- The normalised rows of a tile are the reference's. -/
theorem fin_ref (c : Dev nD) (i : ℕ) (hi : i < 2) (r : Fin 1024) (n : Fin 2048) (b : Fin 2) (s : Fin 1024)
    (hb : b.val = (1024 * i + r.val) / 1024) (hs : s.val = (1024 * i + r.val) % 1024) : Fin9 m c i (ix2 r n) = yr m c (ix3 b s n) := by
  unfold Fin9 yr
  rw [pay9_at, Yr_at, x2_ref m c i hi r n b s hb hs, v7_eq, hv7_at]
  simp only [x2_ref m c i hi r _ b s hb hs]

/-- The reference's result at the kernel's arguments. -/
def out (c : Dev nD) : FVec Ideal S2048x2048 .f32 := Res (A0 m c) (A1 m c) (A2 m c) (A3 m c) (A4 m c) (A5 m c) (A6 m c) (A7 m c)

/-- The rows of tile `i` are the rows of the result from `1024 * i`. -/
theorem out_at (c : Dev nD) (i : ℕ) (hi : i < 2) (r : Fin 1024) (n : Fin 2048) (R : Fin 2048) (hR : R.val = 1024 * i + r.val) :
    Fin9 m c i (ix2 r n) = out m c (ix2 R n) := by
  rw [fin_ref m c i hi r n ⟨R.val / 1024, by omega⟩ ⟨R.val % 1024, by omega⟩ (by dsimp only; omega) (by dsimp only; omega)]
  have e : out m c = shapeCast S2048x2048 (yr m c) shapeCasts_S2x1024x2048_S2048x2048 := by
    unfold out Res yr x2 ac cv hh; rfl
  rw [e]
  pointwise

end Cert.Kernel5Ideal.Lat

end
-- ==== Proof.LatFinal.lean ====
/-
  The latent feed-forward kernel's result: the whole array after the run is the reference's result at the kernel's arguments.
-/
module

public import proofs.«01_k».proof.Proof.LatSteps
public import proofs.«01_k».proof.Proof.LatMath
public import Idealize.ShloMosaic.Lib.Pipeline.ArrRel

@[expose] public section

set_option maxRecDepth 16384

noncomputable section

open Idealize.ShloMosaic Idealize.ShloMosaic.TcCoe Idealize.SL.Sem

namespace Cert.Kernel5Ideal.Lat

open Cert.Kernel5Ideal Cert.Kernel5Ideal.Gen

variable (m : (ℓ : Loc nD τ sig) → Buf (Elt Ideal) ℓ) (ρ : Dev nD → PrngReg)

/-- The run of the kernel: its result is the reference's, and its arguments end unchanged, from any memory. -/
theorem run_value : θ_run defs (onTc (τ := τ) (main (F := Ideal))) ⟨m, fun _ => 0, ρ⟩ (fun r => ∀ c : Dev nD,
    r.2.mem ((c.tc : Thread nD τ).loc main_v8) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ⟨?_, args_of m _ _ r h.1 c⟩) (run_main m ρ (Inv m) (R m) (steps m) (fun c A W => inv_zero m c A W))
  obtain ⟨after, hL, hA⟩ := Pipeline.RDat.FramePost.exists_exact h.1 c
  refine (hA 9).trans ?_
  refine Pipeline.Dat.arrAt_eq_of_covers _ 9 _ (by decide +kernel) fun t hf y => ?_
  have hl : R m c t.val (after 9 t) := Pipeline.Dat.toRRel_leaves (dats m (Inv m) 0 c) (fgt := fgt) (Rl := Rl (R m) c) (w := 9) rfl (hL 9 t hf)
  have ht : t.val < 38 := lt_of_lt_of_eq t.isLt N_0
  have h18 : t.val % 19 = 18 := (flush0_9 t).mp hf
  have e := hl.2 h18
  blk_simp
  show after 9 t y = _
  rw [e]
  idx_vars y
  refine (out_at m c (t.val / 19) (by omega) y0 y1 ⟨1024 * (t.val / 19) + y0, by omega⟩ rfl).trans ?_
  blk_ext [idx t]

end Cert.Kernel5Ideal.Lat

end
-- ==== Proof.LatClaim.lean ====
/-
  The latent feed-forward call's claims.
-/
module

public import proofs.«01_k».proof.Defs
public import proofs.«01_k».proof.Proof.LatBody
public import proofs.«01_k».proof.Proof.LatFinal
public import proofs.«01_k».proof.Proof.Gen.Kernel5
public import proofs.«01_k».proof.Proof.Gen.Reference5Ideal
public import proofs.«01_k».proof.Proof.Gen.Reference5Ideal.Run
public import Idealize.ShloMosaic.Adequacy
public import Idealize.ShloMosaic.Init

@[expose] public section

noncomputable section

namespace Cert.Proof

open Idealize.ShloMosaic Idealize.SL.Sem

/-- The latent feed-forward kernel at exact arithmetic: it terminates, keeps its arguments and its counters end at zero. -/
theorem lat_frame_ideal : Cert.quiescent_Kernel5Ideal := fun m ρ _ => Cert.Kernel5Ideal.Lat.frame m ρ

/-- The two programs' body tables agree at machine floats: they have the same text. -/
theorem lat_defs₀ : Cert.Kernel5.defs₀ (F := Bits) = Cert.Kernel5Ideal.defs₀ := by
  unfold Cert.Kernel5.defs₀ Cert.Kernel5Ideal.defs₀
  refine congrArg Defs.onTc (funext fun l => funext fun a => ?_)
  revert a
  match l with
  | 0 => intro a; obtain ⟨t, s⟩ := a; exact rfl

theorem lat_defs : Cert.Kernel5.defs (F := Bits) = Cert.Kernel5Ideal.defs :=
  congrArg (Pipeline.defs Cert.Kernel5.pcfgs) lat_defs₀

/-- The same at machine floats: the run holds at any values, and the two programs have the same text. -/
theorem lat_frame : Cert.quiescent_Kernel5 := fun m ρ _ => by
  rw [lat_defs]
  exact (θ_run Cert.Kernel5Ideal.defs _ _).mono (fun _ h => h) (Cert.Kernel5Ideal.Lat.frame (F := Bits) m ρ)

/-- The latent feed-forward reference's frame. -/
theorem lat_ref : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- The latent feed-forward kernel and its reference, at exact arithmetic: from equal arguments both runs end with equal results. -/
theorem lat_eq : Cert.algebraic_Kernel5Ideal_Reference5Ideal := by
  pair_intro
  · run_from Cert.Kernel5Ideal.Lat.run_value m g
  · run_from Cert.Reference5Ideal.Value.run m' g'
    · rw [Cert.Reference5Ideal.Lat.res_eq]
      obtain ⟨h0, h1, h2, h3, h4, h5, h6, h7⟩ := hagree c
      rw [h0, h1, h2, h3, h4, h5, h6, h7]
      rfl

end Cert.Proof

end
-- ==== Proof.ProjRun.lean ====
/-
  The projection kernel's body, run once per kind of grid point: the first column step of a row tile (`runA`), which
  first normalises the tile's rows, and the others (`runB`). Each run finds what it stores, as lists of pieces (the last
  store first).
-/
module

public import proofs.«01_k».proof.Proof.Gen.Kernel3Ideal.Frame
public import proofs.«01_k».proof.Proof.Gen.Kernel3Ideal.Skeleton
public import proofs.«01_k».proof.Proof.Gen.Kernel3Ideal.Loops
public import Idealize.ShloMosaic.Lib.Pipeline.Frame
public import Idealize.ShloMosaic.Lib.Tactic

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch buffer of the normalised rows. -/
abbrev xmM : Memref sig .tc .vmem S1024x2048 .bf16 := Memref.whole cc0_scratch0
theorem xmW : xmM.IsWhole := Memref.isWhole_whole _

/-- The body's triple with the stored pieces named: from every window's buffer and the scratch buffer at given contents
    to the same with the pieces written. -/
def Spec (c : Dev nD) (i : grid0.Coords) (M0 : Memref sig .tc .vmem S1024x2048 .f32) (H0 : M0.IsWhole) (M1 : Memref sig .tc .vmem S1x6x2048 .f32) (H1 : M1.IsWhole) (M2 : Memref sig .tc .vmem S1x2048 .f32) (H2 : M2.IsWhole) (M3 : Memref sig .tc .vmem S2048x512 .bf16) (H3 : M3.IsWhole) (M4 : Memref sig .tc .vmem S1024x512 .bf16) (H4 : M4.IsWhole) (M5 : Memref sig .tc .vmem S1024x512 .f32) (H5 : M5.IsWhole) (M6 : Memref sig .tc .vmem S2048x128 .f32) (H6 : M6.IsWhole) (M7 : Memref sig .tc .vmem S2048x128 .f32) (H7 : M7.IsWhole)
    (x0 : Vec F S1024x2048 .f32) (x1 : Vec F S1x6x2048 .f32) (x2 : Vec F S1x2048 .f32) (x3 : Vec F S2048x512 .bf16) (O4 : Vec F S1024x512 .bf16) (O5 : Vec F S1024x512 .f32) (O6 : Vec F S2048x128 .f32) (O7 : Vec F S2048x128 .f32) (A : Vec F S1024x2048 .bf16)
    (LA : List (View.Piece (Elt F) S1024x2048 .bf16)) (L4 : List (View.Piece (Elt F) S1024x512 .bf16)) (L5 : List (View.Piece (Elt F) S1024x512 .f32)) (L6 : List (View.Piece (Elt F) S2048x128 .f32)) (L7 : List (View.Piece (Elt F) S2048x128 .f32)) : Prop :=
  ∀ (E : Set ℕ) (K : PUnit → sProp 𝕄),
    iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare O4 ∗ owns (c : Thread nD τ) M5 fullShare O5 ∗ owns (c : Thread nD τ) M6 fullShare O6 ∗ owns (c : Thread nD τ) M7 fullShare O7 ∗ owns (c : Thread nD τ) xmM fullShare A
        ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare (M4.view.read (Elt F) (M4.view.writes (Elt F) (H4.unread O4) L4)) ∗ owns (c : Thread nD τ) M5 fullShare (M5.view.read (Elt F) (M5.view.writes (Elt F) (H5.unread O5) L5)) ∗ owns (c : Thread nD τ) M6 fullShare (M6.view.read (Elt F) (M6.view.writes (Elt F) (H6.unread O6) L6)) ∗ owns (c : Thread nD τ) M7 fullShare (M7.view.read (Elt F) (M7.view.writes (Elt F) (H7.unread O7) L7)) ∗ owns (c : Thread nD τ) xmM fullShare (xmM.view.read (Elt F) (xmM.view.writes (Elt F) (xmW.unread A) LA))) -∗ K ⟨⟩))
      ⊢ wp frame (wpE (defs₀ (F := F)) Variants.none c none) E (cc0_proj i M0 H0 M1 H1 M2 H2 M3 H3 M4 H4 M5 H5 M6 H6 M7 H7 xmM xmW) K

set_option maxHeartbeats 4000000 in
/-- The run at the first column step. -/
def runA (c : Dev nD) (i : grid0.Coords) (h1 : k0_cond1 i = 1#1) (M0 : Memref sig .tc .vmem S1024x2048 .f32) (H0 : M0.IsWhole) (M1 : Memref sig .tc .vmem S1x6x2048 .f32) (H1 : M1.IsWhole) (M2 : Memref sig .tc .vmem S1x2048 .f32) (H2 : M2.IsWhole) (M3 : Memref sig .tc .vmem S2048x512 .bf16) (H3 : M3.IsWhole) (M4 : Memref sig .tc .vmem S1024x512 .bf16) (H4 : M4.IsWhole) (M5 : Memref sig .tc .vmem S1024x512 .f32) (H5 : M5.IsWhole) (M6 : Memref sig .tc .vmem S2048x128 .f32) (H6 : M6.IsWhole) (M7 : Memref sig .tc .vmem S2048x128 .f32) (H7 : M7.IsWhole)
    (x0 : Vec F S1024x2048 .f32) (x1 : Vec F S1x6x2048 .f32) (x2 : Vec F S1x2048 .f32) (x3 : Vec F S2048x512 .bf16) (O4 : Vec F S1024x512 .bf16) (O5 : Vec F S1024x512 .f32) (O6 : Vec F S2048x128 .f32) (O7 : Vec F S2048x128 .f32) (A : Vec F S1024x2048 .bf16) :
    Σ' (LA : List (View.Piece (Elt F) S1024x2048 .bf16)) (L4 : List (View.Piece (Elt F) S1024x512 .bf16)) (L5 : List (View.Piece (Elt F) S1024x512 .f32)) (L6 : List (View.Piece (Elt F) S2048x128 .f32)), { L7 : List (View.Piece (Elt F) S2048x128 .f32) //
      Spec c i M0 H0 M1 H1 M2 H2 M3 H3 M4 H4 M5 H5 M6 H6 M7 H7 x0 x1 x2 x3 O4 O5 O6 O7 A LA L4 L5 L6 L7 } := by
  refine ⟨?_, ?_, ?_, ?_, ?_, fun E K => ?run⟩
  case run =>
    simp only [cc0_proj_eq_skeleton]; unfold cc0_proj_skel
    unfold owns
    iintro ⟨⟨%f0, %hf0, P0⟩, ⟨%f1, %hf1, P1⟩, ⟨%f2, %hf2, P2⟩, ⟨%f3, %hf3, P3⟩, ⟨%f4, %hf4, P4⟩, ⟨%f5, %hf5, P5⟩, ⟨%f6, %hf6, P6⟩, ⟨%f7, %hf7, P7⟩, ⟨%fA, %hfA, PA⟩, Hk⟩
    obtain rfl := H0.eq_unread hf0; obtain rfl := H1.eq_unread hf1; obtain rfl := H2.eq_unread hf2; obtain rfl := H3.eq_unread hf3; obtain rfl := H4.eq_unread hf4; obtain rfl := H5.eq_unread hf5; obtain rfl := H6.eq_unread hf6; obtain rfl := H7.eq_unread hf7
    obtain rfl := xmW.eq_unread hfA
    sl_exec
    sl_step
    iapply Hk
    isplitl [P0]
    · iexists _; isplitr; · ipureintro; exact H0.read_unread _
      iexact P0
    isplitl [P1]
    · iexists _; isplitr; · ipureintro; exact H1.read_unread _
      iexact P1
    isplitl [P2]
    · iexists _; isplitr; · ipureintro; exact H2.read_unread _
      iexact P2
    isplitl [P3]
    · iexists _; isplitr; · ipureintro; exact H3.read_unread _
      iexact P3
    isplitl [P4]
    · iexists _; isplitr; swap
      · iexact P4
      ipureintro; rfl
    isplitl [P5]
    · iexists _; isplitr; swap
      · iexact P5
      ipureintro; rfl
    isplitl [P6]
    · iexists _; isplitr; swap
      · iexact P6
      ipureintro; rfl
    isplitl [P7]
    · iexists _; isplitr; swap
      · iexact P7
      ipureintro; rfl
    iexists _; isplitr; swap
    · iexact PA
    ipureintro; rfl

set_option maxHeartbeats 4000000 in
/-- The run at any other column step. -/
def runB (c : Dev nD) (i : grid0.Coords) (h1 : ¬ k0_cond1 i = 1#1) (M0 : Memref sig .tc .vmem S1024x2048 .f32) (H0 : M0.IsWhole) (M1 : Memref sig .tc .vmem S1x6x2048 .f32) (H1 : M1.IsWhole) (M2 : Memref sig .tc .vmem S1x2048 .f32) (H2 : M2.IsWhole) (M3 : Memref sig .tc .vmem S2048x512 .bf16) (H3 : M3.IsWhole) (M4 : Memref sig .tc .vmem S1024x512 .bf16) (H4 : M4.IsWhole) (M5 : Memref sig .tc .vmem S1024x512 .f32) (H5 : M5.IsWhole) (M6 : Memref sig .tc .vmem S2048x128 .f32) (H6 : M6.IsWhole) (M7 : Memref sig .tc .vmem S2048x128 .f32) (H7 : M7.IsWhole)
    (x0 : Vec F S1024x2048 .f32) (x1 : Vec F S1x6x2048 .f32) (x2 : Vec F S1x2048 .f32) (x3 : Vec F S2048x512 .bf16) (O4 : Vec F S1024x512 .bf16) (O5 : Vec F S1024x512 .f32) (O6 : Vec F S2048x128 .f32) (O7 : Vec F S2048x128 .f32) (A : Vec F S1024x2048 .bf16) :
    Σ' (LA : List (View.Piece (Elt F) S1024x2048 .bf16)) (L4 : List (View.Piece (Elt F) S1024x512 .bf16)) (L5 : List (View.Piece (Elt F) S1024x512 .f32)) (L6 : List (View.Piece (Elt F) S2048x128 .f32)), { L7 : List (View.Piece (Elt F) S2048x128 .f32) //
      Spec c i M0 H0 M1 H1 M2 H2 M3 H3 M4 H4 M5 H5 M6 H6 M7 H7 x0 x1 x2 x3 O4 O5 O6 O7 A LA L4 L5 L6 L7 } := by
  refine ⟨[], ?_, ?_, ?_, ?_, fun E K => ?run⟩
  case run =>
    simp only [cc0_proj_eq_skeleton]; unfold cc0_proj_skel
    unfold owns
    iintro ⟨⟨%f0, %hf0, P0⟩, ⟨%f1, %hf1, P1⟩, ⟨%f2, %hf2, P2⟩, ⟨%f3, %hf3, P3⟩, ⟨%f4, %hf4, P4⟩, ⟨%f5, %hf5, P5⟩, ⟨%f6, %hf6, P6⟩, ⟨%f7, %hf7, P7⟩, ⟨%fA, %hfA, PA⟩, Hk⟩
    obtain rfl := H0.eq_unread hf0; obtain rfl := H1.eq_unread hf1; obtain rfl := H2.eq_unread hf2; obtain rfl := H3.eq_unread hf3; obtain rfl := H4.eq_unread hf4; obtain rfl := H5.eq_unread hf5; obtain rfl := H6.eq_unread hf6; obtain rfl := H7.eq_unread hf7
    obtain rfl := xmW.eq_unread hfA
    sl_exec
    sl_step
    iapply Hk
    isplitl [P0]
    · iexists _; isplitr; · ipureintro; exact H0.read_unread _
      iexact P0
    isplitl [P1]
    · iexists _; isplitr; · ipureintro; exact H1.read_unread _
      iexact P1
    isplitl [P2]
    · iexists _; isplitr; · ipureintro; exact H2.read_unread _
      iexact P2
    isplitl [P3]
    · iexists _; isplitr; · ipureintro; exact H3.read_unread _
      iexact P3
    isplitl [P4]
    · iexists _; isplitr; swap
      · iexact P4
      ipureintro; rfl
    isplitl [P5]
    · iexists _; isplitr; swap
      · iexact P5
      ipureintro; rfl
    isplitl [P6]
    · iexists _; isplitr; swap
      · iexact P6
      ipureintro; rfl
    isplitl [P7]
    · iexists _; isplitr; swap
      · iexact P7
      ipureintro; rfl
    iexists _; isplitr; swap
    · iexact PA
    ipureintro; rfl

end Cert.Kernel3Ideal.Proj

end
-- ==== Proof.ProjBody.lean ====
/-
  The projection kernel's frame and run. The inputs' blocks are exact data; the four result windows and the scratch buffer
  are held to predicates (`R4` to `R7` of the results' buffers after a point, `Inv` of the scratch buffer before one), so
  that one launch serves both the frame, with predicates that hold of everything, and the value proof.
-/
module

public import proofs.«01_k».proof.Proof.ProjRun
public import Idealize.ShloMosaic.Lib.Pipeline.DatRel

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem crd1 : ∀ t : Fin cfg0.N, (grid0.coords t 1).val = t.val % 13 :=
  (by decide +kernel : ∀ t : Fin grid0.N, (grid0.coords t 1).val = t.val % 13)

theorem c1_iff (i : grid0.Coords) : k0_cond1 i = 1#1 ↔ (i 1).val = 0 := by
  unfold k0_cond1; dsimp only; generalize hn : (i 1).val = n
  have h13 : n < 13 := hn ▸ (i 1).isLt
  clear hn
  revert n; decide +kernel

/-! ## One point -/

/-- The body at point `t` leaves, from scratch contents `A` and result contents `O4` to `O7`, contents of which `Q` holds. -/
def Ok (c : Dev nD) (t : Fin cfg0.N) (O4 : Vec F S1024x512 .bf16) (O5 : Vec F S1024x512 .f32) (O6 : Vec F S2048x128 .f32) (O7 : Vec F S2048x128 .f32) (A : Vec F S1024x2048 .bf16)
    (Q : Vec F S1024x512 .bf16 → Vec F S1024x512 .f32 → Vec F S2048x128 .f32 → Vec F S2048x128 .f32 → Vec F S1024x2048 .bf16 → Prop) : Prop :=
  ∃ LA L4 L5 L6 L7, Spec c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) O4 O5 O6 O7 A LA L4 L5 L6 L7
    ∧ Q ((st0_4 t).view.read (Elt F) ((st0_4 t).view.writes (Elt F) ((hstage0_4 ((cfg0.slots t 4).cast nbuf0_4)).unread O4) L4)) ((st0_5 t).view.read (Elt F) ((st0_5 t).view.writes (Elt F) ((hstage0_5 ((cfg0.slots t 5).cast nbuf0_5)).unread O5) L5)) ((st0_6 t).view.read (Elt F) ((st0_6 t).view.writes (Elt F) ((hstage0_6 ((cfg0.slots t 6).cast nbuf0_6)).unread O6) L6)) ((st0_7 t).view.read (Elt F) ((st0_7 t).view.writes (Elt F) ((hstage0_7 ((cfg0.slots t 7).cast nbuf0_7)).unread O7) L7))
        (xmM.view.read (Elt F) (xmM.view.writes (Elt F) (xmW.unread A) LA))

/-- What the body needs of `Inv` and the `R`s at every point. -/
def Steps (Inv : Dev nD → ℕ → Vec F S1024x2048 .bf16 → Prop) (R4 : Dev nD → ℕ → Vec F S1024x512 .bf16 → Prop) (R5 : Dev nD → ℕ → Vec F S1024x512 .f32 → Prop) (R6 : Dev nD → ℕ → Vec F S2048x128 .f32 → Prop) (R7 : Dev nD → ℕ → Vec F S2048x128 .f32 → Prop) : Prop :=
  ∀ (c : Dev nD) (t : Fin cfg0.N) O4 O5 O6 O7 A, Inv c t.val A →
    Ok m c t O4 O5 O6 O7 A fun O4' O5' O6' O7' A' => (R4 c t.val O4' ∧ R5 c t.val O5' ∧ R6 c t.val O6' ∧ R7 c t.val O7') ∧ Inv c (t.val + 1) A'

variable (Inv : Dev nD → ℕ → Vec F S1024x2048 .bf16 → Prop) (R4 : Dev nD → ℕ → Vec F S1024x512 .bf16 → Prop) (R5 : Dev nD → ℕ → Vec F S1024x512 .f32 → Prop) (R6 : Dev nD → ℕ → Vec F S2048x128 .f32 → Prop) (R7 : Dev nD → ℕ → Vec F S2048x128 .f32 → Prop)

/-- The scratch buffer held to `Inv`, and the generator register. -/
def Phi (c : Dev nD) (n : ℕ) : sProp 𝕄 :=
  iprop(∃ A, ⌜Inv c n A⌝ ∗ owns (c : Thread nD τ) xmM fullShare A ∗ ∃ r, prngReg c r)

/-- The exact data: every input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Dat.unnamed (cfg := cfg0) 4 t
    | ⟨5, _⟩ => Dat.unnamed (cfg := cfg0) 5 t
    | ⟨6, _⟩ => Dat.unnamed (cfg := cfg0) 6 t
    | ⟨7, _⟩ => Dat.unnamed (cfg := cfg0) 7 t
  Φ t := Phi Inv c t.val
  q w := Pipeline.shareOf spec0 w
  owed _ := 0

theorem A_eq (c : Dev nD) (w : Fin cfg0.W) : (dats m Inv 0 c).A w = V m c (Pipeline.arrRef spec0 w) := by
  dsimp only [dats]

theorem after0_0 (c : Dev nD) (t : Fin cfg0.N) : (dats m Inv 0 c).after 0 t = iblk m c 0 t := by dsimp only [dats]
theorem before0_0 (c : Dev nD) (t : Fin cfg0.N) (d) : (dats m Inv 0 c).before 0 t d = iblk m c 0 t :=
  before0_0_of m (dats m Inv 0 c) (A_eq m Inv c 0) (after0_0 m Inv c) t d
theorem after0_1 (c : Dev nD) (t : Fin cfg0.N) : (dats m Inv 0 c).after 1 t = iblk m c 1 t := by dsimp only [dats]
theorem before0_1 (c : Dev nD) (t : Fin cfg0.N) (d) : (dats m Inv 0 c).before 1 t d = iblk m c 1 t :=
  before0_1_of m (dats m Inv 0 c) (A_eq m Inv c 1) (after0_1 m Inv c) t d
theorem after0_2 (c : Dev nD) (t : Fin cfg0.N) : (dats m Inv 0 c).after 2 t = iblk m c 2 t := by dsimp only [dats]
theorem before0_2 (c : Dev nD) (t : Fin cfg0.N) (d) : (dats m Inv 0 c).before 2 t d = iblk m c 2 t :=
  before0_2_of m (dats m Inv 0 c) (A_eq m Inv c 2) (after0_2 m Inv c) t d
theorem after0_3 (c : Dev nD) (t : Fin cfg0.N) : (dats m Inv 0 c).after 3 t = iblk m c 3 t := by dsimp only [dats]
theorem before0_3 (c : Dev nD) (t : Fin cfg0.N) (d) : (dats m Inv 0 c).before 3 t d = iblk m c 3 t :=
  before0_3_of m (dats m Inv 0 c) (A_eq m Inv c 3) (after0_3 m Inv c) t d

/-- The windows whose contents are held to predicates: the results'. -/
def fgt (w : Fin cfg0.W) : Bool := match w with | ⟨4, _⟩ => true | ⟨5, _⟩ => true | ⟨6, _⟩ => true | ⟨7, _⟩ => true | _ => false

/-- The predicates of the marked windows' contents after a point. -/
def Rl (c : Dev nD) (w : Fin cfg0.W) (t : Fin cfg0.N) (X : (cfg0.win w).block.Idx → Elt F (cfg0.win w).elt) : Prop :=
  match w, X with | ⟨4, _⟩, X => R4 c t.val X | ⟨5, _⟩, X => R5 c t.val X | ⟨6, _⟩, X => R6 c t.val X | ⟨7, _⟩, X => R7 c t.val X | _, _ => True

def bodyPre (c : Dev nD) (t : Fin cfg0.N) : sProp 𝕄 :=
  iprop((dats m Inv 0 c).Φ t.castSucc ∗ (dats m Inv 0 c).owesAt () t.castSucc
    ∗ (∃ d, owns (c : Thread nD τ) (st0_0 t) fullShare ((dats m Inv 0 c).before 0 t d))
    ∗ (∃ d, owns (c : Thread nD τ) (st0_1 t) fullShare ((dats m Inv 0 c).before 1 t d))
    ∗ (∃ d, owns (c : Thread nD τ) (st0_2 t) fullShare ((dats m Inv 0 c).before 2 t d))
    ∗ (∃ d, owns (c : Thread nD τ) (st0_3 t) fullShare ((dats m Inv 0 c).before 3 t d))
    ∗ (∃ Y, ⌜((dats m Inv 0 c).toRRel fgt (Rl R4 R5 R6 R7 c)).Finds 4 t Y⌝ ∗ owns (c : Thread nD τ) (st0_4 t) fullShare Y)
    ∗ (∃ Y, ⌜((dats m Inv 0 c).toRRel fgt (Rl R4 R5 R6 R7 c)).Finds 5 t Y⌝ ∗ owns (c : Thread nD τ) (st0_5 t) fullShare Y)
    ∗ (∃ Y, ⌜((dats m Inv 0 c).toRRel fgt (Rl R4 R5 R6 R7 c)).Finds 6 t Y⌝ ∗ owns (c : Thread nD τ) (st0_6 t) fullShare Y)
    ∗ (∃ Y, ⌜((dats m Inv 0 c).toRRel fgt (Rl R4 R5 R6 R7 c)).Finds 7 t Y⌝ ∗ owns (c : Thread nD τ) (st0_7 t) fullShare Y))

def bodyPost (c : Dev nD) (t : Fin cfg0.N) : sProp 𝕄 :=
  iprop((dats m Inv 0 c).Φ t.succ ∗ (dats m Inv 0 c).owesAt () t.succ
    ∗ owns (c : Thread nD τ) (st0_0 t) fullShare ((dats m Inv 0 c).after 0 t)
    ∗ owns (c : Thread nD τ) (st0_1 t) fullShare ((dats m Inv 0 c).after 1 t)
    ∗ owns (c : Thread nD τ) (st0_2 t) fullShare ((dats m Inv 0 c).after 2 t)
    ∗ owns (c : Thread nD τ) (st0_3 t) fullShare ((dats m Inv 0 c).after 3 t)
    ∗ (∃ X, ⌜Rl R4 R5 R6 R7 c 4 t X⌝ ∗ owns (c : Thread nD τ) (st0_4 t) fullShare X)
    ∗ (∃ X, ⌜Rl R4 R5 R6 R7 c 5 t X⌝ ∗ owns (c : Thread nD τ) (st0_5 t) fullShare X)
    ∗ (∃ X, ⌜Rl R4 R5 R6 R7 c 6 t X⌝ ∗ owns (c : Thread nD τ) (st0_6 t) fullShare X)
    ∗ (∃ X, ⌜Rl R4 R5 R6 R7 c 7 t X⌝ ∗ owns (c : Thread nD τ) (st0_7 t) fullShare X))

set_option maxHeartbeats 1200000 in
/-- The body at any point, from `Steps`. -/
theorem sound_body (hs : Steps m Inv R4 R5 R6 R7) (c : Dev nD) (t : Fin cfg0.N) :
    bodyPre m Inv R4 R5 R6 R7 c t ⊢ wp frame (wpE (defs₀ (F := F)) Variants.none c none) Set.univ (bodyAt0 t) (fun _ => bodyPost m Inv R4 R5 R6 R7 c t) := by
  unfold bodyPre bodyPost bodyAt0
  simp only [before0_0, before0_1, before0_2, before0_3]
  rw [show (dats m Inv 0 c).Φ t.succ = Phi Inv c (t.val + 1) from rfl, show (dats m Inv 0 c).Φ t.castSucc = Phi Inv c t.val from rfl,
    show (dats m Inv 0 c).owesAt () t.succ = (dats m Inv 0 c).owesAt () t.castSucc from rfl,
    after0_0, after0_1, after0_2, after0_3]
  unfold Phi
  iintro ⟨⟨%A, %hI, HA, Hg⟩, Ho, ⟨%d0, H0⟩, ⟨%d1, H1⟩, ⟨%d2, H2⟩, ⟨%d3, H3⟩, ⟨%O4, -, H4⟩, ⟨%O5, -, H5⟩, ⟨%O6, -, H6⟩, ⟨%O7, -, H7⟩⟩
  obtain ⟨LA, L4, L5, L6, L7, hS, hR, hI'⟩ := hs c t O4 O5 O6 O7 A hI
  iapply (hS Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HA]; · iexact HA
  iintro ⟨H0, H1, H2, H3, H4, H5, H6, H7, HA⟩
  isplitl [HA Hg]
  · iexists _; isplitr; · ipureintro; exact hI'
    isplitl [HA]; · iexact HA
    iexact Hg
  isplitl [Ho]; · iexact Ho
  isplitl [H0]; · iexact H0
  isplitl [H1]; · iexact H1
  isplitl [H2]; · iexact H2
  isplitl [H3]; · iexact H3
  isplitl [H4]
  · iexists _; isplitr; · ipureintro; exact hR.1
    iexact H4
  isplitl [H5]
  · iexists _; isplitr; · ipureintro; exact hR.2.1
    iexact H5
  isplitl [H6]
  · iexists _; isplitr; · ipureintro; exact hR.2.2.1
    iexact H6
  iexists _; isplitr; · ipureintro; exact hR.2.2.2
  iexact H7

theorem defs₀_row (t : Fin cfg0.N) :
    defs₀ (F := F) .tc cfg0.body (cfg0.bodyArgs t (cfg0.slots t)) = bodyAt0 t := by
  unfold defs₀; rw [Defs.onTc_tc]

/-- The body obligation. -/
theorem body_obligation (hs : Steps m Inv R4 R5 R6 R7) (c : Dev nD) :
    Pipeline.BodyObligationRel (dats (F := F) m Inv 0 c) (defs₀ (F := F)) Variants.none () Set.univ fgt (Rl R4 R5 R6 R7 c) := fun t => by
  rw [bigSep_W0, bigSep_W0, defs₀_row]
  exact triple_restated (sound_body m Inv R4 R5 R6 R7 hs c t) rfl .rfl fun _ => .rfl

/-- The launch's own invariant is `Phi` at contents of which nothing is asked. -/
theorem phi_in (h0 : ∀ c A, Inv c 0 A) (c : Dev nD) : (Pipeline.ΦA spec0 c : sProp 𝕄) ⊢ Phi Inv c 0 := by
  unfold Pipeline.ΦA Phi
  rw [scopedRest0_eq]
  iintro ⟨⟨%f, HA⟩, Hg⟩
  iexists (xmM.view.read (Elt F) f)
  isplitr; · ipureintro; exact h0 c _
  isplitl [HA]
  · rw [owns_whole]; iexact HA
  iexact Hg

theorem phi_out (c : Dev nD) (n : ℕ) : (Phi Inv c n : sProp 𝕄) ⊢ Pipeline.ΦA spec0 c := by
  unfold Pipeline.ΦA Phi
  rw [scopedRest0_eq]
  simp only [owns_whole]
  iintro ⟨%A, -, HA, Hg⟩
  isplitl [HA]
  · iexists _; iexact HA
  iexact Hg

set_option backward.isDefEq.respectTransparency.types false in
/-- The launch: every execution ends, with the arrays as the relational data say and the counters at zero. -/
theorem run_main (hs : Steps m Inv R4 R5 R6 R7) (h0 : ∀ c A, Inv c 0 A) :
    θ_run defs (onTc (τ := τ) (main (F := F))) (s₀ m ρ)
      (fun r => Pipeline.RDat.FramePost cfg0 (fun c => (dats m Inv 0 c).toRRel fgt (Rl R4 R5 R6 R7 c)) (V m) r ∧ r.2.sem = fun _ => 0) :=
  Pipeline.RDat.θ_run_frame_track_shared (Q' := _) cfgs (0 : Fin 1) launch0.to₀ defs₀ Variants.none
    (fun c => (dats m Inv 0 c).toRRel fgt (Rl R4 R5 R6 R7 c)) m ρ main
    (hbody := fun c => (body_obligation m Inv R4 R5 R6 R7 hs c).toRRel) (hq := fun _ _ _ => rfl) (howed := fun _ _ => rfl)
    (V := V m) (hmain := hmain m Variants.none) (hA := A_eq m Inv) (hin := phi_in Inv h0) (hout := fun c => phi_out Inv c _)

/-- The arguments end unchanged. -/
theorem args_of (r : PUnit × MemSt nD τ sig (Elt F))
    (h : Pipeline.RDat.FramePost cfg0 (fun c => (dats m Inv 0 c).toRRel fgt (Rl R4 R5 R6 R7 c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c)⟩

/-! ## The frame -/

/-- The two kinds of points are all there are, so the predicates that hold of everything need nothing. -/
theorem steps_true : Steps m (fun _ _ _ => True) (fun _ _ _ => True) (fun _ _ _ => True) (fun _ _ _ => True) (fun _ _ _ => True) := by
  intro c t O4 O5 O6 O7 A _
  by_cases e0 : k0_cond1 (grid0.coords t) = 1#1
  · exact ⟨_, _, _, _, _, (runA c (grid0.coords t) e0 (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) O4 O5 O6 O7 A).2.2.2.2.2, ⟨trivial, trivial, trivial, trivial⟩, trivial⟩
  exact ⟨_, _, _, _, _, (runB c (grid0.coords t) e0 (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) O4 O5 O6 O7 A).2.2.2.2.2, ⟨trivial, trivial, trivial, trivial⟩, trivial⟩

/-- At any values, from any memory with zero counters: every weakly fair execution of @main terminates, the arguments
    unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => args_of m _ _ _ _ _ r h.1 c, h.2⟩)
    (run_main m ρ (fun _ _ _ => True) (fun _ _ _ => True) (fun _ _ _ => True) (fun _ _ _ => True) (fun _ _ _ => True) (steps_true m) (fun _ _ => trivial))

end Cert.Kernel3Ideal.Proj

end
-- ==== Proof.ProjTiles.lean ====
/-
  The values of the projection kernel, tile by tile, as functions of the whole arrays, over the extended reals.
-/
module

public import proofs.«01_k».proof.Proof.ProjBody
public import Idealize.ShloMosaic.Lib.Pipeline.ValueKit
public import Idealize.ShloMosaic.Lib.WritesUnit
public import Idealize.ShloMosaic.Lib.VecWindow

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

/-! ## The normalised rows -/

/-- The rows of a tile, normalised, scaled and shifted. -/
def nrm (x : Vec Ideal S1024x2048 .f32) (md : Vec Ideal S1x6x2048 .f32) (g : Vec Ideal S1x2048 .f32) : Vec Ideal S1024x2048 .bf16 := fun y =>
  x (ix2 (y 0) (y 1)) * Ideal.rsqrt (Ideal.div (∑ k : Fin 2048, x (ix2 (y 0) k) * x (ix2 (y 0) k)) (Ideal.ofBits FTy.f32 1157627904#32)
      + Ideal.ofBits FTy.f32 897988541#32) * (g (ix2 0 (y 1)) * (1 + md (ix3 0 1 (y 1)))) + md (ix3 0 0 (y 1))

theorem pay1_at (g : Vec Ideal S1x2048 .f32) (a b : Vec Ideal S1x1x2048 .f32) (x : Vec Ideal S16x2048 .f32) (r : Fin 16) (q : Fin 2048) :
    k0_pay1 (F := Ideal) g a b x (ix2 r q) =
      x (ix2 r q) * Ideal.rsqrt (Ideal.div (∑ k : Fin 2048, x (ix2 r k) * x (ix2 r k)) (Ideal.ofBits FTy.f32 1157627904#32)
      + Ideal.ofBits FTy.f32 897988541#32) * (g (ix2 0 q) * (1 + a (ix3 0 0 q))) + b (ix3 0 0 q) := by
  pointwise [k0_pay1]

theorem pay2_at (w x) (r : Fin 1024) (q : Fin 512) : k0_pay2 (F := Ideal) w x (ix2 r q) = ∑ d : Fin 2048, x (ix2 r d) * w (ix2 d q) := by
  pointwise [k0_pay2]

/-- The pieces of one trip of the loop: the normalised rows of its sixteen rows. -/
theorem trip_eq (c : Dev nD) (i : grid0.Coords) (M0 : Memref sig .tc .vmem S1024x2048 .f32) (H0 : M0.IsWhole) (M1 : Memref sig .tc .vmem S1x6x2048 .f32) (H1 : M1.IsWhole) (M2 : Memref sig .tc .vmem S1x2048 .f32) (H2 : M2.IsWhole) (M3 : Memref sig .tc .vmem S2048x512 .bf16) (H3 : M3.IsWhole) (M4 : Memref sig .tc .vmem S1024x512 .bf16) (H4 : M4.IsWhole) (M5 : Memref sig .tc .vmem S1024x512 .f32) (H5 : M5.IsWhole) (M6 : Memref sig .tc .vmem S2048x128 .f32) (H6 : M6.IsWhole) (M7 : Memref sig .tc .vmem S2048x128 .f32) (H7 : M7.IsWhole) (h1 : k0_cond1 i = 1#1) (g : Vec Ideal S1x2048 .f32) (a b : Vec Ideal S1x1x2048 .f32)
    (X : BufTy.Contents (Elt Ideal) M0.view.ty) (k : Fin k0_t1_loop.trips) :
    tripL_k0_t1 (F := Ideal) Variants.none c none i M0 H0 M1 H1 M2 H2 M3 H3 M4 H4 M5 H5 M6 H6 M7 H7 xmM xmW h1 g a b X k =
      [⟨Rect.unit (s := S1024x2048) (k0_off1 k) S16x2048.size (k0_off1_inb i k h1), k0_pay1 g a b (M0.view.readAt (Elt Ideal) (Rect.unit (s := S1024x2048) (k0_off1 k) S16x2048.size (k0_off1_inb i k h1)).toLoadRect X)⟩] := by
  unfold tripL_k0_t1 trip_k0_t1
  rfl

/-- A trip's payload is the normalised rows at its rectangle. -/
theorem trip_val (i : grid0.Coords) (h1 : k0_cond1 i = 1#1) (M0 : Memref sig .tc .vmem S1024x2048 .f32) (H0 : M0.IsWhole)
    (x0 : Vec Ideal S1024x2048 .f32) (x1 : Vec Ideal S1x6x2048 .f32) (x2 : Vec Ideal S1x2048 .f32) (a b : Vec Ideal S1x1x2048 .f32)
    (ha : ∀ q : Fin 2048, a (ix3 0 0 q) = x1 (ix3 0 1 q)) (hb : ∀ q : Fin 2048, b (ix3 0 0 q) = x1 (ix3 0 0 q)) (k : Fin k0_t1_loop.trips) (x : S16x2048.Idx) :
    k0_pay1 (F := Ideal) x2 a b (M0.view.readAt (Elt Ideal) (Rect.unit (s := S1024x2048) (k0_off1 k) S16x2048.size (k0_off1_inb i k h1)).toLoadRect (H0.unread x0)) x
      = nrm x0 x1 x2 ((Rect.unit (s := S1024x2048) (k0_off1 k) S16x2048.size (k0_off1_inb i k h1)).emb x) := by
  have hk : k.val < 64 := lt_of_lt_of_eq k.isLt (by decide)
  simp only [View.readAt_eq_ld, H0.read_unread]
  have e : ∀ (r : Fin 16) (q : Fin 2048), (Rect.unit (s := S1024x2048) (k0_off1 k) S16x2048.size (k0_off1_inb i k h1)).emb (ix2 r q)
      = ix2 (⟨16 * k.val + r.val, by omega⟩ : Fin 1024) q := fun r q => Rect.emb_eq_of_coords _ _ _ fun d => by
    have e0 := congrFun (k0_off1_eq k) d
    match d with
    | ⟨0, _⟩ => show 16 * k.val + r.val = k0_off1 k 0 + 1 * r.val; rw [show k0_off1 k 0 = 16 * k.val from e0]; omega
    | ⟨1, _⟩ => show q.val = k0_off1 k 1 + 1 * q.val; rw [show k0_off1 k 1 = 0 from e0]; omega
  have l : ∀ (r : Fin 16) (q : Fin 2048), (View.ld (S := S1024x2048) x0 (Rect.unit (s := S1024x2048) (k0_off1 k) S16x2048.size (k0_off1_inb i k h1)) : Vec Ideal S16x2048 .f32) (ix2 r q)
      = x0 (ix2 (⟨16 * k.val + r.val, by omega⟩ : Fin 1024) q) := fun r q => congrArg x0 (e r q)
  idx_vars x
  rw [e]
  refine (pay1_at _ _ _ _ _ _).trans ?_
  unfold nrm
  rw [ha, hb]
  simp only [l]
  rfl

/-- Every piece of the loop is a trip's. -/
theorem pb_mem (c : Dev nD) (i : grid0.Coords) (M0 : Memref sig .tc .vmem S1024x2048 .f32) (H0 : M0.IsWhole) (M1 : Memref sig .tc .vmem S1x6x2048 .f32) (H1 : M1.IsWhole) (M2 : Memref sig .tc .vmem S1x2048 .f32) (H2 : M2.IsWhole) (M3 : Memref sig .tc .vmem S2048x512 .bf16) (H3 : M3.IsWhole) (M4 : Memref sig .tc .vmem S1024x512 .bf16) (H4 : M4.IsWhole) (M5 : Memref sig .tc .vmem S1024x512 .f32) (H5 : M5.IsWhole) (M6 : Memref sig .tc .vmem S2048x128 .f32) (H6 : M6.IsWhole) (M7 : Memref sig .tc .vmem S2048x128 .f32) (H7 : M7.IsWhole) (h1 : k0_cond1 i = 1#1) (g : Vec Ideal S1x2048 .f32) (a b : Vec Ideal S1x1x2048 .f32)
    (X : BufTy.Contents (Elt Ideal) M0.view.ty) (n : ℕ) (hn : n ≤ k0_t1_loop.trips) (p : View.Piece (Elt Ideal) S1024x2048 .bf16) :
    p ∈ pb_k0_t1 (F := Ideal) Variants.none c none i M0 H0 M1 H1 M2 H2 M3 H3 M4 H4 M5 H5 M6 H6 M7 H7 xmM xmW h1 g a b X n ↔ ∃ k : Fin k0_t1_loop.trips, k.val < n ∧
      p = ⟨Rect.unit (s := S1024x2048) (k0_off1 k) S16x2048.size (k0_off1_inb i k h1), k0_pay1 g a b (M0.view.readAt (Elt Ideal) (Rect.unit (s := S1024x2048) (k0_off1 k) S16x2048.size (k0_off1_inb i k h1)).toLoadRect X)⟩ := by
  induction n with
  | zero => rw [pb_k0_t1.eq_1]; exact ⟨fun h => absurd h List.not_mem_nil, fun ⟨k, h, _⟩ => absurd h (Nat.not_lt_zero _)⟩
  | succ n ih =>
    have e := pb_k0_t1_succ (F := Ideal) Variants.none c none i M0 H0 M1 H1 M2 H2 M3 H3 M4 H4 M5 H5 M6 H6 M7 H7 xmM xmW h1 g a b X ⟨n, hn⟩
    rw [trip_eq] at e
    rw [show n + 1 = (⟨n, hn⟩ : Fin k0_t1_loop.trips).val + 1 from rfl, e, List.mem_append, List.mem_singleton, ih (by omega)]
    constructor
    · rintro (h | ⟨k, hk, h⟩)
      · exact ⟨⟨n, hn⟩, Nat.lt_succ_self n, h⟩
      · exact ⟨k, Nat.lt_succ_of_lt hk, h⟩
    · rintro ⟨k, hk, h⟩
      rcases Nat.lt_succ_iff_lt_or_eq.mp hk with h' | h'
      · exact Or.inr ⟨k, h', h⟩
      · obtain rfl : k = ⟨n, hn⟩ := Fin.ext h'
        exact Or.inl h

/-- After the loop the scratch buffer holds the normalised rows of the tile. -/
theorem scratch_eq (c : Dev nD) (i : grid0.Coords) (M0 : Memref sig .tc .vmem S1024x2048 .f32) (H0 : M0.IsWhole) (M1 : Memref sig .tc .vmem S1x6x2048 .f32) (H1 : M1.IsWhole) (M2 : Memref sig .tc .vmem S1x2048 .f32) (H2 : M2.IsWhole) (M3 : Memref sig .tc .vmem S2048x512 .bf16) (H3 : M3.IsWhole) (M4 : Memref sig .tc .vmem S1024x512 .bf16) (H4 : M4.IsWhole) (M5 : Memref sig .tc .vmem S1024x512 .f32) (H5 : M5.IsWhole) (M6 : Memref sig .tc .vmem S2048x128 .f32) (H6 : M6.IsWhole) (M7 : Memref sig .tc .vmem S2048x128 .f32) (H7 : M7.IsWhole) (h1 : k0_cond1 i = 1#1)
    (x0 : Vec Ideal S1024x2048 .f32) (x1 : Vec Ideal S1x6x2048 .f32) (x2 : Vec Ideal S1x2048 .f32) (a b : Vec Ideal S1x1x2048 .f32)
    (ha : ∀ q : Fin 2048, a (ix3 0 0 q) = x1 (ix3 0 1 q)) (hb : ∀ q : Fin 2048, b (ix3 0 0 q) = x1 (ix3 0 0 q)) (f : BufTy.Contents (Elt Ideal) xmM.view.ty) :
    xmM.view.read (Elt Ideal) (xmM.view.writes (Elt Ideal) f (pb_k0_t1 (F := Ideal) Variants.none c none i M0 H0 M1 H1 M2 H2 M3 H3 M4 H4 M5 H5 M6 H6 M7 H7 xmM xmW h1 x2 a b (H0.unread x0) k0_t1_loop.trips)) = nrm x0 x1 x2 := by
  funext y
  refine View.read_writes_apply_of_pieces (v := xmM.view) (f := f) (nrm x0 x1 x2) _ ?_ y ?_
  · intro p hp x
    obtain ⟨k, -, rfl⟩ := (pb_mem c i M0 H0 M1 H1 M2 H2 M3 H3 M4 H4 M5 H5 M6 H6 M7 H7 h1 x2 a b _ _ le_rfl p).mp hp
    exact trip_val i h1 M0 H0 x0 x1 x2 a b ha hb k x
  · have y0 : (y 0).val < 1024 := (y 0).isLt
    have y1 : (y 1).val < 2048 := (y 1).isLt
    have hk : (y 0).val / 16 < k0_t1_loop.trips := lt_of_lt_of_eq (by omega : (y 0).val / 16 < 64) (by decide)
    refine ⟨_, (pb_mem c i M0 H0 M1 H1 M2 H2 M3 H3 M4 H4 M5 H5 M6 H6 M7 H7 h1 x2 a b _ _ le_rfl _).mpr ⟨⟨(y 0).val / 16, hk⟩, hk, rfl⟩, ?_⟩
    refine ((Rect.unit (s := S1024x2048) (k0_off1 ⟨(y 0).val / 16, hk⟩) S16x2048.size (k0_off1_inb i _ h1)).mem_set).mpr fun d => ?_
    have e0 := congrFun (k0_off1_eq ⟨(y 0).val / 16, hk⟩) d
    match d with
    | ⟨0, _⟩ => exact ⟨(y 0).val % 16, Nat.mod_lt _ (by decide), by show (y 0).val = k0_off1 ⟨(y 0).val / 16, hk⟩ 0 + 1 * ((y 0).val % 16); rw [show k0_off1 ⟨(y 0).val / 16, hk⟩ 0 = 16 * ((y 0).val / 16) from e0]; omega⟩
    | ⟨1, _⟩ => exact ⟨(y 1).val, y1, by show (y 1).val = k0_off1 ⟨(y 0).val / 16, hk⟩ 1 + 1 * (y 1).val; rw [show k0_off1 ⟨(y 0).val / 16, hk⟩ 1 = 0 from e0]; omega⟩

/-! ## The stores of a point -/

/-- A load of a whole array. -/
theorem ld_full {s : Shape} {e : EltTy} (a : Vec Ideal s e) {off : Fin s.rank → ℕ} (inb : ∀ d, off d + s.size d ≤ s.size d) :
    View.ld (S := s) a (Rect.unit (s := s) off s.size inb) = a :=
  funext fun y => congrArg a (funext fun d => Fin.ext (by show off d + 1 * (y d).val = (y d).val; have := inb d; omega))

theorem ld_w (a : Vec Ideal S2048x512 .bf16) : View.ld (S := S2048x512) a (Rect.unit (s := S2048x512) ![0, 0] ![2048, 512] inb_S2048x512_S2048x512_0_0) = a := ld_full a _
theorem ld_x (a : Vec Ideal S1024x2048 .bf16) : View.ld (S := S1024x2048) a (Rect.unit (s := S1024x2048) ![0, 0] ![1024, 2048] inb_S1024x2048_S1024x2048_0_0) = a := ld_full a _
theorem ld_g (a : Vec Ideal S1x2048 .f32) : View.ld (S := S1x2048) a (Rect.unit (s := S1x2048) ![0, 0] ![1, 2048] inb_S1x2048_S1x2048_0_0) = a := ld_full a _
theorem ld_m (a : Vec Ideal S1x6x2048 .f32) (q : Fin 2048) : (View.ld (S := S1x6x2048) a (Rect.unit (s := S1x6x2048) ![0, 1, 0] ![1, 1, 2048] inb_S1x6x2048_S1x1x2048_0_1_0) : Vec Ideal S1x1x2048 .f32) (ix3 0 0 q) = a (ix3 0 1 q) :=
  congrArg a (funext fun d => match d with | ⟨0, _⟩ => rfl | ⟨1, _⟩ => rfl | ⟨2, _⟩ => Fin.ext (by show 0 + 1 * q.val = q.val; omega))
theorem ld_m' (a : Vec Ideal S1x6x2048 .f32) (q : Fin 2048) : (View.ld (S := S1x6x2048) a (Rect.unit (s := S1x6x2048) ![0, 0, 0] ![1, 1, 2048] inb_S1x6x2048_S1x1x2048_0_0_0) : Vec Ideal S1x1x2048 .f32) (ix3 0 0 q) = a (ix3 0 0 q) :=
  congrArg a (funext fun d => match d with | ⟨0, _⟩ => rfl | ⟨1, _⟩ => rfl | ⟨2, _⟩ => Fin.ext (by show 0 + 1 * q.val = q.val; omega))

/-- A store of a whole array. -/
theorem st_o (M : Memref sig .tc .vmem S1024x512 .bf16) (f : BufTy.Contents (Elt Ideal) M.view.ty) (w : Vec Ideal S1024x512 .bf16) :
    M.view.read (Elt Ideal) (M.view.writes (Elt Ideal) f [⟨Rect.unit (s := S1024x512) ![0, 0] ![1024, 512] inb_S1024x512_S1024x512_0_0, w⟩]) = w :=
  View.read_writes_full M.view f _ w []
theorem st_t (M : Memref sig .tc .vmem S1024x512 .f32) (f : BufTy.Contents (Elt Ideal) M.view.ty) (w : Vec Ideal S1024x512 .f32) :
    M.view.read (Elt Ideal) (M.view.writes (Elt Ideal) f [⟨Rect.unit (s := S1024x512) ![0, 0] ![1024, 512] inb_S1024x512_S1024x512_0_0, w⟩]) = w :=
  View.read_writes_full M.view f _ w []

/-- Two arrays' rows in turn. -/
def ilv (p q : Vec Ideal S1024x128 .f32) : Vec Ideal S2048x128 .f32 := fun y =>
  if (y 0).val % 2 = 0 then p (ix2 (⟨(y 0).val / 2, by have h : (y 0).val < 2048 := (y 0).isLt; omega⟩ : Fin 1024) (y 1)) else q (ix2 (⟨(y 0).val / 2, by have h : (y 0).val < 2048 := (y 0).isLt; omega⟩ : Fin 1024) (y 1))

/-- The two strided stores of a point leave the two arrays' rows in turn. -/
theorem ilv_eq (M : Memref sig .tc .vmem S2048x128 .f32) (f : BufTy.Contents (Elt Ideal) M.view.ty) (p q : Vec Ideal S1024x128 .f32) :
    M.view.read (Elt Ideal) (M.view.writes (Elt Ideal) f
      [⟨⟨(⟨![1, 0], S1024x128.size, ![2, 1], inb_S2048x128_S1024x128_1_0_s_2_1⟩ : LoadRect S2048x128), spos_2_1⟩, q⟩,
       ⟨⟨(⟨![0, 0], S1024x128.size, ![2, 1], inb_S2048x128_S1024x128_0_0_s_2_1⟩ : LoadRect S2048x128), spos_2_1⟩, p⟩]) = ilv p q := by
  funext y
  have y0 : (y 0).val < 2048 := (y 0).isLt
  have y1 : (y 1).val < 128 := (y 1).isLt
  refine View.read_writes_apply_of_pieces (v := M.view) (f := f) (ilv p q) _ ?_ y ?_
  · intro u hu x
    rcases List.mem_cons.mp hu with rfl | hu
    · have x0 : (x 0).val < 1024 := (x 0).isLt
      have x1 : (x 1).val < 128 := (x 1).isLt
      rw [show ((⟨(⟨![1, 0], S1024x128.size, ![2, 1], inb_S2048x128_S1024x128_1_0_s_2_1⟩ : LoadRect S2048x128), spos_2_1⟩ : Rect S2048x128)).emb x
        = ix2 (⟨1 + 2 * (x 0).val, by omega⟩ : Fin 2048) (⟨(x 1).val, x1⟩ : Fin 128) from Rect.emb_eq_of_coords _ _ _ fun d => by
          match d with
          | ⟨0, _⟩ => rfl
          | ⟨1, _⟩ => show (x 1).val = 0 + 1 * (x 1).val; omega]
      show q x = ite ((1 + 2 * (x 0).val) % 2 = 0) _ _
      rw [if_neg (by omega)]
      refine congrArg q (funext fun d => ?_)
      match d with
      | ⟨0, _⟩ => exact Fin.ext (by show (x 0).val = (1 + 2 * (x 0).val) / 2; omega)
      | ⟨1, _⟩ => rfl
    · obtain rfl := List.mem_singleton.mp hu
      have x0 : (x 0).val < 1024 := (x 0).isLt
      have x1 : (x 1).val < 128 := (x 1).isLt
      rw [show ((⟨(⟨![0, 0], S1024x128.size, ![2, 1], inb_S2048x128_S1024x128_0_0_s_2_1⟩ : LoadRect S2048x128), spos_2_1⟩ : Rect S2048x128)).emb x
        = ix2 (⟨2 * (x 0).val, by omega⟩ : Fin 2048) (⟨(x 1).val, x1⟩ : Fin 128) from Rect.emb_eq_of_coords _ _ _ fun d => by
          match d with
          | ⟨0, _⟩ => show 2 * (x 0).val = 0 + 2 * (x 0).val; omega
          | ⟨1, _⟩ => show (x 1).val = 0 + 1 * (x 1).val; omega]
      show p x = ite ((2 * (x 0).val) % 2 = 0) _ _
      rw [if_pos (by omega)]
      refine congrArg p (funext fun d => ?_)
      match d with
      | ⟨0, _⟩ => exact Fin.ext (by show (x 0).val = (2 * (x 0).val) / 2; omega)
      | ⟨1, _⟩ => rfl
  · by_cases hy : (y 0).val % 2 = 0
    · refine ⟨_, List.mem_cons_of_mem _ List.mem_cons_self, ?_⟩
      refine (LoadRect.mem_set _).mpr fun d => ?_
      match d with
      | ⟨0, _⟩ => exact ⟨(y 0).val / 2, by show (y 0).val / 2 < 1024; omega, by show (y 0).val = 0 + 2 * ((y 0).val / 2); omega⟩
      | ⟨1, _⟩ => exact ⟨(y 1).val, y1, by show (y 1).val = 0 + 1 * (y 1).val; omega⟩
    · refine ⟨_, List.mem_cons_self, ?_⟩
      refine (LoadRect.mem_set _).mpr fun d => ?_
      match d with
      | ⟨0, _⟩ => exact ⟨(y 0).val / 2, by show (y 0).val / 2 < 1024; omega, by show (y 0).val = 1 + 2 * ((y 0).val / 2); omega⟩
      | ⟨1, _⟩ => exact ⟨(y 1).val, y1, by show (y 1).val = 0 + 1 * (y 1).val; omega⟩

/-- The contents a point leaves, from the normalised rows `S` it reads: the results' buffers. -/
def Left (i : grid0.Coords) (w : Vec Ideal S2048x512 .bf16) (S : Vec Ideal S1024x2048 .bf16) (o4 : Vec Ideal S1024x512 .bf16) (o5 : Vec Ideal S1024x512 .f32)
    (o6 o7 : Vec Ideal S2048x128 .f32) : Prop :=
  o4 = k0_pay3 i w S ∧ o5 = k0_pay2 w S ∧ o6 = ilv (k0_pay4 w S) (k0_pay6 w S) ∧ o7 = ilv (k0_pay5 w S) (k0_pay7 w S)

theorem v5_eq (c : Dev nD) (i : grid0.Coords) (h1 : k0_cond1 i = 1#1) (M0 : Memref sig .tc .vmem S1024x2048 .f32) (H0 : M0.IsWhole) (M1 : Memref sig .tc .vmem S1x6x2048 .f32) (H1 : M1.IsWhole) (M2 : Memref sig .tc .vmem S1x2048 .f32) (H2 : M2.IsWhole) (M3 : Memref sig .tc .vmem S2048x512 .bf16) (H3 : M3.IsWhole) (M4 : Memref sig .tc .vmem S1024x512 .bf16) (H4 : M4.IsWhole) (M5 : Memref sig .tc .vmem S1024x512 .f32) (H5 : M5.IsWhole) (M6 : Memref sig .tc .vmem S2048x128 .f32) (H6 : M6.IsWhole) (M7 : Memref sig .tc .vmem S2048x128 .f32) (H7 : M7.IsWhole)
    (x0 : Vec Ideal S1024x2048 .f32) (x1 : Vec Ideal S1x6x2048 .f32) (x2 : Vec Ideal S1x2048 .f32) (A : Vec Ideal S1024x2048 .bf16) :
    runA.sl.v5 (F := Ideal) c i h1 M0 H0 M1 H1 M2 H2 M3 H3 M4 H4 M5 H5 M6 H6 M7 H7 x0 x1 x2 A = nrm x0 x1 x2 := by
  unfold runA.sl.v5
  refine (View.readAt_full xmM.view _ _).trans ?_
  simp only [View.readAt_eq_ld, H0.read_unread, H1.read_unread, H2.read_unread, H3.read_unread, H4.read_unread, H5.read_unread, H6.read_unread, H7.read_unread, xmW.read_unread]
  rw [ld_g]
  exact scratch_eq c i M0 H0 M1 H1 M2 H2 M3 H3 M4 H4 M5 H5 M6 H6 M7 H7 h1 x0 x1 x2 _ _ (ld_m x1) (ld_m' x1) _

/-- The first column step: the rows are normalised into the scratch buffer, and the tile's product stored. -/
theorem leftA (c : Dev nD) (i : grid0.Coords) (h1 : k0_cond1 i = 1#1) (M0 : Memref sig .tc .vmem S1024x2048 .f32) (H0 : M0.IsWhole) (M1 : Memref sig .tc .vmem S1x6x2048 .f32) (H1 : M1.IsWhole) (M2 : Memref sig .tc .vmem S1x2048 .f32) (H2 : M2.IsWhole) (M3 : Memref sig .tc .vmem S2048x512 .bf16) (H3 : M3.IsWhole) (M4 : Memref sig .tc .vmem S1024x512 .bf16) (H4 : M4.IsWhole) (M5 : Memref sig .tc .vmem S1024x512 .f32) (H5 : M5.IsWhole) (M6 : Memref sig .tc .vmem S2048x128 .f32) (H6 : M6.IsWhole) (M7 : Memref sig .tc .vmem S2048x128 .f32) (H7 : M7.IsWhole)
    (x0 : Vec Ideal S1024x2048 .f32) (x1 : Vec Ideal S1x6x2048 .f32) (x2 : Vec Ideal S1x2048 .f32) (x3 : Vec Ideal S2048x512 .bf16) (O4 : Vec Ideal S1024x512 .bf16) (O5 : Vec Ideal S1024x512 .f32) (O6 O7 : Vec Ideal S2048x128 .f32) (A : Vec Ideal S1024x2048 .bf16) :
    Left i x3 (nrm x0 x1 x2)
      (M4.view.read (Elt Ideal) (M4.view.writes (Elt Ideal) (H4.unread O4) (runA (F := Ideal) c i h1 M0 H0 M1 H1 M2 H2 M3 H3 M4 H4 M5 H5 M6 H6 M7 H7 x0 x1 x2 x3 O4 O5 O6 O7 A).2.1))
      (M5.view.read (Elt Ideal) (M5.view.writes (Elt Ideal) (H5.unread O5) (runA (F := Ideal) c i h1 M0 H0 M1 H1 M2 H2 M3 H3 M4 H4 M5 H5 M6 H6 M7 H7 x0 x1 x2 x3 O4 O5 O6 O7 A).2.2.1))
      (M6.view.read (Elt Ideal) (M6.view.writes (Elt Ideal) (H6.unread O6) (runA (F := Ideal) c i h1 M0 H0 M1 H1 M2 H2 M3 H3 M4 H4 M5 H5 M6 H6 M7 H7 x0 x1 x2 x3 O4 O5 O6 O7 A).2.2.2.1))
      (M7.view.read (Elt Ideal) (M7.view.writes (Elt Ideal) (H7.unread O7) (runA (F := Ideal) c i h1 M0 H0 M1 H1 M2 H2 M3 H3 M4 H4 M5 H5 M6 H6 M7 H7 x0 x1 x2 x3 O4 O5 O6 O7 A).2.2.2.2.1))
      ∧ xmM.view.read (Elt Ideal) (xmM.view.writes (Elt Ideal) (xmW.unread A) (runA (F := Ideal) c i h1 M0 H0 M1 H1 M2 H2 M3 H3 M4 H4 M5 H5 M6 H6 M7 H7 x0 x1 x2 x3 O4 O5 O6 O7 A).1) = nrm x0 x1 x2 := by
  refine ⟨⟨?_, ?_, ?_, ?_⟩, ?_⟩
  · unfold runA; dsimp only
    simp only [View.readAt_eq_ld, H0.read_unread, H1.read_unread, H2.read_unread, H3.read_unread, H4.read_unread, H5.read_unread, H6.read_unread, H7.read_unread, xmW.read_unread]
    rw [st_o, ld_w, v5_eq]
  · unfold runA; dsimp only
    simp only [View.readAt_eq_ld, H0.read_unread, H1.read_unread, H2.read_unread, H3.read_unread, H4.read_unread, H5.read_unread, H6.read_unread, H7.read_unread, xmW.read_unread]
    rw [st_t, ld_w, v5_eq]
  · unfold runA; dsimp only
    simp only [View.readAt_eq_ld, H0.read_unread, H1.read_unread, H2.read_unread, H3.read_unread, H4.read_unread, H5.read_unread, H6.read_unread, H7.read_unread, xmW.read_unread]
    rw [ld_w, v5_eq]
    exact ilv_eq M6 _ _ _
  · unfold runA; dsimp only
    simp only [View.readAt_eq_ld, H0.read_unread, H1.read_unread, H2.read_unread, H3.read_unread, H4.read_unread, H5.read_unread, H6.read_unread, H7.read_unread, xmW.read_unread]
    rw [ld_w, v5_eq]
    exact ilv_eq M7 _ _ _
  · unfold runA; dsimp only
    simp only [View.readAt_eq_ld, H0.read_unread, H1.read_unread, H2.read_unread, H3.read_unread, H4.read_unread, H5.read_unread, H6.read_unread, H7.read_unread, xmW.read_unread]
    rw [ld_g]
    exact scratch_eq c i M0 H0 M1 H1 M2 H2 M3 H3 M4 H4 M5 H5 M6 H6 M7 H7 h1 x0 x1 x2 _ _ (ld_m x1) (ld_m' x1) _

/-- Any other column step: the scratch buffer stays, and the tile's product is stored. -/
theorem leftB (c : Dev nD) (i : grid0.Coords) (h1 : ¬ k0_cond1 i = 1#1) (M0 : Memref sig .tc .vmem S1024x2048 .f32) (H0 : M0.IsWhole) (M1 : Memref sig .tc .vmem S1x6x2048 .f32) (H1 : M1.IsWhole) (M2 : Memref sig .tc .vmem S1x2048 .f32) (H2 : M2.IsWhole) (M3 : Memref sig .tc .vmem S2048x512 .bf16) (H3 : M3.IsWhole) (M4 : Memref sig .tc .vmem S1024x512 .bf16) (H4 : M4.IsWhole) (M5 : Memref sig .tc .vmem S1024x512 .f32) (H5 : M5.IsWhole) (M6 : Memref sig .tc .vmem S2048x128 .f32) (H6 : M6.IsWhole) (M7 : Memref sig .tc .vmem S2048x128 .f32) (H7 : M7.IsWhole)
    (x0 : Vec Ideal S1024x2048 .f32) (x1 : Vec Ideal S1x6x2048 .f32) (x2 : Vec Ideal S1x2048 .f32) (x3 : Vec Ideal S2048x512 .bf16) (O4 : Vec Ideal S1024x512 .bf16) (O5 : Vec Ideal S1024x512 .f32) (O6 O7 : Vec Ideal S2048x128 .f32) (A : Vec Ideal S1024x2048 .bf16) :
    Left i x3 A
      (M4.view.read (Elt Ideal) (M4.view.writes (Elt Ideal) (H4.unread O4) (runB (F := Ideal) c i h1 M0 H0 M1 H1 M2 H2 M3 H3 M4 H4 M5 H5 M6 H6 M7 H7 x0 x1 x2 x3 O4 O5 O6 O7 A).2.1))
      (M5.view.read (Elt Ideal) (M5.view.writes (Elt Ideal) (H5.unread O5) (runB (F := Ideal) c i h1 M0 H0 M1 H1 M2 H2 M3 H3 M4 H4 M5 H5 M6 H6 M7 H7 x0 x1 x2 x3 O4 O5 O6 O7 A).2.2.1))
      (M6.view.read (Elt Ideal) (M6.view.writes (Elt Ideal) (H6.unread O6) (runB (F := Ideal) c i h1 M0 H0 M1 H1 M2 H2 M3 H3 M4 H4 M5 H5 M6 H6 M7 H7 x0 x1 x2 x3 O4 O5 O6 O7 A).2.2.2.1))
      (M7.view.read (Elt Ideal) (M7.view.writes (Elt Ideal) (H7.unread O7) (runB (F := Ideal) c i h1 M0 H0 M1 H1 M2 H2 M3 H3 M4 H4 M5 H5 M6 H6 M7 H7 x0 x1 x2 x3 O4 O5 O6 O7 A).2.2.2.2.1))
      ∧ xmM.view.read (Elt Ideal) (xmM.view.writes (Elt Ideal) (xmW.unread A) (runB (F := Ideal) c i h1 M0 H0 M1 H1 M2 H2 M3 H3 M4 H4 M5 H5 M6 H6 M7 H7 x0 x1 x2 x3 O4 O5 O6 O7 A).1) = A := by
  refine ⟨⟨?_, ?_, ?_, ?_⟩, ?_⟩
  · unfold runB; dsimp only
    simp only [View.readAt_eq_ld, H0.read_unread, H1.read_unread, H2.read_unread, H3.read_unread, H4.read_unread, H5.read_unread, H6.read_unread, H7.read_unread, xmW.read_unread]
    rw [st_o, ld_w, ld_x]
  · unfold runB; dsimp only
    simp only [View.readAt_eq_ld, H0.read_unread, H1.read_unread, H2.read_unread, H3.read_unread, H4.read_unread, H5.read_unread, H6.read_unread, H7.read_unread, xmW.read_unread]
    rw [st_t, ld_w, ld_x]
  · unfold runB; dsimp only
    simp only [View.readAt_eq_ld, H0.read_unread, H1.read_unread, H2.read_unread, H3.read_unread, H4.read_unread, H5.read_unread, H6.read_unread, H7.read_unread, xmW.read_unread]
    rw [ld_w, ld_x]
    exact ilv_eq M6 _ _ _
  · unfold runB; dsimp only
    simp only [View.readAt_eq_ld, H0.read_unread, H1.read_unread, H2.read_unread, H3.read_unread, H4.read_unread, H5.read_unread, H6.read_unread, H7.read_unread, xmW.read_unread]
    rw [ld_w, ld_x]
    exact ilv_eq M7 _ _ _
  · unfold runB; dsimp only
    exact xmW.read_unread A

/-! ## The blocks of the windows -/

variable (m : (ℓ : Loc nD τ sig) → Buf (Elt Ideal) ℓ)

/-- The column tile of the weights that column step `j` takes: the gates' eight, then the queries' two, the two of `u`, and
    the keys and values. -/
def src (j : ℕ) : ℕ := if j < 8 then j + 5 else if j < 10 then j - 6 else if j < 12 then j - 10 else 4

/-- The column block of the third result at column step `j`. -/
def tcol (j : ℕ) : ℕ := min (j - 10) 2

/-- The block indices of the windows at a grid point. -/
theorem idx : ∀ t : Fin cfg0.N, win0_0.index t = ![t.val / 13, 0] ∧ win0_1.index t = ![0, 0, 0] ∧ win0_2.index t = ![0, 0]
    ∧ win0_3.index t = ![0, src (t.val % 13)] ∧ win0_4.index t = ![t.val / 13, t.val % 13] ∧ win0_5.index t = ![t.val / 13, tcol (t.val % 13)]
    ∧ win0_6.index t = ![t.val / 13, 0] ∧ win0_7.index t = ![t.val / 13, 0] :=
  (by decide +kernel : ∀ t : Fin grid0.N, _)

/-- The points at which the third result's block is written back. -/
theorem flush5 : ∀ t : Fin cfg0.N, (cfg0.win 5).flush t = true ↔ 10 ≤ t.val % 13 :=
  (by decide +kernel : ∀ t : Fin grid0.N, win0_5.flush t = true ↔ 10 ≤ t.val % 13)

/-- A row tile of the tokens. -/
def Xi (c : Dev nD) (i : ℕ) : Vec Ideal S1024x2048 .f32 := fun y => (V m c main_v0 : Vec Ideal S8192x2048 .f32) (ix2 (Fin.ofNat 8192 (1024 * i + (y 0).val)) (y 1))
/-- The column tile of the weights of a column step. -/
def Wj (c : Dev nD) (j : ℕ) : Vec Ideal S2048x512 .bf16 := fun y => (V m c main_v2 : Vec Ideal S2048x6656 .bf16) (ix2 (y 0) (Fin.ofNat 6656 (512 * src j + (y 1).val)))
/-- The normalised rows of a row tile. -/
def Xm (c : Dev nD) (i : ℕ) : Vec Ideal S1024x2048 .bf16 := nrm (Xi m c i) (V m c main_v1) (V m c main_v3)

theorem iblk0 (c : Dev nD) (t : Fin cfg0.N) : (iblk m c 0 t : Vec Ideal S1024x2048 .f32) = Xi m c (t.val / 13) := by
  funext y
  have ht : t.val < 104 := lt_of_lt_of_eq t.isLt N_0
  unfold iblk Xi
  refine congrArg (V m c main_v0) ?_
  blk_ext [idx t] <;> simp only [Fin.val_ofNat] <;> omega

theorem iblk1 (c : Dev nD) (t : Fin cfg0.N) : (iblk m c 1 t : Vec Ideal S1x6x2048 .f32) = (V m c main_v1 : Vec Ideal S1x6x2048 .f32) := by
  funext y
  unfold iblk
  refine congrArg (V m c main_v1) ?_
  blk_ext [idx t]

theorem iblk2 (c : Dev nD) (t : Fin cfg0.N) : (iblk m c 2 t : Vec Ideal S1x2048 .f32) = (V m c main_v3 : Vec Ideal S1x2048 .f32) := by
  funext y
  unfold iblk
  refine congrArg (V m c main_v3) ?_
  blk_ext [idx t]

theorem src_lt (j : ℕ) (h : j < 13) : src j < 13 := by unfold src; split_ifs <;> omega

theorem iblk3 (c : Dev nD) (t : Fin cfg0.N) : (iblk m c 3 t : Vec Ideal S2048x512 .bf16) = Wj m c (t.val % 13) := by
  funext y
  have ht : t.val < 104 := lt_of_lt_of_eq t.isLt N_0
  have hs := src_lt (t.val % 13) (Nat.mod_lt _ (by decide))
  unfold iblk Wj
  refine congrArg (V m c main_v2) ?_
  blk_ext [idx t] <;> simp only [Fin.val_ofNat] <;> omega

/-! ## The invariant and one step -/

/-- The scratch buffer before point `n`: within a row tile, its normalised rows. -/
def Inv (c : Dev nD) (n : ℕ) (A : Vec Ideal S1024x2048 .bf16) : Prop := n % 13 ≠ 0 → A = Xm m c (n / 13)
/-- The results' buffers after point `n`. -/
def R4 (c : Dev nD) (n : ℕ) (O : Vec Ideal S1024x512 .bf16) : Prop := ∀ t : Fin cfg0.N, t.val = n → O = k0_pay3 (grid0.coords t) (Wj m c (n % 13)) (Xm m c (n / 13))
def R5 (c : Dev nD) (n : ℕ) (O : Vec Ideal S1024x512 .f32) : Prop := O = k0_pay2 (Wj m c (n % 13)) (Xm m c (n / 13))
def R6 (c : Dev nD) (n : ℕ) (O : Vec Ideal S2048x128 .f32) : Prop := O = ilv (k0_pay4 (Wj m c (n % 13)) (Xm m c (n / 13))) (k0_pay6 (Wj m c (n % 13)) (Xm m c (n / 13)))
def R7 (c : Dev nD) (n : ℕ) (O : Vec Ideal S2048x128 .f32) : Prop := O = ilv (k0_pay5 (Wj m c (n % 13)) (Xm m c (n / 13))) (k0_pay7 (Wj m c (n % 13)) (Xm m c (n / 13)))

/-- From what a point leaves to the predicates. -/
theorem step_of (c : Dev nD) (t : Fin cfg0.N) (w : Vec Ideal S2048x512 .bf16) (S : Vec Ideal S1024x2048 .bf16) (hw : w = Wj m c (t.val % 13)) (hS : S = Xm m c (t.val / 13))
    {o4 o5 o6 o7 A'} (h : Left (grid0.coords t) w S o4 o5 o6 o7) (hA : A' = S) :
    (R4 m c t.val o4 ∧ R5 m c t.val o5 ∧ R6 m c t.val o6 ∧ R7 m c t.val o7) ∧ Inv m c (t.val + 1) A' := by
  subst hw hS hA
  refine ⟨⟨fun t' ht => ?_, h.2.1, h.2.2.1, h.2.2.2⟩, fun hn => ?_⟩
  · obtain rfl : t' = t := Fin.ext ht
    exact h.1
  · rw [show (t.val + 1) / 13 = t.val / 13 by omega]

theorem steps : Steps m (Inv m) (R4 m) (R5 m) (R6 m) (R7 m) := by
  intro c t O4 O5 O6 O7 A hI
  by_cases e0 : k0_cond1 (grid0.coords t) = 1#1
  · have hL := leftA c (grid0.coords t) e0 (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) O4 O5 O6 O7 A
    exact ⟨_, _, _, _, _, (runA c (grid0.coords t) e0 (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) O4 O5 O6 O7 A).2.2.2.2.2,
      step_of m c t _ _ (iblk3 m c t) (by rw [iblk0, iblk1, iblk2]; rfl) hL.1 hL.2⟩
  · have hL := leftB c (grid0.coords t) e0 (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) O4 O5 O6 O7 A
    exact ⟨_, _, _, _, _, (runB c (grid0.coords t) e0 (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) O4 O5 O6 O7 A).2.2.2.2.2,
      step_of m c t _ _ (iblk3 m c t) (hI fun h => e0 ((c1_iff _).mpr (by rw [crd1, h]))) hL.1 hL.2⟩

end Cert.Kernel3Ideal.Proj
end
-- ==== Proof.ProjMath.lean ====
/-
  The projection kernel's values against the plain formulas, over the extended reals: `Nr` the normalised tokens, `Pr` their
  projection, and the four results as column ranges of it.
-/
module

public import proofs.«01_k».proof.Proof.ProjTiles
public import proofs.«01_k».proof.Proof.Gen.Reference3Ideal.Run

@[expose] public section

set_option maxRecDepth 16384

noncomputable section

open Idealize.ShloMosaic Idealize.ShloMosaic.TcCoe Idealize.SL.Sem

namespace Cert.Reference3Ideal.Proj

open Cert.Reference3Ideal Cert.Reference3Ideal.Gen

/-- The normalised tokens, scaled and shifted. -/
def Nr (a0 : FVec Ideal S32x256x2048 .f32) (a1 : FVec Ideal S12288 .f32) (a2 : FVec Ideal S2048 .f32) : FVec Ideal S32x256x2048 .f32 :=
  addf (mulf (mulf (mulf a0 (broadcastInDim S32x256x2048 ![0, 1, 2] bcast_S32x256x1_S32x256x2048_0_1_2 (Host.rsqrt (addf (Host.divf (broadcastInDim S32x256x1 ![0, 1] bcast_S32x256_S32x256x1_0_1 (Host.reduceAdd (mulf a0 a0) (constant S_ .f32 0x00000000#32) reducesTo_S32x256x2048_S32x256_d2 h_S_)) (broadcastInDim S32x256x1 ![] bcast_S_S32x256x1 (constant S_ .f32 0x45000000#32))) (broadcastInDim S32x256x1 ![] bcast_S_S32x256x1 (constant S_ .f32 0x358637BD#32)))))) (broadcastInDim S32x256x2048 ![0, 1, 2] bcast_S1x1x2048_S32x256x2048_0_1_2 (broadcastInDim S1x1x2048 ![2] bcast_S2048_S1x1x2048_2 a2))) (broadcastInDim S32x256x2048 ![0, 1, 2] bcast_S1x1x2048_S32x256x2048_0_1_2 (broadcastInDim S1x1x2048 ![2] bcast_S2048_S1x1x2048_2 (addf (broadcastInDim S2048 ![] bcast_S_S2048 (constant S_ .f32 0x3F800000#32)) (extractStridedSlice S2048 ![2048] a1 slices_S12288_S2048_2048))))) (broadcastInDim S32x256x2048 ![0, 1, 2] bcast_S1x1x2048_S32x256x2048_0_1_2 (broadcastInDim S1x1x2048 ![2] bcast_S2048_S1x1x2048_2 (extractStridedSlice S2048 ![0] a1 slices_S12288_S2048_0)))

/-- Their projection. -/
def Pr (x : FVec Ideal S32x256x2048 .f32) (a3 : FVec Ideal S2048x6656 .f32) : FVec Ideal S32x256x6656 .f32 :=
  Host.dotGeneral dot_S32x256x2048_S2048x6656_S32x256x6656_2_0_01_1_n_n none x a3

/-- The first result: the gates, the scaled queries, `u`, keys and values. -/
def O0 (p : FVec Ideal S32x256x6656 .f32) : FVec Ideal S8192x6656 .bf16 :=
  shapeCast S8192x6656 (truncf .bf16 (concatenate S32x256x6656 2 [⟨S32x256x2048, extractStridedSlice S32x256x2048 ![0, 0, 2560] p slices_S32x256x6656_S32x256x2048_0_0_2560⟩, ⟨S32x256x2048, extractStridedSlice S32x256x2048 ![0, 0, 4608] p slices_S32x256x6656_S32x256x2048_0_0_4608⟩,
    ⟨S32x256x1024, mulf (extractStridedSlice S32x256x1024 ![0, 0, 1024] p slices_S32x256x6656_S32x256x1024_0_0_1024) (broadcastInDim S32x256x1024 ![] bcast_S_S32x256x1024 (constant S_ .f32 0x3DB504F3#32))⟩, ⟨S32x256x1024, extractStridedSlice S32x256x1024 ![0, 0, 0] p slices_S32x256x6656_S32x256x1024_0_0_0⟩,
    ⟨S32x256x256, extractStridedSlice S32x256x256 ![0, 0, 2048] p slices_S32x256x6656_S32x256x256_0_0_2048⟩, ⟨S32x256x256, extractStridedSlice S32x256x256 ![0, 0, 2304] p slices_S32x256x6656_S32x256x256_0_0_2304⟩]
    concatenates_S32x256x2048_S32x256x2048_S32x256x1024_S32x256x1024_S32x256x256_S32x256x256_S32x256x6656_d2 : FVec Ideal S32x256x6656 .f32) bitsLt_bf16_f32) shapeCasts_S32x256x6656_S8192x6656
/-- The second result: `u`, keys and values. -/
def O1 (p : FVec Ideal S32x256x6656 .f32) : FVec Ideal S8192x1536 .f32 :=
  shapeCast S8192x1536 (concatenate S32x256x1536 2 [⟨S32x256x1024, extractStridedSlice S32x256x1024 ![0, 0, 0] p slices_S32x256x6656_S32x256x1024_0_0_0⟩,
    ⟨S32x256x256, extractStridedSlice S32x256x256 ![0, 0, 2048] p slices_S32x256x6656_S32x256x256_0_0_2048⟩, ⟨S32x256x256, extractStridedSlice S32x256x256 ![0, 0, 2304] p slices_S32x256x6656_S32x256x256_0_0_2304⟩]
    concatenates_S32x256x1024_S32x256x256_S32x256x256_S32x256x1536_d2 : FVec Ideal S32x256x1536 .f32) shapeCasts_S32x256x1536_S8192x1536
/-- The third result: the keys. -/
def O2 (p : FVec Ideal S32x256x6656 .f32) : FVec Ideal S16384x128 .f32 :=
  shapeCast S16384x128 (extractStridedSlice S32x256x256 ![0, 0, 2048] p slices_S32x256x6656_S32x256x256_0_0_2048) shapeCasts_S32x256x256_S16384x128
/-- The fourth result: the values. -/
def O3 (p : FVec Ideal S32x256x6656 .f32) : FVec Ideal S16384x128 .f32 :=
  shapeCast S16384x128 (extractStridedSlice S32x256x256 ![0, 0, 2304] p slices_S32x256x6656_S32x256x256_0_0_2304) shapeCasts_S32x256x256_S16384x128

section
variable (m : (ℓ : Loc nD τ sig) → Buf (Elt Ideal) ℓ) (c : Dev nD)
/-- The projection at the arguments in memory. -/
def PrM : FVec Ideal S32x256x6656 .f32 := Pr (Nr (m ((c.tc : Thread nD τ).loc main_arg0)) (m ((c.tc : Thread nD τ).loc main_arg1)) (m ((c.tc : Thread nD τ).loc main_arg2))) (m ((c.tc : Thread nD τ).loc main_arg3))
theorem res0_eq : Value.res_main_v39 m c = O0 (PrM m c) := by unfold Value.res_main_v39 O0 PrM Pr Nr; rfl
theorem res1_eq : Value.res_main_v40 m c = O1 (PrM m c) := by unfold Value.res_main_v40 O1 PrM Pr Nr; rfl
end

/-- The reference's run: its four results are those of its projection, and its arguments end unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v39) = O0 (PrM m c)
      ∧ r.2.mem ((c.tc : Thread nD τ).loc main_v40) = O1 (PrM m c)
      ∧ r.2.mem ((c.tc : Thread nD τ).loc main_v41) = O2 (PrM m c)
      ∧ r.2.mem ((c.tc : Thread nD τ).loc main_v42) = O3 (PrM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨(h c).1.trans (res0_eq m c), (h c).2.1.trans (res1_eq m c), (h c).2.2.1.trans ?_, (h c).2.2.2.1.trans ?_, (h c).2.2.2.2⟩) (Value.run m ρ)
  · unfold O2 PrM Pr Nr
    congr 1
  · unfold O3 PrM Pr Nr
    congr 1

theorem Nr_at (a0 a1 a2) (b : Fin 32) (s : Fin 256) (d : Fin 2048) : Nr a0 a1 a2 (ix3 b s d) =
    a0 (ix3 b s d) * Ideal.rsqrt (Ideal.div (∑ k : Fin 2048, a0 (ix3 b s k) * a0 (ix3 b s k)) (Ideal.ofBits FTy.f32 1157627904#32)
      + Ideal.ofBits FTy.f32 897988541#32) * a2 (ix1 d) * (1 + a1 (ix1 ⟨2048 + d.val, by omega⟩)) + a1 (ix1 ⟨d.val, by omega⟩) := by
  pointwise [Nr]

theorem Pr_at (x a3) (b : Fin 32) (s : Fin 256) (n : Fin 6656) : Pr x a3 (ix3 b s n) = ∑ d : Fin 2048, x (ix3 b s d) * a3 (ix2 d n) := by
  pointwise [Pr]

theorem pcol (p : FVec Ideal S32x256x6656 .f32) (b : Fin 32) (s : Fin 256) (x y : ℕ) (hx : x < 6656) (hy : y < 6656) (e : x = y) :
    p (ix3 b s ⟨x, hx⟩) = p (ix3 b s ⟨y, hy⟩) := by subst e; rfl
theorem O2_at (p) (R : Fin 16384) (q : Fin 128) : O2 p (ix2 R q) = p (ix3 ⟨R.val / 512, by omega⟩ ⟨R.val / 2 % 256, by omega⟩ ⟨2048 + (R.val % 2 * 128 + q.val), by omega⟩) := by
  pointwise [O2]
theorem O3_at (p) (R : Fin 16384) (q : Fin 128) : O3 p (ix2 R q) = p (ix3 ⟨R.val / 512, by omega⟩ ⟨R.val / 2 % 256, by omega⟩ ⟨2304 + (R.val % 2 * 128 + q.val), by omega⟩) := by
  pointwise [O3]
theorem O1_at (p) (R : Fin 8192) (n : Fin 1536) (N : Fin 6656) (hN : N.val = if n.val < 1024 then n.val else 1024 + n.val) :
    O1 p (ix2 R n) = p (ix3 ⟨R.val / 256, by omega⟩ ⟨R.val % 256, by omega⟩ N) := by
  obtain ⟨N, hlt⟩ := N
  replace hN : N = if n.val < 1024 then n.val else 1024 + n.val := hN
  pointwise [O1]
  by_cases h1 : n.val < 1024
  · rw [dif_pos h1]; rw [if_pos h1] at hN; exact pcol p _ _ _ _ _ _ (by omega)
  rw [dif_neg h1]; rw [if_neg h1] at hN
  by_cases h2 : n.val - 1024 < 256
  · rw [dif_pos h2]; exact pcol p _ _ _ _ _ _ (by omega)
  · rw [dif_neg h2]; exact pcol p _ _ _ _ _ _ (by omega)
set_option maxHeartbeats 2000000 in
theorem O0_at (p) (R : Fin 8192) (n : Fin 6656) (N : Fin 6656) (hN : N.val = 512 * Cert.Kernel3Ideal.Proj.src (n.val / 512) + n.val % 512) :
    O0 p (ix2 R n) = p (ix3 ⟨R.val / 256, by omega⟩ ⟨R.val % 256, by omega⟩ N) * (if 4096 ≤ n.val ∧ n.val < 5120 then Ideal.ofBits .f32 0x3DB504F3#32 else 1) := by
  obtain ⟨N, hlt⟩ := N
  replace hN : N = 512 * Cert.Kernel3Ideal.Proj.src (n.val / 512) + n.val % 512 := hN
  pointwise [O0]
  unfold Cert.Kernel3Ideal.Proj.src at hN
  by_cases hc : 4096 ≤ n.val ∧ n.val < 5120
  · rw [if_pos hc, dif_neg (by omega), dif_neg (by omega), dif_pos (by omega)]
    exact congrArg (fun z => z * Ideal.ofBits .f32 0x3DB504F3#32) (pcol p _ _ _ _ _ _ (by split_ifs at hN <;> omega))
  rw [if_neg hc, mul_one]
  by_cases h1 : n.val < 2048
  · rw [dif_pos h1]; exact pcol p _ _ _ _ _ _ (by split_ifs at hN <;> omega)
  rw [dif_neg h1]
  by_cases h2 : n.val - 2048 < 2048
  · rw [dif_pos h2]; exact pcol p _ _ _ _ _ _ (by split_ifs at hN <;> omega)
  rw [dif_neg h2, dif_neg (by omega)]
  by_cases h3 : n.val - 2048 - 2048 - 1024 < 1024
  · rw [dif_pos h3]; exact pcol p _ _ _ _ _ _ (by split_ifs at hN <;> omega)
  rw [dif_neg h3]
  by_cases h4 : n.val - 2048 - 2048 - 1024 - 1024 < 256
  · rw [dif_pos h4]; exact pcol p _ _ _ _ _ _ (by split_ifs at hN <;> omega)
  · rw [dif_neg h4]; exact pcol p _ _ _ _ _ _ (by split_ifs at hN <;> omega)

end Cert.Reference3Ideal.Proj

namespace Cert.Kernel3Ideal.Proj

open Cert.Kernel3Ideal Cert.Kernel3Ideal.Gen
open Cert.Reference3Ideal.Proj (Nr Pr O0 O1 O2 O3 Nr_at Pr_at O0_at O1_at O2_at O3_at)

variable (m : (ℓ : Loc nD τ sig) → Buf (Elt Ideal) ℓ)

/-! The arguments, and the arrays the host code prepares from them. -/

def A0 (c : Dev nD) : FVec Ideal S32x256x2048 .f32 := m ((c.tc : Thread nD τ).loc main_arg0)
def A1 (c : Dev nD) : FVec Ideal S12288 .f32 := m ((c.tc : Thread nD τ).loc main_arg1)
def A2 (c : Dev nD) : FVec Ideal S2048 .f32 := m ((c.tc : Thread nD τ).loc main_arg2)
def A3 (c : Dev nD) : FVec Ideal S2048x6656 .f32 := m ((c.tc : Thread nD τ).loc main_arg3)
def hv0 (c : Dev nD) : FVec Ideal S8192x2048 .f32 := shapeCast S8192x2048 (A0 m c) shapeCasts_S32x256x2048_S8192x2048
def hv1 (c : Dev nD) : FVec Ideal S1x6x2048 .f32 := shapeCast S1x6x2048 (A1 m c) shapeCasts_S12288_S1x6x2048
def hv2 (c : Dev nD) : FVec Ideal S2048x6656 .bf16 := truncf .bf16 (A3 m c) bitsLt_bf16_f32
def hv3 (c : Dev nD) : FVec Ideal S1x2048 .f32 := shapeCast S1x2048 (A2 m c) shapeCasts_S2048_S1x2048
theorem hv0_eq (c : Dev nD) : V m c main_v0 = hv0 m c := rfl
theorem hv1_eq (c : Dev nD) : V m c main_v1 = hv1 m c := rfl
theorem hv2_eq (c : Dev nD) : V m c main_v2 = hv2 m c := rfl
theorem hv3_eq (c : Dev nD) : V m c main_v3 = hv3 m c := rfl
theorem hv0_at (c : Dev nD) (R : Fin 8192) (d : Fin 2048) : hv0 m c (ix2 R d) = A0 m c (ix3 ⟨R.val / 256, by omega⟩ ⟨R.val % 256, by omega⟩ d) := by
  pointwise [hv0]
theorem hv1_at0 (c : Dev nD) (q : Fin 2048) : hv1 m c (ix3 0 0 q) = A1 m c (ix1 ⟨q.val, by omega⟩) := by
  pointwise [hv1]
theorem hv1_at1 (c : Dev nD) (q : Fin 2048) : hv1 m c (ix3 0 1 q) = A1 m c (ix1 ⟨2048 + q.val, by omega⟩) := by
  pointwise [hv1]
theorem hv2_at (c : Dev nD) (d : Fin 2048) (n : Fin 6656) : hv2 m c (ix2 d n) = A3 m c (ix2 d n) := by
  pointwise [hv2]
theorem hv3_at (c : Dev nD) (n : Fin 2048) : hv3 m c (ix2 0 n) = A2 m c (ix1 n) := by
  pointwise [hv3]

/-- The reference's projection at the kernel's arguments. -/
def prM (c : Dev nD) : FVec Ideal Cert.Reference3Ideal.S32x256x6656 .f32 := Pr (Nr (A0 m c) (A1 m c) (A2 m c)) (A3 m c)

/-- The normalised rows of a row tile are the reference's. -/
theorem xm_ref (c : Dev nD) (i : ℕ) (hi : i < 8) (r : Fin 1024) (d : Fin 2048) (b : Fin 32) (s : Fin 256)
    (hb : b.val = (1024 * i + r.val) / 256) (hs : s.val = (1024 * i + r.val) % 256) :
    Xm m c i (ix2 r d) = Nr (A0 m c) (A1 m c) (A2 m c) (ix3 b s d) := by
  have hx : ∀ k : Fin 2048, Xi m c i (ix2 r k) = A0 m c (ix3 b s k) := fun k => by
    have e1 : Fin.ofNat 8192 (1024 * i + r.val) = (⟨1024 * i + r.val, by omega⟩ : Fin 8192) := Fin.ext (by rw [Fin.val_ofNat, Nat.mod_eq_of_lt (by omega)])
    show (V m c main_v0 : Vec Ideal S8192x2048 .f32) (ix2 (Fin.ofNat 8192 (1024 * i + r.val)) k) = _
    rw [e1, hv0_eq, hv0_at]
    rw [show (⟨(1024 * i + r.val) / 256, by omega⟩ : Fin 32) = b from Fin.ext hb.symm, show (⟨(1024 * i + r.val) % 256, by omega⟩ : Fin 256) = s from Fin.ext hs.symm]
  rw [Nr_at]
  show Xi m c i (ix2 r d) * Ideal.rsqrt (Ideal.div (∑ k : Fin 2048, Xi m c i (ix2 r k) * Xi m c i (ix2 r k)) (Ideal.ofBits FTy.f32 1157627904#32)
      + Ideal.ofBits FTy.f32 897988541#32) * (hv3 m c (ix2 0 d) * (1 + hv1 m c (ix3 0 1 d))) + hv1 m c (ix3 0 0 d) = _
  simp only [hx]
  rw [hv3_at, hv1_at0, hv1_at1, ← mul_assoc]

/-- A tile's product is the reference's projection at the tile's columns. -/
theorem acc_ref (c : Dev nD) (i j : ℕ) (hi : i < 8) (hj : j < 13) (r : Fin 1024) (q : Fin 512) (b : Fin 32) (s : Fin 256) (n : Fin 6656)
    (hb : b.val = (1024 * i + r.val) / 256) (hs : s.val = (1024 * i + r.val) % 256) (hn : n.val = 512 * src j + q.val) :
    k0_pay2 (Wj m c j) (Xm m c i) (ix2 r q) = prM m c (ix3 b s n) := by
  unfold prM
  rw [pay2_at, Pr_at]
  refine Finset.sum_congr rfl fun d _ => ?_
  rw [xm_ref m c i hi r d b s hb hs]
  have e1 : Fin.ofNat 6656 (512 * src j + q.val) = n := Fin.ext (by rw [Fin.val_ofNat, ← hn, Nat.mod_eq_of_lt n.isLt])
  refine congrArg (fun z => Nr (A0 m c) (A1 m c) (A2 m c) (ix3 b s d) * z) ?_
  show (V m c main_v2 : Vec Ideal S2048x6656 .bf16) (ix2 d (Fin.ofNat 6656 (512 * src j + q.val))) = _
  rw [e1, hv2_eq, hv2_at]

/-- The step's factor: the queries' columns are scaled. -/
theorem sel : ∀ j : Fin 13, Scalar.andi (Scalar.cmpi .sge (BitVec.ofNat 32 j.val) 8#32) (Scalar.cmpi .slt (BitVec.ofNat 32 j.val) 10#32)
    = if 8 ≤ j.val ∧ j.val < 10 then 1#1 else 0#1 := by decide +kernel

/-- A tile of the first result, at a place: the product, scaled in the queries' columns. -/
theorem pay3_at (t : Fin cfg0.N) (w : Vec Ideal S2048x512 .bf16) (S : Vec Ideal S1024x2048 .bf16) (r : Fin 1024) (q : Fin 512) :
    k0_pay3 (grid0.coords t) w S (ix2 r q) = k0_pay2 w S (ix2 r q) * (if 8 ≤ t.val % 13 ∧ t.val % 13 < 10 then Ideal.ofBits .f32 0x3DB504F3#32 else 1) := by
  have hc : ((grid0.coords t) 1).val = t.val % 13 := crd1 t
  have h := sel ⟨t.val % 13, Nat.mod_lt _ (by decide)⟩
  unfold k0_pay3
  show k0_pay2 w S (ix2 r q) * Scalar.select (Scalar.andi (Scalar.cmpi .sge (BitVec.ofNat 32 ((grid0.coords t) 1).val) 8#32)
    (Scalar.cmpi .slt (BitVec.ofNat 32 ((grid0.coords t) 1).val) 10#32)) (Ideal.ofBits .f32 0x3DB504F3#32) (Ideal.ofBits .f32 0x3F800000#32) = _
  rw [hc, h]
  by_cases e : 8 ≤ t.val % 13 ∧ t.val % 13 < 10
  · rw [if_pos e, if_pos e]; rfl
  · rw [if_neg e, if_neg e]; pointwise

/-! The results the kernel should leave, at the kernel's own arguments. -/

def out0 (c : Dev nD) : FVec Ideal S8192x6656 .bf16 := O0 (prM m c)
def out1 (c : Dev nD) : FVec Ideal S8192x1536 .f32 := O1 (prM m c)
def out2 (c : Dev nD) : FVec Ideal S16384x128 .f32 := O2 (prM m c)
def out3 (c : Dev nD) : FVec Ideal S16384x128 .f32 := O3 (prM m c)

/-- A point's tile of the first result. -/
theorem out0_at (c : Dev nD) (t : Fin cfg0.N) (r : Fin 1024) (q : Fin 512) (R : Fin 8192) (n : Fin 6656) (hR : R.val = 1024 * (t.val / 13) + r.val)
    (hn : n.val = 512 * (t.val % 13) + q.val) :
    k0_pay3 (grid0.coords t) (Wj m c (t.val % 13)) (Xm m c (t.val / 13)) (ix2 r q) = out0 m c (ix2 R n) := by
  have ht : t.val < 104 := lt_of_lt_of_eq t.isLt N_0
  have hs := src_lt (t.val % 13) (Nat.mod_lt _ (by decide))
  have hj : n.val / 512 = t.val % 13 := by omega
  have hq : n.val % 512 = q.val := by omega
  unfold out0
  rw [pay3_at, O0_at (prM m c) R n ⟨512 * src (t.val % 13) + q.val, by omega⟩ (by rw [hj, hq]),
    acc_ref m c (t.val / 13) (t.val % 13) (by omega) (by omega) r q ⟨R.val / 256, by omega⟩ ⟨R.val % 256, by omega⟩ ⟨512 * src (t.val % 13) + q.val, by omega⟩
      (by rw [← hR]) (by rw [← hR]) rfl]
  refine congrArg (fun z => _ * z) (if_congr ?_ rfl rfl)
  omega

/-- A point's tile of the second result. -/
theorem out1_at (c : Dev nD) (t : Fin cfg0.N) (hf : 10 ≤ t.val % 13) (r : Fin 1024) (q : Fin 512) (R : Fin 8192) (n : Fin 1536) (hR : R.val = 1024 * (t.val / 13) + r.val)
    (hn : n.val = 512 * (t.val % 13 - 10) + q.val) :
    k0_pay2 (Wj m c (t.val % 13)) (Xm m c (t.val / 13)) (ix2 r q) = out1 m c (ix2 R n) := by
  have ht : t.val < 104 := lt_of_lt_of_eq t.isLt N_0
  have hs := src_lt (t.val % 13) (Nat.mod_lt _ (by decide))
  unfold out1
  rw [O1_at (prM m c) R n ⟨512 * src (t.val % 13) + q.val, by omega⟩ (by
      show 512 * src (t.val % 13) + q.val = _
      unfold src; split_ifs <;> omega),
    acc_ref m c (t.val / 13) (t.val % 13) (by omega) (by omega) r q ⟨R.val / 256, by omega⟩ ⟨R.val % 256, by omega⟩ ⟨512 * src (t.val % 13) + q.val, by omega⟩
      (by rw [← hR]) (by rw [← hR]) rfl]

theorem pay4_at (w : Vec Ideal S2048x512 .bf16) (S : Vec Ideal S1024x2048 .bf16) (r : Fin 1024) (q : Fin 128) : k0_pay4 w S (ix2 r q) = k0_pay2 w S (ix2 r ⟨q.val, by omega⟩) := by
  unfold k0_pay4; generalize k0_pay2 w S = p; pointwise
theorem pay6_at (w : Vec Ideal S2048x512 .bf16) (S : Vec Ideal S1024x2048 .bf16) (r : Fin 1024) (q : Fin 128) : k0_pay6 w S (ix2 r q) = k0_pay2 w S (ix2 r ⟨128 + q.val, by omega⟩) := by
  unfold k0_pay6; generalize k0_pay2 w S = p; pointwise
theorem pay5_at (w : Vec Ideal S2048x512 .bf16) (S : Vec Ideal S1024x2048 .bf16) (r : Fin 1024) (q : Fin 128) : k0_pay5 w S (ix2 r q) = k0_pay2 w S (ix2 r ⟨256 + q.val, by omega⟩) := by
  unfold k0_pay5; generalize k0_pay2 w S = p; pointwise
theorem pay7_at (w : Vec Ideal S2048x512 .bf16) (S : Vec Ideal S1024x2048 .bf16) (r : Fin 1024) (q : Fin 128) : k0_pay7 w S (ix2 r q) = k0_pay2 w S (ix2 r ⟨384 + q.val, by omega⟩) := by
  unfold k0_pay7; generalize k0_pay2 w S = p; pointwise

theorem src12 : src 12 = 4 := rfl

/-- The rows of two arrays in turn, at a place. -/
theorem ilv_at (p q : Vec Ideal S1024x128 .f32) (y : Fin 2048) (k : Fin 128) :
    ilv p q (ix2 y k) = if y.val % 2 = 0 then p (ix2 ⟨y.val / 2, by omega⟩ k) else q (ix2 ⟨y.val / 2, by omega⟩ k) := rfl

/-- A row tile of the keys. -/
theorem out2_at (c : Dev nD) (i : ℕ) (hi : i < 8) (y : Fin 2048) (k : Fin 128) (R : Fin 16384) (hR : R.val = 2048 * i + y.val) :
    ilv (k0_pay4 (Wj m c 12) (Xm m c i)) (k0_pay6 (Wj m c 12) (Xm m c i)) (ix2 y k) = out2 m c (ix2 R k) := by
  unfold out2
  rw [ilv_at, O2_at, pay4_at, pay6_at]
  split_ifs with h <;> exact acc_ref m c i 12 hi (by omega) _ _ _ _ _ (by show R.val / 512 = (1024 * i + y.val / 2) / 256; omega)
    (by show R.val / 2 % 256 = (1024 * i + y.val / 2) % 256; omega)
    (by rw [src12]; first | (show 2048 + (R.val % 2 * 128 + k.val) = 512 * 4 + k.val; omega) | (show 2048 + (R.val % 2 * 128 + k.val) = 512 * 4 + (128 + k.val); omega))

/-- A row tile of the values. -/
theorem out3_at (c : Dev nD) (i : ℕ) (hi : i < 8) (y : Fin 2048) (k : Fin 128) (R : Fin 16384) (hR : R.val = 2048 * i + y.val) :
    ilv (k0_pay5 (Wj m c 12) (Xm m c i)) (k0_pay7 (Wj m c 12) (Xm m c i)) (ix2 y k) = out3 m c (ix2 R k) := by
  unfold out3
  rw [ilv_at, O3_at, pay5_at, pay7_at]
  split_ifs with h <;> exact acc_ref m c i 12 hi (by omega) _ _ _ _ _ (by show R.val / 512 = (1024 * i + y.val / 2) / 256; omega)
    (by show R.val / 2 % 256 = (1024 * i + y.val / 2) % 256; omega)
    (by rw [src12]; first | (show 2304 + (R.val % 2 * 128 + k.val) = 512 * 4 + (256 + k.val); omega) | (show 2304 + (R.val % 2 * 128 + k.val) = 512 * 4 + (384 + k.val); omega))

end Cert.Kernel3Ideal.Proj
end
-- ==== Proof.ProjFinal.lean ====
/-
  The projection kernel's results: the whole arrays after the run are the reference's results at the kernel's arguments.
-/
module

public import proofs.«01_k».proof.Proof.ProjMath
public import Idealize.ShloMosaic.Lib.Pipeline.ArrRel

@[expose] public section

set_option maxRecDepth 16384

noncomputable section

open Idealize.ShloMosaic Idealize.ShloMosaic.TcCoe Idealize.SL.Sem

namespace Cert.Kernel3Ideal.Proj

open Cert.Kernel3Ideal Cert.Kernel3Ideal.Gen

variable (m : (ℓ : Loc nD τ sig) → Buf (Elt Ideal) ℓ) (ρ : Dev nD → PrngReg)

/-- The run of the kernel: its results are the reference's, and its arguments end unchanged, from any memory. -/
theorem run_value : θ_run defs (onTc (τ := τ) (main (F := Ideal))) ⟨m, fun _ => 0, ρ⟩ (fun r => ∀ c : Dev nD,
    r.2.mem ((c.tc : Thread nD τ).loc main_v4_0) = out0 m c
      ∧ r.2.mem ((c.tc : Thread nD τ).loc main_v4_1) = out1 m c
      ∧ r.2.mem ((c.tc : Thread nD τ).loc main_v4_2) = out2 m c
      ∧ r.2.mem ((c.tc : Thread nD τ).loc main_v4_3) = out3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run_main m ρ (Inv m) (R4 m) (R5 m) (R6 m) (R7 m) (steps m) (fun c A h => absurd rfl h))
  obtain ⟨after, hL, hA⟩ := Pipeline.RDat.FramePost.exists_exact h.1 c
  refine ⟨(hA 4).trans ?_, (hA 5).trans ?_, (hA 6).trans ?_, (hA 7).trans ?_, args_of m _ _ _ _ _ r h.1 c⟩
  · refine Pipeline.Dat.arrAt_eq_of_covers _ 4 _ (by decide +kernel) fun t hf y => ?_
    have hl : R4 m c t.val (after 4 t) := Pipeline.Dat.toRRel_leaves (dats m (Inv m) 0 c) (fgt := fgt) (Rl := Rl (R4 m) (R5 m) (R6 m) (R7 m) c) (w := 4) rfl (hL 4 t hf)
    have ht : t.val < 104 := lt_of_lt_of_eq t.isLt N_0
    have e := hl t rfl
    blk_simp
    show after 4 t y = _
    rw [e]
    idx_vars y
    refine (out0_at m c t y0 y1 ⟨1024 * (t.val / 13) + y0, by omega⟩ ⟨512 * (t.val % 13) + y1, by omega⟩ rfl rfl).trans ?_
    blk_ext [idx t]
  · refine Pipeline.Dat.arrAt_eq_of_covers _ 5 _ (by decide +kernel) fun t hf y => ?_
    have hl : R5 m c t.val (after 5 t) := Pipeline.Dat.toRRel_leaves (dats m (Inv m) 0 c) (fgt := fgt) (Rl := Rl (R4 m) (R5 m) (R6 m) (R7 m) c) (w := 5) rfl (hL 5 t hf)
    have ht : t.val < 104 := lt_of_lt_of_eq t.isLt N_0
    have h10 : 10 ≤ t.val % 13 := (flush5 t).mp hf
    have e : after 5 t = _ := hl
    have hc : tcol (t.val % 13) = t.val % 13 - 10 := by unfold tcol; omega
    blk_simp
    show after 5 t y = _
    rw [e]
    idx_vars y
    refine (out1_at m c t h10 y0 y1 ⟨1024 * (t.val / 13) + y0, by omega⟩ ⟨512 * (t.val % 13 - 10) + y1, by omega⟩ rfl rfl).trans ?_
    blk_ext [idx t, hc]
  · refine Pipeline.Dat.arrAt_eq_of_covers _ 6 _ (by decide +kernel) fun t hf y => ?_
    have hl : R6 m c t.val (after 6 t) := Pipeline.Dat.toRRel_leaves (dats m (Inv m) 0 c) (fgt := fgt) (Rl := Rl (R4 m) (R5 m) (R6 m) (R7 m) c) (w := 6) rfl (hL 6 t hf)
    have ht : t.val < 104 := lt_of_lt_of_eq t.isLt N_0
    have h12 : t.val % 13 = 12 := (flush0_6 t).mp hf
    have e : after 6 t = ilv (k0_pay4 (Wj m c 12) (Xm m c (t.val / 13))) (k0_pay6 (Wj m c 12) (Xm m c (t.val / 13))) := by rw [← h12]; exact hl
    blk_simp
    show after 6 t y = _
    rw [e]
    idx_vars y
    refine (out2_at m c (t.val / 13) (by omega) y0 y1 ⟨2048 * (t.val / 13) + y0, by omega⟩ rfl).trans ?_
    blk_ext [idx t]
  · refine Pipeline.Dat.arrAt_eq_of_covers _ 7 _ (by decide +kernel) fun t hf y => ?_
    have hl : R7 m c t.val (after 7 t) := Pipeline.Dat.toRRel_leaves (dats m (Inv m) 0 c) (fgt := fgt) (Rl := Rl (R4 m) (R5 m) (R6 m) (R7 m) c) (w := 7) rfl (hL 7 t hf)
    have ht : t.val < 104 := lt_of_lt_of_eq t.isLt N_0
    have h12 : t.val % 13 = 12 := (flush0_7 t).mp hf
    have e : after 7 t = ilv (k0_pay5 (Wj m c 12) (Xm m c (t.val / 13))) (k0_pay7 (Wj m c 12) (Xm m c (t.val / 13))) := by rw [← h12]; exact hl
    blk_simp
    show after 7 t y = _
    rw [e]
    idx_vars y
    refine (out3_at m c (t.val / 13) (by omega) y0 y1 ⟨2048 * (t.val / 13) + y0, by omega⟩ rfl).trans ?_
    blk_ext [idx t]

end Cert.Kernel3Ideal.Proj

end
-- ==== Proof.ProjClaim.lean ====
/-
  The projection call's claims.
-/
module

public import proofs.«01_k».proof.Defs
public import proofs.«01_k».proof.Proof.ProjBody
public import proofs.«01_k».proof.Proof.ProjFinal
public import proofs.«01_k».proof.Proof.Gen.Kernel3
public import proofs.«01_k».proof.Proof.Gen.Reference3Ideal
public import Idealize.ShloMosaic.Adequacy
public import Idealize.ShloMosaic.Init

@[expose] public section

noncomputable section

namespace Cert.Proof

open Idealize.ShloMosaic Idealize.SL.Sem

/-- The projection kernel at exact arithmetic: it terminates, keeps its arguments and its counters end at zero. -/
theorem proj_frame_ideal : Cert.quiescent_Kernel3Ideal := fun m ρ _ => Cert.Kernel3Ideal.Proj.frame m ρ

/-- The two programs' body tables agree at machine floats: they have the same text. -/
theorem proj_defs₀ : Cert.Kernel3.defs₀ (F := Bits) = Cert.Kernel3Ideal.defs₀ := by
  unfold Cert.Kernel3.defs₀ Cert.Kernel3Ideal.defs₀
  refine congrArg Defs.onTc (funext fun l => funext fun a => ?_)
  revert a
  match l with
  | 0 => intro a; obtain ⟨t, s⟩ := a; exact rfl

theorem proj_defs : Cert.Kernel3.defs (F := Bits) = Cert.Kernel3Ideal.defs :=
  congrArg (Pipeline.defs Cert.Kernel3.pcfgs) proj_defs₀

/-- The same at machine floats: the run holds at any values, and the two programs have the same text. -/
theorem proj_frame : Cert.quiescent_Kernel3 := fun m ρ _ => by
  rw [proj_defs]
  exact (θ_run Cert.Kernel3Ideal.defs _ _).mono (fun _ h => h) (Cert.Kernel3Ideal.Proj.frame (F := Bits) m ρ)

/-- The projection reference's frame. -/
theorem proj_ref : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run m ρ)

/-- The projection kernel and its reference, at exact arithmetic: from equal arguments both runs end with equal results, all four of them. -/
theorem proj_eq : Cert.algebraic_Kernel3Ideal_Reference3Ideal := by
  pair_intro
  · run_from Cert.Kernel3Ideal.Proj.run_value m g
  · run_from Cert.Reference3Ideal.Proj.run_value m' g'
    · obtain ⟨h0, h1, h2, h3⟩ := hagree c
      unfold Cert.Reference3Ideal.Proj.PrM
      rw [h0, h1, h2, h3]
      rfl
    · obtain ⟨h0, h1, h2, h3⟩ := hagree c
      unfold Cert.Reference3Ideal.Proj.PrM
      rw [h0, h1, h2, h3]
      rfl
    · obtain ⟨h0, h1, h2, h3⟩ := hagree c
      unfold Cert.Reference3Ideal.Proj.PrM
      rw [h0, h1, h2, h3]
      rfl
    · obtain ⟨h0, h1, h2, h3⟩ := hagree c
      unfold Cert.Reference3Ideal.Proj.PrM
      rw [h0, h1, h2, h3]
      rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import Idealize.ShloMosaic.Adequacy
public import Idealize.ShloMosaic.Init
public import proofs.«01_k».proof.Proof.MixerClaim
public import proofs.«01_k».proof.Proof.AttnClaim
public import proofs.«01_k».proof.Proof.FfnClaim
public import proofs.«01_k».proof.Proof.LatClaim
public import proofs.«01_k».proof.Proof.ProjClaim

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Finite.facts,
  fun m ρ _ => Cert.Kernel.Gen.frame m ρ, fun m ρ _ => Cert.KernelIdeal.Gen.frame m ρ, attn_frame_finite _, attn_ref, attn_ref_finite _,
  fun m ρ _ => Cert.Kernel2.Gen.frame m ρ, fun m ρ _ => Cert.Kernel2Ideal.Gen.frame m ρ, mixer_ref,
  proj_frame, proj_frame_ideal, proj_ref,
  ffn_frame, ffn_frame_ideal, ffn_ref,
  lat_frame, lat_frame_ideal, lat_ref,
  trivial, attn_eq _, trivial, mixer_eq, trivial, proj_eq, trivial, ffn_eq, trivial, lat_eq⟩

end Cert.Proof

end
